-- ==== Defs.lean ====
def Pre_CrossAttn (m : (ℓ : Loc Cert.CrossAttn.nD Cert.CrossAttn.τ Cert.CrossAttn.sig) → Buf (Elt Bits) ℓ) : Prop :=
  True

def Pre_CrossAttnIdeal (m : (ℓ : Loc Cert.CrossAttnIdeal.nD Cert.CrossAttnIdeal.τ Cert.CrossAttnIdeal.sig) → Buf (Elt Ideal) ℓ) : Prop :=
  True

def Pre_CrossAttnIdeal_mem_finite [hPre_mem_finite : Cert.Pre_mem_finite.Facts] (m : (ℓ : Loc Cert.CrossAttnIdeal.nD Cert.CrossAttnIdeal.τ Cert.CrossAttnIdeal.sig) → Buf (Elt Ideal) ℓ) : Prop :=
  ∀ c : Dev Cert.CrossAttnIdeal.nD,
    (Cert.Pre_mem_finite.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1)) (m ((c.tc : Thread Cert.CrossAttnIdeal.nD Cert.CrossAttnIdeal.τ).loc Cert.CrossAttnIdeal.main_arg2))) = (fun _ => 1#1)

def Pre_CrossAttnPlainIdeal (m : (ℓ : Loc Cert.CrossAttnPlainIdeal.nD Cert.CrossAttnPlainIdeal.τ Cert.CrossAttnPlainIdeal.sig) → Buf (Elt Ideal) ℓ) : Prop :=
  True

def Pre_CrossAttnPlainIdeal_mem_finite [hPre_mem_finite : Cert.Pre_mem_finite.Facts] (m : (ℓ : Loc Cert.CrossAttnPlainIdeal.nD Cert.CrossAttnPlainIdeal.τ Cert.CrossAttnPlainIdeal.sig) → Buf (Elt Ideal) ℓ) : Prop :=
  ∀ c : Dev Cert.CrossAttnPlainIdeal.nD,
    (Cert.Pre_mem_finite.fn (F := Ideal) (m ((c.tc : Thread Cert.CrossAttnPlainIdeal.nD Cert.CrossAttnPlainIdeal.τ).loc Cert.CrossAttnPlainIdeal.main_arg0)) (m ((c.tc : Thread Cert.CrossAttnPlainIdeal.nD Cert.CrossAttnPlainIdeal.τ).loc Cert.CrossAttnPlainIdeal.main_arg1)) (m ((c.tc : Thread Cert.CrossAttnPlainIdeal.nD Cert.CrossAttnPlainIdeal.τ).loc Cert.CrossAttnPlainIdeal.main_arg2))) = (fun _ => 1#1)

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValuePlainIdeal (m : (ℓ : Loc Cert.KeyValuePlainIdeal.nD Cert.KeyValuePlainIdeal.τ Cert.KeyValuePlainIdeal.sig) → Buf (Elt Ideal) ℓ) : Prop :=
  True

def Pre_KeyValueNext (m : (ℓ : Loc Cert.KeyValueNext.nD Cert.KeyValueNext.τ Cert.KeyValueNext.sig) → Buf (Elt Bits) ℓ) : Prop :=
  True

def Pre_KeyValueNextIdeal (m : (ℓ : Loc Cert.KeyValueNextIdeal.nD Cert.KeyValueNextIdeal.τ Cert.KeyValueNextIdeal.sig) → Buf (Elt Ideal) ℓ) : Prop :=
  True

def Pre_KeyValueNextPlainIdeal (m : (ℓ : Loc Cert.KeyValueNextPlainIdeal.nD Cert.KeyValueNextPlainIdeal.τ Cert.KeyValueNextPlainIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryPlainIdeal (m : (ℓ : Loc Cert.QueryPlainIdeal.nD Cert.QueryPlainIdeal.τ Cert.QueryPlainIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjPlainIdeal (m : (ℓ : Loc Cert.InProjPlainIdeal.nD Cert.InProjPlainIdeal.τ Cert.InProjPlainIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GatePlainIdeal (m : (ℓ : Loc Cert.GatePlainIdeal.nD Cert.GatePlainIdeal.τ Cert.GatePlainIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutPlainIdeal (m : (ℓ : Loc Cert.MixOutPlainIdeal.nD Cert.MixOutPlainIdeal.τ Cert.MixOutPlainIdeal.sig) → Buf (Elt Ideal) ℓ) : Prop :=
  True

def Pre_DownOut (m : (ℓ : Loc Cert.DownOut.nD Cert.DownOut.τ Cert.DownOut.sig) → Buf (Elt Bits) ℓ) : Prop :=
  True

def Pre_DownOutIdeal (m : (ℓ : Loc Cert.DownOutIdeal.nD Cert.DownOutIdeal.τ Cert.DownOutIdeal.sig) → Buf (Elt Ideal) ℓ) : Prop :=
  True

def Pre_DownOutPlainIdeal (m : (ℓ : Loc Cert.DownOutPlainIdeal.nD Cert.DownOutPlainIdeal.τ Cert.DownOutPlainIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInPlainIdeal (m : (ℓ : Loc Cert.FfnInPlainIdeal.nD Cert.FfnInPlainIdeal.τ Cert.FfnInPlainIdeal.sig) → Buf (Elt Ideal) ℓ) : Prop :=
  True

def Pre_LastOut (m : (ℓ : Loc Cert.LastOut.nD Cert.LastOut.τ Cert.LastOut.sig) → Buf (Elt Bits) ℓ) : Prop :=
  True

def Pre_LastOutIdeal (m : (ℓ : Loc Cert.LastOutIdeal.nD Cert.LastOutIdeal.τ Cert.LastOutIdeal.sig) → Buf (Elt Ideal) ℓ) : Prop :=
  True

def Pre_LastOutPlainIdeal (m : (ℓ : Loc Cert.LastOutPlainIdeal.nD Cert.LastOutPlainIdeal.τ Cert.LastOutPlainIdeal.sig) → Buf (Elt Ideal) ℓ) : Prop :=
  True

def Pre_PackRows (m : (ℓ : Loc Cert.PackRows.nD Cert.PackRows.τ Cert.PackRows.sig) → Buf (Elt Bits) ℓ) : Prop :=
  True

def Pre_PackRowsIdeal (m : (ℓ : Loc Cert.PackRowsIdeal.nD Cert.PackRowsIdeal.τ Cert.PackRowsIdeal.sig) → Buf (Elt Ideal) ℓ) : Prop :=
  True

def Pre_PackRowsPlainIdeal (m : (ℓ : Loc Cert.PackRowsPlainIdeal.nD Cert.PackRowsPlainIdeal.τ Cert.PackRowsPlainIdeal.sig) → Buf (Elt Ideal) ℓ) : Prop :=
  True

def Pre_PermuteIn (m : (ℓ : Loc Cert.PermuteIn.nD Cert.PermuteIn.τ Cert.PermuteIn.sig) → Buf (Elt Bits) ℓ) : Prop :=
  True

def Pre_PermuteInIdeal (m : (ℓ : Loc Cert.PermuteInIdeal.nD Cert.PermuteInIdeal.τ Cert.PermuteInIdeal.sig) → Buf (Elt Ideal) ℓ) : Prop :=
  True

def Pre_PermuteInPlainIdeal (m : (ℓ : Loc Cert.PermuteInPlainIdeal.nD Cert.PermuteInPlainIdeal.τ Cert.PermuteInPlainIdeal.sig) → Buf (Elt Ideal) ℓ) : Prop :=
  True

def Pre_MemStep (m : (ℓ : Loc Cert.MemStep.nD Cert.MemStep.τ Cert.MemStep.sig) → Buf (Elt Bits) ℓ) : Prop :=
  True

def Pre_MemStepIdeal (m : (ℓ : Loc Cert.MemStepIdeal.nD Cert.MemStepIdeal.τ Cert.MemStepIdeal.sig) → Buf (Elt Ideal) ℓ) : Prop :=
  True

def Pre_MemStepIdeal_memstep_finite [hPre_memstep_finite : Cert.Pre_memstep_finite.Facts] (m : (ℓ : Loc Cert.MemStepIdeal.nD Cert.MemStepIdeal.τ Cert.MemStepIdeal.sig) → Buf (Elt Ideal) ℓ) : Prop :=
  ∀ c : Dev Cert.MemStepIdeal.nD,
    (Cert.Pre_memstep_finite.fn (F := Ideal) (m ((c.tc : Thread Cert.MemStepIdeal.nD Cert.MemStepIdeal.τ).loc Cert.MemStepIdeal.main_arg0)) (m ((c.tc : Thread Cert.MemStepIdeal.nD Cert.MemStepIdeal.τ).loc Cert.MemStepIdeal.main_arg1)) (m ((c.tc : Thread Cert.MemStepIdeal.nD Cert.MemStepIdeal.τ).loc Cert.MemStepIdeal.main_arg2)) (m ((c.tc : Thread Cert.MemStepIdeal.nD Cert.MemStepIdeal.τ).loc Cert.MemStepIdeal.main_arg3))).1 = (fun _ => 1#1)
    ∧ (Cert.Pre_memstep_finite.fn (F := Ideal) (m ((c.tc : Thread Cert.MemStepIdeal.nD Cert.MemStepIdeal.τ).loc Cert.MemStepIdeal.main_arg0)) (m ((c.tc : Thread Cert.MemStepIdeal.nD Cert.MemStepIdeal.τ).loc Cert.MemStepIdeal.main_arg1)) (m ((c.tc : Thread Cert.MemStepIdeal.nD Cert.MemStepIdeal.τ).loc Cert.MemStepIdeal.main_arg2)) (m ((c.tc : Thread Cert.MemStepIdeal.nD Cert.MemStepIdeal.τ).loc Cert.MemStepIdeal.main_arg3))).2 = (fun _ => 1#1)

def Pre_MemStepPlainIdeal (m : (ℓ : Loc Cert.MemStepPlainIdeal.nD Cert.MemStepPlainIdeal.τ Cert.MemStepPlainIdeal.sig) → Buf (Elt Ideal) ℓ) : Prop :=
  True

def Pre_MemStepPlainIdeal_memstep_finite [hPre_memstep_finite : Cert.Pre_memstep_finite.Facts] (m : (ℓ : Loc Cert.MemStepPlainIdeal.nD Cert.MemStepPlainIdeal.τ Cert.MemStepPlainIdeal.sig) → Buf (Elt Ideal) ℓ) : Prop :=
  ∀ c : Dev Cert.MemStepPlainIdeal.nD,
    (Cert.Pre_memstep_finite.fn (F := Ideal) (m ((c.tc : Thread Cert.MemStepPlainIdeal.nD Cert.MemStepPlainIdeal.τ).loc Cert.MemStepPlainIdeal.main_arg0)) (m ((c.tc : Thread Cert.MemStepPlainIdeal.nD Cert.MemStepPlainIdeal.τ).loc Cert.MemStepPlainIdeal.main_arg1)) (m ((c.tc : Thread Cert.MemStepPlainIdeal.nD Cert.MemStepPlainIdeal.τ).loc Cert.MemStepPlainIdeal.main_arg2)) (m ((c.tc : Thread Cert.MemStepPlainIdeal.nD Cert.MemStepPlainIdeal.τ).loc Cert.MemStepPlainIdeal.main_arg3))).1 = (fun _ => 1#1)
    ∧ (Cert.Pre_memstep_finite.fn (F := Ideal) (m ((c.tc : Thread Cert.MemStepPlainIdeal.nD Cert.MemStepPlainIdeal.τ).loc Cert.MemStepPlainIdeal.main_arg0)) (m ((c.tc : Thread Cert.MemStepPlainIdeal.nD Cert.MemStepPlainIdeal.τ).loc Cert.MemStepPlainIdeal.main_arg1)) (m ((c.tc : Thread Cert.MemStepPlainIdeal.nD Cert.MemStepPlainIdeal.τ).loc Cert.MemStepPlainIdeal.main_arg2)) (m ((c.tc : Thread Cert.MemStepPlainIdeal.nD Cert.MemStepPlainIdeal.τ).loc Cert.MemStepPlainIdeal.main_arg3))).2 = (fun _ => 1#1)

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepPlainIdeal (m : (ℓ : Loc Cert.FfnStepPlainIdeal.nD Cert.FfnStepPlainIdeal.τ Cert.FfnStepPlainIdeal.sig) → Buf (Elt Ideal) ℓ) : Prop :=
  True

def quiescent_CrossAttn [hCrossAttn : Cert.CrossAttn.Facts] : Prop :=
  ∀ (m : (ℓ : Loc Cert.CrossAttn.nD Cert.CrossAttn.τ Cert.CrossAttn.sig) → Buf (Elt Bits) ℓ) (g : Dev Cert.CrossAttn.nD → PrngReg), Pre_CrossAttn m →
    θ_run (Cert.CrossAttn.defs (F := Bits)) (onTc (τ := Cert.CrossAttn.τ) (Cert.CrossAttn.main (F := Bits))) ⟨m, fun _ => 0, g⟩ (fun r => (∀ c : Dev Cert.CrossAttn.nD,
      r.2.mem ((c.tc : Thread Cert.CrossAttn.nD Cert.CrossAttn.τ).loc Cert.CrossAttn.main_arg0) = m ((c.tc : Thread Cert.CrossAttn.nD Cert.CrossAttn.τ).loc Cert.CrossAttn.main_arg0)
      ∧ r.2.mem ((c.tc : Thread Cert.CrossAttn.nD Cert.CrossAttn.τ).loc Cert.CrossAttn.main_arg1) = m ((c.tc : Thread Cert.CrossAttn.nD Cert.CrossAttn.τ).loc Cert.CrossAttn.main_arg1)
      ∧ r.2.mem ((c.tc : Thread Cert.CrossAttn.nD Cert.CrossAttn.τ).loc Cert.CrossAttn.main_arg2) = m ((c.tc : Thread Cert.CrossAttn.nD Cert.CrossAttn.τ).loc Cert.CrossAttn.main_arg2))
      ∧ r.2.sem = fun _ => 0)

def quiescent_CrossAttnIdeal [hCrossAttnIdeal : Cert.CrossAttnIdeal.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1)
      ∧ r.2.mem ((c.tc : Thread Cert.CrossAttnIdeal.nD Cert.CrossAttnIdeal.τ).loc Cert.CrossAttnIdeal.main_arg2) = m ((c.tc : Thread Cert.CrossAttnIdeal.nD Cert.CrossAttnIdeal.τ).loc Cert.CrossAttnIdeal.main_arg2))
      ∧ r.2.sem = fun _ => 0)

def quiescent_CrossAttnIdeal_pre_mem_finite [hCrossAttnIdeal : Cert.CrossAttnIdeal.Facts] [hPre_mem_finite : Cert.Pre_mem_finite.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal_mem_finite m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1)
      ∧ r.2.mem ((c.tc : Thread Cert.CrossAttnIdeal.nD Cert.CrossAttnIdeal.τ).loc Cert.CrossAttnIdeal.main_arg2) = m ((c.tc : Thread Cert.CrossAttnIdeal.nD Cert.CrossAttnIdeal.τ).loc Cert.CrossAttnIdeal.main_arg2))
      ∧ r.2.sem = fun _ => 0)

def quiescent_CrossAttnPlainIdeal [hCrossAttnPlainIdeal : Cert.CrossAttnPlainIdeal.Facts] : Prop :=
  ∀ (m : (ℓ : Loc Cert.CrossAttnPlainIdeal.nD Cert.CrossAttnPlainIdeal.τ Cert.CrossAttnPlainIdeal.sig) → Buf (Elt Ideal) ℓ) (g : Dev Cert.CrossAttnPlainIdeal.nD → PrngReg), Pre_CrossAttnPlainIdeal m →
    θ_run (Cert.CrossAttnPlainIdeal.defs (F := Ideal)) (onTc (τ := Cert.CrossAttnPlainIdeal.τ) (Cert.CrossAttnPlainIdeal.main (F := Ideal))) ⟨m, fun _ => 0, g⟩ (fun r => (∀ c : Dev Cert.CrossAttnPlainIdeal.nD,
      r.2.mem ((c.tc : Thread Cert.CrossAttnPlainIdeal.nD Cert.CrossAttnPlainIdeal.τ).loc Cert.CrossAttnPlainIdeal.main_arg0) = m ((c.tc : Thread Cert.CrossAttnPlainIdeal.nD Cert.CrossAttnPlainIdeal.τ).loc Cert.CrossAttnPlainIdeal.main_arg0)
      ∧ r.2.mem ((c.tc : Thread Cert.CrossAttnPlainIdeal.nD Cert.CrossAttnPlainIdeal.τ).loc Cert.CrossAttnPlainIdeal.main_arg1) = m ((c.tc : Thread Cert.CrossAttnPlainIdeal.nD Cert.CrossAttnPlainIdeal.τ).loc Cert.CrossAttnPlainIdeal.main_arg1)
      ∧ r.2.mem ((c.tc : Thread Cert.CrossAttnPlainIdeal.nD Cert.CrossAttnPlainIdeal.τ).loc Cert.CrossAttnPlainIdeal.main_arg2) = m ((c.tc : Thread Cert.CrossAttnPlainIdeal.nD Cert.CrossAttnPlainIdeal.τ).loc Cert.CrossAttnPlainIdeal.main_arg2))
      ∧ r.2.sem = fun _ => 0)

def quiescent_CrossAttnPlainIdeal_pre_mem_finite [hCrossAttnPlainIdeal : Cert.CrossAttnPlainIdeal.Facts] [hPre_mem_finite : Cert.Pre_mem_finite.Facts] : Prop :=
  ∀ (m : (ℓ : Loc Cert.CrossAttnPlainIdeal.nD Cert.CrossAttnPlainIdeal.τ Cert.CrossAttnPlainIdeal.sig) → Buf (Elt Ideal) ℓ) (g : Dev Cert.CrossAttnPlainIdeal.nD → PrngReg), Pre_CrossAttnPlainIdeal_mem_finite m →
    θ_run (Cert.CrossAttnPlainIdeal.defs (F := Ideal)) (onTc (τ := Cert.CrossAttnPlainIdeal.τ) (Cert.CrossAttnPlainIdeal.main (F := Ideal))) ⟨m, fun _ => 0, g⟩ (fun r => (∀ c : Dev Cert.CrossAttnPlainIdeal.nD,
      r.2.mem ((c.tc : Thread Cert.CrossAttnPlainIdeal.nD Cert.CrossAttnPlainIdeal.τ).loc Cert.CrossAttnPlainIdeal.main_arg0) = m ((c.tc : Thread Cert.CrossAttnPlainIdeal.nD Cert.CrossAttnPlainIdeal.τ).loc Cert.CrossAttnPlainIdeal.main_arg0)
      ∧ r.2.mem ((c.tc : Thread Cert.CrossAttnPlainIdeal.nD Cert.CrossAttnPlainIdeal.τ).loc Cert.CrossAttnPlainIdeal.main_arg1) = m ((c.tc : Thread Cert.CrossAttnPlainIdeal.nD Cert.CrossAttnPlainIdeal.τ).loc Cert.CrossAttnPlainIdeal.main_arg1)
      ∧ r.2.mem ((c.tc : Thread Cert.CrossAttnPlainIdeal.nD Cert.CrossAttnPlainIdeal.τ).loc Cert.CrossAttnPlainIdeal.main_arg2) = m ((c.tc : Thread Cert.CrossAttnPlainIdeal.nD Cert.CrossAttnPlainIdeal.τ).loc Cert.CrossAttnPlainIdeal.main_arg2))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1))
      ∧ r.2.sem = fun _ => 0)

def quiescent_KeyValuePlainIdeal [hKeyValuePlainIdeal : Cert.KeyValuePlainIdeal.Facts] : Prop :=
  ∀ (m : (ℓ : Loc Cert.KeyValuePlainIdeal.nD Cert.KeyValuePlainIdeal.τ Cert.KeyValuePlainIdeal.sig) → Buf (Elt Ideal) ℓ) (g : Dev Cert.KeyValuePlainIdeal.nD → PrngReg), Pre_KeyValuePlainIdeal m →
    θ_run (Cert.KeyValuePlainIdeal.defs (F := Ideal)) (onTc (τ := Cert.KeyValuePlainIdeal.τ) (Cert.KeyValuePlainIdeal.main (F := Ideal))) ⟨m, fun _ => 0, g⟩ (fun r => (∀ c : Dev Cert.KeyValuePlainIdeal.nD,
      r.2.mem ((c.tc : Thread Cert.KeyValuePlainIdeal.nD Cert.KeyValuePlainIdeal.τ).loc Cert.KeyValuePlainIdeal.main_arg0) = m ((c.tc : Thread Cert.KeyValuePlainIdeal.nD Cert.KeyValuePlainIdeal.τ).loc Cert.KeyValuePlainIdeal.main_arg0)
      ∧ r.2.mem ((c.tc : Thread Cert.KeyValuePlainIdeal.nD Cert.KeyValuePlainIdeal.τ).loc Cert.KeyValuePlainIdeal.main_arg1) = m ((c.tc : Thread Cert.KeyValuePlainIdeal.nD Cert.KeyValuePlainIdeal.τ).loc Cert.KeyValuePlainIdeal.main_arg1))
      ∧ r.2.sem = fun _ => 0)

def quiescent_KeyValueNext [hKeyValueNext : Cert.KeyValueNext.Facts] : Prop :=
  ∀ (m : (ℓ : Loc Cert.KeyValueNext.nD Cert.KeyValueNext.τ Cert.KeyValueNext.sig) → Buf (Elt Bits) ℓ) (g : Dev Cert.KeyValueNext.nD → PrngReg), Pre_KeyValueNext m →
    θ_run (Cert.KeyValueNext.defs (F := Bits)) (onTc (τ := Cert.KeyValueNext.τ) (Cert.KeyValueNext.main (F := Bits))) ⟨m, fun _ => 0, g⟩ (fun r => (∀ c : Dev Cert.KeyValueNext.nD,
      r.2.mem ((c.tc : Thread Cert.KeyValueNext.nD Cert.KeyValueNext.τ).loc Cert.KeyValueNext.main_arg0) = m ((c.tc : Thread Cert.KeyValueNext.nD Cert.KeyValueNext.τ).loc Cert.KeyValueNext.main_arg0)
      ∧ r.2.mem ((c.tc : Thread Cert.KeyValueNext.nD Cert.KeyValueNext.τ).loc Cert.KeyValueNext.main_arg1) = m ((c.tc : Thread Cert.KeyValueNext.nD Cert.KeyValueNext.τ).loc Cert.KeyValueNext.main_arg1))
      ∧ r.2.sem = fun _ => 0)

def quiescent_KeyValueNextIdeal [hKeyValueNextIdeal : Cert.KeyValueNextIdeal.Facts] : Prop :=
  ∀ (m : (ℓ : Loc Cert.KeyValueNextIdeal.nD Cert.KeyValueNextIdeal.τ Cert.KeyValueNextIdeal.sig) → Buf (Elt Ideal) ℓ) (g : Dev Cert.KeyValueNextIdeal.nD → PrngReg), Pre_KeyValueNextIdeal m →
    θ_run (Cert.KeyValueNextIdeal.defs (F := Ideal)) (onTc (τ := Cert.KeyValueNextIdeal.τ) (Cert.KeyValueNextIdeal.main (F := Ideal))) ⟨m, fun _ => 0, g⟩ (fun r => (∀ c : Dev Cert.KeyValueNextIdeal.nD,
      r.2.mem ((c.tc : Thread Cert.KeyValueNextIdeal.nD Cert.KeyValueNextIdeal.τ).loc Cert.KeyValueNextIdeal.main_arg0) = m ((c.tc : Thread Cert.KeyValueNextIdeal.nD Cert.KeyValueNextIdeal.τ).loc Cert.KeyValueNextIdeal.main_arg0)
      ∧ r.2.mem ((c.tc : Thread Cert.KeyValueNextIdeal.nD Cert.KeyValueNextIdeal.τ).loc Cert.KeyValueNextIdeal.main_arg1) = m ((c.tc : Thread Cert.KeyValueNextIdeal.nD Cert.KeyValueNextIdeal.τ).loc Cert.KeyValueNextIdeal.main_arg1))
      ∧ r.2.sem = fun _ => 0)

def quiescent_KeyValueNextPlainIdeal [hKeyValueNextPlainIdeal : Cert.KeyValueNextPlainIdeal.Facts] : Prop :=
  ∀ (m : (ℓ : Loc Cert.KeyValueNextPlainIdeal.nD Cert.KeyValueNextPlainIdeal.τ Cert.KeyValueNextPlainIdeal.sig) → Buf (Elt Ideal) ℓ) (g : Dev Cert.KeyValueNextPlainIdeal.nD → PrngReg), Pre_KeyValueNextPlainIdeal m →
    θ_run (Cert.KeyValueNextPlainIdeal.defs (F := Ideal)) (onTc (τ := Cert.KeyValueNextPlainIdeal.τ) (Cert.KeyValueNextPlainIdeal.main (F := Ideal))) ⟨m, fun _ => 0, g⟩ (fun r => (∀ c : Dev Cert.KeyValueNextPlainIdeal.nD,
      r.2.mem ((c.tc : Thread Cert.KeyValueNextPlainIdeal.nD Cert.KeyValueNextPlainIdeal.τ).loc Cert.KeyValueNextPlainIdeal.main_arg0) = m ((c.tc : Thread Cert.KeyValueNextPlainIdeal.nD Cert.KeyValueNextPlainIdeal.τ).loc Cert.KeyValueNextPlainIdeal.main_arg0)
      ∧ r.2.mem ((c.tc : Thread Cert.KeyValueNextPlainIdeal.nD Cert.KeyValueNextPlainIdeal.τ).loc Cert.KeyValueNextPlainIdeal.main_arg1) = m ((c.tc : Thread Cert.KeyValueNextPlainIdeal.nD Cert.KeyValueNextPlainIdeal.τ).loc Cert.KeyValueNextPlainIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryPlainIdeal [hQueryPlainIdeal : Cert.QueryPlainIdeal.Facts] : Prop :=
  ∀ (m : (ℓ : Loc Cert.QueryPlainIdeal.nD Cert.QueryPlainIdeal.τ Cert.QueryPlainIdeal.sig) → Buf (Elt Ideal) ℓ) (g : Dev Cert.QueryPlainIdeal.nD → PrngReg), Pre_QueryPlainIdeal m →
    θ_run (Cert.QueryPlainIdeal.defs (F := Ideal)) (onTc (τ := Cert.QueryPlainIdeal.τ) (Cert.QueryPlainIdeal.main (F := Ideal))) ⟨m, fun _ => 0, g⟩ (fun r => (∀ c : Dev Cert.QueryPlainIdeal.nD,
      r.2.mem ((c.tc : Thread Cert.QueryPlainIdeal.nD Cert.QueryPlainIdeal.τ).loc Cert.QueryPlainIdeal.main_arg0) = m ((c.tc : Thread Cert.QueryPlainIdeal.nD Cert.QueryPlainIdeal.τ).loc Cert.QueryPlainIdeal.main_arg0)
      ∧ r.2.mem ((c.tc : Thread Cert.QueryPlainIdeal.nD Cert.QueryPlainIdeal.τ).loc Cert.QueryPlainIdeal.main_arg1) = m ((c.tc : Thread Cert.QueryPlainIdeal.nD Cert.QueryPlainIdeal.τ).loc Cert.QueryPlainIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjPlainIdeal [hInProjPlainIdeal : Cert.InProjPlainIdeal.Facts] : Prop :=
  ∀ (m : (ℓ : Loc Cert.InProjPlainIdeal.nD Cert.InProjPlainIdeal.τ Cert.InProjPlainIdeal.sig) → Buf (Elt Ideal) ℓ) (g : Dev Cert.InProjPlainIdeal.nD → PrngReg), Pre_InProjPlainIdeal m →
    θ_run (Cert.InProjPlainIdeal.defs (F := Ideal)) (onTc (τ := Cert.InProjPlainIdeal.τ) (Cert.InProjPlainIdeal.main (F := Ideal))) ⟨m, fun _ => 0, g⟩ (fun r => (∀ c : Dev Cert.InProjPlainIdeal.nD,
      r.2.mem ((c.tc : Thread Cert.InProjPlainIdeal.nD Cert.InProjPlainIdeal.τ).loc Cert.InProjPlainIdeal.main_arg0) = m ((c.tc : Thread Cert.InProjPlainIdeal.nD Cert.InProjPlainIdeal.τ).loc Cert.InProjPlainIdeal.main_arg0)
      ∧ r.2.mem ((c.tc : Thread Cert.InProjPlainIdeal.nD Cert.InProjPlainIdeal.τ).loc Cert.InProjPlainIdeal.main_arg1) = m ((c.tc : Thread Cert.InProjPlainIdeal.nD Cert.InProjPlainIdeal.τ).loc Cert.InProjPlainIdeal.main_arg1)
      ∧ r.2.mem ((c.tc : Thread Cert.InProjPlainIdeal.nD Cert.InProjPlainIdeal.τ).loc Cert.InProjPlainIdeal.main_arg2) = m ((c.tc : Thread Cert.InProjPlainIdeal.nD Cert.InProjPlainIdeal.τ).loc Cert.InProjPlainIdeal.main_arg2)
      ∧ r.2.mem ((c.tc : Thread Cert.InProjPlainIdeal.nD Cert.InProjPlainIdeal.τ).loc Cert.InProjPlainIdeal.main_arg3) = m ((c.tc : Thread Cert.InProjPlainIdeal.nD Cert.InProjPlainIdeal.τ).loc Cert.InProjPlainIdeal.main_arg3)
      ∧ r.2.mem ((c.tc : Thread Cert.InProjPlainIdeal.nD Cert.InProjPlainIdeal.τ).loc Cert.InProjPlainIdeal.main_arg4) = m ((c.tc : Thread Cert.InProjPlainIdeal.nD Cert.InProjPlainIdeal.τ).loc Cert.InProjPlainIdeal.main_arg4)
      ∧ r.2.mem ((c.tc : Thread Cert.InProjPlainIdeal.nD Cert.InProjPlainIdeal.τ).loc Cert.InProjPlainIdeal.main_arg5) = m ((c.tc : Thread Cert.InProjPlainIdeal.nD Cert.InProjPlainIdeal.τ).loc Cert.InProjPlainIdeal.main_arg5)
      ∧ r.2.mem ((c.tc : Thread Cert.InProjPlainIdeal.nD Cert.InProjPlainIdeal.τ).loc Cert.InProjPlainIdeal.main_arg6) = m ((c.tc : Thread Cert.InProjPlainIdeal.nD Cert.InProjPlainIdeal.τ).loc Cert.InProjPlainIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GatePlainIdeal [hGatePlainIdeal : Cert.GatePlainIdeal.Facts] : Prop :=
  ∀ (m : (ℓ : Loc Cert.GatePlainIdeal.nD Cert.GatePlainIdeal.τ Cert.GatePlainIdeal.sig) → Buf (Elt Ideal) ℓ) (g : Dev Cert.GatePlainIdeal.nD → PrngReg), Pre_GatePlainIdeal m →
    θ_run (Cert.GatePlainIdeal.defs (F := Ideal)) (onTc (τ := Cert.GatePlainIdeal.τ) (Cert.GatePlainIdeal.main (F := Ideal))) ⟨m, fun _ => 0, g⟩ (fun r => (∀ c : Dev Cert.GatePlainIdeal.nD,
      r.2.mem ((c.tc : Thread Cert.GatePlainIdeal.nD Cert.GatePlainIdeal.τ).loc Cert.GatePlainIdeal.main_arg0) = m ((c.tc : Thread Cert.GatePlainIdeal.nD Cert.GatePlainIdeal.τ).loc Cert.GatePlainIdeal.main_arg0)
      ∧ r.2.mem ((c.tc : Thread Cert.GatePlainIdeal.nD Cert.GatePlainIdeal.τ).loc Cert.GatePlainIdeal.main_arg1) = m ((c.tc : Thread Cert.GatePlainIdeal.nD Cert.GatePlainIdeal.τ).loc Cert.GatePlainIdeal.main_arg1)
      ∧ r.2.mem ((c.tc : Thread Cert.GatePlainIdeal.nD Cert.GatePlainIdeal.τ).loc Cert.GatePlainIdeal.main_arg2) = m ((c.tc : Thread Cert.GatePlainIdeal.nD Cert.GatePlainIdeal.τ).loc Cert.GatePlainIdeal.main_arg2)
      ∧ r.2.mem ((c.tc : Thread Cert.GatePlainIdeal.nD Cert.GatePlainIdeal.τ).loc Cert.GatePlainIdeal.main_arg3) = m ((c.tc : Thread Cert.GatePlainIdeal.nD Cert.GatePlainIdeal.τ).loc Cert.GatePlainIdeal.main_arg3)
      ∧ r.2.mem ((c.tc : Thread Cert.GatePlainIdeal.nD Cert.GatePlainIdeal.τ).loc Cert.GatePlainIdeal.main_arg4) = m ((c.tc : Thread Cert.GatePlainIdeal.nD Cert.GatePlainIdeal.τ).loc Cert.GatePlainIdeal.main_arg4)
      ∧ r.2.mem ((c.tc : Thread Cert.GatePlainIdeal.nD Cert.GatePlainIdeal.τ).loc Cert.GatePlainIdeal.main_arg5) = m ((c.tc : Thread Cert.GatePlainIdeal.nD Cert.GatePlainIdeal.τ).loc Cert.GatePlainIdeal.main_arg5)
      ∧ r.2.mem ((c.tc : Thread Cert.GatePlainIdeal.nD Cert.GatePlainIdeal.τ).loc Cert.GatePlainIdeal.main_arg6) = m ((c.tc : Thread Cert.GatePlainIdeal.nD Cert.GatePlainIdeal.τ).loc Cert.GatePlainIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutPlainIdeal [hMixOutPlainIdeal : Cert.MixOutPlainIdeal.Facts] : Prop :=
  ∀ (m : (ℓ : Loc Cert.MixOutPlainIdeal.nD Cert.MixOutPlainIdeal.τ Cert.MixOutPlainIdeal.sig) → Buf (Elt Ideal) ℓ) (g : Dev Cert.MixOutPlainIdeal.nD → PrngReg), Pre_MixOutPlainIdeal m →
    θ_run (Cert.MixOutPlainIdeal.defs (F := Ideal)) (onTc (τ := Cert.MixOutPlainIdeal.τ) (Cert.MixOutPlainIdeal.main (F := Ideal))) ⟨m, fun _ => 0, g⟩ (fun r => (∀ c : Dev Cert.MixOutPlainIdeal.nD,
      r.2.mem ((c.tc : Thread Cert.MixOutPlainIdeal.nD Cert.MixOutPlainIdeal.τ).loc Cert.MixOutPlainIdeal.main_arg0) = m ((c.tc : Thread Cert.MixOutPlainIdeal.nD Cert.MixOutPlainIdeal.τ).loc Cert.MixOutPlainIdeal.main_arg0)
      ∧ r.2.mem ((c.tc : Thread Cert.MixOutPlainIdeal.nD Cert.MixOutPlainIdeal.τ).loc Cert.MixOutPlainIdeal.main_arg1) = m ((c.tc : Thread Cert.MixOutPlainIdeal.nD Cert.MixOutPlainIdeal.τ).loc Cert.MixOutPlainIdeal.main_arg1)
      ∧ r.2.mem ((c.tc : Thread Cert.MixOutPlainIdeal.nD Cert.MixOutPlainIdeal.τ).loc Cert.MixOutPlainIdeal.main_arg2) = m ((c.tc : Thread Cert.MixOutPlainIdeal.nD Cert.MixOutPlainIdeal.τ).loc Cert.MixOutPlainIdeal.main_arg2)
      ∧ r.2.mem ((c.tc : Thread Cert.MixOutPlainIdeal.nD Cert.MixOutPlainIdeal.τ).loc Cert.MixOutPlainIdeal.main_arg3) = m ((c.tc : Thread Cert.MixOutPlainIdeal.nD Cert.MixOutPlainIdeal.τ).loc Cert.MixOutPlainIdeal.main_arg3)
      ∧ r.2.mem ((c.tc : Thread Cert.MixOutPlainIdeal.nD Cert.MixOutPlainIdeal.τ).loc Cert.MixOutPlainIdeal.main_arg4) = m ((c.tc : Thread Cert.MixOutPlainIdeal.nD Cert.MixOutPlainIdeal.τ).loc Cert.MixOutPlainIdeal.main_arg4))
      ∧ r.2.sem = fun _ => 0)

def quiescent_DownOut [hDownOut : Cert.DownOut.Facts] : Prop :=
  ∀ (m : (ℓ : Loc Cert.DownOut.nD Cert.DownOut.τ Cert.DownOut.sig) → Buf (Elt Bits) ℓ) (g : Dev Cert.DownOut.nD → PrngReg), Pre_DownOut m →
    θ_run (Cert.DownOut.defs (F := Bits)) (onTc (τ := Cert.DownOut.τ) (Cert.DownOut.main (F := Bits))) ⟨m, fun _ => 0, g⟩ (fun r => (∀ c : Dev Cert.DownOut.nD,
      r.2.mem ((c.tc : Thread Cert.DownOut.nD Cert.DownOut.τ).loc Cert.DownOut.main_arg0) = m ((c.tc : Thread Cert.DownOut.nD Cert.DownOut.τ).loc Cert.DownOut.main_arg0)
      ∧ r.2.mem ((c.tc : Thread Cert.DownOut.nD Cert.DownOut.τ).loc Cert.DownOut.main_arg1) = m ((c.tc : Thread Cert.DownOut.nD Cert.DownOut.τ).loc Cert.DownOut.main_arg1)
      ∧ r.2.mem ((c.tc : Thread Cert.DownOut.nD Cert.DownOut.τ).loc Cert.DownOut.main_arg2) = m ((c.tc : Thread Cert.DownOut.nD Cert.DownOut.τ).loc Cert.DownOut.main_arg2)
      ∧ r.2.mem ((c.tc : Thread Cert.DownOut.nD Cert.DownOut.τ).loc Cert.DownOut.main_arg3) = m ((c.tc : Thread Cert.DownOut.nD Cert.DownOut.τ).loc Cert.DownOut.main_arg3)
      ∧ r.2.mem ((c.tc : Thread Cert.DownOut.nD Cert.DownOut.τ).loc Cert.DownOut.main_arg4) = m ((c.tc : Thread Cert.DownOut.nD Cert.DownOut.τ).loc Cert.DownOut.main_arg4))
      ∧ r.2.sem = fun _ => 0)

def quiescent_DownOutIdeal [hDownOutIdeal : Cert.DownOutIdeal.Facts] : Prop :=
  ∀ (m : (ℓ : Loc Cert.DownOutIdeal.nD Cert.DownOutIdeal.τ Cert.DownOutIdeal.sig) → Buf (Elt Ideal) ℓ) (g : Dev Cert.DownOutIdeal.nD → PrngReg), Pre_DownOutIdeal m →
    θ_run (Cert.DownOutIdeal.defs (F := Ideal)) (onTc (τ := Cert.DownOutIdeal.τ) (Cert.DownOutIdeal.main (F := Ideal))) ⟨m, fun _ => 0, g⟩ (fun r => (∀ c : Dev Cert.DownOutIdeal.nD,
      r.2.mem ((c.tc : Thread Cert.DownOutIdeal.nD Cert.DownOutIdeal.τ).loc Cert.DownOutIdeal.main_arg0) = m ((c.tc : Thread Cert.DownOutIdeal.nD Cert.DownOutIdeal.τ).loc Cert.DownOutIdeal.main_arg0)
      ∧ r.2.mem ((c.tc : Thread Cert.DownOutIdeal.nD Cert.DownOutIdeal.τ).loc Cert.DownOutIdeal.main_arg1) = m ((c.tc : Thread Cert.DownOutIdeal.nD Cert.DownOutIdeal.τ).loc Cert.DownOutIdeal.main_arg1)
      ∧ r.2.mem ((c.tc : Thread Cert.DownOutIdeal.nD Cert.DownOutIdeal.τ).loc Cert.DownOutIdeal.main_arg2) = m ((c.tc : Thread Cert.DownOutIdeal.nD Cert.DownOutIdeal.τ).loc Cert.DownOutIdeal.main_arg2)
      ∧ r.2.mem ((c.tc : Thread Cert.DownOutIdeal.nD Cert.DownOutIdeal.τ).loc Cert.DownOutIdeal.main_arg3) = m ((c.tc : Thread Cert.DownOutIdeal.nD Cert.DownOutIdeal.τ).loc Cert.DownOutIdeal.main_arg3)
      ∧ r.2.mem ((c.tc : Thread Cert.DownOutIdeal.nD Cert.DownOutIdeal.τ).loc Cert.DownOutIdeal.main_arg4) = m ((c.tc : Thread Cert.DownOutIdeal.nD Cert.DownOutIdeal.τ).loc Cert.DownOutIdeal.main_arg4))
      ∧ r.2.sem = fun _ => 0)

def quiescent_DownOutPlainIdeal [hDownOutPlainIdeal : Cert.DownOutPlainIdeal.Facts] : Prop :=
  ∀ (m : (ℓ : Loc Cert.DownOutPlainIdeal.nD Cert.DownOutPlainIdeal.τ Cert.DownOutPlainIdeal.sig) → Buf (Elt Ideal) ℓ) (g : Dev Cert.DownOutPlainIdeal.nD → PrngReg), Pre_DownOutPlainIdeal m →
    θ_run (Cert.DownOutPlainIdeal.defs (F := Ideal)) (onTc (τ := Cert.DownOutPlainIdeal.τ) (Cert.DownOutPlainIdeal.main (F := Ideal))) ⟨m, fun _ => 0, g⟩ (fun r => (∀ c : Dev Cert.DownOutPlainIdeal.nD,
      r.2.mem ((c.tc : Thread Cert.DownOutPlainIdeal.nD Cert.DownOutPlainIdeal.τ).loc Cert.DownOutPlainIdeal.main_arg0) = m ((c.tc : Thread Cert.DownOutPlainIdeal.nD Cert.DownOutPlainIdeal.τ).loc Cert.DownOutPlainIdeal.main_arg0)
      ∧ r.2.mem ((c.tc : Thread Cert.DownOutPlainIdeal.nD Cert.DownOutPlainIdeal.τ).loc Cert.DownOutPlainIdeal.main_arg1) = m ((c.tc : Thread Cert.DownOutPlainIdeal.nD Cert.DownOutPlainIdeal.τ).loc Cert.DownOutPlainIdeal.main_arg1)
      ∧ r.2.mem ((c.tc : Thread Cert.DownOutPlainIdeal.nD Cert.DownOutPlainIdeal.τ).loc Cert.DownOutPlainIdeal.main_arg2) = m ((c.tc : Thread Cert.DownOutPlainIdeal.nD Cert.DownOutPlainIdeal.τ).loc Cert.DownOutPlainIdeal.main_arg2)
      ∧ r.2.mem ((c.tc : Thread Cert.DownOutPlainIdeal.nD Cert.DownOutPlainIdeal.τ).loc Cert.DownOutPlainIdeal.main_arg3) = m ((c.tc : Thread Cert.DownOutPlainIdeal.nD Cert.DownOutPlainIdeal.τ).loc Cert.DownOutPlainIdeal.main_arg3)
      ∧ r.2.mem ((c.tc : Thread Cert.DownOutPlainIdeal.nD Cert.DownOutPlainIdeal.τ).loc Cert.DownOutPlainIdeal.main_arg4) = m ((c.tc : Thread Cert.DownOutPlainIdeal.nD Cert.DownOutPlainIdeal.τ).loc Cert.DownOutPlainIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInPlainIdeal [hFfnInPlainIdeal : Cert.FfnInPlainIdeal.Facts] : Prop :=
  ∀ (m : (ℓ : Loc Cert.FfnInPlainIdeal.nD Cert.FfnInPlainIdeal.τ Cert.FfnInPlainIdeal.sig) → Buf (Elt Ideal) ℓ) (g : Dev Cert.FfnInPlainIdeal.nD → PrngReg), Pre_FfnInPlainIdeal m →
    θ_run (Cert.FfnInPlainIdeal.defs (F := Ideal)) (onTc (τ := Cert.FfnInPlainIdeal.τ) (Cert.FfnInPlainIdeal.main (F := Ideal))) ⟨m, fun _ => 0, g⟩ (fun r => (∀ c : Dev Cert.FfnInPlainIdeal.nD,
      r.2.mem ((c.tc : Thread Cert.FfnInPlainIdeal.nD Cert.FfnInPlainIdeal.τ).loc Cert.FfnInPlainIdeal.main_arg0) = m ((c.tc : Thread Cert.FfnInPlainIdeal.nD Cert.FfnInPlainIdeal.τ).loc Cert.FfnInPlainIdeal.main_arg0)
      ∧ r.2.mem ((c.tc : Thread Cert.FfnInPlainIdeal.nD Cert.FfnInPlainIdeal.τ).loc Cert.FfnInPlainIdeal.main_arg1) = m ((c.tc : Thread Cert.FfnInPlainIdeal.nD Cert.FfnInPlainIdeal.τ).loc Cert.FfnInPlainIdeal.main_arg1)
      ∧ r.2.mem ((c.tc : Thread Cert.FfnInPlainIdeal.nD Cert.FfnInPlainIdeal.τ).loc Cert.FfnInPlainIdeal.main_arg2) = m ((c.tc : Thread Cert.FfnInPlainIdeal.nD Cert.FfnInPlainIdeal.τ).loc Cert.FfnInPlainIdeal.main_arg2)
      ∧ r.2.mem ((c.tc : Thread Cert.FfnInPlainIdeal.nD Cert.FfnInPlainIdeal.τ).loc Cert.FfnInPlainIdeal.main_arg3) = m ((c.tc : Thread Cert.FfnInPlainIdeal.nD Cert.FfnInPlainIdeal.τ).loc Cert.FfnInPlainIdeal.main_arg3)
      ∧ r.2.mem ((c.tc : Thread Cert.FfnInPlainIdeal.nD Cert.FfnInPlainIdeal.τ).loc Cert.FfnInPlainIdeal.main_arg4) = m ((c.tc : Thread Cert.FfnInPlainIdeal.nD Cert.FfnInPlainIdeal.τ).loc Cert.FfnInPlainIdeal.main_arg4))
      ∧ r.2.sem = fun _ => 0)

def quiescent_LastOut [hLastOut : Cert.LastOut.Facts] : Prop :=
  ∀ (m : (ℓ : Loc Cert.LastOut.nD Cert.LastOut.τ Cert.LastOut.sig) → Buf (Elt Bits) ℓ) (g : Dev Cert.LastOut.nD → PrngReg), Pre_LastOut m →
    θ_run (Cert.LastOut.defs (F := Bits)) (onTc (τ := Cert.LastOut.τ) (Cert.LastOut.main (F := Bits))) ⟨m, fun _ => 0, g⟩ (fun r => (∀ c : Dev Cert.LastOut.nD,
      r.2.mem ((c.tc : Thread Cert.LastOut.nD Cert.LastOut.τ).loc Cert.LastOut.main_arg0) = m ((c.tc : Thread Cert.LastOut.nD Cert.LastOut.τ).loc Cert.LastOut.main_arg0)
      ∧ r.2.mem ((c.tc : Thread Cert.LastOut.nD Cert.LastOut.τ).loc Cert.LastOut.main_arg1) = m ((c.tc : Thread Cert.LastOut.nD Cert.LastOut.τ).loc Cert.LastOut.main_arg1)
      ∧ r.2.mem ((c.tc : Thread Cert.LastOut.nD Cert.LastOut.τ).loc Cert.LastOut.main_arg2) = m ((c.tc : Thread Cert.LastOut.nD Cert.LastOut.τ).loc Cert.LastOut.main_arg2)
      ∧ r.2.mem ((c.tc : Thread Cert.LastOut.nD Cert.LastOut.τ).loc Cert.LastOut.main_arg3) = m ((c.tc : Thread Cert.LastOut.nD Cert.LastOut.τ).loc Cert.LastOut.main_arg3)
      ∧ r.2.mem ((c.tc : Thread Cert.LastOut.nD Cert.LastOut.τ).loc Cert.LastOut.main_arg4) = m ((c.tc : Thread Cert.LastOut.nD Cert.LastOut.τ).loc Cert.LastOut.main_arg4))
      ∧ r.2.sem = fun _ => 0)

def quiescent_LastOutIdeal [hLastOutIdeal : Cert.LastOutIdeal.Facts] : Prop :=
  ∀ (m : (ℓ : Loc Cert.LastOutIdeal.nD Cert.LastOutIdeal.τ Cert.LastOutIdeal.sig) → Buf (Elt Ideal) ℓ) (g : Dev Cert.LastOutIdeal.nD → PrngReg), Pre_LastOutIdeal m →
    θ_run (Cert.LastOutIdeal.defs (F := Ideal)) (onTc (τ := Cert.LastOutIdeal.τ) (Cert.LastOutIdeal.main (F := Ideal))) ⟨m, fun _ => 0, g⟩ (fun r => (∀ c : Dev Cert.LastOutIdeal.nD,
      r.2.mem ((c.tc : Thread Cert.LastOutIdeal.nD Cert.LastOutIdeal.τ).loc Cert.LastOutIdeal.main_arg0) = m ((c.tc : Thread Cert.LastOutIdeal.nD Cert.LastOutIdeal.τ).loc Cert.LastOutIdeal.main_arg0)
      ∧ r.2.mem ((c.tc : Thread Cert.LastOutIdeal.nD Cert.LastOutIdeal.τ).loc Cert.LastOutIdeal.main_arg1) = m ((c.tc : Thread Cert.LastOutIdeal.nD Cert.LastOutIdeal.τ).loc Cert.LastOutIdeal.main_arg1)
      ∧ r.2.mem ((c.tc : Thread Cert.LastOutIdeal.nD Cert.LastOutIdeal.τ).loc Cert.LastOutIdeal.main_arg2) = m ((c.tc : Thread Cert.LastOutIdeal.nD Cert.LastOutIdeal.τ).loc Cert.LastOutIdeal.main_arg2)
      ∧ r.2.mem ((c.tc : Thread Cert.LastOutIdeal.nD Cert.LastOutIdeal.τ).loc Cert.LastOutIdeal.main_arg3) = m ((c.tc : Thread Cert.LastOutIdeal.nD Cert.LastOutIdeal.τ).loc Cert.LastOutIdeal.main_arg3)
      ∧ r.2.mem ((c.tc : Thread Cert.LastOutIdeal.nD Cert.LastOutIdeal.τ).loc Cert.LastOutIdeal.main_arg4) = m ((c.tc : Thread Cert.LastOutIdeal.nD Cert.LastOutIdeal.τ).loc Cert.LastOutIdeal.main_arg4))
      ∧ r.2.sem = fun _ => 0)

def quiescent_LastOutPlainIdeal [hLastOutPlainIdeal : Cert.LastOutPlainIdeal.Facts] : Prop :=
  ∀ (m : (ℓ : Loc Cert.LastOutPlainIdeal.nD Cert.LastOutPlainIdeal.τ Cert.LastOutPlainIdeal.sig) → Buf (Elt Ideal) ℓ) (g : Dev Cert.LastOutPlainIdeal.nD → PrngReg), Pre_LastOutPlainIdeal m →
    θ_run (Cert.LastOutPlainIdeal.defs (F := Ideal)) (onTc (τ := Cert.LastOutPlainIdeal.τ) (Cert.LastOutPlainIdeal.main (F := Ideal))) ⟨m, fun _ => 0, g⟩ (fun r => (∀ c : Dev Cert.LastOutPlainIdeal.nD,
      r.2.mem ((c.tc : Thread Cert.LastOutPlainIdeal.nD Cert.LastOutPlainIdeal.τ).loc Cert.LastOutPlainIdeal.main_arg0) = m ((c.tc : Thread Cert.LastOutPlainIdeal.nD Cert.LastOutPlainIdeal.τ).loc Cert.LastOutPlainIdeal.main_arg0)
      ∧ r.2.mem ((c.tc : Thread Cert.LastOutPlainIdeal.nD Cert.LastOutPlainIdeal.τ).loc Cert.LastOutPlainIdeal.main_arg1) = m ((c.tc : Thread Cert.LastOutPlainIdeal.nD Cert.LastOutPlainIdeal.τ).loc Cert.LastOutPlainIdeal.main_arg1)
      ∧ r.2.mem ((c.tc : Thread Cert.LastOutPlainIdeal.nD Cert.LastOutPlainIdeal.τ).loc Cert.LastOutPlainIdeal.main_arg2) = m ((c.tc : Thread Cert.LastOutPlainIdeal.nD Cert.LastOutPlainIdeal.τ).loc Cert.LastOutPlainIdeal.main_arg2)
      ∧ r.2.mem ((c.tc : Thread Cert.LastOutPlainIdeal.nD Cert.LastOutPlainIdeal.τ).loc Cert.LastOutPlainIdeal.main_arg3) = m ((c.tc : Thread Cert.LastOutPlainIdeal.nD Cert.LastOutPlainIdeal.τ).loc Cert.LastOutPlainIdeal.main_arg3)
      ∧ r.2.mem ((c.tc : Thread Cert.LastOutPlainIdeal.nD Cert.LastOutPlainIdeal.τ).loc Cert.LastOutPlainIdeal.main_arg4) = m ((c.tc : Thread Cert.LastOutPlainIdeal.nD Cert.LastOutPlainIdeal.τ).loc Cert.LastOutPlainIdeal.main_arg4))
      ∧ r.2.sem = fun _ => 0)

def quiescent_PackRows [hPackRows : Cert.PackRows.Facts] : Prop :=
  ∀ (m : (ℓ : Loc Cert.PackRows.nD Cert.PackRows.τ Cert.PackRows.sig) → Buf (Elt Bits) ℓ) (g : Dev Cert.PackRows.nD → PrngReg), Pre_PackRows m →
    θ_run (Cert.PackRows.defs (F := Bits)) (onTc (τ := Cert.PackRows.τ) (Cert.PackRows.main (F := Bits))) ⟨m, fun _ => 0, g⟩ (fun r => (∀ c : Dev Cert.PackRows.nD,
      r.2.mem ((c.tc : Thread Cert.PackRows.nD Cert.PackRows.τ).loc Cert.PackRows.main_arg0) = m ((c.tc : Thread Cert.PackRows.nD Cert.PackRows.τ).loc Cert.PackRows.main_arg0)
      ∧ r.2.mem ((c.tc : Thread Cert.PackRows.nD Cert.PackRows.τ).loc Cert.PackRows.main_arg1) = m ((c.tc : Thread Cert.PackRows.nD Cert.PackRows.τ).loc Cert.PackRows.main_arg1))
      ∧ r.2.sem = fun _ => 0)

def quiescent_PackRowsIdeal [hPackRowsIdeal : Cert.PackRowsIdeal.Facts] : Prop :=
  ∀ (m : (ℓ : Loc Cert.PackRowsIdeal.nD Cert.PackRowsIdeal.τ Cert.PackRowsIdeal.sig) → Buf (Elt Ideal) ℓ) (g : Dev Cert.PackRowsIdeal.nD → PrngReg), Pre_PackRowsIdeal m →
    θ_run (Cert.PackRowsIdeal.defs (F := Ideal)) (onTc (τ := Cert.PackRowsIdeal.τ) (Cert.PackRowsIdeal.main (F := Ideal))) ⟨m, fun _ => 0, g⟩ (fun r => (∀ c : Dev Cert.PackRowsIdeal.nD,
      r.2.mem ((c.tc : Thread Cert.PackRowsIdeal.nD Cert.PackRowsIdeal.τ).loc Cert.PackRowsIdeal.main_arg0) = m ((c.tc : Thread Cert.PackRowsIdeal.nD Cert.PackRowsIdeal.τ).loc Cert.PackRowsIdeal.main_arg0)
      ∧ r.2.mem ((c.tc : Thread Cert.PackRowsIdeal.nD Cert.PackRowsIdeal.τ).loc Cert.PackRowsIdeal.main_arg1) = m ((c.tc : Thread Cert.PackRowsIdeal.nD Cert.PackRowsIdeal.τ).loc Cert.PackRowsIdeal.main_arg1))
      ∧ r.2.sem = fun _ => 0)

def quiescent_PackRowsPlainIdeal [hPackRowsPlainIdeal : Cert.PackRowsPlainIdeal.Facts] : Prop :=
  ∀ (m : (ℓ : Loc Cert.PackRowsPlainIdeal.nD Cert.PackRowsPlainIdeal.τ Cert.PackRowsPlainIdeal.sig) → Buf (Elt Ideal) ℓ) (g : Dev Cert.PackRowsPlainIdeal.nD → PrngReg), Pre_PackRowsPlainIdeal m →
    θ_run (Cert.PackRowsPlainIdeal.defs (F := Ideal)) (onTc (τ := Cert.PackRowsPlainIdeal.τ) (Cert.PackRowsPlainIdeal.main (F := Ideal))) ⟨m, fun _ => 0, g⟩ (fun r => (∀ c : Dev Cert.PackRowsPlainIdeal.nD,
      r.2.mem ((c.tc : Thread Cert.PackRowsPlainIdeal.nD Cert.PackRowsPlainIdeal.τ).loc Cert.PackRowsPlainIdeal.main_arg0) = m ((c.tc : Thread Cert.PackRowsPlainIdeal.nD Cert.PackRowsPlainIdeal.τ).loc Cert.PackRowsPlainIdeal.main_arg0)
      ∧ r.2.mem ((c.tc : Thread Cert.PackRowsPlainIdeal.nD Cert.PackRowsPlainIdeal.τ).loc Cert.PackRowsPlainIdeal.main_arg1) = m ((c.tc : Thread Cert.PackRowsPlainIdeal.nD Cert.PackRowsPlainIdeal.τ).loc Cert.PackRowsPlainIdeal.main_arg1))
      ∧ r.2.sem = fun _ => 0)

def quiescent_PermuteIn [hPermuteIn : Cert.PermuteIn.Facts] : Prop :=
  ∀ (m : (ℓ : Loc Cert.PermuteIn.nD Cert.PermuteIn.τ Cert.PermuteIn.sig) → Buf (Elt Bits) ℓ) (g : Dev Cert.PermuteIn.nD → PrngReg), Pre_PermuteIn m →
    θ_run (Cert.PermuteIn.defs (F := Bits)) (onTc (τ := Cert.PermuteIn.τ) (Cert.PermuteIn.main (F := Bits))) ⟨m, fun _ => 0, g⟩ (fun r => (∀ c : Dev Cert.PermuteIn.nD,
      r.2.mem ((c.tc : Thread Cert.PermuteIn.nD Cert.PermuteIn.τ).loc Cert.PermuteIn.main_arg0) = m ((c.tc : Thread Cert.PermuteIn.nD Cert.PermuteIn.τ).loc Cert.PermuteIn.main_arg0))
      ∧ r.2.sem = fun _ => 0)

def quiescent_PermuteInIdeal [hPermuteInIdeal : Cert.PermuteInIdeal.Facts] : Prop :=
  ∀ (m : (ℓ : Loc Cert.PermuteInIdeal.nD Cert.PermuteInIdeal.τ Cert.PermuteInIdeal.sig) → Buf (Elt Ideal) ℓ) (g : Dev Cert.PermuteInIdeal.nD → PrngReg), Pre_PermuteInIdeal m →
    θ_run (Cert.PermuteInIdeal.defs (F := Ideal)) (onTc (τ := Cert.PermuteInIdeal.τ) (Cert.PermuteInIdeal.main (F := Ideal))) ⟨m, fun _ => 0, g⟩ (fun r => (∀ c : Dev Cert.PermuteInIdeal.nD,
      r.2.mem ((c.tc : Thread Cert.PermuteInIdeal.nD Cert.PermuteInIdeal.τ).loc Cert.PermuteInIdeal.main_arg0) = m ((c.tc : Thread Cert.PermuteInIdeal.nD Cert.PermuteInIdeal.τ).loc Cert.PermuteInIdeal.main_arg0))
      ∧ r.2.sem = fun _ => 0)

def quiescent_PermuteInPlainIdeal [hPermuteInPlainIdeal : Cert.PermuteInPlainIdeal.Facts] : Prop :=
  ∀ (m : (ℓ : Loc Cert.PermuteInPlainIdeal.nD Cert.PermuteInPlainIdeal.τ Cert.PermuteInPlainIdeal.sig) → Buf (Elt Ideal) ℓ) (g : Dev Cert.PermuteInPlainIdeal.nD → PrngReg), Pre_PermuteInPlainIdeal m →
    θ_run (Cert.PermuteInPlainIdeal.defs (F := Ideal)) (onTc (τ := Cert.PermuteInPlainIdeal.τ) (Cert.PermuteInPlainIdeal.main (F := Ideal))) ⟨m, fun _ => 0, g⟩ (fun r => (∀ c : Dev Cert.PermuteInPlainIdeal.nD,
      r.2.mem ((c.tc : Thread Cert.PermuteInPlainIdeal.nD Cert.PermuteInPlainIdeal.τ).loc Cert.PermuteInPlainIdeal.main_arg0) = m ((c.tc : Thread Cert.PermuteInPlainIdeal.nD Cert.PermuteInPlainIdeal.τ).loc Cert.PermuteInPlainIdeal.main_arg0))
      ∧ r.2.sem = fun _ => 0)

def quiescent_MemStep [hMemStep : Cert.MemStep.Facts] : Prop :=
  ∀ (m : (ℓ : Loc Cert.MemStep.nD Cert.MemStep.τ Cert.MemStep.sig) → Buf (Elt Bits) ℓ) (g : Dev Cert.MemStep.nD → PrngReg), Pre_MemStep m →
    θ_run (Cert.MemStep.defs (F := Bits)) (onTc (τ := Cert.MemStep.τ) (Cert.MemStep.main (F := Bits))) ⟨m, fun _ => 0, g⟩ (fun r => (∀ c : Dev Cert.MemStep.nD,
      r.2.mem ((c.tc : Thread Cert.MemStep.nD Cert.MemStep.τ).loc Cert.MemStep.main_arg0) = m ((c.tc : Thread Cert.MemStep.nD Cert.MemStep.τ).loc Cert.MemStep.main_arg0)
      ∧ r.2.mem ((c.tc : Thread Cert.MemStep.nD Cert.MemStep.τ).loc Cert.MemStep.main_arg1) = m ((c.tc : Thread Cert.MemStep.nD Cert.MemStep.τ).loc Cert.MemStep.main_arg1)
      ∧ r.2.mem ((c.tc : Thread Cert.MemStep.nD Cert.MemStep.τ).loc Cert.MemStep.main_arg2) = m ((c.tc : Thread Cert.MemStep.nD Cert.MemStep.τ).loc Cert.MemStep.main_arg2)
      ∧ r.2.mem ((c.tc : Thread Cert.MemStep.nD Cert.MemStep.τ).loc Cert.MemStep.main_arg3) = m ((c.tc : Thread Cert.MemStep.nD Cert.MemStep.τ).loc Cert.MemStep.main_arg3))
      ∧ r.2.sem = fun _ => 0)

def quiescent_MemStepIdeal [hMemStepIdeal : Cert.MemStepIdeal.Facts] : Prop :=
  ∀ (m : (ℓ : Loc Cert.MemStepIdeal.nD Cert.MemStepIdeal.τ Cert.MemStepIdeal.sig) → Buf (Elt Ideal) ℓ) (g : Dev Cert.MemStepIdeal.nD → PrngReg), Pre_MemStepIdeal m →
    θ_run (Cert.MemStepIdeal.defs (F := Ideal)) (onTc (τ := Cert.MemStepIdeal.τ) (Cert.MemStepIdeal.main (F := Ideal))) ⟨m, fun _ => 0, g⟩ (fun r => (∀ c : Dev Cert.MemStepIdeal.nD,
      r.2.mem ((c.tc : Thread Cert.MemStepIdeal.nD Cert.MemStepIdeal.τ).loc Cert.MemStepIdeal.main_arg0) = m ((c.tc : Thread Cert.MemStepIdeal.nD Cert.MemStepIdeal.τ).loc Cert.MemStepIdeal.main_arg0)
      ∧ r.2.mem ((c.tc : Thread Cert.MemStepIdeal.nD Cert.MemStepIdeal.τ).loc Cert.MemStepIdeal.main_arg1) = m ((c.tc : Thread Cert.MemStepIdeal.nD Cert.MemStepIdeal.τ).loc Cert.MemStepIdeal.main_arg1)
      ∧ r.2.mem ((c.tc : Thread Cert.MemStepIdeal.nD Cert.MemStepIdeal.τ).loc Cert.MemStepIdeal.main_arg2) = m ((c.tc : Thread Cert.MemStepIdeal.nD Cert.MemStepIdeal.τ).loc Cert.MemStepIdeal.main_arg2)
      ∧ r.2.mem ((c.tc : Thread Cert.MemStepIdeal.nD Cert.MemStepIdeal.τ).loc Cert.MemStepIdeal.main_arg3) = m ((c.tc : Thread Cert.MemStepIdeal.nD Cert.MemStepIdeal.τ).loc Cert.MemStepIdeal.main_arg3))
      ∧ r.2.sem = fun _ => 0)

def quiescent_MemStepIdeal_pre_memstep_finite [hMemStepIdeal : Cert.MemStepIdeal.Facts] [hPre_memstep_finite : Cert.Pre_memstep_finite.Facts] : Prop :=
  ∀ (m : (ℓ : Loc Cert.MemStepIdeal.nD Cert.MemStepIdeal.τ Cert.MemStepIdeal.sig) → Buf (Elt Ideal) ℓ) (g : Dev Cert.MemStepIdeal.nD → PrngReg), Pre_MemStepIdeal_memstep_finite m →
    θ_run (Cert.MemStepIdeal.defs (F := Ideal)) (onTc (τ := Cert.MemStepIdeal.τ) (Cert.MemStepIdeal.main (F := Ideal))) ⟨m, fun _ => 0, g⟩ (fun r => (∀ c : Dev Cert.MemStepIdeal.nD,
      r.2.mem ((c.tc : Thread Cert.MemStepIdeal.nD Cert.MemStepIdeal.τ).loc Cert.MemStepIdeal.main_arg0) = m ((c.tc : Thread Cert.MemStepIdeal.nD Cert.MemStepIdeal.τ).loc Cert.MemStepIdeal.main_arg0)
      ∧ r.2.mem ((c.tc : Thread Cert.MemStepIdeal.nD Cert.MemStepIdeal.τ).loc Cert.MemStepIdeal.main_arg1) = m ((c.tc : Thread Cert.MemStepIdeal.nD Cert.MemStepIdeal.τ).loc Cert.MemStepIdeal.main_arg1)
      ∧ r.2.mem ((c.tc : Thread Cert.MemStepIdeal.nD Cert.MemStepIdeal.τ).loc Cert.MemStepIdeal.main_arg2) = m ((c.tc : Thread Cert.MemStepIdeal.nD Cert.MemStepIdeal.τ).loc Cert.MemStepIdeal.main_arg2)
      ∧ r.2.mem ((c.tc : Thread Cert.MemStepIdeal.nD Cert.MemStepIdeal.τ).loc Cert.MemStepIdeal.main_arg3) = m ((c.tc : Thread Cert.MemStepIdeal.nD Cert.MemStepIdeal.τ).loc Cert.MemStepIdeal.main_arg3))
      ∧ r.2.sem = fun _ => 0)

def quiescent_MemStepPlainIdeal [hMemStepPlainIdeal : Cert.MemStepPlainIdeal.Facts] : Prop :=
  ∀ (m : (ℓ : Loc Cert.MemStepPlainIdeal.nD Cert.MemStepPlainIdeal.τ Cert.MemStepPlainIdeal.sig) → Buf (Elt Ideal) ℓ) (g : Dev Cert.MemStepPlainIdeal.nD → PrngReg), Pre_MemStepPlainIdeal m →
    θ_run (Cert.MemStepPlainIdeal.defs (F := Ideal)) (onTc (τ := Cert.MemStepPlainIdeal.τ) (Cert.MemStepPlainIdeal.main (F := Ideal))) ⟨m, fun _ => 0, g⟩ (fun r => (∀ c : Dev Cert.MemStepPlainIdeal.nD,
      r.2.mem ((c.tc : Thread Cert.MemStepPlainIdeal.nD Cert.MemStepPlainIdeal.τ).loc Cert.MemStepPlainIdeal.main_arg0) = m ((c.tc : Thread Cert.MemStepPlainIdeal.nD Cert.MemStepPlainIdeal.τ).loc Cert.MemStepPlainIdeal.main_arg0)
      ∧ r.2.mem ((c.tc : Thread Cert.MemStepPlainIdeal.nD Cert.MemStepPlainIdeal.τ).loc Cert.MemStepPlainIdeal.main_arg1) = m ((c.tc : Thread Cert.MemStepPlainIdeal.nD Cert.MemStepPlainIdeal.τ).loc Cert.MemStepPlainIdeal.main_arg1)
      ∧ r.2.mem ((c.tc : Thread Cert.MemStepPlainIdeal.nD Cert.MemStepPlainIdeal.τ).loc Cert.MemStepPlainIdeal.main_arg2) = m ((c.tc : Thread Cert.MemStepPlainIdeal.nD Cert.MemStepPlainIdeal.τ).loc Cert.MemStepPlainIdeal.main_arg2)
      ∧ r.2.mem ((c.tc : Thread Cert.MemStepPlainIdeal.nD Cert.MemStepPlainIdeal.τ).loc Cert.MemStepPlainIdeal.main_arg3) = m ((c.tc : Thread Cert.MemStepPlainIdeal.nD Cert.MemStepPlainIdeal.τ).loc Cert.MemStepPlainIdeal.main_arg3))
      ∧ r.2.sem = fun _ => 0)

def quiescent_MemStepPlainIdeal_pre_memstep_finite [hMemStepPlainIdeal : Cert.MemStepPlainIdeal.Facts] [hPre_memstep_finite : Cert.Pre_memstep_finite.Facts] : Prop :=
  ∀ (m : (ℓ : Loc Cert.MemStepPlainIdeal.nD Cert.MemStepPlainIdeal.τ Cert.MemStepPlainIdeal.sig) → Buf (Elt Ideal) ℓ) (g : Dev Cert.MemStepPlainIdeal.nD → PrngReg), Pre_MemStepPlainIdeal_memstep_finite m →
    θ_run (Cert.MemStepPlainIdeal.defs (F := Ideal)) (onTc (τ := Cert.MemStepPlainIdeal.τ) (Cert.MemStepPlainIdeal.main (F := Ideal))) ⟨m, fun _ => 0, g⟩ (fun r => (∀ c : Dev Cert.MemStepPlainIdeal.nD,
      r.2.mem ((c.tc : Thread Cert.MemStepPlainIdeal.nD Cert.MemStepPlainIdeal.τ).loc Cert.MemStepPlainIdeal.main_arg0) = m ((c.tc : Thread Cert.MemStepPlainIdeal.nD Cert.MemStepPlainIdeal.τ).loc Cert.MemStepPlainIdeal.main_arg0)
      ∧ r.2.mem ((c.tc : Thread Cert.MemStepPlainIdeal.nD Cert.MemStepPlainIdeal.τ).loc Cert.MemStepPlainIdeal.main_arg1) = m ((c.tc : Thread Cert.MemStepPlainIdeal.nD Cert.MemStepPlainIdeal.τ).loc Cert.MemStepPlainIdeal.main_arg1)
      ∧ r.2.mem ((c.tc : Thread Cert.MemStepPlainIdeal.nD Cert.MemStepPlainIdeal.τ).loc Cert.MemStepPlainIdeal.main_arg2) = m ((c.tc : Thread Cert.MemStepPlainIdeal.nD Cert.MemStepPlainIdeal.τ).loc Cert.MemStepPlainIdeal.main_arg2)
      ∧ r.2.mem ((c.tc : Thread Cert.MemStepPlainIdeal.nD Cert.MemStepPlainIdeal.τ).loc Cert.MemStepPlainIdeal.main_arg3) = m ((c.tc : Thread Cert.MemStepPlainIdeal.nD Cert.MemStepPlainIdeal.τ).loc Cert.MemStepPlainIdeal.main_arg3))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6))
      ∧ r.2.sem = fun _ => 0)

def quiescent_FfnStepPlainIdeal [hFfnStepPlainIdeal : Cert.FfnStepPlainIdeal.Facts] : Prop :=
  ∀ (m : (ℓ : Loc Cert.FfnStepPlainIdeal.nD Cert.FfnStepPlainIdeal.τ Cert.FfnStepPlainIdeal.sig) → Buf (Elt Ideal) ℓ) (g : Dev Cert.FfnStepPlainIdeal.nD → PrngReg), Pre_FfnStepPlainIdeal m →
    θ_run (Cert.FfnStepPlainIdeal.defs (F := Ideal)) (onTc (τ := Cert.FfnStepPlainIdeal.τ) (Cert.FfnStepPlainIdeal.main (F := Ideal))) ⟨m, fun _ => 0, g⟩ (fun r => (∀ c : Dev Cert.FfnStepPlainIdeal.nD,
      r.2.mem ((c.tc : Thread Cert.FfnStepPlainIdeal.nD Cert.FfnStepPlainIdeal.τ).loc Cert.FfnStepPlainIdeal.main_arg0) = m ((c.tc : Thread Cert.FfnStepPlainIdeal.nD Cert.FfnStepPlainIdeal.τ).loc Cert.FfnStepPlainIdeal.main_arg0)
      ∧ r.2.mem ((c.tc : Thread Cert.FfnStepPlainIdeal.nD Cert.FfnStepPlainIdeal.τ).loc Cert.FfnStepPlainIdeal.main_arg1) = m ((c.tc : Thread Cert.FfnStepPlainIdeal.nD Cert.FfnStepPlainIdeal.τ).loc Cert.FfnStepPlainIdeal.main_arg1)
      ∧ r.2.mem ((c.tc : Thread Cert.FfnStepPlainIdeal.nD Cert.FfnStepPlainIdeal.τ).loc Cert.FfnStepPlainIdeal.main_arg2) = m ((c.tc : Thread Cert.FfnStepPlainIdeal.nD Cert.FfnStepPlainIdeal.τ).loc Cert.FfnStepPlainIdeal.main_arg2)
      ∧ r.2.mem ((c.tc : Thread Cert.FfnStepPlainIdeal.nD Cert.FfnStepPlainIdeal.τ).loc Cert.FfnStepPlainIdeal.main_arg3) = m ((c.tc : Thread Cert.FfnStepPlainIdeal.nD Cert.FfnStepPlainIdeal.τ).loc Cert.FfnStepPlainIdeal.main_arg3)
      ∧ r.2.mem ((c.tc : Thread Cert.FfnStepPlainIdeal.nD Cert.FfnStepPlainIdeal.τ).loc Cert.FfnStepPlainIdeal.main_arg4) = m ((c.tc : Thread Cert.FfnStepPlainIdeal.nD Cert.FfnStepPlainIdeal.τ).loc Cert.FfnStepPlainIdeal.main_arg4)
      ∧ r.2.mem ((c.tc : Thread Cert.FfnStepPlainIdeal.nD Cert.FfnStepPlainIdeal.τ).loc Cert.FfnStepPlainIdeal.main_arg5) = m ((c.tc : Thread Cert.FfnStepPlainIdeal.nD Cert.FfnStepPlainIdeal.τ).loc Cert.FfnStepPlainIdeal.main_arg5)
      ∧ r.2.mem ((c.tc : Thread Cert.FfnStepPlainIdeal.nD Cert.FfnStepPlainIdeal.τ).loc Cert.FfnStepPlainIdeal.main_arg6) = m ((c.tc : Thread Cert.FfnStepPlainIdeal.nD Cert.FfnStepPlainIdeal.τ).loc Cert.FfnStepPlainIdeal.main_arg6))
      ∧ r.2.sem = fun _ => 0)

def preserves_CrossAttn_CrossAttnIdeal : Prop :=
  True

def algebraic_CrossAttnIdeal_CrossAttnPlainIdeal_on_mem_rows_pre_mem_finite [hCrossAttnIdeal : Cert.CrossAttnIdeal.Facts] [hCrossAttnPlainIdeal : Cert.CrossAttnPlainIdeal.Facts] [hPre_mem_finite : Cert.Pre_mem_finite.Facts] [hOn_mem_rows : Cert.On_mem_rows.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg)
    (m' : (ℓ : Loc Cert.CrossAttnPlainIdeal.nD Cert.CrossAttnPlainIdeal.τ Cert.CrossAttnPlainIdeal.sig) → Buf (Elt Ideal) ℓ) (g' : Dev Cert.CrossAttnPlainIdeal.nD → PrngReg), Pre_CrossAttnIdeal_mem_finite m →
    (∀ c : Dev Cert.CrossAttnIdeal.nD,
      m' ((c.tc : Thread Cert.CrossAttnPlainIdeal.nD Cert.CrossAttnPlainIdeal.τ).loc Cert.CrossAttnPlainIdeal.main_arg0) = m ((c.tc : Thread Cert.CrossAttnIdeal.nD Cert.CrossAttnIdeal.τ).loc Cert.CrossAttnIdeal.main_arg0)
      ∧ m' ((c.tc : Thread Cert.CrossAttnPlainIdeal.nD Cert.CrossAttnPlainIdeal.τ).loc Cert.CrossAttnPlainIdeal.main_arg1) = m ((c.tc : Thread Cert.CrossAttnIdeal.nD Cert.CrossAttnIdeal.τ).loc Cert.CrossAttnIdeal.main_arg1)
      ∧ m' ((c.tc : Thread Cert.CrossAttnPlainIdeal.nD Cert.CrossAttnPlainIdeal.τ).loc Cert.CrossAttnPlainIdeal.main_arg2) = m ((c.tc : Thread Cert.CrossAttnIdeal.nD Cert.CrossAttnIdeal.τ).loc Cert.CrossAttnIdeal.main_arg2)) →
    ∃ (v0 : (c : Dev Cert.CrossAttnIdeal.nD) → Buf (Elt Ideal) ((c.tc : Thread Cert.CrossAttnIdeal.nD Cert.CrossAttnIdeal.τ).loc Cert.CrossAttnIdeal.main_v2)),
      θ_run (Cert.CrossAttnIdeal.defs (F := Ideal)) (onTc (τ := Cert.CrossAttnIdeal.τ) (Cert.CrossAttnIdeal.main (F := Ideal))) ⟨m, fun _ => 0, g⟩ (fun r => ∀ c : Dev Cert.CrossAttnIdeal.nD,
          (∀ i : (⟨2, ![8448, 2048]⟩ : Shape).Idx, (Cert.On_mem_rows.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1)) (m ((c.tc : Thread Cert.CrossAttnIdeal.nD Cert.CrossAttnIdeal.τ).loc Cert.CrossAttnIdeal.main_arg2))) i = 1#1 → r.2.mem ((c.tc : Thread Cert.CrossAttnIdeal.nD Cert.CrossAttnIdeal.τ).loc Cert.CrossAttnIdeal.main_v2) i = v0 c i)
          ∧ r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
          ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1)
          ∧ r.2.mem ((c.tc : Thread Cert.CrossAttnIdeal.nD Cert.CrossAttnIdeal.τ).loc Cert.CrossAttnIdeal.main_arg2) = m ((c.tc : Thread Cert.CrossAttnIdeal.nD Cert.CrossAttnIdeal.τ).loc Cert.CrossAttnIdeal.main_arg2))
      ∧ θ_run (Cert.CrossAttnPlainIdeal.defs (F := Ideal)) (onTc (τ := Cert.CrossAttnPlainIdeal.τ) (Cert.CrossAttnPlainIdeal.main (F := Ideal))) ⟨m', fun _ => 0, g'⟩ (fun r => ∀ c : Dev Cert.CrossAttnPlainIdeal.nD,
          (∀ i : (⟨2, ![8448, 2048]⟩ : Shape).Idx, (Cert.On_mem_rows.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1)) (m ((c.tc : Thread Cert.CrossAttnIdeal.nD Cert.CrossAttnIdeal.τ).loc Cert.CrossAttnIdeal.main_arg2))) i = 1#1 → r.2.mem ((c.tc : Thread Cert.CrossAttnPlainIdeal.nD Cert.CrossAttnPlainIdeal.τ).loc Cert.CrossAttnPlainIdeal.main_v24) i = v0 c i)
          ∧ r.2.mem ((c.tc : Thread Cert.CrossAttnPlainIdeal.nD Cert.CrossAttnPlainIdeal.τ).loc Cert.CrossAttnPlainIdeal.main_arg0) = m' ((c.tc : Thread Cert.CrossAttnPlainIdeal.nD Cert.CrossAttnPlainIdeal.τ).loc Cert.CrossAttnPlainIdeal.main_arg0)
          ∧ r.2.mem ((c.tc : Thread Cert.CrossAttnPlainIdeal.nD Cert.CrossAttnPlainIdeal.τ).loc Cert.CrossAttnPlainIdeal.main_arg1) = m' ((c.tc : Thread Cert.CrossAttnPlainIdeal.nD Cert.CrossAttnPlainIdeal.τ).loc Cert.CrossAttnPlainIdeal.main_arg1)
          ∧ r.2.mem ((c.tc : Thread Cert.CrossAttnPlainIdeal.nD Cert.CrossAttnPlainIdeal.τ).loc Cert.CrossAttnPlainIdeal.main_arg2) = m' ((c.tc : Thread Cert.CrossAttnPlainIdeal.nD Cert.CrossAttnPlainIdeal.τ).loc Cert.CrossAttnPlainIdeal.main_arg2))

def preserves_KeyValue_KeyValueIdeal : Prop :=
  True

def algebraic_KeyValueIdeal_KeyValuePlainIdeal [hKeyValueIdeal : Cert.KeyValueIdeal.Facts] [hKeyValuePlainIdeal : Cert.KeyValuePlainIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValuePlainIdeal.nD Cert.KeyValuePlainIdeal.τ Cert.KeyValuePlainIdeal.sig) → Buf (Elt Ideal) ℓ) (g' : Dev Cert.KeyValuePlainIdeal.nD → PrngReg), Pre_KeyValueIdeal m →
    (∀ c : Dev Cert.KeyValueIdeal.nD,
      m' ((c.tc : Thread Cert.KeyValuePlainIdeal.nD Cert.KeyValuePlainIdeal.τ).loc Cert.KeyValuePlainIdeal.main_arg0) = m ((c.tc : Thread Cert.KeyValueIdeal.nD Cert.KeyValueIdeal.τ).loc Cert.KeyValueIdeal.main_arg0)
      ∧ m' ((c.tc : Thread Cert.KeyValuePlainIdeal.nD Cert.KeyValuePlainIdeal.τ).loc Cert.KeyValuePlainIdeal.main_arg1) = m ((c.tc : Thread Cert.KeyValueIdeal.nD Cert.KeyValueIdeal.τ).loc Cert.KeyValueIdeal.main_arg1)) →
    ∃ (v0 : (c : Dev Cert.KeyValueIdeal.nD) → Buf (Elt Ideal) ((c.tc : Thread Cert.KeyValueIdeal.nD Cert.KeyValueIdeal.τ).loc Cert.KeyValueIdeal.main_v2)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v2) = v0 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1))
      ∧ θ_run (Cert.KeyValuePlainIdeal.defs (F := Ideal)) (onTc (τ := Cert.KeyValuePlainIdeal.τ) (Cert.KeyValuePlainIdeal.main (F := Ideal))) ⟨m', fun _ => 0, g'⟩ (fun r => ∀ c : Dev Cert.KeyValuePlainIdeal.nD,
          r.2.mem ((c.tc : Thread Cert.KeyValuePlainIdeal.nD Cert.KeyValuePlainIdeal.τ).loc Cert.KeyValuePlainIdeal.main_v3) = v0 c
          ∧ r.2.mem ((c.tc : Thread Cert.KeyValuePlainIdeal.nD Cert.KeyValuePlainIdeal.τ).loc Cert.KeyValuePlainIdeal.main_arg0) = m' ((c.tc : Thread Cert.KeyValuePlainIdeal.nD Cert.KeyValuePlainIdeal.τ).loc Cert.KeyValuePlainIdeal.main_arg0)
          ∧ r.2.mem ((c.tc : Thread Cert.KeyValuePlainIdeal.nD Cert.KeyValuePlainIdeal.τ).loc Cert.KeyValuePlainIdeal.main_arg1) = m' ((c.tc : Thread Cert.KeyValuePlainIdeal.nD Cert.KeyValuePlainIdeal.τ).loc Cert.KeyValuePlainIdeal.main_arg1))

def preserves_KeyValueNext_KeyValueNextIdeal : Prop :=
  True

def algebraic_KeyValueNextIdeal_KeyValueNextPlainIdeal [hKeyValueNextIdeal : Cert.KeyValueNextIdeal.Facts] [hKeyValueNextPlainIdeal : Cert.KeyValueNextPlainIdeal.Facts] : Prop :=
  ∀ (m : (ℓ : Loc Cert.KeyValueNextIdeal.nD Cert.KeyValueNextIdeal.τ Cert.KeyValueNextIdeal.sig) → Buf (Elt Ideal) ℓ) (g : Dev Cert.KeyValueNextIdeal.nD → PrngReg)
    (m' : (ℓ : Loc Cert.KeyValueNextPlainIdeal.nD Cert.KeyValueNextPlainIdeal.τ Cert.KeyValueNextPlainIdeal.sig) → Buf (Elt Ideal) ℓ) (g' : Dev Cert.KeyValueNextPlainIdeal.nD → PrngReg), Pre_KeyValueNextIdeal m →
    (∀ c : Dev Cert.KeyValueNextIdeal.nD,
      m' ((c.tc : Thread Cert.KeyValueNextPlainIdeal.nD Cert.KeyValueNextPlainIdeal.τ).loc Cert.KeyValueNextPlainIdeal.main_arg0) = m ((c.tc : Thread Cert.KeyValueNextIdeal.nD Cert.KeyValueNextIdeal.τ).loc Cert.KeyValueNextIdeal.main_arg0)
      ∧ m' ((c.tc : Thread Cert.KeyValueNextPlainIdeal.nD Cert.KeyValueNextPlainIdeal.τ).loc Cert.KeyValueNextPlainIdeal.main_arg1) = m ((c.tc : Thread Cert.KeyValueNextIdeal.nD Cert.KeyValueNextIdeal.τ).loc Cert.KeyValueNextIdeal.main_arg1)) →
    ∃ (v0 : (c : Dev Cert.KeyValueNextIdeal.nD) → Buf (Elt Ideal) ((c.tc : Thread Cert.KeyValueNextIdeal.nD Cert.KeyValueNextIdeal.τ).loc Cert.KeyValueNextIdeal.main_v2)),
      θ_run (Cert.KeyValueNextIdeal.defs (F := Ideal)) (onTc (τ := Cert.KeyValueNextIdeal.τ) (Cert.KeyValueNextIdeal.main (F := Ideal))) ⟨m, fun _ => 0, g⟩ (fun r => ∀ c : Dev Cert.KeyValueNextIdeal.nD,
          r.2.mem ((c.tc : Thread Cert.KeyValueNextIdeal.nD Cert.KeyValueNextIdeal.τ).loc Cert.KeyValueNextIdeal.main_v2) = v0 c
          ∧ r.2.mem ((c.tc : Thread Cert.KeyValueNextIdeal.nD Cert.KeyValueNextIdeal.τ).loc Cert.KeyValueNextIdeal.main_arg0) = m ((c.tc : Thread Cert.KeyValueNextIdeal.nD Cert.KeyValueNextIdeal.τ).loc Cert.KeyValueNextIdeal.main_arg0)
          ∧ r.2.mem ((c.tc : Thread Cert.KeyValueNextIdeal.nD Cert.KeyValueNextIdeal.τ).loc Cert.KeyValueNextIdeal.main_arg1) = m ((c.tc : Thread Cert.KeyValueNextIdeal.nD Cert.KeyValueNextIdeal.τ).loc Cert.KeyValueNextIdeal.main_arg1))
      ∧ θ_run (Cert.KeyValueNextPlainIdeal.defs (F := Ideal)) (onTc (τ := Cert.KeyValueNextPlainIdeal.τ) (Cert.KeyValueNextPlainIdeal.main (F := Ideal))) ⟨m', fun _ => 0, g'⟩ (fun r => ∀ c : Dev Cert.KeyValueNextPlainIdeal.nD,
          r.2.mem ((c.tc : Thread Cert.KeyValueNextPlainIdeal.nD Cert.KeyValueNextPlainIdeal.τ).loc Cert.KeyValueNextPlainIdeal.main_v3) = v0 c
          ∧ r.2.mem ((c.tc : Thread Cert.KeyValueNextPlainIdeal.nD Cert.KeyValueNextPlainIdeal.τ).loc Cert.KeyValueNextPlainIdeal.main_arg0) = m' ((c.tc : Thread Cert.KeyValueNextPlainIdeal.nD Cert.KeyValueNextPlainIdeal.τ).loc Cert.KeyValueNextPlainIdeal.main_arg0)
          ∧ r.2.mem ((c.tc : Thread Cert.KeyValueNextPlainIdeal.nD Cert.KeyValueNextPlainIdeal.τ).loc Cert.KeyValueNextPlainIdeal.main_arg1) = m' ((c.tc : Thread Cert.KeyValueNextPlainIdeal.nD Cert.KeyValueNextPlainIdeal.τ).loc Cert.KeyValueNextPlainIdeal.main_arg1))

def preserves_Query_QueryIdeal : Prop :=
  True

def algebraic_QueryIdeal_QueryPlainIdeal [hQueryIdeal : Cert.QueryIdeal.Facts] [hQueryPlainIdeal : Cert.QueryPlainIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryPlainIdeal.nD Cert.QueryPlainIdeal.τ Cert.QueryPlainIdeal.sig) → Buf (Elt Ideal) ℓ) (g' : Dev Cert.QueryPlainIdeal.nD → PrngReg), Pre_QueryIdeal m →
    (∀ c : Dev Cert.QueryIdeal.nD,
      m' ((c.tc : Thread Cert.QueryPlainIdeal.nD Cert.QueryPlainIdeal.τ).loc Cert.QueryPlainIdeal.main_arg0) = m ((c.tc : Thread Cert.QueryIdeal.nD Cert.QueryIdeal.τ).loc Cert.QueryIdeal.main_arg0)
      ∧ m' ((c.tc : Thread Cert.QueryPlainIdeal.nD Cert.QueryPlainIdeal.τ).loc Cert.QueryPlainIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryPlainIdeal.defs (F := Ideal)) (onTc (τ := Cert.QueryPlainIdeal.τ) (Cert.QueryPlainIdeal.main (F := Ideal))) ⟨m', fun _ => 0, g'⟩ (fun r => ∀ c : Dev Cert.QueryPlainIdeal.nD,
          r.2.mem ((c.tc : Thread Cert.QueryPlainIdeal.nD Cert.QueryPlainIdeal.τ).loc Cert.QueryPlainIdeal.main_v4) = v0 c
          ∧ r.2.mem ((c.tc : Thread Cert.QueryPlainIdeal.nD Cert.QueryPlainIdeal.τ).loc Cert.QueryPlainIdeal.main_arg0) = m' ((c.tc : Thread Cert.QueryPlainIdeal.nD Cert.QueryPlainIdeal.τ).loc Cert.QueryPlainIdeal.main_arg0)
          ∧ r.2.mem ((c.tc : Thread Cert.QueryPlainIdeal.nD Cert.QueryPlainIdeal.τ).loc Cert.QueryPlainIdeal.main_arg1) = m' ((c.tc : Thread Cert.QueryPlainIdeal.nD Cert.QueryPlainIdeal.τ).loc Cert.QueryPlainIdeal.main_arg1))

def preserves_InProj_InProjIdeal : Prop :=
  True

def algebraic_InProjIdeal_InProjPlainIdeal [hInProjIdeal : Cert.InProjIdeal.Facts] [hInProjPlainIdeal : Cert.InProjPlainIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjPlainIdeal.nD Cert.InProjPlainIdeal.τ Cert.InProjPlainIdeal.sig) → Buf (Elt Ideal) ℓ) (g' : Dev Cert.InProjPlainIdeal.nD → PrngReg), Pre_InProjIdeal m →
    (∀ c : Dev Cert.InProjIdeal.nD,
      m' ((c.tc : Thread Cert.InProjPlainIdeal.nD Cert.InProjPlainIdeal.τ).loc Cert.InProjPlainIdeal.main_arg0) = m ((c.tc : Thread Cert.InProjIdeal.nD Cert.InProjIdeal.τ).loc Cert.InProjIdeal.main_arg0)
      ∧ m' ((c.tc : Thread Cert.InProjPlainIdeal.nD Cert.InProjPlainIdeal.τ).loc Cert.InProjPlainIdeal.main_arg1) = m ((c.tc : Thread Cert.InProjIdeal.nD Cert.InProjIdeal.τ).loc Cert.InProjIdeal.main_arg1)
      ∧ m' ((c.tc : Thread Cert.InProjPlainIdeal.nD Cert.InProjPlainIdeal.τ).loc Cert.InProjPlainIdeal.main_arg2) = m ((c.tc : Thread Cert.InProjIdeal.nD Cert.InProjIdeal.τ).loc Cert.InProjIdeal.main_arg2)
      ∧ m' ((c.tc : Thread Cert.InProjPlainIdeal.nD Cert.InProjPlainIdeal.τ).loc Cert.InProjPlainIdeal.main_arg3) = m ((c.tc : Thread Cert.InProjIdeal.nD Cert.InProjIdeal.τ).loc Cert.InProjIdeal.main_arg3)
      ∧ m' ((c.tc : Thread Cert.InProjPlainIdeal.nD Cert.InProjPlainIdeal.τ).loc Cert.InProjPlainIdeal.main_arg4) = m ((c.tc : Thread Cert.InProjIdeal.nD Cert.InProjIdeal.τ).loc Cert.InProjIdeal.main_arg4)
      ∧ m' ((c.tc : Thread Cert.InProjPlainIdeal.nD Cert.InProjPlainIdeal.τ).loc Cert.InProjPlainIdeal.main_arg5) = m ((c.tc : Thread Cert.InProjIdeal.nD Cert.InProjIdeal.τ).loc Cert.InProjIdeal.main_arg5)
      ∧ m' ((c.tc : Thread Cert.InProjPlainIdeal.nD Cert.InProjPlainIdeal.τ).loc Cert.InProjPlainIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjPlainIdeal.defs (F := Ideal)) (onTc (τ := Cert.InProjPlainIdeal.τ) (Cert.InProjPlainIdeal.main (F := Ideal))) ⟨m', fun _ => 0, g'⟩ (fun r => ∀ c : Dev Cert.InProjPlainIdeal.nD,
          r.2.mem ((c.tc : Thread Cert.InProjPlainIdeal.nD Cert.InProjPlainIdeal.τ).loc Cert.InProjPlainIdeal.main_v5) = v0 c
          ∧ r.2.mem ((c.tc : Thread Cert.InProjPlainIdeal.nD Cert.InProjPlainIdeal.τ).loc Cert.InProjPlainIdeal.main_v8) = v1 c
          ∧ r.2.mem ((c.tc : Thread Cert.InProjPlainIdeal.nD Cert.InProjPlainIdeal.τ).loc Cert.InProjPlainIdeal.main_v11) = v2 c
          ∧ r.2.mem ((c.tc : Thread Cert.InProjPlainIdeal.nD Cert.InProjPlainIdeal.τ).loc Cert.InProjPlainIdeal.main_v14) = v3 c
          ∧ r.2.mem ((c.tc : Thread Cert.InProjPlainIdeal.nD Cert.InProjPlainIdeal.τ).loc Cert.InProjPlainIdeal.main_v17) = v4 c
          ∧ r.2.mem ((c.tc : Thread Cert.InProjPlainIdeal.nD Cert.InProjPlainIdeal.τ).loc Cert.InProjPlainIdeal.main_v20) = v5 c
          ∧ r.2.mem ((c.tc : Thread Cert.InProjPlainIdeal.nD Cert.InProjPlainIdeal.τ).loc Cert.InProjPlainIdeal.main_arg0) = m' ((c.tc : Thread Cert.InProjPlainIdeal.nD Cert.InProjPlainIdeal.τ).loc Cert.InProjPlainIdeal.main_arg0)
          ∧ r.2.mem ((c.tc : Thread Cert.InProjPlainIdeal.nD Cert.InProjPlainIdeal.τ).loc Cert.InProjPlainIdeal.main_arg1) = m' ((c.tc : Thread Cert.InProjPlainIdeal.nD Cert.InProjPlainIdeal.τ).loc Cert.InProjPlainIdeal.main_arg1)
          ∧ r.2.mem ((c.tc : Thread Cert.InProjPlainIdeal.nD Cert.InProjPlainIdeal.τ).loc Cert.InProjPlainIdeal.main_arg2) = m' ((c.tc : Thread Cert.InProjPlainIdeal.nD Cert.InProjPlainIdeal.τ).loc Cert.InProjPlainIdeal.main_arg2)
          ∧ r.2.mem ((c.tc : Thread Cert.InProjPlainIdeal.nD Cert.InProjPlainIdeal.τ).loc Cert.InProjPlainIdeal.main_arg3) = m' ((c.tc : Thread Cert.InProjPlainIdeal.nD Cert.InProjPlainIdeal.τ).loc Cert.InProjPlainIdeal.main_arg3)
          ∧ r.2.mem ((c.tc : Thread Cert.InProjPlainIdeal.nD Cert.InProjPlainIdeal.τ).loc Cert.InProjPlainIdeal.main_arg4) = m' ((c.tc : Thread Cert.InProjPlainIdeal.nD Cert.InProjPlainIdeal.τ).loc Cert.InProjPlainIdeal.main_arg4)
          ∧ r.2.mem ((c.tc : Thread Cert.InProjPlainIdeal.nD Cert.InProjPlainIdeal.τ).loc Cert.InProjPlainIdeal.main_arg5) = m' ((c.tc : Thread Cert.InProjPlainIdeal.nD Cert.InProjPlainIdeal.τ).loc Cert.InProjPlainIdeal.main_arg5)
          ∧ r.2.mem ((c.tc : Thread Cert.InProjPlainIdeal.nD Cert.InProjPlainIdeal.τ).loc Cert.InProjPlainIdeal.main_arg6) = m' ((c.tc : Thread Cert.InProjPlainIdeal.nD Cert.InProjPlainIdeal.τ).loc Cert.InProjPlainIdeal.main_arg6))

def preserves_Gate_GateIdeal : Prop :=
  True

def algebraic_GateIdeal_GatePlainIdeal [hGateIdeal : Cert.GateIdeal.Facts] [hGatePlainIdeal : Cert.GatePlainIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GatePlainIdeal.nD Cert.GatePlainIdeal.τ Cert.GatePlainIdeal.sig) → Buf (Elt Ideal) ℓ) (g' : Dev Cert.GatePlainIdeal.nD → PrngReg), Pre_GateIdeal m →
    (∀ c : Dev Cert.GateIdeal.nD,
      m' ((c.tc : Thread Cert.GatePlainIdeal.nD Cert.GatePlainIdeal.τ).loc Cert.GatePlainIdeal.main_arg0) = m ((c.tc : Thread Cert.GateIdeal.nD Cert.GateIdeal.τ).loc Cert.GateIdeal.main_arg0)
      ∧ m' ((c.tc : Thread Cert.GatePlainIdeal.nD Cert.GatePlainIdeal.τ).loc Cert.GatePlainIdeal.main_arg1) = m ((c.tc : Thread Cert.GateIdeal.nD Cert.GateIdeal.τ).loc Cert.GateIdeal.main_arg1)
      ∧ m' ((c.tc : Thread Cert.GatePlainIdeal.nD Cert.GatePlainIdeal.τ).loc Cert.GatePlainIdeal.main_arg2) = m ((c.tc : Thread Cert.GateIdeal.nD Cert.GateIdeal.τ).loc Cert.GateIdeal.main_arg2)
      ∧ m' ((c.tc : Thread Cert.GatePlainIdeal.nD Cert.GatePlainIdeal.τ).loc Cert.GatePlainIdeal.main_arg3) = m ((c.tc : Thread Cert.GateIdeal.nD Cert.GateIdeal.τ).loc Cert.GateIdeal.main_arg3)
      ∧ m' ((c.tc : Thread Cert.GatePlainIdeal.nD Cert.GatePlainIdeal.τ).loc Cert.GatePlainIdeal.main_arg4) = m ((c.tc : Thread Cert.GateIdeal.nD Cert.GateIdeal.τ).loc Cert.GateIdeal.main_arg4)
      ∧ m' ((c.tc : Thread Cert.GatePlainIdeal.nD Cert.GatePlainIdeal.τ).loc Cert.GatePlainIdeal.main_arg5) = m ((c.tc : Thread Cert.GateIdeal.nD Cert.GateIdeal.τ).loc Cert.GateIdeal.main_arg5)
      ∧ m' ((c.tc : Thread Cert.GatePlainIdeal.nD Cert.GatePlainIdeal.τ).loc Cert.GatePlainIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GatePlainIdeal.defs (F := Ideal)) (onTc (τ := Cert.GatePlainIdeal.τ) (Cert.GatePlainIdeal.main (F := Ideal))) ⟨m', fun _ => 0, g'⟩ (fun r => ∀ c : Dev Cert.GatePlainIdeal.nD,
          r.2.mem ((c.tc : Thread Cert.GatePlainIdeal.nD Cert.GatePlainIdeal.τ).loc Cert.GatePlainIdeal.main_v38) = v0 c
          ∧ r.2.mem ((c.tc : Thread Cert.GatePlainIdeal.nD Cert.GatePlainIdeal.τ).loc Cert.GatePlainIdeal.main_arg0) = m' ((c.tc : Thread Cert.GatePlainIdeal.nD Cert.GatePlainIdeal.τ).loc Cert.GatePlainIdeal.main_arg0)
          ∧ r.2.mem ((c.tc : Thread Cert.GatePlainIdeal.nD Cert.GatePlainIdeal.τ).loc Cert.GatePlainIdeal.main_arg1) = m' ((c.tc : Thread Cert.GatePlainIdeal.nD Cert.GatePlainIdeal.τ).loc Cert.GatePlainIdeal.main_arg1)
          ∧ r.2.mem ((c.tc : Thread Cert.GatePlainIdeal.nD Cert.GatePlainIdeal.τ).loc Cert.GatePlainIdeal.main_arg2) = m' ((c.tc : Thread Cert.GatePlainIdeal.nD Cert.GatePlainIdeal.τ).loc Cert.GatePlainIdeal.main_arg2)
          ∧ r.2.mem ((c.tc : Thread Cert.GatePlainIdeal.nD Cert.GatePlainIdeal.τ).loc Cert.GatePlainIdeal.main_arg3) = m' ((c.tc : Thread Cert.GatePlainIdeal.nD Cert.GatePlainIdeal.τ).loc Cert.GatePlainIdeal.main_arg3)
          ∧ r.2.mem ((c.tc : Thread Cert.GatePlainIdeal.nD Cert.GatePlainIdeal.τ).loc Cert.GatePlainIdeal.main_arg4) = m' ((c.tc : Thread Cert.GatePlainIdeal.nD Cert.GatePlainIdeal.τ).loc Cert.GatePlainIdeal.main_arg4)
          ∧ r.2.mem ((c.tc : Thread Cert.GatePlainIdeal.nD Cert.GatePlainIdeal.τ).loc Cert.GatePlainIdeal.main_arg5) = m' ((c.tc : Thread Cert.GatePlainIdeal.nD Cert.GatePlainIdeal.τ).loc Cert.GatePlainIdeal.main_arg5)
          ∧ r.2.mem ((c.tc : Thread Cert.GatePlainIdeal.nD Cert.GatePlainIdeal.τ).loc Cert.GatePlainIdeal.main_arg6) = m' ((c.tc : Thread Cert.GatePlainIdeal.nD Cert.GatePlainIdeal.τ).loc Cert.GatePlainIdeal.main_arg6))

def preserves_MixOut_MixOutIdeal : Prop :=
  True

def algebraic_MixOutIdeal_MixOutPlainIdeal [hMixOutIdeal : Cert.MixOutIdeal.Facts] [hMixOutPlainIdeal : Cert.MixOutPlainIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutPlainIdeal.nD Cert.MixOutPlainIdeal.τ Cert.MixOutPlainIdeal.sig) → Buf (Elt Ideal) ℓ) (g' : Dev Cert.MixOutPlainIdeal.nD → PrngReg), Pre_MixOutIdeal m →
    (∀ c : Dev Cert.MixOutIdeal.nD,
      m' ((c.tc : Thread Cert.MixOutPlainIdeal.nD Cert.MixOutPlainIdeal.τ).loc Cert.MixOutPlainIdeal.main_arg0) = m ((c.tc : Thread Cert.MixOutIdeal.nD Cert.MixOutIdeal.τ).loc Cert.MixOutIdeal.main_arg0)
      ∧ m' ((c.tc : Thread Cert.MixOutPlainIdeal.nD Cert.MixOutPlainIdeal.τ).loc Cert.MixOutPlainIdeal.main_arg1) = m ((c.tc : Thread Cert.MixOutIdeal.nD Cert.MixOutIdeal.τ).loc Cert.MixOutIdeal.main_arg1)
      ∧ m' ((c.tc : Thread Cert.MixOutPlainIdeal.nD Cert.MixOutPlainIdeal.τ).loc Cert.MixOutPlainIdeal.main_arg2) = m ((c.tc : Thread Cert.MixOutIdeal.nD Cert.MixOutIdeal.τ).loc Cert.MixOutIdeal.main_arg2)
      ∧ m' ((c.tc : Thread Cert.MixOutPlainIdeal.nD Cert.MixOutPlainIdeal.τ).loc Cert.MixOutPlainIdeal.main_arg3) = m ((c.tc : Thread Cert.MixOutIdeal.nD Cert.MixOutIdeal.τ).loc Cert.MixOutIdeal.main_arg3)
      ∧ m' ((c.tc : Thread Cert.MixOutPlainIdeal.nD Cert.MixOutPlainIdeal.τ).loc Cert.MixOutPlainIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutPlainIdeal.defs (F := Ideal)) (onTc (τ := Cert.MixOutPlainIdeal.τ) (Cert.MixOutPlainIdeal.main (F := Ideal))) ⟨m', fun _ => 0, g'⟩ (fun r => ∀ c : Dev Cert.MixOutPlainIdeal.nD,
          r.2.mem ((c.tc : Thread Cert.MixOutPlainIdeal.nD Cert.MixOutPlainIdeal.τ).loc Cert.MixOutPlainIdeal.main_v33) = v0 c
          ∧ r.2.mem ((c.tc : Thread Cert.MixOutPlainIdeal.nD Cert.MixOutPlainIdeal.τ).loc Cert.MixOutPlainIdeal.main_v34) = v1 c
          ∧ r.2.mem ((c.tc : Thread Cert.MixOutPlainIdeal.nD Cert.MixOutPlainIdeal.τ).loc Cert.MixOutPlainIdeal.main_arg0) = m' ((c.tc : Thread Cert.MixOutPlainIdeal.nD Cert.MixOutPlainIdeal.τ).loc Cert.MixOutPlainIdeal.main_arg0)
          ∧ r.2.mem ((c.tc : Thread Cert.MixOutPlainIdeal.nD Cert.MixOutPlainIdeal.τ).loc Cert.MixOutPlainIdeal.main_arg1) = m' ((c.tc : Thread Cert.MixOutPlainIdeal.nD Cert.MixOutPlainIdeal.τ).loc Cert.MixOutPlainIdeal.main_arg1)
          ∧ r.2.mem ((c.tc : Thread Cert.MixOutPlainIdeal.nD Cert.MixOutPlainIdeal.τ).loc Cert.MixOutPlainIdeal.main_arg2) = m' ((c.tc : Thread Cert.MixOutPlainIdeal.nD Cert.MixOutPlainIdeal.τ).loc Cert.MixOutPlainIdeal.main_arg2)
          ∧ r.2.mem ((c.tc : Thread Cert.MixOutPlainIdeal.nD Cert.MixOutPlainIdeal.τ).loc Cert.MixOutPlainIdeal.main_arg3) = m' ((c.tc : Thread Cert.MixOutPlainIdeal.nD Cert.MixOutPlainIdeal.τ).loc Cert.MixOutPlainIdeal.main_arg3)
          ∧ r.2.mem ((c.tc : Thread Cert.MixOutPlainIdeal.nD Cert.MixOutPlainIdeal.τ).loc Cert.MixOutPlainIdeal.main_arg4) = m' ((c.tc : Thread Cert.MixOutPlainIdeal.nD Cert.MixOutPlainIdeal.τ).loc Cert.MixOutPlainIdeal.main_arg4))

def preserves_DownOut_DownOutIdeal : Prop :=
  True

def algebraic_DownOutIdeal_DownOutPlainIdeal [hDownOutIdeal : Cert.DownOutIdeal.Facts] [hDownOutPlainIdeal : Cert.DownOutPlainIdeal.Facts] : Prop :=
  ∀ (m : (ℓ : Loc Cert.DownOutIdeal.nD Cert.DownOutIdeal.τ Cert.DownOutIdeal.sig) → Buf (Elt Ideal) ℓ) (g : Dev Cert.DownOutIdeal.nD → PrngReg)
    (m' : (ℓ : Loc Cert.DownOutPlainIdeal.nD Cert.DownOutPlainIdeal.τ Cert.DownOutPlainIdeal.sig) → Buf (Elt Ideal) ℓ) (g' : Dev Cert.DownOutPlainIdeal.nD → PrngReg), Pre_DownOutIdeal m →
    (∀ c : Dev Cert.DownOutIdeal.nD,
      m' ((c.tc : Thread Cert.DownOutPlainIdeal.nD Cert.DownOutPlainIdeal.τ).loc Cert.DownOutPlainIdeal.main_arg0) = m ((c.tc : Thread Cert.DownOutIdeal.nD Cert.DownOutIdeal.τ).loc Cert.DownOutIdeal.main_arg0)
      ∧ m' ((c.tc : Thread Cert.DownOutPlainIdeal.nD Cert.DownOutPlainIdeal.τ).loc Cert.DownOutPlainIdeal.main_arg1) = m ((c.tc : Thread Cert.DownOutIdeal.nD Cert.DownOutIdeal.τ).loc Cert.DownOutIdeal.main_arg1)
      ∧ m' ((c.tc : Thread Cert.DownOutPlainIdeal.nD Cert.DownOutPlainIdeal.τ).loc Cert.DownOutPlainIdeal.main_arg2) = m ((c.tc : Thread Cert.DownOutIdeal.nD Cert.DownOutIdeal.τ).loc Cert.DownOutIdeal.main_arg2)
      ∧ m' ((c.tc : Thread Cert.DownOutPlainIdeal.nD Cert.DownOutPlainIdeal.τ).loc Cert.DownOutPlainIdeal.main_arg3) = m ((c.tc : Thread Cert.DownOutIdeal.nD Cert.DownOutIdeal.τ).loc Cert.DownOutIdeal.main_arg3)
      ∧ m' ((c.tc : Thread Cert.DownOutPlainIdeal.nD Cert.DownOutPlainIdeal.τ).loc Cert.DownOutPlainIdeal.main_arg4) = m ((c.tc : Thread Cert.DownOutIdeal.nD Cert.DownOutIdeal.τ).loc Cert.DownOutIdeal.main_arg4)) →
    ∃ (v0 : (c : Dev Cert.DownOutIdeal.nD) → Buf (Elt Ideal) ((c.tc : Thread Cert.DownOutIdeal.nD Cert.DownOutIdeal.τ).loc Cert.DownOutIdeal.main_v2_0)) (v1 : (c : Dev Cert.DownOutIdeal.nD) → Buf (Elt Ideal) ((c.tc : Thread Cert.DownOutIdeal.nD Cert.DownOutIdeal.τ).loc Cert.DownOutIdeal.main_v2_1)),
      θ_run (Cert.DownOutIdeal.defs (F := Ideal)) (onTc (τ := Cert.DownOutIdeal.τ) (Cert.DownOutIdeal.main (F := Ideal))) ⟨m, fun _ => 0, g⟩ (fun r => ∀ c : Dev Cert.DownOutIdeal.nD,
          r.2.mem ((c.tc : Thread Cert.DownOutIdeal.nD Cert.DownOutIdeal.τ).loc Cert.DownOutIdeal.main_v2_0) = v0 c
          ∧ r.2.mem ((c.tc : Thread Cert.DownOutIdeal.nD Cert.DownOutIdeal.τ).loc Cert.DownOutIdeal.main_v2_1) = v1 c
          ∧ r.2.mem ((c.tc : Thread Cert.DownOutIdeal.nD Cert.DownOutIdeal.τ).loc Cert.DownOutIdeal.main_arg0) = m ((c.tc : Thread Cert.DownOutIdeal.nD Cert.DownOutIdeal.τ).loc Cert.DownOutIdeal.main_arg0)
          ∧ r.2.mem ((c.tc : Thread Cert.DownOutIdeal.nD Cert.DownOutIdeal.τ).loc Cert.DownOutIdeal.main_arg1) = m ((c.tc : Thread Cert.DownOutIdeal.nD Cert.DownOutIdeal.τ).loc Cert.DownOutIdeal.main_arg1)
          ∧ r.2.mem ((c.tc : Thread Cert.DownOutIdeal.nD Cert.DownOutIdeal.τ).loc Cert.DownOutIdeal.main_arg2) = m ((c.tc : Thread Cert.DownOutIdeal.nD Cert.DownOutIdeal.τ).loc Cert.DownOutIdeal.main_arg2)
          ∧ r.2.mem ((c.tc : Thread Cert.DownOutIdeal.nD Cert.DownOutIdeal.τ).loc Cert.DownOutIdeal.main_arg3) = m ((c.tc : Thread Cert.DownOutIdeal.nD Cert.DownOutIdeal.τ).loc Cert.DownOutIdeal.main_arg3)
          ∧ r.2.mem ((c.tc : Thread Cert.DownOutIdeal.nD Cert.DownOutIdeal.τ).loc Cert.DownOutIdeal.main_arg4) = m ((c.tc : Thread Cert.DownOutIdeal.nD Cert.DownOutIdeal.τ).loc Cert.DownOutIdeal.main_arg4))
      ∧ θ_run (Cert.DownOutPlainIdeal.defs (F := Ideal)) (onTc (τ := Cert.DownOutPlainIdeal.τ) (Cert.DownOutPlainIdeal.main (F := Ideal))) ⟨m', fun _ => 0, g'⟩ (fun r => ∀ c : Dev Cert.DownOutPlainIdeal.nD,
          r.2.mem ((c.tc : Thread Cert.DownOutPlainIdeal.nD Cert.DownOutPlainIdeal.τ).loc Cert.DownOutPlainIdeal.main_v33) = v0 c
          ∧ r.2.mem ((c.tc : Thread Cert.DownOutPlainIdeal.nD Cert.DownOutPlainIdeal.τ).loc Cert.DownOutPlainIdeal.main_v34) = v1 c
          ∧ r.2.mem ((c.tc : Thread Cert.DownOutPlainIdeal.nD Cert.DownOutPlainIdeal.τ).loc Cert.DownOutPlainIdeal.main_arg0) = m' ((c.tc : Thread Cert.DownOutPlainIdeal.nD Cert.DownOutPlainIdeal.τ).loc Cert.DownOutPlainIdeal.main_arg0)
          ∧ r.2.mem ((c.tc : Thread Cert.DownOutPlainIdeal.nD Cert.DownOutPlainIdeal.τ).loc Cert.DownOutPlainIdeal.main_arg1) = m' ((c.tc : Thread Cert.DownOutPlainIdeal.nD Cert.DownOutPlainIdeal.τ).loc Cert.DownOutPlainIdeal.main_arg1)
          ∧ r.2.mem ((c.tc : Thread Cert.DownOutPlainIdeal.nD Cert.DownOutPlainIdeal.τ).loc Cert.DownOutPlainIdeal.main_arg2) = m' ((c.tc : Thread Cert.DownOutPlainIdeal.nD Cert.DownOutPlainIdeal.τ).loc Cert.DownOutPlainIdeal.main_arg2)
          ∧ r.2.mem ((c.tc : Thread Cert.DownOutPlainIdeal.nD Cert.DownOutPlainIdeal.τ).loc Cert.DownOutPlainIdeal.main_arg3) = m' ((c.tc : Thread Cert.DownOutPlainIdeal.nD Cert.DownOutPlainIdeal.τ).loc Cert.DownOutPlainIdeal.main_arg3)
          ∧ r.2.mem ((c.tc : Thread Cert.DownOutPlainIdeal.nD Cert.DownOutPlainIdeal.τ).loc Cert.DownOutPlainIdeal.main_arg4) = m' ((c.tc : Thread Cert.DownOutPlainIdeal.nD Cert.DownOutPlainIdeal.τ).loc Cert.DownOutPlainIdeal.main_arg4))

def preserves_FfnIn_FfnInIdeal : Prop :=
  True

def algebraic_FfnInIdeal_FfnInPlainIdeal_on_ffn_rows [hFfnInIdeal : Cert.FfnInIdeal.Facts] [hFfnInPlainIdeal : Cert.FfnInPlainIdeal.Facts] [hOn_ffn_rows : Cert.On_ffn_rows.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInPlainIdeal.nD Cert.FfnInPlainIdeal.τ Cert.FfnInPlainIdeal.sig) → Buf (Elt Ideal) ℓ) (g' : Dev Cert.FfnInPlainIdeal.nD → PrngReg), Pre_FfnInIdeal m →
    (∀ c : Dev Cert.FfnInIdeal.nD,
      m' ((c.tc : Thread Cert.FfnInPlainIdeal.nD Cert.FfnInPlainIdeal.τ).loc Cert.FfnInPlainIdeal.main_arg0) = m ((c.tc : Thread Cert.FfnInIdeal.nD Cert.FfnInIdeal.τ).loc Cert.FfnInIdeal.main_arg0)
      ∧ m' ((c.tc : Thread Cert.FfnInPlainIdeal.nD Cert.FfnInPlainIdeal.τ).loc Cert.FfnInPlainIdeal.main_arg1) = m ((c.tc : Thread Cert.FfnInIdeal.nD Cert.FfnInIdeal.τ).loc Cert.FfnInIdeal.main_arg1)
      ∧ m' ((c.tc : Thread Cert.FfnInPlainIdeal.nD Cert.FfnInPlainIdeal.τ).loc Cert.FfnInPlainIdeal.main_arg2) = m ((c.tc : Thread Cert.FfnInIdeal.nD Cert.FfnInIdeal.τ).loc Cert.FfnInIdeal.main_arg2)
      ∧ m' ((c.tc : Thread Cert.FfnInPlainIdeal.nD Cert.FfnInPlainIdeal.τ).loc Cert.FfnInPlainIdeal.main_arg3) = m ((c.tc : Thread Cert.FfnInIdeal.nD Cert.FfnInIdeal.τ).loc Cert.FfnInIdeal.main_arg3)
      ∧ m' ((c.tc : Thread Cert.FfnInPlainIdeal.nD Cert.FfnInPlainIdeal.τ).loc Cert.FfnInPlainIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v1_0)) (v1 : (c : Dev Cert.FfnInIdeal.nD) → Buf (Elt Ideal) ((c.tc : Thread Cert.FfnInIdeal.nD Cert.FfnInIdeal.τ).loc Cert.FfnInIdeal.main_v1_1)) (v2 : (c : Dev Cert.FfnInIdeal.nD) → Buf (Elt Ideal) ((c.tc : Thread Cert.FfnInIdeal.nD Cert.FfnInIdeal.τ).loc Cert.FfnInIdeal.main_v1_2)) (v3 : (c : Dev Cert.FfnInIdeal.nD) → Buf (Elt Ideal) ((c.tc : Thread Cert.FfnInIdeal.nD Cert.FfnInIdeal.τ).loc Cert.FfnInIdeal.main_v1_3)) (v4 : (c : Dev Cert.FfnInIdeal.nD) → Buf (Elt Ideal) ((c.tc : Thread Cert.FfnInIdeal.nD Cert.FfnInIdeal.τ).loc Cert.FfnInIdeal.main_v1_4)) (v5 : (c : Dev Cert.FfnInIdeal.nD) → Buf (Elt Ideal) ((c.tc : Thread Cert.FfnInIdeal.nD Cert.FfnInIdeal.τ).loc Cert.FfnInIdeal.main_v1_5)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          (∀ i : (⟨2, ![8448, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).1 i = 1#1 → r.2.mem ((c.tc : Thread Cert.FfnInIdeal.nD Cert.FfnInIdeal.τ).loc Cert.FfnInIdeal.main_v1_0) i = v0 c i)
          ∧ (∀ i : (⟨3, ![8, 8, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.1 i = 1#1 → r.2.mem ((c.tc : Thread Cert.FfnInIdeal.nD Cert.FfnInIdeal.τ).loc Cert.FfnInIdeal.main_v1_1) i = v1 c i)
          ∧ (∀ i : (⟨3, ![8, 8, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.1 i = 1#1 → r.2.mem ((c.tc : Thread Cert.FfnInIdeal.nD Cert.FfnInIdeal.τ).loc Cert.FfnInIdeal.main_v1_2) i = v2 c i)
          ∧ (∀ i : (⟨2, ![5632, 2048]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.1 i = 1#1 → r.2.mem ((c.tc : Thread Cert.FfnInIdeal.nD Cert.FfnInIdeal.τ).loc Cert.FfnInIdeal.main_v1_3) i = v3 c i)
          ∧ (∀ i : (⟨2, ![2048, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.2.1 i = 1#1 → r.2.mem ((c.tc : Thread Cert.FfnInIdeal.nD Cert.FfnInIdeal.τ).loc Cert.FfnInIdeal.main_v1_4) i = v4 c i)
          ∧ (∀ i : (⟨2, ![2048, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.2.2 i = 1#1 → r.2.mem ((c.tc : Thread Cert.FfnInIdeal.nD Cert.FfnInIdeal.τ).loc Cert.FfnInIdeal.main_v1_5) i = v5 c i)
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInPlainIdeal.defs (F := Ideal)) (onTc (τ := Cert.FfnInPlainIdeal.τ) (Cert.FfnInPlainIdeal.main (F := Ideal))) ⟨m', fun _ => 0, g'⟩ (fun r => ∀ c : Dev Cert.FfnInPlainIdeal.nD,
          (∀ i : (⟨2, ![8448, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).1 i = 1#1 → r.2.mem ((c.tc : Thread Cert.FfnInPlainIdeal.nD Cert.FfnInPlainIdeal.τ).loc Cert.FfnInPlainIdeal.main_v53) i = v0 c i)
          ∧ (∀ i : (⟨3, ![8, 8, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.1 i = 1#1 → r.2.mem ((c.tc : Thread Cert.FfnInPlainIdeal.nD Cert.FfnInPlainIdeal.τ).loc Cert.FfnInPlainIdeal.main_v54) i = v1 c i)
          ∧ (∀ i : (⟨3, ![8, 8, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.1 i = 1#1 → r.2.mem ((c.tc : Thread Cert.FfnInPlainIdeal.nD Cert.FfnInPlainIdeal.τ).loc Cert.FfnInPlainIdeal.main_v55) i = v2 c i)
          ∧ (∀ i : (⟨2, ![5632, 2048]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.1 i = 1#1 → r.2.mem ((c.tc : Thread Cert.FfnInPlainIdeal.nD Cert.FfnInPlainIdeal.τ).loc Cert.FfnInPlainIdeal.main_v58) i = v3 c i)
          ∧ (∀ i : (⟨2, ![2048, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.2.1 i = 1#1 → r.2.mem ((c.tc : Thread Cert.FfnInPlainIdeal.nD Cert.FfnInPlainIdeal.τ).loc Cert.FfnInPlainIdeal.main_v59) i = v4 c i)
          ∧ (∀ i : (⟨2, ![2048, 5632]⟩ : Shape).Idx, (Cert.On_ffn_rows.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))).2.2.2.2.2 i = 1#1 → r.2.mem ((c.tc : Thread Cert.FfnInPlainIdeal.nD Cert.FfnInPlainIdeal.τ).loc Cert.FfnInPlainIdeal.main_v60) i = v5 c i)
          ∧ r.2.mem ((c.tc : Thread Cert.FfnInPlainIdeal.nD Cert.FfnInPlainIdeal.τ).loc Cert.FfnInPlainIdeal.main_arg0) = m' ((c.tc : Thread Cert.FfnInPlainIdeal.nD Cert.FfnInPlainIdeal.τ).loc Cert.FfnInPlainIdeal.main_arg0)
          ∧ r.2.mem ((c.tc : Thread Cert.FfnInPlainIdeal.nD Cert.FfnInPlainIdeal.τ).loc Cert.FfnInPlainIdeal.main_arg1) = m' ((c.tc : Thread Cert.FfnInPlainIdeal.nD Cert.FfnInPlainIdeal.τ).loc Cert.FfnInPlainIdeal.main_arg1)
          ∧ r.2.mem ((c.tc : Thread Cert.FfnInPlainIdeal.nD Cert.FfnInPlainIdeal.τ).loc Cert.FfnInPlainIdeal.main_arg2) = m' ((c.tc : Thread Cert.FfnInPlainIdeal.nD Cert.FfnInPlainIdeal.τ).loc Cert.FfnInPlainIdeal.main_arg2)
          ∧ r.2.mem ((c.tc : Thread Cert.FfnInPlainIdeal.nD Cert.FfnInPlainIdeal.τ).loc Cert.FfnInPlainIdeal.main_arg3) = m' ((c.tc : Thread Cert.FfnInPlainIdeal.nD Cert.FfnInPlainIdeal.τ).loc Cert.FfnInPlainIdeal.main_arg3)
          ∧ r.2.mem ((c.tc : Thread Cert.FfnInPlainIdeal.nD Cert.FfnInPlainIdeal.τ).loc Cert.FfnInPlainIdeal.main_arg4) = m' ((c.tc : Thread Cert.FfnInPlainIdeal.nD Cert.FfnInPlainIdeal.τ).loc Cert.FfnInPlainIdeal.main_arg4))

def preserves_LastOut_LastOutIdeal : Prop :=
  True

def algebraic_LastOutIdeal_LastOutPlainIdeal_on_last_rows [hLastOutIdeal : Cert.LastOutIdeal.Facts] [hLastOutPlainIdeal : Cert.LastOutPlainIdeal.Facts] [hOn_last_rows : Cert.On_last_rows.Facts] : Prop :=
  ∀ (m : (ℓ : Loc Cert.LastOutIdeal.nD Cert.LastOutIdeal.τ Cert.LastOutIdeal.sig) → Buf (Elt Ideal) ℓ) (g : Dev Cert.LastOutIdeal.nD → PrngReg)
    (m' : (ℓ : Loc Cert.LastOutPlainIdeal.nD Cert.LastOutPlainIdeal.τ Cert.LastOutPlainIdeal.sig) → Buf (Elt Ideal) ℓ) (g' : Dev Cert.LastOutPlainIdeal.nD → PrngReg), Pre_LastOutIdeal m →
    (∀ c : Dev Cert.LastOutIdeal.nD,
      m' ((c.tc : Thread Cert.LastOutPlainIdeal.nD Cert.LastOutPlainIdeal.τ).loc Cert.LastOutPlainIdeal.main_arg0) = m ((c.tc : Thread Cert.LastOutIdeal.nD Cert.LastOutIdeal.τ).loc Cert.LastOutIdeal.main_arg0)
      ∧ m' ((c.tc : Thread Cert.LastOutPlainIdeal.nD Cert.LastOutPlainIdeal.τ).loc Cert.LastOutPlainIdeal.main_arg1) = m ((c.tc : Thread Cert.LastOutIdeal.nD Cert.LastOutIdeal.τ).loc Cert.LastOutIdeal.main_arg1)
      ∧ m' ((c.tc : Thread Cert.LastOutPlainIdeal.nD Cert.LastOutPlainIdeal.τ).loc Cert.LastOutPlainIdeal.main_arg2) = m ((c.tc : Thread Cert.LastOutIdeal.nD Cert.LastOutIdeal.τ).loc Cert.LastOutIdeal.main_arg2)
      ∧ m' ((c.tc : Thread Cert.LastOutPlainIdeal.nD Cert.LastOutPlainIdeal.τ).loc Cert.LastOutPlainIdeal.main_arg3) = m ((c.tc : Thread Cert.LastOutIdeal.nD Cert.LastOutIdeal.τ).loc Cert.LastOutIdeal.main_arg3)
      ∧ m' ((c.tc : Thread Cert.LastOutPlainIdeal.nD Cert.LastOutPlainIdeal.τ).loc Cert.LastOutPlainIdeal.main_arg4) = m ((c.tc : Thread Cert.LastOutIdeal.nD Cert.LastOutIdeal.τ).loc Cert.LastOutIdeal.main_arg4)) →
    ∃ (v0 : (c : Dev Cert.LastOutIdeal.nD) → Buf (Elt Ideal) ((c.tc : Thread Cert.LastOutIdeal.nD Cert.LastOutIdeal.τ).loc Cert.LastOutIdeal.main_v2_0)) (v1 : (c : Dev Cert.LastOutIdeal.nD) → Buf (Elt Ideal) ((c.tc : Thread Cert.LastOutIdeal.nD Cert.LastOutIdeal.τ).loc Cert.LastOutIdeal.main_v2_1)),
      θ_run (Cert.LastOutIdeal.defs (F := Ideal)) (onTc (τ := Cert.LastOutIdeal.τ) (Cert.LastOutIdeal.main (F := Ideal))) ⟨m, fun _ => 0, g⟩ (fun r => ∀ c : Dev Cert.LastOutIdeal.nD,
          (∀ i : (⟨2, ![8192, 2048]⟩ : Shape).Idx, (Cert.On_last_rows.fn (F := Ideal) (m ((c.tc : Thread Cert.LastOutIdeal.nD Cert.LastOutIdeal.τ).loc Cert.LastOutIdeal.main_arg0)) (m ((c.tc : Thread Cert.LastOutIdeal.nD Cert.LastOutIdeal.τ).loc Cert.LastOutIdeal.main_arg1)) (m ((c.tc : Thread Cert.LastOutIdeal.nD Cert.LastOutIdeal.τ).loc Cert.LastOutIdeal.main_arg2)) (m ((c.tc : Thread Cert.LastOutIdeal.nD Cert.LastOutIdeal.τ).loc Cert.LastOutIdeal.main_arg3)) (m ((c.tc : Thread Cert.LastOutIdeal.nD Cert.LastOutIdeal.τ).loc Cert.LastOutIdeal.main_arg4))).1 i = 1#1 → r.2.mem ((c.tc : Thread Cert.LastOutIdeal.nD Cert.LastOutIdeal.τ).loc Cert.LastOutIdeal.main_v2_0) i = v0 c i)
          ∧ (∀ i : (⟨2, ![512, 2048]⟩ : Shape).Idx, (Cert.On_last_rows.fn (F := Ideal) (m ((c.tc : Thread Cert.LastOutIdeal.nD Cert.LastOutIdeal.τ).loc Cert.LastOutIdeal.main_arg0)) (m ((c.tc : Thread Cert.LastOutIdeal.nD Cert.LastOutIdeal.τ).loc Cert.LastOutIdeal.main_arg1)) (m ((c.tc : Thread Cert.LastOutIdeal.nD Cert.LastOutIdeal.τ).loc Cert.LastOutIdeal.main_arg2)) (m ((c.tc : Thread Cert.LastOutIdeal.nD Cert.LastOutIdeal.τ).loc Cert.LastOutIdeal.main_arg3)) (m ((c.tc : Thread Cert.LastOutIdeal.nD Cert.LastOutIdeal.τ).loc Cert.LastOutIdeal.main_arg4))).2 i = 1#1 → r.2.mem ((c.tc : Thread Cert.LastOutIdeal.nD Cert.LastOutIdeal.τ).loc Cert.LastOutIdeal.main_v2_1) i = v1 c i)
          ∧ r.2.mem ((c.tc : Thread Cert.LastOutIdeal.nD Cert.LastOutIdeal.τ).loc Cert.LastOutIdeal.main_arg0) = m ((c.tc : Thread Cert.LastOutIdeal.nD Cert.LastOutIdeal.τ).loc Cert.LastOutIdeal.main_arg0)
          ∧ r.2.mem ((c.tc : Thread Cert.LastOutIdeal.nD Cert.LastOutIdeal.τ).loc Cert.LastOutIdeal.main_arg1) = m ((c.tc : Thread Cert.LastOutIdeal.nD Cert.LastOutIdeal.τ).loc Cert.LastOutIdeal.main_arg1)
          ∧ r.2.mem ((c.tc : Thread Cert.LastOutIdeal.nD Cert.LastOutIdeal.τ).loc Cert.LastOutIdeal.main_arg2) = m ((c.tc : Thread Cert.LastOutIdeal.nD Cert.LastOutIdeal.τ).loc Cert.LastOutIdeal.main_arg2)
          ∧ r.2.mem ((c.tc : Thread Cert.LastOutIdeal.nD Cert.LastOutIdeal.τ).loc Cert.LastOutIdeal.main_arg3) = m ((c.tc : Thread Cert.LastOutIdeal.nD Cert.LastOutIdeal.τ).loc Cert.LastOutIdeal.main_arg3)
          ∧ r.2.mem ((c.tc : Thread Cert.LastOutIdeal.nD Cert.LastOutIdeal.τ).loc Cert.LastOutIdeal.main_arg4) = m ((c.tc : Thread Cert.LastOutIdeal.nD Cert.LastOutIdeal.τ).loc Cert.LastOutIdeal.main_arg4))
      ∧ θ_run (Cert.LastOutPlainIdeal.defs (F := Ideal)) (onTc (τ := Cert.LastOutPlainIdeal.τ) (Cert.LastOutPlainIdeal.main (F := Ideal))) ⟨m', fun _ => 0, g'⟩ (fun r => ∀ c : Dev Cert.LastOutPlainIdeal.nD,
          (∀ i : (⟨2, ![8192, 2048]⟩ : Shape).Idx, (Cert.On_last_rows.fn (F := Ideal) (m ((c.tc : Thread Cert.LastOutIdeal.nD Cert.LastOutIdeal.τ).loc Cert.LastOutIdeal.main_arg0)) (m ((c.tc : Thread Cert.LastOutIdeal.nD Cert.LastOutIdeal.τ).loc Cert.LastOutIdeal.main_arg1)) (m ((c.tc : Thread Cert.LastOutIdeal.nD Cert.LastOutIdeal.τ).loc Cert.LastOutIdeal.main_arg2)) (m ((c.tc : Thread Cert.LastOutIdeal.nD Cert.LastOutIdeal.τ).loc Cert.LastOutIdeal.main_arg3)) (m ((c.tc : Thread Cert.LastOutIdeal.nD Cert.LastOutIdeal.τ).loc Cert.LastOutIdeal.main_arg4))).1 i = 1#1 → r.2.mem ((c.tc : Thread Cert.LastOutPlainIdeal.nD Cert.LastOutPlainIdeal.τ).loc Cert.LastOutPlainIdeal.main_v34) i = v0 c i)
          ∧ (∀ i : (⟨2, ![512, 2048]⟩ : Shape).Idx, (Cert.On_last_rows.fn (F := Ideal) (m ((c.tc : Thread Cert.LastOutIdeal.nD Cert.LastOutIdeal.τ).loc Cert.LastOutIdeal.main_arg0)) (m ((c.tc : Thread Cert.LastOutIdeal.nD Cert.LastOutIdeal.τ).loc Cert.LastOutIdeal.main_arg1)) (m ((c.tc : Thread Cert.LastOutIdeal.nD Cert.LastOutIdeal.τ).loc Cert.LastOutIdeal.main_arg2)) (m ((c.tc : Thread Cert.LastOutIdeal.nD Cert.LastOutIdeal.τ).loc Cert.LastOutIdeal.main_arg3)) (m ((c.tc : Thread Cert.LastOutIdeal.nD Cert.LastOutIdeal.τ).loc Cert.LastOutIdeal.main_arg4))).2 i = 1#1 → r.2.mem ((c.tc : Thread Cert.LastOutPlainIdeal.nD Cert.LastOutPlainIdeal.τ).loc Cert.LastOutPlainIdeal.main_v37) i = v1 c i)
          ∧ r.2.mem ((c.tc : Thread Cert.LastOutPlainIdeal.nD Cert.LastOutPlainIdeal.τ).loc Cert.LastOutPlainIdeal.main_arg0) = m' ((c.tc : Thread Cert.LastOutPlainIdeal.nD Cert.LastOutPlainIdeal.τ).loc Cert.LastOutPlainIdeal.main_arg0)
          ∧ r.2.mem ((c.tc : Thread Cert.LastOutPlainIdeal.nD Cert.LastOutPlainIdeal.τ).loc Cert.LastOutPlainIdeal.main_arg1) = m' ((c.tc : Thread Cert.LastOutPlainIdeal.nD Cert.LastOutPlainIdeal.τ).loc Cert.LastOutPlainIdeal.main_arg1)
          ∧ r.2.mem ((c.tc : Thread Cert.LastOutPlainIdeal.nD Cert.LastOutPlainIdeal.τ).loc Cert.LastOutPlainIdeal.main_arg2) = m' ((c.tc : Thread Cert.LastOutPlainIdeal.nD Cert.LastOutPlainIdeal.τ).loc Cert.LastOutPlainIdeal.main_arg2)
          ∧ r.2.mem ((c.tc : Thread Cert.LastOutPlainIdeal.nD Cert.LastOutPlainIdeal.τ).loc Cert.LastOutPlainIdeal.main_arg3) = m' ((c.tc : Thread Cert.LastOutPlainIdeal.nD Cert.LastOutPlainIdeal.τ).loc Cert.LastOutPlainIdeal.main_arg3)
          ∧ r.2.mem ((c.tc : Thread Cert.LastOutPlainIdeal.nD Cert.LastOutPlainIdeal.τ).loc Cert.LastOutPlainIdeal.main_arg4) = m' ((c.tc : Thread Cert.LastOutPlainIdeal.nD Cert.LastOutPlainIdeal.τ).loc Cert.LastOutPlainIdeal.main_arg4))

def preserves_PackRows_PackRowsIdeal : Prop :=
  True

def algebraic_PackRowsIdeal_PackRowsPlainIdeal [hPackRowsIdeal : Cert.PackRowsIdeal.Facts] [hPackRowsPlainIdeal : Cert.PackRowsPlainIdeal.Facts] : Prop :=
  ∀ (m : (ℓ : Loc Cert.PackRowsIdeal.nD Cert.PackRowsIdeal.τ Cert.PackRowsIdeal.sig) → Buf (Elt Ideal) ℓ) (g : Dev Cert.PackRowsIdeal.nD → PrngReg)
    (m' : (ℓ : Loc Cert.PackRowsPlainIdeal.nD Cert.PackRowsPlainIdeal.τ Cert.PackRowsPlainIdeal.sig) → Buf (Elt Ideal) ℓ) (g' : Dev Cert.PackRowsPlainIdeal.nD → PrngReg), Pre_PackRowsIdeal m →
    (∀ c : Dev Cert.PackRowsIdeal.nD,
      m' ((c.tc : Thread Cert.PackRowsPlainIdeal.nD Cert.PackRowsPlainIdeal.τ).loc Cert.PackRowsPlainIdeal.main_arg0) = m ((c.tc : Thread Cert.PackRowsIdeal.nD Cert.PackRowsIdeal.τ).loc Cert.PackRowsIdeal.main_arg0)
      ∧ m' ((c.tc : Thread Cert.PackRowsPlainIdeal.nD Cert.PackRowsPlainIdeal.τ).loc Cert.PackRowsPlainIdeal.main_arg1) = m ((c.tc : Thread Cert.PackRowsIdeal.nD Cert.PackRowsIdeal.τ).loc Cert.PackRowsIdeal.main_arg1)) →
    ∃ (v0 : (c : Dev Cert.PackRowsIdeal.nD) → Buf (Elt Ideal) ((c.tc : Thread Cert.PackRowsIdeal.nD Cert.PackRowsIdeal.τ).loc Cert.PackRowsIdeal.main_v2_0)) (v1 : (c : Dev Cert.PackRowsIdeal.nD) → Buf (Elt Ideal) ((c.tc : Thread Cert.PackRowsIdeal.nD Cert.PackRowsIdeal.τ).loc Cert.PackRowsIdeal.main_v2_1)),
      θ_run (Cert.PackRowsIdeal.defs (F := Ideal)) (onTc (τ := Cert.PackRowsIdeal.τ) (Cert.PackRowsIdeal.main (F := Ideal))) ⟨m, fun _ => 0, g⟩ (fun r => ∀ c : Dev Cert.PackRowsIdeal.nD,
          r.2.mem ((c.tc : Thread Cert.PackRowsIdeal.nD Cert.PackRowsIdeal.τ).loc Cert.PackRowsIdeal.main_v2_0) = v0 c
          ∧ r.2.mem ((c.tc : Thread Cert.PackRowsIdeal.nD Cert.PackRowsIdeal.τ).loc Cert.PackRowsIdeal.main_v2_1) = v1 c
          ∧ r.2.mem ((c.tc : Thread Cert.PackRowsIdeal.nD Cert.PackRowsIdeal.τ).loc Cert.PackRowsIdeal.main_arg0) = m ((c.tc : Thread Cert.PackRowsIdeal.nD Cert.PackRowsIdeal.τ).loc Cert.PackRowsIdeal.main_arg0)
          ∧ r.2.mem ((c.tc : Thread Cert.PackRowsIdeal.nD Cert.PackRowsIdeal.τ).loc Cert.PackRowsIdeal.main_arg1) = m ((c.tc : Thread Cert.PackRowsIdeal.nD Cert.PackRowsIdeal.τ).loc Cert.PackRowsIdeal.main_arg1))
      ∧ θ_run (Cert.PackRowsPlainIdeal.defs (F := Ideal)) (onTc (τ := Cert.PackRowsPlainIdeal.τ) (Cert.PackRowsPlainIdeal.main (F := Ideal))) ⟨m', fun _ => 0, g'⟩ (fun r => ∀ c : Dev Cert.PackRowsPlainIdeal.nD,
          r.2.mem ((c.tc : Thread Cert.PackRowsPlainIdeal.nD Cert.PackRowsPlainIdeal.τ).loc Cert.PackRowsPlainIdeal.main_v2) = v0 c
          ∧ r.2.mem ((c.tc : Thread Cert.PackRowsPlainIdeal.nD Cert.PackRowsPlainIdeal.τ).loc Cert.PackRowsPlainIdeal.main_v3) = v1 c
          ∧ r.2.mem ((c.tc : Thread Cert.PackRowsPlainIdeal.nD Cert.PackRowsPlainIdeal.τ).loc Cert.PackRowsPlainIdeal.main_arg0) = m' ((c.tc : Thread Cert.PackRowsPlainIdeal.nD Cert.PackRowsPlainIdeal.τ).loc Cert.PackRowsPlainIdeal.main_arg0)
          ∧ r.2.mem ((c.tc : Thread Cert.PackRowsPlainIdeal.nD Cert.PackRowsPlainIdeal.τ).loc Cert.PackRowsPlainIdeal.main_arg1) = m' ((c.tc : Thread Cert.PackRowsPlainIdeal.nD Cert.PackRowsPlainIdeal.τ).loc Cert.PackRowsPlainIdeal.main_arg1))

def preserves_PermuteIn_PermuteInIdeal : Prop :=
  True

def algebraic_PermuteInIdeal_PermuteInPlainIdeal [hPermuteInIdeal : Cert.PermuteInIdeal.Facts] [hPermuteInPlainIdeal : Cert.PermuteInPlainIdeal.Facts] : Prop :=
  ∀ (m : (ℓ : Loc Cert.PermuteInIdeal.nD Cert.PermuteInIdeal.τ Cert.PermuteInIdeal.sig) → Buf (Elt Ideal) ℓ) (g : Dev Cert.PermuteInIdeal.nD → PrngReg)
    (m' : (ℓ : Loc Cert.PermuteInPlainIdeal.nD Cert.PermuteInPlainIdeal.τ Cert.PermuteInPlainIdeal.sig) → Buf (Elt Ideal) ℓ) (g' : Dev Cert.PermuteInPlainIdeal.nD → PrngReg), Pre_PermuteInIdeal m →
    (∀ c : Dev Cert.PermuteInIdeal.nD,
      m' ((c.tc : Thread Cert.PermuteInPlainIdeal.nD Cert.PermuteInPlainIdeal.τ).loc Cert.PermuteInPlainIdeal.main_arg0) = m ((c.tc : Thread Cert.PermuteInIdeal.nD Cert.PermuteInIdeal.τ).loc Cert.PermuteInIdeal.main_arg0)) →
    ∃ (v0 : (c : Dev Cert.PermuteInIdeal.nD) → Buf (Elt Ideal) ((c.tc : Thread Cert.PermuteInIdeal.nD Cert.PermuteInIdeal.τ).loc Cert.PermuteInIdeal.main_v0)),
      θ_run (Cert.PermuteInIdeal.defs (F := Ideal)) (onTc (τ := Cert.PermuteInIdeal.τ) (Cert.PermuteInIdeal.main (F := Ideal))) ⟨m, fun _ => 0, g⟩ (fun r => ∀ c : Dev Cert.PermuteInIdeal.nD,
          r.2.mem ((c.tc : Thread Cert.PermuteInIdeal.nD Cert.PermuteInIdeal.τ).loc Cert.PermuteInIdeal.main_v0) = v0 c
          ∧ r.2.mem ((c.tc : Thread Cert.PermuteInIdeal.nD Cert.PermuteInIdeal.τ).loc Cert.PermuteInIdeal.main_arg0) = m ((c.tc : Thread Cert.PermuteInIdeal.nD Cert.PermuteInIdeal.τ).loc Cert.PermuteInIdeal.main_arg0))
      ∧ θ_run (Cert.PermuteInPlainIdeal.defs (F := Ideal)) (onTc (τ := Cert.PermuteInPlainIdeal.τ) (Cert.PermuteInPlainIdeal.main (F := Ideal))) ⟨m', fun _ => 0, g'⟩ (fun r => ∀ c : Dev Cert.PermuteInPlainIdeal.nD,
          r.2.mem ((c.tc : Thread Cert.PermuteInPlainIdeal.nD Cert.PermuteInPlainIdeal.τ).loc Cert.PermuteInPlainIdeal.main_v28) = v0 c
          ∧ r.2.mem ((c.tc : Thread Cert.PermuteInPlainIdeal.nD Cert.PermuteInPlainIdeal.τ).loc Cert.PermuteInPlainIdeal.main_arg0) = m' ((c.tc : Thread Cert.PermuteInPlainIdeal.nD Cert.PermuteInPlainIdeal.τ).loc Cert.PermuteInPlainIdeal.main_arg0))

def preserves_MemStep_MemStepIdeal : Prop :=
  True

def algebraic_MemStepIdeal_MemStepPlainIdeal_pre_memstep_finite [hMemStepIdeal : Cert.MemStepIdeal.Facts] [hMemStepPlainIdeal : Cert.MemStepPlainIdeal.Facts] [hPre_memstep_finite : Cert.Pre_memstep_finite.Facts] : Prop :=
  ∀ (m : (ℓ : Loc Cert.MemStepIdeal.nD Cert.MemStepIdeal.τ Cert.MemStepIdeal.sig) → Buf (Elt Ideal) ℓ) (g : Dev Cert.MemStepIdeal.nD → PrngReg)
    (m' : (ℓ : Loc Cert.MemStepPlainIdeal.nD Cert.MemStepPlainIdeal.τ Cert.MemStepPlainIdeal.sig) → Buf (Elt Ideal) ℓ) (g' : Dev Cert.MemStepPlainIdeal.nD → PrngReg), Pre_MemStepIdeal_memstep_finite m →
    (∀ c : Dev Cert.MemStepIdeal.nD,
      m' ((c.tc : Thread Cert.MemStepPlainIdeal.nD Cert.MemStepPlainIdeal.τ).loc Cert.MemStepPlainIdeal.main_arg0) = m ((c.tc : Thread Cert.MemStepIdeal.nD Cert.MemStepIdeal.τ).loc Cert.MemStepIdeal.main_arg0)
      ∧ m' ((c.tc : Thread Cert.MemStepPlainIdeal.nD Cert.MemStepPlainIdeal.τ).loc Cert.MemStepPlainIdeal.main_arg1) = m ((c.tc : Thread Cert.MemStepIdeal.nD Cert.MemStepIdeal.τ).loc Cert.MemStepIdeal.main_arg1)
      ∧ m' ((c.tc : Thread Cert.MemStepPlainIdeal.nD Cert.MemStepPlainIdeal.τ).loc Cert.MemStepPlainIdeal.main_arg2) = m ((c.tc : Thread Cert.MemStepIdeal.nD Cert.MemStepIdeal.τ).loc Cert.MemStepIdeal.main_arg2)
      ∧ m' ((c.tc : Thread Cert.MemStepPlainIdeal.nD Cert.MemStepPlainIdeal.τ).loc Cert.MemStepPlainIdeal.main_arg3) = m ((c.tc : Thread Cert.MemStepIdeal.nD Cert.MemStepIdeal.τ).loc Cert.MemStepIdeal.main_arg3)) →
    ∃ (v0 : (c : Dev Cert.MemStepIdeal.nD) → Buf (Elt Ideal) ((c.tc : Thread Cert.MemStepIdeal.nD Cert.MemStepIdeal.τ).loc Cert.MemStepIdeal.main_v2)),
      θ_run (Cert.MemStepIdeal.defs (F := Ideal)) (onTc (τ := Cert.MemStepIdeal.τ) (Cert.MemStepIdeal.main (F := Ideal))) ⟨m, fun _ => 0, g⟩ (fun r => ∀ c : Dev Cert.MemStepIdeal.nD,
          r.2.mem ((c.tc : Thread Cert.MemStepIdeal.nD Cert.MemStepIdeal.τ).loc Cert.MemStepIdeal.main_v2) = v0 c
          ∧ r.2.mem ((c.tc : Thread Cert.MemStepIdeal.nD Cert.MemStepIdeal.τ).loc Cert.MemStepIdeal.main_arg0) = m ((c.tc : Thread Cert.MemStepIdeal.nD Cert.MemStepIdeal.τ).loc Cert.MemStepIdeal.main_arg0)
          ∧ r.2.mem ((c.tc : Thread Cert.MemStepIdeal.nD Cert.MemStepIdeal.τ).loc Cert.MemStepIdeal.main_arg1) = m ((c.tc : Thread Cert.MemStepIdeal.nD Cert.MemStepIdeal.τ).loc Cert.MemStepIdeal.main_arg1)
          ∧ r.2.mem ((c.tc : Thread Cert.MemStepIdeal.nD Cert.MemStepIdeal.τ).loc Cert.MemStepIdeal.main_arg2) = m ((c.tc : Thread Cert.MemStepIdeal.nD Cert.MemStepIdeal.τ).loc Cert.MemStepIdeal.main_arg2)
          ∧ r.2.mem ((c.tc : Thread Cert.MemStepIdeal.nD Cert.MemStepIdeal.τ).loc Cert.MemStepIdeal.main_arg3) = m ((c.tc : Thread Cert.MemStepIdeal.nD Cert.MemStepIdeal.τ).loc Cert.MemStepIdeal.main_arg3))
      ∧ θ_run (Cert.MemStepPlainIdeal.defs (F := Ideal)) (onTc (τ := Cert.MemStepPlainIdeal.τ) (Cert.MemStepPlainIdeal.main (F := Ideal))) ⟨m', fun _ => 0, g'⟩ (fun r => ∀ c : Dev Cert.MemStepPlainIdeal.nD,
          r.2.mem ((c.tc : Thread Cert.MemStepPlainIdeal.nD Cert.MemStepPlainIdeal.τ).loc Cert.MemStepPlainIdeal.main_v26) = v0 c
          ∧ r.2.mem ((c.tc : Thread Cert.MemStepPlainIdeal.nD Cert.MemStepPlainIdeal.τ).loc Cert.MemStepPlainIdeal.main_arg0) = m' ((c.tc : Thread Cert.MemStepPlainIdeal.nD Cert.MemStepPlainIdeal.τ).loc Cert.MemStepPlainIdeal.main_arg0)
          ∧ r.2.mem ((c.tc : Thread Cert.MemStepPlainIdeal.nD Cert.MemStepPlainIdeal.τ).loc Cert.MemStepPlainIdeal.main_arg1) = m' ((c.tc : Thread Cert.MemStepPlainIdeal.nD Cert.MemStepPlainIdeal.τ).loc Cert.MemStepPlainIdeal.main_arg1)
          ∧ r.2.mem ((c.tc : Thread Cert.MemStepPlainIdeal.nD Cert.MemStepPlainIdeal.τ).loc Cert.MemStepPlainIdeal.main_arg2) = m' ((c.tc : Thread Cert.MemStepPlainIdeal.nD Cert.MemStepPlainIdeal.τ).loc Cert.MemStepPlainIdeal.main_arg2)
          ∧ r.2.mem ((c.tc : Thread Cert.MemStepPlainIdeal.nD Cert.MemStepPlainIdeal.τ).loc Cert.MemStepPlainIdeal.main_arg3) = m' ((c.tc : Thread Cert.MemStepPlainIdeal.nD Cert.MemStepPlainIdeal.τ).loc Cert.MemStepPlainIdeal.main_arg3))

def preserves_FfnStep_FfnStepIdeal : Prop :=
  True

def algebraic_FfnStepIdeal_FfnStepPlainIdeal [hFfnStepIdeal : Cert.FfnStepIdeal.Facts] [hFfnStepPlainIdeal : Cert.FfnStepPlainIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepPlainIdeal.nD Cert.FfnStepPlainIdeal.τ Cert.FfnStepPlainIdeal.sig) → Buf (Elt Ideal) ℓ) (g' : Dev Cert.FfnStepPlainIdeal.nD → PrngReg), Pre_FfnStepIdeal m →
    (∀ c : Dev Cert.FfnStepIdeal.nD,
      m' ((c.tc : Thread Cert.FfnStepPlainIdeal.nD Cert.FfnStepPlainIdeal.τ).loc Cert.FfnStepPlainIdeal.main_arg0) = m ((c.tc : Thread Cert.FfnStepIdeal.nD Cert.FfnStepIdeal.τ).loc Cert.FfnStepIdeal.main_arg0)
      ∧ m' ((c.tc : Thread Cert.FfnStepPlainIdeal.nD Cert.FfnStepPlainIdeal.τ).loc Cert.FfnStepPlainIdeal.main_arg1) = m ((c.tc : Thread Cert.FfnStepIdeal.nD Cert.FfnStepIdeal.τ).loc Cert.FfnStepIdeal.main_arg1)
      ∧ m' ((c.tc : Thread Cert.FfnStepPlainIdeal.nD Cert.FfnStepPlainIdeal.τ).loc Cert.FfnStepPlainIdeal.main_arg2) = m ((c.tc : Thread Cert.FfnStepIdeal.nD Cert.FfnStepIdeal.τ).loc Cert.FfnStepIdeal.main_arg2)
      ∧ m' ((c.tc : Thread Cert.FfnStepPlainIdeal.nD Cert.FfnStepPlainIdeal.τ).loc Cert.FfnStepPlainIdeal.main_arg3) = m ((c.tc : Thread Cert.FfnStepIdeal.nD Cert.FfnStepIdeal.τ).loc Cert.FfnStepIdeal.main_arg3)
      ∧ m' ((c.tc : Thread Cert.FfnStepPlainIdeal.nD Cert.FfnStepPlainIdeal.τ).loc Cert.FfnStepPlainIdeal.main_arg4) = m ((c.tc : Thread Cert.FfnStepIdeal.nD Cert.FfnStepIdeal.τ).loc Cert.FfnStepIdeal.main_arg4)
      ∧ m' ((c.tc : Thread Cert.FfnStepPlainIdeal.nD Cert.FfnStepPlainIdeal.τ).loc Cert.FfnStepPlainIdeal.main_arg5) = m ((c.tc : Thread Cert.FfnStepIdeal.nD Cert.FfnStepIdeal.τ).loc Cert.FfnStepIdeal.main_arg5)
      ∧ m' ((c.tc : Thread Cert.FfnStepPlainIdeal.nD Cert.FfnStepPlainIdeal.τ).loc Cert.FfnStepPlainIdeal.main_arg6) = m ((c.tc : Thread Cert.FfnStepIdeal.nD Cert.FfnStepIdeal.τ).loc Cert.FfnStepIdeal.main_arg6)) →
    ∃ (v0 : (c : Dev Cert.FfnStepIdeal.nD) → Buf (Elt Ideal) ((c.tc : Thread Cert.FfnStepIdeal.nD Cert.FfnStepIdeal.τ).loc Cert.FfnStepIdeal.main_v1_0)) (v1 : (c : Dev Cert.FfnStepIdeal.nD) → Buf (Elt Ideal) ((c.tc : Thread Cert.FfnStepIdeal.nD Cert.FfnStepIdeal.τ).loc Cert.FfnStepIdeal.main_v1_1)) (v2 : (c : Dev Cert.FfnStepIdeal.nD) → Buf (Elt Ideal) ((c.tc : Thread Cert.FfnStepIdeal.nD Cert.FfnStepIdeal.τ).loc Cert.FfnStepIdeal.main_v1_2)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v1_0) = v0 c
          ∧ r.2.mem ((c.tc : Thread Cert.FfnStepIdeal.nD Cert.FfnStepIdeal.τ).loc Cert.FfnStepIdeal.main_v1_1) = v1 c
          ∧ r.2.mem ((c.tc : Thread Cert.FfnStepIdeal.nD Cert.FfnStepIdeal.τ).loc Cert.FfnStepIdeal.main_v1_2) = v2 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6))
      ∧ θ_run (Cert.FfnStepPlainIdeal.defs (F := Ideal)) (onTc (τ := Cert.FfnStepPlainIdeal.τ) (Cert.FfnStepPlainIdeal.main (F := Ideal))) ⟨m', fun _ => 0, g'⟩ (fun r => ∀ c : Dev Cert.FfnStepPlainIdeal.nD,
          r.2.mem ((c.tc : Thread Cert.FfnStepPlainIdeal.nD Cert.FfnStepPlainIdeal.τ).loc Cert.FfnStepPlainIdeal.main_v51) = v0 c
          ∧ r.2.mem ((c.tc : Thread Cert.FfnStepPlainIdeal.nD Cert.FfnStepPlainIdeal.τ).loc Cert.FfnStepPlainIdeal.main_v52) = v1 c
          ∧ r.2.mem ((c.tc : Thread Cert.FfnStepPlainIdeal.nD Cert.FfnStepPlainIdeal.τ).loc Cert.FfnStepPlainIdeal.main_v53) = v2 c
          ∧ r.2.mem ((c.tc : Thread Cert.FfnStepPlainIdeal.nD Cert.FfnStepPlainIdeal.τ).loc Cert.FfnStepPlainIdeal.main_arg0) = m' ((c.tc : Thread Cert.FfnStepPlainIdeal.nD Cert.FfnStepPlainIdeal.τ).loc Cert.FfnStepPlainIdeal.main_arg0)
          ∧ r.2.mem ((c.tc : Thread Cert.FfnStepPlainIdeal.nD Cert.FfnStepPlainIdeal.τ).loc Cert.FfnStepPlainIdeal.main_arg1) = m' ((c.tc : Thread Cert.FfnStepPlainIdeal.nD Cert.FfnStepPlainIdeal.τ).loc Cert.FfnStepPlainIdeal.main_arg1)
          ∧ r.2.mem ((c.tc : Thread Cert.FfnStepPlainIdeal.nD Cert.FfnStepPlainIdeal.τ).loc Cert.FfnStepPlainIdeal.main_arg2) = m' ((c.tc : Thread Cert.FfnStepPlainIdeal.nD Cert.FfnStepPlainIdeal.τ).loc Cert.FfnStepPlainIdeal.main_arg2)
          ∧ r.2.mem ((c.tc : Thread Cert.FfnStepPlainIdeal.nD Cert.FfnStepPlainIdeal.τ).loc Cert.FfnStepPlainIdeal.main_arg3) = m' ((c.tc : Thread Cert.FfnStepPlainIdeal.nD Cert.FfnStepPlainIdeal.τ).loc Cert.FfnStepPlainIdeal.main_arg3)
          ∧ r.2.mem ((c.tc : Thread Cert.FfnStepPlainIdeal.nD Cert.FfnStepPlainIdeal.τ).loc Cert.FfnStepPlainIdeal.main_arg4) = m' ((c.tc : Thread Cert.FfnStepPlainIdeal.nD Cert.FfnStepPlainIdeal.τ).loc Cert.FfnStepPlainIdeal.main_arg4)
          ∧ r.2.mem ((c.tc : Thread Cert.FfnStepPlainIdeal.nD Cert.FfnStepPlainIdeal.τ).loc Cert.FfnStepPlainIdeal.main_arg5) = m' ((c.tc : Thread Cert.FfnStepPlainIdeal.nD Cert.FfnStepPlainIdeal.τ).loc Cert.FfnStepPlainIdeal.main_arg5)
          ∧ r.2.mem ((c.tc : Thread Cert.FfnStepPlainIdeal.nD Cert.FfnStepPlainIdeal.τ).loc Cert.FfnStepPlainIdeal.main_arg6) = m' ((c.tc : Thread Cert.FfnStepPlainIdeal.nD Cert.FfnStepPlainIdeal.τ).loc Cert.FfnStepPlainIdeal.main_arg6))

def Claim : Prop :=
  ∃ (hCrossAttn : Cert.CrossAttn.Facts) (hCrossAttnIdeal : Cert.CrossAttnIdeal.Facts) (hCrossAttnPlainIdeal : Cert.CrossAttnPlainIdeal.Facts) (hKeyValue : Cert.KeyValue.Facts) (hKeyValueIdeal : Cert.KeyValueIdeal.Facts) (hKeyValuePlainIdeal : Cert.KeyValuePlainIdeal.Facts) (hKeyValueNext : Cert.KeyValueNext.Facts) (hKeyValueNextIdeal : Cert.KeyValueNextIdeal.Facts) (hKeyValueNextPlainIdeal : Cert.KeyValueNextPlainIdeal.Facts) (hQuery : Cert.Query.Facts) (hQueryIdeal : Cert.QueryIdeal.Facts) (hQueryPlainIdeal : Cert.QueryPlainIdeal.Facts) (hInProj : Cert.InProj.Facts) (hInProjIdeal : Cert.InProjIdeal.Facts) (hInProjPlainIdeal : Cert.InProjPlainIdeal.Facts) (hGate : Cert.Gate.Facts) (hGateIdeal : Cert.GateIdeal.Facts) (hGatePlainIdeal : Cert.GatePlainIdeal.Facts) (hMixOut : Cert.MixOut.Facts) (hMixOutIdeal : Cert.MixOutIdeal.Facts) (hMixOutPlainIdeal : Cert.MixOutPlainIdeal.Facts) (hDownOut : Cert.DownOut.Facts) (hDownOutIdeal : Cert.DownOutIdeal.Facts) (hDownOutPlainIdeal : Cert.DownOutPlainIdeal.Facts) (hFfnIn : Cert.FfnIn.Facts) (hFfnInIdeal : Cert.FfnInIdeal.Facts) (hFfnInPlainIdeal : Cert.FfnInPlainIdeal.Facts) (hLastOut : Cert.LastOut.Facts) (hLastOutIdeal : Cert.LastOutIdeal.Facts) (hLastOutPlainIdeal : Cert.LastOutPlainIdeal.Facts) (hPackRows : Cert.PackRows.Facts) (hPackRowsIdeal : Cert.PackRowsIdeal.Facts) (hPackRowsPlainIdeal : Cert.PackRowsPlainIdeal.Facts) (hPermuteIn : Cert.PermuteIn.Facts) (hPermuteInIdeal : Cert.PermuteInIdeal.Facts) (hPermuteInPlainIdeal : Cert.PermuteInPlainIdeal.Facts) (hMemStep : Cert.MemStep.Facts) (hMemStepIdeal : Cert.MemStepIdeal.Facts) (hMemStepPlainIdeal : Cert.MemStepPlainIdeal.Facts) (hFfnStep : Cert.FfnStep.Facts) (hFfnStepIdeal : Cert.FfnStepIdeal.Facts) (hFfnStepPlainIdeal : Cert.FfnStepPlainIdeal.Facts) (hPre_mem_finite : Cert.Pre_mem_finite.Facts) (hPre_memstep_finite : Cert.Pre_memstep_finite.Facts) (hOn_mem_rows : Cert.On_mem_rows.Facts) (hOn_ffn_rows : Cert.On_ffn_rows.Facts) (hOn_last_rows : Cert.On_last_rows.Facts),
    quiescent_CrossAttn (hCrossAttn := hCrossAttn)
    ∧ quiescent_CrossAttnIdeal (hCrossAttnIdeal := hCrossAttnIdeal)
    ∧ quiescent_CrossAttnIdeal_pre_mem_finite (hCrossAttnIdeal := hCrossAttnIdeal) (hPre_mem_finite := hPre_mem_finite)
    ∧ quiescent_CrossAttnPlainIdeal (hCrossAttnPlainIdeal := hCrossAttnPlainIdeal)
    ∧ quiescent_CrossAttnPlainIdeal_pre_mem_finite (hCrossAttnPlainIdeal := hCrossAttnPlainIdeal) (hPre_mem_finite := hPre_mem_finite)
    ∧ quiescent_KeyValue (hKeyValue := hKeyValue)
    ∧ quiescent_KeyValueIdeal (hKeyValueIdeal := hKeyValueIdeal)
    ∧ quiescent_KeyValuePlainIdeal (hKeyValuePlainIdeal := hKeyValuePlainIdeal)
    ∧ quiescent_KeyValueNext (hKeyValueNext := hKeyValueNext)
    ∧ quiescent_KeyValueNextIdeal (hKeyValueNextIdeal := hKeyValueNextIdeal)
    ∧ quiescent_KeyValueNextPlainIdeal (hKeyValueNextPlainIdeal := hKeyValueNextPlainIdeal)
    ∧ quiescent_Query (hQuery := hQuery)
    ∧ quiescent_QueryIdeal (hQueryIdeal := hQueryIdeal)
    ∧ quiescent_QueryPlainIdeal (hQueryPlainIdeal := hQueryPlainIdeal)
    ∧ quiescent_InProj (hInProj := hInProj)
    ∧ quiescent_InProjIdeal (hInProjIdeal := hInProjIdeal)
    ∧ quiescent_InProjPlainIdeal (hInProjPlainIdeal := hInProjPlainIdeal)
    ∧ quiescent_Gate (hGate := hGate)
    ∧ quiescent_GateIdeal (hGateIdeal := hGateIdeal)
    ∧ quiescent_GatePlainIdeal (hGatePlainIdeal := hGatePlainIdeal)
    ∧ quiescent_MixOut (hMixOut := hMixOut)
    ∧ quiescent_MixOutIdeal (hMixOutIdeal := hMixOutIdeal)
    ∧ quiescent_MixOutPlainIdeal (hMixOutPlainIdeal := hMixOutPlainIdeal)
    ∧ quiescent_DownOut (hDownOut := hDownOut)
    ∧ quiescent_DownOutIdeal (hDownOutIdeal := hDownOutIdeal)
    ∧ quiescent_DownOutPlainIdeal (hDownOutPlainIdeal := hDownOutPlainIdeal)
    ∧ quiescent_FfnIn (hFfnIn := hFfnIn)
    ∧ quiescent_FfnInIdeal (hFfnInIdeal := hFfnInIdeal)
    ∧ quiescent_FfnInPlainIdeal (hFfnInPlainIdeal := hFfnInPlainIdeal)
    ∧ quiescent_LastOut (hLastOut := hLastOut)
    ∧ quiescent_LastOutIdeal (hLastOutIdeal := hLastOutIdeal)
    ∧ quiescent_LastOutPlainIdeal (hLastOutPlainIdeal := hLastOutPlainIdeal)
    ∧ quiescent_PackRows (hPackRows := hPackRows)
    ∧ quiescent_PackRowsIdeal (hPackRowsIdeal := hPackRowsIdeal)
    ∧ quiescent_PackRowsPlainIdeal (hPackRowsPlainIdeal := hPackRowsPlainIdeal)
    ∧ quiescent_PermuteIn (hPermuteIn := hPermuteIn)
    ∧ quiescent_PermuteInIdeal (hPermuteInIdeal := hPermuteInIdeal)
    ∧ quiescent_PermuteInPlainIdeal (hPermuteInPlainIdeal := hPermuteInPlainIdeal)
    ∧ quiescent_MemStep (hMemStep := hMemStep)
    ∧ quiescent_MemStepIdeal (hMemStepIdeal := hMemStepIdeal)
    ∧ quiescent_MemStepIdeal_pre_memstep_finite (hMemStepIdeal := hMemStepIdeal) (hPre_memstep_finite := hPre_memstep_finite)
    ∧ quiescent_MemStepPlainIdeal (hMemStepPlainIdeal := hMemStepPlainIdeal)
    ∧ quiescent_MemStepPlainIdeal_pre_memstep_finite (hMemStepPlainIdeal := hMemStepPlainIdeal) (hPre_memstep_finite := hPre_memstep_finite)
    ∧ quiescent_FfnStep (hFfnStep := hFfnStep)
    ∧ quiescent_FfnStepIdeal (hFfnStepIdeal := hFfnStepIdeal)
    ∧ quiescent_FfnStepPlainIdeal (hFfnStepPlainIdeal := hFfnStepPlainIdeal)
    ∧ preserves_CrossAttn_CrossAttnIdeal
    ∧ algebraic_CrossAttnIdeal_CrossAttnPlainIdeal_on_mem_rows_pre_mem_finite (hCrossAttnIdeal := hCrossAttnIdeal) (hCrossAttnPlainIdeal := hCrossAttnPlainIdeal) (hPre_mem_finite := hPre_mem_finite) (hOn_mem_rows := hOn_mem_rows)
    ∧ preserves_KeyValue_KeyValueIdeal
    ∧ algebraic_KeyValueIdeal_KeyValuePlainIdeal (hKeyValueIdeal := hKeyValueIdeal) (hKeyValuePlainIdeal := hKeyValuePlainIdeal)
    ∧ preserves_KeyValueNext_KeyValueNextIdeal
    ∧ algebraic_KeyValueNextIdeal_KeyValueNextPlainIdeal (hKeyValueNextIdeal := hKeyValueNextIdeal) (hKeyValueNextPlainIdeal := hKeyValueNextPlainIdeal)
    ∧ preserves_Query_QueryIdeal
    ∧ algebraic_QueryIdeal_QueryPlainIdeal (hQueryIdeal := hQueryIdeal) (hQueryPlainIdeal := hQueryPlainIdeal)
    ∧ preserves_InProj_InProjIdeal
    ∧ algebraic_InProjIdeal_InProjPlainIdeal (hInProjIdeal := hInProjIdeal) (hInProjPlainIdeal := hInProjPlainIdeal)
    ∧ preserves_Gate_GateIdeal
    ∧ algebraic_GateIdeal_GatePlainIdeal (hGateIdeal := hGateIdeal) (hGatePlainIdeal := hGatePlainIdeal)
    ∧ preserves_MixOut_MixOutIdeal
    ∧ algebraic_MixOutIdeal_MixOutPlainIdeal (hMixOutIdeal := hMixOutIdeal) (hMixOutPlainIdeal := hMixOutPlainIdeal)
    ∧ preserves_DownOut_DownOutIdeal
    ∧ algebraic_DownOutIdeal_DownOutPlainIdeal (hDownOutIdeal := hDownOutIdeal) (hDownOutPlainIdeal := hDownOutPlainIdeal)
    ∧ preserves_FfnIn_FfnInIdeal
    ∧ algebraic_FfnInIdeal_FfnInPlainIdeal_on_ffn_rows (hFfnInIdeal := hFfnInIdeal) (hFfnInPlainIdeal := hFfnInPlainIdeal) (hOn_ffn_rows := hOn_ffn_rows)
    ∧ preserves_LastOut_LastOutIdeal
    ∧ algebraic_LastOutIdeal_LastOutPlainIdeal_on_last_rows (hLastOutIdeal := hLastOutIdeal) (hLastOutPlainIdeal := hLastOutPlainIdeal) (hOn_last_rows := hOn_last_rows)
    ∧ preserves_PackRows_PackRowsIdeal
    ∧ algebraic_PackRowsIdeal_PackRowsPlainIdeal (hPackRowsIdeal := hPackRowsIdeal) (hPackRowsPlainIdeal := hPackRowsPlainIdeal)
    ∧ preserves_PermuteIn_PermuteInIdeal
    ∧ algebraic_PermuteInIdeal_PermuteInPlainIdeal (hPermuteInIdeal := hPermuteInIdeal) (hPermuteInPlainIdeal := hPermuteInPlainIdeal)
    ∧ preserves_MemStep_MemStepIdeal
    ∧ algebraic_MemStepIdeal_MemStepPlainIdeal_pre_memstep_finite (hMemStepIdeal := hMemStepIdeal) (hMemStepPlainIdeal := hMemStepPlainIdeal) (hPre_memstep_finite := hPre_memstep_finite)
    ∧ preserves_FfnStep_FfnStepIdeal
    ∧ algebraic_FfnStepIdeal_FfnStepPlainIdeal (hFfnStepIdeal := hFfnStepIdeal) (hFfnStepPlainIdeal := hFfnStepPlainIdeal)
-- ==== On_ffn_rows.lean ====
abbrev S8448x2048 : Shape := ⟨2, ![8448, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S8448x5632 : Shape := ⟨2, ![8448, 5632]⟩
abbrev S_ : Shape := ⟨0, ![]⟩
abbrev S8x8x5632 : Shape := ⟨3, ![8, 8, 5632]⟩
abbrev S5632x2048 : Shape := ⟨2, ![5632, 2048]⟩
abbrev S2048x5632 : Shape := ⟨2, ![2048, 5632]⟩

class Facts : Prop where
  bcast_S_S8448x5632 : S_.BroadcastsInDim S8448x5632 (![] : Fin 0 → Fin S8448x5632.rank)
  bcast_S_S8x8x5632 : S_.BroadcastsInDim S8x8x5632 (![] : Fin 0 → Fin S8x8x5632.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn_part1 {F : FTy → Type} [FloatOps F] (main_v2 : IVec S8448x5632 1) (main_v5 : IVec S8x8x5632 1) (main_v8 : IVec S8x8x5632 1) (main_v11 : IVec S5632x2048 1) (main_v14 : IVec S2048x5632 1) : IVec S8448x5632 1 × IVec S8x8x5632 1 × IVec S8x8x5632 1 × IVec S5632x2048 1 × IVec S2048x5632 1 × IVec S2048x5632 1 :=
  let main_c_8 : IVec S_ 32 := constantI S_ 32 0#32
  let main_v15 : IVec S2048x5632 32 := broadcastInDim S2048x5632 ![] bcast_S_S2048x5632 main_c_8
  let main_c_9 : IVec S_ 32 := constantI S_ 32 1#32
  let main_v16 : IVec S2048x5632 32 := broadcastInDim S2048x5632 ![] bcast_S_S2048x5632 main_c_9
  let main_v17 : IVec S2048x5632 1 := cmpi .slt main_v15 main_v16
  (main_v2, main_v5, main_v8, main_v11, main_v14, main_v17)

def fn {F : FTy → Type} [FloatOps F] (main_arg0 : FVec F S8448x2048 .bf16) (main_arg1 : FVec F S2x2048x11264 .f32) (main_arg2 : FVec F S2x3x11264 .f32) (main_arg3 : FVec F S2x11264 .f32) (main_arg4 : FVec F S2x5632x2048 .f32) : IVec S8448x5632 1 × IVec S8x8x5632 1 × IVec S8x8x5632 1 × IVec S5632x2048 1 × IVec S2048x5632 1 × IVec S2048x5632 1 :=
  let main_v0 : IVec S8448x5632 32 := iotaInDim S8448x5632 32 0
  let main_c : IVec S_ 32 := constantI S_ 32 8192#32
  let main_v1 : IVec S8448x5632 32 := broadcastInDim S8448x5632 ![] bcast_S_S8448x5632 main_c
  let main_v2 : IVec S8448x5632 1 := cmpi .slt main_v0 main_v1
  let main_c_0 : IVec S_ 32 := constantI S_ 32 0#32
  let main_v3 : IVec S8x8x5632 32 := broadcastInDim S8x8x5632 ![] bcast_S_S8x8x5632 main_c_0
  let main_c_1 : IVec S_ 32 := constantI S_ 32 1#32
  let main_v4 : IVec S8x8x5632 32 := broadcastInDim S8x8x5632 ![] bcast_S_S8x8x5632 main_c_1
  let main_v5 : IVec S8x8x5632 1 := cmpi .slt main_v3 main_v4
  let main_c_2 : IVec S_ 32 := constantI S_ 32 0#32
  let main_v6 : IVec S8x8x5632 32 := broadcastInDim S8x8x5632 ![] bcast_S_S8x8x5632 main_c_2
  let main_c_3 : IVec S_ 32 := constantI S_ 32 1#32
  let main_v7 : IVec S8x8x5632 32 := broadcastInDim S8x8x5632 ![] bcast_S_S8x8x5632 main_c_3
  let main_v8 : IVec S8x8x5632 1 := cmpi .slt main_v6 main_v7
  let main_c_4 : IVec S_ 32 := constantI S_ 32 0#32
  let main_v9 : IVec S5632x2048 32 := broadcastInDim S5632x2048 ![] bcast_S_S5632x2048 main_c_4
  let main_c_5 : IVec S_ 32 := constantI S_ 32 1#32
  let main_v10 : IVec S5632x2048 32 := broadcastInDim S5632x2048 ![] bcast_S_S5632x2048 main_c_5
  let main_v11 : IVec S5632x2048 1 := cmpi .slt main_v9 main_v10
  let main_c_6 : IVec S_ 32 := constantI S_ 32 0#32
  let main_v12 : IVec S2048x5632 32 := broadcastInDim S2048x5632 ![] bcast_S_S2048x5632 main_c_6
  let main_c_7 : IVec S_ 32 := constantI S_ 32 1#32
  let main_v13 : IVec S2048x5632 32 := broadcastInDim S2048x5632 ![] bcast_S_S2048x5632 main_c_7
  let main_v14 : IVec S2048x5632 1 := cmpi .slt main_v12 main_v13
  fn_part1 (F := F) main_v2 main_v5 main_v8 main_v11 main_v14
-- ==== On_last_rows.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S_ : Shape := ⟨0, ![]⟩
abbrev S8192x2048 : Shape := ⟨2, ![8192, 2048]⟩
abbrev S512x2048 : Shape := ⟨2, ![512, 2048]⟩

class Facts : Prop where
  bcast_S_S8192x2048 : S_.BroadcastsInDim S8192x2048 (![] : Fin 0 → Fin S8192x2048.rank)
  bcast_S_S512x2048 : S_.BroadcastsInDim S512x2048 (![] : Fin 0 → Fin S512x2048.rank)

variable [Facts]

def fn {F : FTy → Type} [FloatOps F] (main_arg0 : FVec F S8448x5632 .bf16) (main_arg1 : FVec F S5632x2048 .bf16) (main_arg2 : FVec F S8448x2048 .f32) (main_arg3 : FVec F S2x2048 .f32) (main_arg4 : FVec F S2x2048 .f32) : IVec S8192x2048 1 × IVec S512x2048 1 :=
  let main_c : IVec S_ 32 := constantI S_ 32 0#32
  let main_v0 : IVec S8192x2048 32 := broadcastInDim S8192x2048 ![] bcast_S_S8192x2048 main_c
  let main_c_0 : IVec S_ 32 := constantI S_ 32 1#32
  let main_v1 : IVec S8192x2048 32 := broadcastInDim S8192x2048 ![] bcast_S_S8192x2048 main_c_0
  let main_v2 : IVec S8192x2048 1 := cmpi .slt main_v0 main_v1
  let main_v3 : IVec S512x2048 32 := iotaInDim S512x2048 32 0
  let main_c_1 : IVec S_ 32 := constantI S_ 32 256#32
  let main_v4 : IVec S512x2048 32 := broadcastInDim S512x2048 ![] bcast_S_S512x2048 main_c_1
  let main_v5 : IVec S512x2048 1 := cmpi .slt main_v3 main_v4
  (main_v2, main_v5)
-- ==== On_mem_rows.lean ====
abbrev S8448x2048 : Shape := ⟨2, ![8448, 2048]⟩
abbrev S512x2048 : Shape := ⟨2, ![512, 2048]⟩
abbrev S_ : Shape := ⟨0, ![]⟩

class Facts : Prop where
  bcast_S_S8448x2048 : S_.BroadcastsInDim S8448x2048 (![] : Fin 0 → Fin S8448x2048.rank)

variable [Facts]

def fn {F : FTy → Type} [FloatOps F] (main_arg0 : FVec F S8448x2048 .bf16) (main_arg1 : FVec F S512x2048 .f32) (main_arg2 : FVec F S512x2048 .f32) : IVec S8448x2048 1 :=
  let main_v0 : IVec S8448x2048 32 := iotaInDim S8448x2048 32 0
  let main_c : IVec S_ 32 := constantI S_ 32 8192#32
  let main_v1 : IVec S8448x2048 32 := broadcastInDim S8448x2048 ![] bcast_S_S8448x2048 main_c
  let main_v2 : IVec S8448x2048 1 := cmpi .slt main_v0 main_v1
  main_v2
-- ==== Pre_mem_finite.lean ====
abbrev S8448x2048 : Shape := ⟨2, ![8448, 2048]⟩
abbrev S512x2048 : Shape := ⟨2, ![512, 2048]⟩
abbrev S8960x2048 : Shape := ⟨2, ![8960, 2048]⟩
abbrev S_ : Shape := ⟨0, ![]⟩

class Facts : Prop where
  bitsLt_bf16_f32 : FTy.bits .bf16 < FTy.bits .f32
  concatenates_S8448x2048_S512x2048_S8960x2048_d0 : Shape.Concatenates [S8448x2048, S512x2048] S8960x2048 0
  bcast_S_S8960x2048 : S_.BroadcastsInDim S8960x2048 (![] : Fin 0 → Fin S8960x2048.rank)

variable [Facts]

def fn {F : FTy → Type} [FloatOps F] (main_arg0 : FVec F S8448x2048 .bf16) (main_arg1 : FVec F S512x2048 .f32) (main_arg2 : FVec F S512x2048 .f32) : IVec S8960x2048 1 :=
  let main_v0 : FVec F S8448x2048 .f32 := (extf .f32 · bitsLt_bf16_f32) main_arg0
  let main_v1 : FVec F S8448x2048 .f32 := Host.absf main_v0
  let main_v2 : FVec F S512x2048 .f32 := Host.absf main_arg1
  let main_v3 : FVec F S8960x2048 .f32 := (fun a b => concatenate S8960x2048 0 [⟨S8448x2048, a⟩, ⟨S512x2048, b⟩] concatenates_S8448x2048_S512x2048_S8960x2048_d0) main_v1 main_v2
  let main_cst : FVec F S_ .f32 := constant S_ .f32 0x7F800000#32
  let main_v4 : FVec F S8960x2048 .f32 := broadcastInDim S8960x2048 ![] bcast_S_S8960x2048 main_cst
  let main_v5 : IVec S8960x2048 1 := cmpf .olt main_v3 main_v4
  main_v5
-- ==== Pre_memstep_finite.lean ====
abbrev S8448x2048 : Shape := ⟨2, ![8448, 2048]⟩
abbrev S2x16x256x4x512 : Shape := ⟨5, ![2, 16, 256, 4, 512]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  bcast_S_S2x16x256x4x512 : S_.BroadcastsInDim S2x16x256x4x512 (![] : Fin 0 → Fin S2x16x256x4x512.rank)

variable [Facts]

def fn {F : FTy → Type} [FloatOps F] (main_arg0 : FVec F S8448x2048 .bf16) (main_arg1 : FVec F S2x16x256x4x512 .f32) (main_arg2 : FVec F S2x16x256x4x512 .f32) (main_arg3 : FVec F S8448x2048 .bf16) : IVec S8448x2048 1 × IVec S2x16x256x4x512 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_v4 : FVec F S2x16x256x4x512 .f32 := Host.absf main_arg1
  let main_cst_0 : FVec F S_ .f32 := constant S_ .f32 0x7F800000#32
  let main_v5 : FVec F S2x16x256x4x512 .f32 := broadcastInDim S2x16x256x4x512 ![] bcast_S_S2x16x256x4x512 main_cst_0
  let main_v6 : IVec S2x16x256x4x512 1 := cmpf .olt main_v4 main_v5
  (main_v3, main_v6)
-- ==== CrossAttn.lean ====
abbrev S8448x2048 : Shape := ⟨2, ![8448, 2048]⟩
abbrev S512x2048 : Shape := ⟨2, ![512, 2048]⟩
abbrev S1x2x256x2048 : Shape := ⟨4, ![1, 2, 256, 2048]⟩
abbrev S1024x2048 : Shape := ⟨2, ![1024, 2048]⟩
abbrev S1x1x256x2048 : Shape := ⟨4, ![1, 1, 256, 2048]⟩
abbrev S1024x512 : Shape := ⟨2, ![1024, 512]⟩
abbrev S1x1x256x512 : Shape := ⟨4, ![1, 1, 256, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S512x2048, .f32⟩
  | .hbm, ⟨2, _⟩ => ⟨S512x2048, .f32⟩
  | .hbm, ⟨3, _⟩ => ⟨S1x2x256x2048, .f32⟩
  | .hbm, ⟨4, _⟩ => ⟨S1x2x256x2048, .f32⟩
  | .hbm, ⟨5, _⟩ => ⟨S8448x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x256x2048, .f32⟩
  | .local _ .vmem, ⟨3, _⟩ => ⟨S1x1x256x2048, .f32⟩
  | .local _ .vmem, ⟨4, _⟩ => ⟨S1x1x256x2048, .f32⟩
  | .local _ .vmem, ⟨5, _⟩ => ⟨S1x1x256x2048, .f32⟩
  | .local _ .vmem, ⟨6, _⟩ => ⟨S1024x2048, .bf16⟩
  | .local _ .vmem, ⟨7, _⟩ => ⟨S1024x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v17 c1_i32_4
  let c0_i32_5 : BitVec 32 := 0#32
  let v19 : BitVec 1 := Scalar.cmpi .sgt v17 c0_i32_5
  let v20 : BitVec 32 := Scalar.extui v19
  let c0_i32_6 : BitVec 32 := 0#32
  let v21 : BitVec 1 := Scalar.cmpi .slt v17 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v17 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c0_i32_11 : BitVec 32 := 0#32
  let c0_i32_12 : BitVec 32 := 0#32
  let c0_i32_13 : BitVec 32 := 0#32
  ![c0_i32_11.toNat, v34.toNat, c0_i32_12.toNat, arg1.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.divsi v17 c1_i32_4
  let c0_i32_5 : BitVec 32 := 0#32
  let v19 : BitVec 1 := Scalar.cmpi .sgt v17 c0_i32_5
  let v20 : BitVec 32 := Scalar.extui v19
  let c0_i32_6 : BitVec 32 := 0#32
  let v21 : BitVec 1 := Scalar.cmpi .slt v17 c0_i32_6
  let v22 : BitVec 32 := Scalar.extui v21
  let v23 : BitVec 32 := Scalar.subi v20 v22
  let c0_i32_7 : BitVec 32 := 0#32
  let v24 : BitVec 1 := Scalar.cmpi .sgt c1_i32_4 c0_i32_7
  let v25 : BitVec 32 := Scalar.extui v24
  let c0_i32_8 : BitVec 32 := 0#32
  let v26 : BitVec 1 := Scalar.cmpi .slt c1_i32_4 c0_i32_8
  let v27 : BitVec 32 := Scalar.extui v26
  let v28 : BitVec 32 := Scalar.subi v25 v27
  let v29 : BitVec 1 := Scalar.cmpi .ne v23 v28
  let v30 : BitVec 32 := Scalar.remsi v17 c1_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c0_i32_11 : BitVec 32 := 0#32
  let c0_i32_12 : BitVec 32 := 0#32
  let c0_i32_13 : BitVec 32 := 0#32
  ![c0_i32_11.toNat, v34.toNat, c0_i32_12.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossAttnPlainIdeal.lean ====
abbrev S8448x2048 : Shape := ⟨2, ![8448, 2048]⟩
abbrev S512x2048 : Shape := ⟨2, ![512, 2048]⟩
abbrev S8192x2048 : Shape := ⟨2, ![8192, 2048]⟩
abbrev S2x4096x4x512 : Shape := ⟨4, ![2, 4096, 4, 512]⟩
abbrev S2x256x4x512 : Shape := ⟨4, ![2, 256, 4, 512]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩
abbrev S256x2048 : Shape := ⟨2, ![256, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S512x2048, .f32⟩
  | .hbm, ⟨2, _⟩ => ⟨S512x2048, .f32⟩
  | .hbm, ⟨3, _⟩ => ⟨S8192x2048, .bf16⟩
  | .hbm, ⟨4, _⟩ => ⟨S8192x2048, .f32⟩
  | .hbm, ⟨5, _⟩ => ⟨S2x4096x4x512, .f32⟩
  | .hbm, ⟨6, _⟩ => ⟨S2x256x4x512, .f32⟩
  | .hbm, ⟨7, _⟩ => ⟨S2x256x4x512, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x4x512x4096, .f32⟩
  | .hbm, ⟨27, _⟩ => ⟨S2x4096x4x512, .f32⟩
  | .hbm, ⟨28, _⟩ => ⟨S8192x2048, .f32⟩
  | .hbm, ⟨29, _⟩ => ⟨S_, .f32⟩
  | .hbm, ⟨30, _⟩ => ⟨S256x2048, .f32⟩
  | .hbm, ⟨31, _⟩ => ⟨S8448x2048, .f32⟩
  | .hbm, ⟨32, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KeyValue.lean ====
abbrev S2x256x2048 : Shape := ⟨3, ![2, 256, 2048]⟩
abbrev S2x2048x2048 : Shape := ⟨3, ![2, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2x2048x2048, .f32⟩
  | .hbm, ⟨2, _⟩ => ⟨S512x2048, .f32⟩
  | .hbm, ⟨3, _⟩ => ⟨S512x2048, .bf16⟩
  | .hbm, ⟨4, _⟩ => ⟨S512x2048, .f32⟩
  | .local _ .vmem, ⟨0, _⟩ => ⟨S512x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S512x1024, .f32⟩
  | .local _ .vmem, ⟨4, _⟩ => ⟨S512x1024, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeyValueIdeal.lean ====
  let c0_i32_1 : BitVec 32 := 0#32
  ![c0_i32.toNat, c0_i32_0.toNat, arg1.toNat]
-- ==== KeyValuePlainIdeal.lean ====
abbrev S2x256x2048 : Shape := ⟨3, ![2, 256, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S2x256x2048, .f32⟩
  | .hbm, ⟨5, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KeyValueNext.lean ====
abbrev S2x256x2048 : Shape := ⟨3, ![2, 256, 2048]⟩
abbrev S2x2048x2048 : Shape := ⟨3, ![2, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2x2048x2048, .f32⟩
  | .hbm, ⟨2, _⟩ => ⟨S512x2048, .f32⟩
  | .hbm, ⟨3, _⟩ => ⟨S512x2048, .bf16⟩
  | .hbm, ⟨4, _⟩ => ⟨S512x2048, .f32⟩
  | .local _ .vmem, ⟨0, _⟩ => ⟨S512x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S512x1024, .f32⟩
  | .local _ .vmem, ⟨4, _⟩ => ⟨S512x1024, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeyValueNextPlainIdeal.lean ====
abbrev S2x256x2048 : Shape := ⟨3, ![2, 256, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S2x256x2048, .f32⟩
  | .hbm, ⟨5, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Query.lean ====
abbrev S8448x2048 : Shape := ⟨2, ![8448, 2048]⟩
abbrev S2x2048x2048 : Shape := ⟨3, ![2, 2048, 2048]⟩
abbrev S1056x2048 : Shape := ⟨2, ![1056, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2x2048x2048, .f32⟩
  | .hbm, ⟨2, _⟩ => ⟨S8448x2048, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x2048, .f32⟩
  | .local _ .vmem, ⟨3, _⟩ => ⟨S1056x2048, .bf16⟩
  | .local _ .vmem, ⟨4, _⟩ => ⟨S1056x2048, .bf16⟩
  | .local _ .vmem, ⟨5, _⟩ => ⟨S2048x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1056x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryPlainIdeal.lean ====
abbrev S8448x2048 : Shape := ⟨2, ![8448, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x2048, .f32⟩
  | .hbm, ⟨2, _⟩ => ⟨S8448x2048, .f32⟩
  | .hbm, ⟨3, _⟩ => ⟨S1x2048x2048, .f32⟩
  | .hbm, ⟨4, _⟩ => ⟨S2048x2048, .f32⟩
  | .hbm, ⟨5, _⟩ => ⟨S8448x2048, .f32⟩
  | .hbm, ⟨6, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProj.lean ====
abbrev S8448x2048 : Shape := ⟨2, ![8448, 2048]⟩
abbrev S2x2048x13824 : Shape := ⟨3, ![2, 2048, 13824]⟩
abbrev S2x1024x2048 : Shape := ⟨3, ![2, 1024, 2048]⟩
abbrev S2x2048x2048 : Shape := ⟨3, ![2, 2048, 2048]⟩
abbrev S8448x13824 : Shape := ⟨2, ![8448, 13824]⟩
abbrev S1024x2048 : Shape := ⟨2, ![1024, 2048]⟩
abbrev S2048x2048 : Shape := ⟨2, ![2048, 2048]⟩
abbrev S1056x2048 : Shape := ⟨2, ![1056, 2048]⟩
abbrev S1x2048x1536 : Shape := ⟨3, ![1, 2048, 1536]⟩
abbrev S1x16x2048 : Shape := ⟨3, ![1, 16, 2048]⟩
abbrev S1x32x2048 : Shape := ⟨3, ![1, 32, 2048]⟩
abbrev S1056x1536 : Shape := ⟨2, ![1056, 1536]⟩
abbrev S16x2048 : Shape := ⟨2, ![16, 2048]⟩
abbrev S32x2048 : Shape := ⟨2, ![32, 2048]⟩
abbrev S2048x1536 : Shape := ⟨2, ![2048, 1536]⟩

abbrev nBuf : Space → Nat
  | .hbm => 13
  | .vmem => 26
  | .smem => 0
  | _ => 0

abbrev bufTy : (tb : Table) → Fin (tcTables nBuf tb) → BufTy
  | .hbm, ⟨0, _⟩ => ⟨S8448x2048, .bf16⟩
  | .hbm, ⟨1, _⟩ => ⟨S2x2048x13824, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x2048x2048, .f32⟩
  | .hbm, ⟨6, _⟩ => ⟨S2x2048x2048, .f32⟩
  | .hbm, ⟨7, _⟩ => ⟨S8448x13824, .bf16⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S2048x2048, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x16x2048, .f32⟩
  | .local _ .vmem, ⟨5, _⟩ => ⟨S1x16x2048, .f32⟩
  | .local _ .vmem, ⟨6, _⟩ => ⟨S1x16x2048, .f32⟩
  | .local _ .vmem, ⟨7, _⟩ => ⟨S1x16x2048, .f32⟩
  | .local _ .vmem, ⟨8, _⟩ => ⟨S1x16x2048, .f32⟩
  | .local _ .vmem, ⟨9, _⟩ => ⟨S1x16x2048, .f32⟩
  | .local _ .vmem, ⟨10, _⟩ => ⟨S1x32x2048, .f32⟩
  | .local _ .vmem, ⟨11, _⟩ => ⟨S1x32x2048, .f32⟩
  | .local _ .vmem, ⟨12, _⟩ => ⟨S1x32x2048, .f32⟩
  | .local _ .vmem, ⟨13, _⟩ => ⟨S1x32x2048, .f32⟩
  | .local _ .vmem, ⟨14, _⟩ => ⟨S1056x1536, .bf16⟩
  | .local _ .vmem, ⟨15, _⟩ => ⟨S1056x1536, .bf16⟩
  | .local _ .vmem, ⟨16, _⟩ => ⟨S16x2048, .bf16⟩
  | .local _ .vmem, ⟨17, _⟩ => ⟨S16x2048, .bf16⟩
  | .local _ .vmem, ⟨18, _⟩ => ⟨S16x2048, .bf16⟩
  | .local _ .vmem, ⟨19, _⟩ => ⟨S16x2048, .bf16⟩
  | .local _ .vmem, ⟨20, _⟩ => ⟨S16x2048, .bf16⟩
  | .local _ .vmem, ⟨21, _⟩ => ⟨S16x2048, .bf16⟩
  | .local _ .vmem, ⟨22, _⟩ => ⟨S32x2048, .bf16⟩
  | .local _ .vmem, ⟨23, _⟩ => ⟨S32x2048, .bf16⟩
  | .local _ .vmem, ⟨24, _⟩ => ⟨S32x2048, .bf16⟩
  | .local _ .vmem, ⟨25, _⟩ => ⟨S32x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InProjPlainIdeal.lean ====
abbrev S8448x2048 : Shape := ⟨2, ![8448, 2048]⟩
abbrev S2x2048x13824 : Shape := ⟨3, ![2, 2048, 13824]⟩
abbrev S2x1024x2048 : Shape := ⟨3, ![2, 1024, 2048]⟩
abbrev S2x2048x2048 : Shape := ⟨3, ![2, 2048, 2048]⟩
abbrev S1x2048x13824 : Shape := ⟨3, ![1, 2048, 13824]⟩
abbrev S2048x13824 : Shape := ⟨2, ![2048, 13824]⟩
abbrev S8448x13824 : Shape := ⟨2, ![8448, 13824]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x13824, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x2048x2048, .f32⟩
  | .hbm, ⟨6, _⟩ => ⟨S2x2048x2048, .f32⟩
  | .hbm, ⟨7, _⟩ => ⟨S8448x2048, .f32⟩
  | .hbm, ⟨8, _⟩ => ⟨S1x2048x13824, .bf16⟩
  | .hbm, ⟨9, _⟩ => ⟨S2048x13824, .bf16⟩
  | .hbm, ⟨10, _⟩ => ⟨S2048x13824, .f32⟩
  | .hbm, ⟨11, _⟩ => ⟨S8448x13824, .f32⟩
  | .hbm, ⟨12, _⟩ => ⟨S8448x13824, .bf16⟩
  | .hbm, ⟨13, _⟩ => ⟨S1x1024x2048, .f32⟩
  | .hbm, ⟨14, _⟩ => ⟨S1024x2048, .f32⟩
  | .hbm, ⟨15, _⟩ => ⟨S1024x2048, .bf16⟩
  | .hbm, ⟨16, _⟩ => ⟨S1x1024x2048, .f32⟩
  | .hbm, ⟨17, _⟩ => ⟨S1024x2048, .f32⟩
  | .hbm, ⟨18, _⟩ => ⟨S1024x2048, .bf16⟩
  | .hbm, ⟨19, _⟩ => ⟨S1x1024x2048, .f32⟩
  | .hbm, ⟨20, _⟩ => ⟨S1024x2048, .f32⟩
  | .hbm, ⟨21, _⟩ => ⟨S1024x2048, .bf16⟩
  | .hbm, ⟨22, _⟩ => ⟨S1x2048x2048, .f32⟩
  | .hbm, ⟨23, _⟩ => ⟨S2048x2048, .f32⟩
  | .hbm, ⟨24, _⟩ => ⟨S2048x2048, .bf16⟩
  | .hbm, ⟨25, _⟩ => ⟨S1x2048x2048, .f32⟩
  | .hbm, ⟨26, _⟩ => ⟨S2048x2048, .f32⟩
  | .hbm, ⟨27, _⟩ => ⟨S2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Gate.lean ====
abbrev S8448x1024 : Shape := ⟨2, ![8448, 1024]⟩
abbrev S1024x2048 : Shape := ⟨2, ![1024, 2048]⟩
abbrev S8448x13824 : Shape := ⟨2, ![8448, 13824]⟩
abbrev S8448x2048 : Shape := ⟨2, ![8448, 2048]⟩
abbrev S528x1024 : Shape := ⟨2, ![528, 1024]⟩
abbrev S528x2048 : Shape := ⟨2, ![528, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S8448x13824, .bf16⟩
  | .hbm, ⟨7, _⟩ => ⟨S8448x2048, .bf16⟩
  | .local _ .vmem, ⟨0, _⟩ => ⟨S528x1024, .bf16⟩
  | .local _ .vmem, ⟨1, _⟩ => ⟨S528x1024, .bf16⟩
  | .local _ .vmem, ⟨2, _⟩ => ⟨S528x1024, .bf16⟩
  | .local _ .vmem, ⟨3, _⟩ => ⟨S528x1024, .bf16⟩
  | .local _ .vmem, ⟨4, _⟩ => ⟨S528x1024, .bf16⟩
  | .local _ .vmem, ⟨5, _⟩ => ⟨S528x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S528x2048, .bf16⟩
  | .local _ .vmem, ⟨10, _⟩ => ⟨S528x2048, .bf16⟩
  | .local _ .vmem, ⟨11, _⟩ => ⟨S528x2048, .bf16⟩
  | .local _ .vmem, ⟨12, _⟩ => ⟨S528x2048, .bf16⟩
  | .local _ .vmem, ⟨13, _⟩ => ⟨S528x2048, .bf16⟩
  | .local _ .vmem, ⟨14, _⟩ => ⟨S528x2048, .bf16⟩
  | .local _ .vmem, ⟨15, _⟩ => ⟨S528x2048, .bf16⟩
  | .local _ .vmem, ⟨16, _⟩ => ⟨S528x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S528x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S528x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S528x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S528x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GatePlainIdeal.lean ====
abbrev S8448x1024 : Shape := ⟨2, ![8448, 1024]⟩
abbrev S1024x2048 : Shape := ⟨2, ![1024, 2048]⟩
abbrev S8448x13824 : Shape := ⟨2, ![8448, 13824]⟩
abbrev S8448x2048 : Shape := ⟨2, ![8448, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S8448x13824, .bf16⟩
  | .hbm, ⟨7, _⟩ => ⟨S8448x2048, .bf16⟩
  | .hbm, ⟨8, _⟩ => ⟨S8448x2048, .f32⟩
  | .hbm, ⟨9, _⟩ => ⟨S8448x2048, .f32⟩
  | .hbm, ⟨10, _⟩ => ⟨S8448x2048, .f32⟩
  | .hbm, ⟨11, _⟩ => ⟨S_, .f32⟩
  | .hbm, ⟨12, _⟩ => ⟨S8448x2048, .f32⟩
  | .hbm, ⟨13, _⟩ => ⟨S8448x2048, .f32⟩
  | .hbm, ⟨14, _⟩ => ⟨S_, .f32⟩
  | .hbm, ⟨15, _⟩ => ⟨S8448x2048, .f32⟩
  | .hbm, ⟨16, _⟩ => ⟨S8448x2048, .f32⟩
  | .hbm, ⟨17, _⟩ => ⟨S8448x1024, .f32⟩
  | .hbm, ⟨18, _⟩ => ⟨S1024x2048, .f32⟩
  | .hbm, ⟨19, _⟩ => ⟨S8448x2048, .f32⟩
  | .hbm, ⟨20, _⟩ => ⟨S8448x2048, .f32⟩
  | .hbm, ⟨21, _⟩ => ⟨S8448x2048, .bf16⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448x2048, .f32⟩
  | .hbm, ⟨27, _⟩ => ⟨S8448x2048, .f32⟩
  | .hbm, ⟨28, _⟩ => ⟨S_, .f32⟩
  | .hbm, ⟨29, _⟩ => ⟨S8448x2048, .f32⟩
  | .hbm, ⟨30, _⟩ => ⟨S8448x2048, .f32⟩
  | .hbm, ⟨31, _⟩ => ⟨S8448x1024, .f32⟩
  | .hbm, ⟨32, _⟩ => ⟨S1024x2048, .f32⟩
  | .hbm, ⟨33, _⟩ => ⟨S8448x2048, .f32⟩
  | .hbm, ⟨34, _⟩ => ⟨S8448x2048, .f32⟩
  | .hbm, ⟨35, _⟩ => ⟨S8448x2048, .f32⟩
  | .hbm, ⟨36, _⟩ => ⟨S8448x2048, .bf16⟩
  | .hbm, ⟨37, _⟩ => ⟨S8448x2048, .f32⟩
  | .hbm, ⟨38, _⟩ => ⟨S8448x2048, .f32⟩
  | .hbm, ⟨39, _⟩ => ⟨S8448x2048, .f32⟩
  | .hbm, ⟨40, _⟩ => ⟨S_, .f32⟩
  | .hbm, ⟨41, _⟩ => ⟨S8448x2048, .f32⟩
  | .hbm, ⟨42, _⟩ => ⟨S8448x2048, .f32⟩
  | .hbm, ⟨43, _⟩ => ⟨S_, .f32⟩
  | .hbm, ⟨44, _⟩ => ⟨S8448x2048, .f32⟩
  | .hbm, ⟨45, _⟩ => ⟨S8448x2048, .f32⟩
  | .hbm, ⟨46, _⟩ => ⟨S8448x1024, .f32⟩
  | .hbm, ⟨47, _⟩ => ⟨S1024x2048, .f32⟩
  | .hbm, ⟨48, _⟩ => ⟨S8448x2048, .f32⟩
  | .hbm, ⟨49, _⟩ => ⟨S8448x2048, .f32⟩
  | .hbm, ⟨50, _⟩ => ⟨S8448x2048, .f32⟩
  | .hbm, ⟨51, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixOut.lean ====
abbrev S8448x2048 : Shape := ⟨2, ![8448, 2048]⟩
abbrev S2048x2048 : Shape := ⟨2, ![2048, 2048]⟩
abbrev S2x2048 : Shape := ⟨2, ![2, 2048]⟩
abbrev S2x1x2048 : Shape := ⟨3, ![2, 1, 2048]⟩
abbrev S528x2048 : Shape := ⟨2, ![528, 2048]⟩
abbrev S1x1x2048 : Shape := ⟨3, ![1, 1, 2048]⟩
abbrev S528 : Shape := ⟨1, ![528]⟩
abbrev S528x1 : Shape := ⟨2, ![528, 1]⟩
abbrev S1x2048 : Shape := ⟨2, ![1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x2048, .f32⟩
  | .hbm, ⟨4, _⟩ => ⟨S2x2048, .f32⟩
  | .hbm, ⟨5, _⟩ => ⟨S2x1x2048, .f32⟩
  | .hbm, ⟨6, _⟩ => ⟨S2x1x2048, .f32⟩
  | .hbm, ⟨7, _⟩ => ⟨S8448x2048, .f32⟩
  | .hbm, ⟨8, _⟩ => ⟨S8448x2048, .bf16⟩
  | .local _ .vmem, ⟨0, _⟩ => ⟨S528x2048, .bf16⟩
  | .local _ .vmem, ⟨1, _⟩ => ⟨S528x2048, .bf16⟩
  | .local _ .vmem, ⟨2, _⟩ => ⟨S2048x2048, .bf16⟩
  | .local _ .vmem, ⟨3, _⟩ => ⟨S528x2048, .f32⟩
  | .local _ .vmem, ⟨4, _⟩ => ⟨S528x2048, .f32⟩
  | .local _ .vmem, ⟨5, _⟩ => ⟨S1x1x2048, .f32⟩
  | .local _ .vmem, ⟨6, _⟩ => ⟨S1x1x2048, .f32⟩
  | .local _ .vmem, ⟨7, _⟩ => ⟨S528x2048, .f32⟩
  | .local _ .vmem, ⟨8, _⟩ => ⟨S528x2048, .f32⟩
  | .local _ .vmem, ⟨9, _⟩ => ⟨S528x2048, .bf16⟩
  | .local _ .vmem, ⟨10, _⟩ => ⟨S528x2048, .bf16⟩
  | .local _ .vmem, ⟨11, _⟩ => ⟨S528x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S528x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutPlainIdeal.lean ====
abbrev S8448x2048 : Shape := ⟨2, ![8448, 2048]⟩
abbrev S2048x2048 : Shape := ⟨2, ![2048, 2048]⟩
abbrev S2x2048 : Shape := ⟨2, ![2, 2048]⟩
abbrev S_ : Shape := ⟨0, ![]⟩
abbrev S1x2048 : Shape := ⟨2, ![1, 2048]⟩
abbrev S2048 : Shape := ⟨1, ![2048]⟩
abbrev S8448 : Shape := ⟨1, ![8448]⟩
abbrev S8448x1 : Shape := ⟨2, ![8448, 1]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x2048, .f32⟩
  | .hbm, ⟨9, _⟩ => ⟨S2048x2048, .f32⟩
  | .hbm, ⟨10, _⟩ => ⟨S8448x2048, .f32⟩
  | .hbm, ⟨11, _⟩ => ⟨S8448x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S8448, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x2048, .f32⟩
  | .hbm, ⟨32, _⟩ => ⟨S8448x2048, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S1x2048, .f32⟩
  | .hbm, ⟨43, _⟩ => ⟨S8448x2048, .f32⟩
  | .hbm, ⟨44, _⟩ => ⟨S8448x2048, .f32⟩
  | .hbm, ⟨45, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== DownOut.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S2x1x2048 : Shape := ⟨3, ![2, 1, 2048]⟩
abbrev S256x5632 : Shape := ⟨2, ![256, 5632]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x2048 : Shape := ⟨2, ![1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S2x2048, .f32⟩
  | .hbm, ⟨5, _⟩ => ⟨S2x1x2048, .f32⟩
  | .hbm, ⟨6, _⟩ => ⟨S2x1x2048, .f32⟩
  | .hbm, ⟨7, _⟩ => ⟨S8448x2048, .f32⟩
  | .hbm, ⟨8, _⟩ => ⟨S8448x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownOutPlainIdeal.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S_ : Shape := ⟨0, ![]⟩
abbrev S1x2048 : Shape := ⟨2, ![1, 2048]⟩
abbrev S2048 : Shape := ⟨1, ![2048]⟩
abbrev S8448 : Shape := ⟨1, ![8448]⟩
abbrev S8448x1 : Shape := ⟨2, ![8448, 1]⟩

abbrev nBuf : Space → Nat
  | .hbm => 46
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x5632, .f32⟩
  | .hbm, ⟨9, _⟩ => ⟨S5632x2048, .f32⟩
  | .hbm, ⟨10, _⟩ => ⟨S8448x2048, .f32⟩
  | .hbm, ⟨11, _⟩ => ⟨S8448x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S8448, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x2048, .f32⟩
  | .hbm, ⟨32, _⟩ => ⟨S8448x2048, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S1x2048, .f32⟩
  | .hbm, ⟨43, _⟩ => ⟨S8448x2048, .f32⟩
  | .hbm, ⟨44, _⟩ => ⟨S8448x2048, .f32⟩
  | .hbm, ⟨45, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== FfnIn.lean ====
abbrev S8448x2048 : Shape := ⟨2, ![8448, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x1x11264 : Shape := ⟨3, ![2, 1, 11264]⟩
abbrev S8448x5632 : Shape := ⟨2, ![8448, 5632]⟩
abbrev S8x8x5632 : Shape := ⟨3, ![8, 8, 5632]⟩
abbrev S5632x2048 : Shape := ⟨2, ![5632, 2048]⟩
abbrev S2048x5632 : Shape := ⟨2, ![2048, 5632]⟩
abbrev S1024x2048 : Shape := ⟨2, ![1024, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x64x2048 : Shape := ⟨3, ![1, 64, 2048]⟩
abbrev S1024x512 : Shape := ⟨2, ![1024, 512]⟩
abbrev S1x8x512 : Shape := ⟨3, ![1, 8, 512]⟩
abbrev S64x2048 : Shape := ⟨2, ![64, 2048]⟩
abbrev S2048x512 : Shape := ⟨2, ![2048, 512]⟩
abbrev S8x1 : Shape := ⟨2, ![8, 1]⟩
abbrev S2048x256 : Shape := ⟨2, ![2048, 256]⟩
abbrev S1024x256 : Shape := ⟨2, ![1024, 256]⟩
abbrev S16x256 : Shape := ⟨2, ![16, 256]⟩
abbrev S8x256 : Shape := ⟨2, ![8, 256]⟩
abbrev S1x8x256 : Shape := ⟨3, ![1, 8, 256]⟩
abbrev S1x256 : Shape := ⟨2, ![1, 256]⟩
abbrev S1016x256 : Shape := ⟨2, ![1016, 256]⟩
abbrev S1x3x256 : Shape := ⟨3, ![1, 3, 256]⟩
abbrev S3x256 : Shape := ⟨2, ![3, 256]⟩
abbrev S1x1x256 : Shape := ⟨3, ![1, 1, 256]⟩

abbrev nBuf : Space → Nat
  | .hbm => 12
  | .vmem => 30
  | .smem => 0
  | _ => 0

abbrev bufTy : (tb : Table) → Fin (tcTables nBuf tb) → BufTy
  | .hbm, ⟨0, _⟩ => ⟨S8448x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S2x1x11264, .f32⟩
  | .hbm, ⟨6, _⟩ => ⟨S8448x5632, .bf16⟩
  | .hbm, ⟨7, _⟩ => ⟨S8x8x5632, .f32⟩
  | .hbm, ⟨8, _⟩ => ⟨S8x8x5632, .f32⟩
  | .hbm, ⟨9, _⟩ => ⟨S5632x2048, .bf16⟩
  | .hbm, ⟨10, _⟩ => ⟨S2048x5632, .bf16⟩
  | .hbm, ⟨11, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x64x2048, .f32⟩
  | .local _ .vmem, ⟨17, _⟩ => ⟨S1x64x2048, .f32⟩
  | .local _ .vmem, ⟨18, _⟩ => ⟨S1024x512, .bf16⟩
  | .local _ .vmem, ⟨19, _⟩ => ⟨S1024x512, .bf16⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S64x2048, .bf16⟩
  | .local _ .vmem, ⟨25, _⟩ => ⟨S64x2048, .bf16⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c64_i32 : BitVec 32 := 64#32
  let v1 : BitVec 32 := Scalar.muli v0 c64_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S2048x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnInPlainIdeal.lean ====
abbrev S8448x2048 : Shape := ⟨2, ![8448, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048x11264 : Shape := ⟨3, ![1, 2048, 11264]⟩
abbrev S2048x11264 : Shape := ⟨2, ![2048, 11264]⟩
abbrev S8192x2048 : Shape := ⟨2, ![8192, 2048]⟩
abbrev S8192x11264 : Shape := ⟨2, ![8192, 11264]⟩
abbrev S2x4096x11264 : Shape := ⟨3, ![2, 4096, 11264]⟩
abbrev S_ : Shape := ⟨0, ![]⟩
abbrev S2x2x11264 : Shape := ⟨3, ![2, 2, 11264]⟩
abbrev S2x4098x11264 : Shape := ⟨3, ![2, 4098, 11264]⟩
abbrev S1x1x11264 : Shape := ⟨3, ![1, 1, 11264]⟩
abbrev S11264 : Shape := ⟨1, ![11264]⟩
abbrev S1x11264 : Shape := ⟨2, ![1, 11264]⟩
abbrev S2x4096x5632 : Shape := ⟨3, ![2, 4096, 5632]⟩
abbrev S8192x5632 : Shape := ⟨2, ![8192, 5632]⟩
abbrev S8x1024x11264 : Shape := ⟨3, ![8, 1024, 11264]⟩
abbrev S8x8x11264 : Shape := ⟨3, ![8, 8, 11264]⟩
abbrev S256x5632 : Shape := ⟨2, ![256, 5632]⟩
abbrev S8448x5632 : Shape := ⟨2, ![8448, 5632]⟩
abbrev S8x8x5632 : Shape := ⟨3, ![8, 8, 5632]⟩
abbrev S1x5632x2048 : Shape := ⟨3, ![1, 5632, 2048]⟩
abbrev S5632x2048 : Shape := ⟨2, ![5632, 2048]⟩
abbrev S2048x5632 : Shape := ⟨2, ![2048, 5632]⟩

abbrev nBuf : Space → Nat
  | .hbm => 72
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S2x5632x2048, .f32⟩
  | .hbm, ⟨5, _⟩ => ⟨S1x2048x11264, .f32⟩
  | .hbm, ⟨6, _⟩ => ⟨S2048x11264, .f32⟩
  | .hbm, ⟨7, _⟩ => ⟨S2048x11264, .bf16⟩
  | .hbm, ⟨8, _⟩ => ⟨S8192x2048, .bf16⟩
  | .hbm, ⟨9, _⟩ => ⟨S8192x2048, .f32⟩
  | .hbm, ⟨10, _⟩ => ⟨S2048x11264, .f32⟩
  | .hbm, ⟨11, _⟩ => ⟨S8192x11264, .f32⟩
  | .hbm, ⟨12, _⟩ => ⟨S2x4096x11264, .f32⟩
  | .hbm, ⟨13, _⟩ => ⟨S_, .f32⟩
  | .hbm, ⟨14, _⟩ => ⟨S2x2x11264, .f32⟩
  | .hbm, ⟨15, _⟩ => ⟨S2x4098x11264, .f32⟩
  | .hbm, ⟨16, _⟩ => ⟨S1x1x11264, .f32⟩
  | .hbm, ⟨17, _⟩ => ⟨S11264, .f32⟩
  | .hbm, ⟨18, _⟩ => ⟨S2x4096x11264, .f32⟩
  | .hbm, ⟨19, _⟩ => ⟨S1x1x11264, .f32⟩
  | .hbm, ⟨20, _⟩ => ⟨S2x4096x11264, .f32⟩
  | .hbm, ⟨21, _⟩ => ⟨S2x4096x11264, .f32⟩
  | .hbm, ⟨22, _⟩ => ⟨S_, .f32⟩
  | .hbm, ⟨23, _⟩ => ⟨S2x4096x11264, .f32⟩
  | .hbm, ⟨24, _⟩ => ⟨S2x4096x11264, .f32⟩
  | .hbm, ⟨25, _⟩ => ⟨S1x1x11264, .f32⟩
  | .hbm, ⟨26, _⟩ => ⟨S11264, .f32⟩
  | .hbm, ⟨27, _⟩ => ⟨S2x4096x11264, .f32⟩
  | .hbm, ⟨28, _⟩ => ⟨S1x1x11264, .f32⟩
  | .hbm, ⟨29, _⟩ => ⟨S2x4096x11264, .f32⟩
  | .hbm, ⟨30, _⟩ => ⟨S2x4096x11264, .f32⟩
  | .hbm, ⟨31, _⟩ => ⟨S2x4096x11264, .f32⟩
  | .hbm, ⟨32, _⟩ => ⟨S1x1x11264, .f32⟩
  | .hbm, ⟨33, _⟩ => ⟨S11264, .f32⟩
  | .hbm, ⟨34, _⟩ => ⟨S2x4096x11264, .f32⟩
  | .hbm, ⟨35, _⟩ => ⟨S1x1x11264, .f32⟩
  | .hbm, ⟨36, _⟩ => ⟨S2x4096x11264, .f32⟩
  | .hbm, ⟨37, _⟩ => ⟨S2x4096x11264, .f32⟩
  | .hbm, ⟨38, _⟩ => ⟨S2x4096x11264, .f32⟩
  | .hbm, ⟨39, _⟩ => ⟨S1x11264, .f32⟩
  | .hbm, ⟨40, _⟩ => ⟨S11264, .f32⟩
  | .hbm, ⟨41, _⟩ => ⟨S1x1x11264, .f32⟩
  | .hbm, ⟨42, _⟩ => ⟨S2x4096x11264, .f32⟩
  | .hbm, ⟨43, _⟩ => ⟨S2x4096x11264, .f32⟩
  | .hbm, ⟨44, _⟩ => ⟨S2x4096x5632, .f32⟩
  | .hbm, ⟨45, _⟩ => ⟨S2x4096x5632, .f32⟩
  | .hbm, ⟨46, _⟩ => ⟨S_, .f32⟩
  | .hbm, ⟨47, _⟩ => ⟨S2x4096x5632, .f32⟩
  | .hbm, ⟨48, _⟩ => ⟨S2x4096x5632, .f32⟩
  | .hbm, ⟨49, _⟩ => ⟨S_, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S_, .f32⟩
  | .hbm, ⟨54, _⟩ => ⟨S2x4096x5632, .f32⟩
  | .hbm, ⟨55, _⟩ => ⟨S2x4096x5632, .f32⟩
  | .hbm, ⟨56, _⟩ => ⟨S2x4096x5632, .f32⟩
  | .hbm, ⟨57, _⟩ => ⟨S2x4096x5632, .f32⟩
  | .hbm, ⟨58, _⟩ => ⟨S8192x5632, .f32⟩
  | .hbm, ⟨59, _⟩ => ⟨S8x1024x11264, .f32⟩
  | .hbm, ⟨60, _⟩ => ⟨S8x8x11264, .f32⟩
  | .hbm, ⟨61, _⟩ => ⟨S_, .f32⟩
  | .hbm, ⟨62, _⟩ => ⟨S256x5632, .f32⟩
  | .hbm, ⟨63, _⟩ => ⟨S8448x5632, .f32⟩
  | .hbm, ⟨64, _⟩ => ⟨S8448x5632, .bf16⟩
  | .hbm, ⟨65, _⟩ => ⟨S8x8x5632, .f32⟩
  | .hbm, ⟨66, _⟩ => ⟨S8x8x5632, .f32⟩
  | .hbm, ⟨67, _⟩ => ⟨S1x5632x2048, .f32⟩
  | .hbm, ⟨68, _⟩ => ⟨S5632x2048, .f32⟩
  | .hbm, ⟨69, _⟩ => ⟨S5632x2048, .bf16⟩
  | .hbm, ⟨70, _⟩ => ⟨S2048x5632, .bf16⟩
  | .hbm, ⟨71, _⟩ => ⟨S2048x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩

abbrev nD : Nat := 1
abbrev τ : Topo := Topo.v7x

variable {F : FTy → Type} [FloatOps F]
-- ==== LastOut.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S2x1x2048 : Shape := ⟨3, ![2, 1, 2048]⟩
abbrev S8192x2048 : Shape := ⟨2, ![8192, 2048]⟩
abbrev S512x2048 : Shape := ⟨2, ![512, 2048]⟩
abbrev S256x5632 : Shape := ⟨2, ![256, 5632]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x2048 : Shape := ⟨2, ![1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S2x2048, .f32⟩
  | .hbm, ⟨5, _⟩ => ⟨S2x1x2048, .f32⟩
  | .hbm, ⟨6, _⟩ => ⟨S2x1x2048, .f32⟩
  | .hbm, ⟨7, _⟩ => ⟨S8192x2048, .f32⟩
  | .hbm, ⟨8, _⟩ => ⟨S512x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c31_i32 : BitVec 32 := 31#32
  let v2 : BitVec 32 := Scalar.minsi v1 c31_i32
  let c32_i32 : BitVec 32 := 32#32
  let v3 : BitVec 32 := Scalar.select v0 c32_i32 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 1 := Scalar.cmpi .sle arg0 c1_i32
  let c2_i32 : BitVec 32 := 2#32
  let v1 : BitVec 32 := Scalar.subi arg0 c2_i32
  let c32_i32 : BitVec 32 := 32#32
  let v2 : BitVec 32 := Scalar.select v0 c32_i32 v1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 1 := Scalar.cmpi .sle arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  ![v1.toNat, c0_i32_1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastOutPlainIdeal.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S_ : Shape := ⟨0, ![]⟩
abbrev S1x2048 : Shape := ⟨2, ![1, 2048]⟩
abbrev S2048 : Shape := ⟨1, ![2048]⟩
abbrev S8448 : Shape := ⟨1, ![8448]⟩
abbrev S8448x1 : Shape := ⟨2, ![8448, 1]⟩
abbrev S8192x2048 : Shape := ⟨2, ![8192, 2048]⟩
abbrev S256x2048 : Shape := ⟨2, ![256, 2048]⟩
abbrev S512x2048 : Shape := ⟨2, ![512, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x5632, .f32⟩
  | .hbm, ⟨9, _⟩ => ⟨S5632x2048, .f32⟩
  | .hbm, ⟨10, _⟩ => ⟨S8448x2048, .f32⟩
  | .hbm, ⟨11, _⟩ => ⟨S8448x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S8448, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x2048, .f32⟩
  | .hbm, ⟨32, _⟩ => ⟨S8448x2048, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S1x2048, .f32⟩
  | .hbm, ⟨40, _⟩ => ⟨S8448x2048, .f32⟩
  | .hbm, ⟨41, _⟩ => ⟨S8448x2048, .f32⟩
  | .hbm, ⟨42, _⟩ => ⟨S1x2048, .f32⟩
  | .hbm, ⟨43, _⟩ => ⟨S8448x2048, .f32⟩
  | .hbm, ⟨44, _⟩ => ⟨S8448x2048, .f32⟩
  | .hbm, ⟨45, _⟩ => ⟨S8192x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S512x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== PackRows.lean ====
abbrev S2x4096x2048 : Shape := ⟨3, ![2, 4096, 2048]⟩
abbrev S16x16x2048 : Shape := ⟨3, ![16, 16, 2048]⟩
abbrev S8192x2048 : Shape := ⟨2, ![8192, 2048]⟩
abbrev S256x2048 : Shape := ⟨2, ![256, 2048]⟩
abbrev S8448x2048 : Shape := ⟨2, ![8448, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S16x16x2048, .f32⟩
  | .hbm, ⟨2, _⟩ => ⟨S8192x2048, .f32⟩
  | .hbm, ⟨3, _⟩ => ⟨S256x2048, .f32⟩
  | .hbm, ⟨4, _⟩ => ⟨S8448x2048, .f32⟩
  | .hbm, ⟨5, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PackRowsPlainIdeal.lean ====
abbrev S2x4096x2048 : Shape := ⟨3, ![2, 4096, 2048]⟩
abbrev S16x16x2048 : Shape := ⟨3, ![16, 16, 2048]⟩
abbrev S8192x2048 : Shape := ⟨2, ![8192, 2048]⟩
abbrev S256x2048 : Shape := ⟨2, ![256, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S16x16x2048, .f32⟩
  | .hbm, ⟨2, _⟩ => ⟨S8192x2048, .f32⟩
  | .hbm, ⟨3, _⟩ => ⟨S256x2048, .f32⟩
  | .hbm, ⟨4, _⟩ => ⟨S8448x2048, .f32⟩
  | .hbm, ⟨5, _⟩ => ⟨S8448x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PermuteIn.lean ====
abbrev S2x2048x13568 : Shape := ⟨3, ![2, 2048, 13568]⟩
abbrev S2x2048x13824 : Shape := ⟨3, ![2, 2048, 13824]⟩
abbrev S1x128x13568 : Shape := ⟨3, ![1, 128, 13568]⟩
abbrev S1x128x13824 : Shape := ⟨3, ![1, 128, 13824]⟩
abbrev S1x128x1024 : Shape := ⟨3, ![1, 128, 1024]⟩
abbrev S128x1024 : Shape := ⟨2, ![128, 1024]⟩
abbrev S1x128x2048 : Shape := ⟨3, ![1, 128, 2048]⟩
abbrev S128x2048 : Shape := ⟨2, ![128, 2048]⟩
abbrev S1x128x512 : Shape := ⟨3, ![1, 128, 512]⟩
abbrev S128x512 : Shape := ⟨2, ![128, 512]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x13568, .f32⟩
  | .hbm, ⟨1, _⟩ => ⟨S2x2048x13824, .bf16⟩
  | .local _ .vmem, ⟨0, _⟩ => ⟨S1x128x13568, .f32⟩
  | .local _ .vmem, ⟨1, _⟩ => ⟨S1x128x13568, .f32⟩
  | .local _ .vmem, ⟨2, _⟩ => ⟨S1x128x13824, .bf16⟩
  | .local _ .vmem, ⟨3, _⟩ => ⟨S1x128x13824, .bf16⟩
  | _, _ => ⟨S2x2048x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x13568 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x13824 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PermuteInPlainIdeal.lean ====
abbrev S2x2048x13568 : Shape := ⟨3, ![2, 2048, 13568]⟩
abbrev S2x2048x1024 : Shape := ⟨3, ![2, 2048, 1024]⟩
abbrev S2x2048x128 : Shape := ⟨3, ![2, 2048, 128]⟩
abbrev S2x2048x512 : Shape := ⟨3, ![2, 2048, 512]⟩
abbrev S2x2048x2048 : Shape := ⟨3, ![2, 2048, 2048]⟩
abbrev S2x2048x4096 : Shape := ⟨3, ![2, 2048, 4096]⟩
abbrev S2x2048x6144 : Shape := ⟨3, ![2, 2048, 6144]⟩
abbrev S2x2048x64 : Shape := ⟨3, ![2, 2048, 64]⟩
abbrev S2x2048x256 : Shape := ⟨3, ![2, 2048, 256]⟩
abbrev S2x2048x13824 : Shape := ⟨3, ![2, 2048, 13824]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x13568, .f32⟩
  | .hbm, ⟨1, _⟩ => ⟨S2x2048x1024, .f32⟩
  | .hbm, ⟨2, _⟩ => ⟨S2x2048x128, .f32⟩
  | .hbm, ⟨3, _⟩ => ⟨S2x2048x128, .f32⟩
  | .hbm, ⟨4, _⟩ => ⟨S2x2048x512, .f32⟩
  | .hbm, ⟨5, _⟩ => ⟨S2x2048x512, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S2x2048x4096, .f32⟩
  | .hbm, ⟨15, _⟩ => ⟨S2x2048x2048, .f32⟩
  | .hbm, ⟨16, _⟩ => ⟨S2x2048x6144, .f32⟩
  | .hbm, ⟨17, _⟩ => ⟨S2x2048x1024, .f32⟩
  | .hbm, ⟨18, _⟩ => ⟨S2x2048x64, .f32⟩
  | .hbm, ⟨19, _⟩ => ⟨S2x2048x64, .f32⟩
  | .hbm, ⟨20, _⟩ => ⟨S2x2048x64, .f32⟩
  | .hbm, ⟨21, _⟩ => ⟨S2x2048x64, .f32⟩
  | .hbm, ⟨22, _⟩ => ⟨S2x2048x256, .f32⟩
  | .hbm, ⟨23, _⟩ => ⟨S2x2048x64, .f32⟩
  | .hbm, ⟨24, _⟩ => ⟨S2x2048x64, .f32⟩
  | .hbm, ⟨25, _⟩ => ⟨S2x2048x64, .f32⟩
  | .hbm, ⟨26, _⟩ => ⟨S2x2048x64, .f32⟩
  | .hbm, ⟨27, _⟩ => ⟨S2x2048x256, .f32⟩
  | .hbm, ⟨28, _⟩ => ⟨S2x2048x13824, .f32⟩
  | .hbm, ⟨29, _⟩ => ⟨S2x2048x13824, .bf16⟩
  | _, _ => ⟨S2x2048x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩

abbrev nD : Nat := 1
abbrev τ : Topo := Topo.v7x

variable {F : FTy → Type} [FloatOps F]
-- ==== MemStep.lean ====
abbrev S8448x2048 : Shape := ⟨2, ![8448, 2048]⟩
abbrev S2x16x256x4x512 : Shape := ⟨5, ![2, 16, 256, 4, 512]⟩
abbrev S2x16x256x2048 : Shape := ⟨4, ![2, 16, 256, 2048]⟩
abbrev S64x2048 : Shape := ⟨2, ![64, 2048]⟩
abbrev S1x4x256x2048 : Shape := ⟨4, ![1, 4, 256, 2048]⟩
abbrev S16x512 : Shape := ⟨2, ![16, 512]⟩
abbrev S1x1x256x512 : Shape := ⟨4, ![1, 1, 256, 512]⟩
abbrev S256x512 : Shape := ⟨2, ![256, 512]⟩
abbrev S16x256 : Shape := ⟨2, ![16, 256]⟩
abbrev S16 : Shape := ⟨1, ![16]⟩
abbrev S16x1 : Shape := ⟨2, ![16, 1]⟩

abbrev nBuf : Space → Nat
  | .hbm => 7
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2x16x256x4x512, .f32⟩
  | .hbm, ⟨2, _⟩ => ⟨S2x16x256x4x512, .f32⟩
  | .hbm, ⟨3, _⟩ => ⟨S8448x2048, .bf16⟩
  | .hbm, ⟨4, _⟩ => ⟨S2x16x256x2048, .f32⟩
  | .hbm, ⟨5, _⟩ => ⟨S2x16x256x2048, .f32⟩
  | .hbm, ⟨6, _⟩ => ⟨S8448x2048, .bf16⟩
  | .local _ .vmem, ⟨0, _⟩ => ⟨S64x2048, .bf16⟩
  | .local _ .vmem, ⟨1, _⟩ => ⟨S64x2048, .bf16⟩
  | .local _ .vmem, ⟨2, _⟩ => ⟨S1x4x256x2048, .f32⟩
  | .local _ .vmem, ⟨3, _⟩ => ⟨S1x4x256x2048, .f32⟩
  | .local _ .vmem, ⟨4, _⟩ => ⟨S1x4x256x2048, .f32⟩
  | .local _ .vmem, ⟨5, _⟩ => ⟨S1x4x256x2048, .f32⟩
  | .local _ .vmem, ⟨6, _⟩ => ⟨S64x2048, .bf16⟩
  | .local _ .vmem, ⟨7, _⟩ => ⟨S64x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  ![v0.toNat, arg1.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v17 c4_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v17 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c0_i32_10 : BitVec 32 := 0#32
  let c0_i32_11 : BitVec 32 := 0#32
  let c0_i32_12 : BitVec 32 := 0#32
  ![c0_i32_10.toNat, v34.toNat, c0_i32_11.toNat, arg1.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v17 c4_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v17 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c0_i32_10 : BitVec 32 := 0#32
  let c0_i32_11 : BitVec 32 := 0#32
  let c0_i32_12 : BitVec 32 := 0#32
  ![c0_i32_10.toNat, v34.toNat, c0_i32_11.toNat, arg1.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  ![v0.toNat, arg1.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemStepPlainIdeal.lean ====
abbrev S8448x2048 : Shape := ⟨2, ![8448, 2048]⟩
abbrev S2x16x256x4x512 : Shape := ⟨5, ![2, 16, 256, 4, 512]⟩
abbrev S256x2048 : Shape := ⟨2, ![256, 2048]⟩
abbrev S16x16x4x512 : Shape := ⟨4, ![16, 16, 4, 512]⟩
abbrev S1x16x256x4x512 : Shape := ⟨5, ![1, 16, 256, 4, 512]⟩
abbrev S16x256x4x512 : Shape := ⟨4, ![16, 256, 4, 512]⟩
abbrev S16x4x16x256 : Shape := ⟨4, ![16, 4, 16, 256]⟩
abbrev S_ : Shape := ⟨0, ![]⟩
abbrev S16x4x16 : Shape := ⟨3, ![16, 4, 16]⟩
abbrev S16x4x16x1 : Shape := ⟨4, ![16, 4, 16, 1]⟩
abbrev S16x4x512x16 : Shape := ⟨4, ![16, 4, 512, 16]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x16x256x4x512, .f32⟩
  | .hbm, ⟨2, _⟩ => ⟨S2x16x256x4x512, .f32⟩
  | .hbm, ⟨3, _⟩ => ⟨S8448x2048, .bf16⟩
  | .hbm, ⟨4, _⟩ => ⟨S256x2048, .bf16⟩
  | .hbm, ⟨5, _⟩ => ⟨S256x2048, .f32⟩
  | .hbm, ⟨6, _⟩ => ⟨S16x16x4x512, .f32⟩
  | .hbm, ⟨7, _⟩ => ⟨S1x16x256x4x512, .f32⟩
  | .hbm, ⟨8, _⟩ => ⟨S16x256x4x512, .f32⟩
  | .hbm, ⟨9, _⟩ => ⟨S16x4x16x256, .f32⟩
  | .hbm, ⟨10, _⟩ => ⟨S_, .f32⟩
  | .hbm, ⟨11, _⟩ => ⟨S16x4x16x256, .f32⟩
  | .hbm, ⟨12, _⟩ => ⟨S16x4x16x256, .f32⟩
  | .hbm, ⟨13, _⟩ => ⟨S_, .f32⟩
  | .hbm, ⟨14, _⟩ => ⟨S16x4x16, .f32⟩
  | .hbm, ⟨15, _⟩ => ⟨S_, .f32⟩
  | .hbm, ⟨16, _⟩ => ⟨S16x4x16, .f32⟩
  | .hbm, ⟨17, _⟩ => ⟨S16x4x16, .f32⟩
  | .hbm, ⟨18, _⟩ => ⟨S16x4x16x1, .f32⟩
  | .hbm, ⟨19, _⟩ => ⟨S16x4x16x256, .f32⟩
  | .hbm, ⟨20, _⟩ => ⟨S16x4x16x256, .f32⟩
  | .hbm, ⟨21, _⟩ => ⟨S16x4x16x256, .f32⟩
  | .hbm, ⟨22, _⟩ => ⟨S_, .f32⟩
  | .hbm, ⟨23, _⟩ => ⟨S16x4x16, .f32⟩
  | .hbm, ⟨24, _⟩ => ⟨S16x4x16x1, .f32⟩
  | .hbm, ⟨25, _⟩ => ⟨S16x4x16x256, .f32⟩
  | .hbm, ⟨26, _⟩ => ⟨S16x4x16x256, .f32⟩
  | .hbm, ⟨27, _⟩ => ⟨S1x16x256x4x512, .f32⟩
  | .hbm, ⟨28, _⟩ => ⟨S16x256x4x512, .f32⟩
  | .hbm, ⟨29, _⟩ => ⟨S16x4x512x16, .f32⟩
  | .hbm, ⟨30, _⟩ => ⟨S16x16x4x512, .f32⟩
  | .hbm, ⟨31, _⟩ => ⟨S256x2048, .f32⟩
  | .hbm, ⟨32, _⟩ => ⟨S8192x2048, .bf16⟩
  | .hbm, ⟨33, _⟩ => ⟨S256x2048, .bf16⟩
  | .hbm, ⟨34, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== FfnStep.lean ====
abbrev S8448x2048 : Shape := ⟨2, ![8448, 2048]⟩
abbrev S2048x5632 : Shape := ⟨2, ![2048, 5632]⟩
abbrev S2x3x11264 : Shape := ⟨3, ![2, 3, 11264]⟩
abbrev S2x11264 : Shape := ⟨2, ![2, 11264]⟩
abbrev S2x16x2x11264 : Shape := ⟨4, ![2, 16, 2, 11264]⟩
abbrev S8448x5632 : Shape := ⟨2, ![8448, 5632]⟩
abbrev S2x1x11264 : Shape := ⟨3, ![2, 1, 11264]⟩
abbrev S1x256x5632 : Shape := ⟨3, ![1, 256, 5632]⟩
abbrev S256x2048 : Shape := ⟨2, ![256, 2048]⟩
abbrev S2048x512 : Shape := ⟨2, ![2048, 512]⟩
abbrev S1x3x512 : Shape := ⟨3, ![1, 3, 512]⟩
abbrev S1x1x512 : Shape := ⟨3, ![1, 1, 512]⟩
abbrev S1x16x2x512 : Shape := ⟨4, ![1, 16, 2, 512]⟩
abbrev S256x512 : Shape := ⟨2, ![256, 512]⟩
abbrev S1x256x512 : Shape := ⟨3, ![1, 256, 512]⟩
abbrev S1x16x1 : Shape := ⟨3, ![1, 16, 1]⟩
abbrev S2048x256 : Shape := ⟨2, ![2048, 256]⟩
abbrev S256x256 : Shape := ⟨2, ![256, 256]⟩
abbrev S1x256x256 : Shape := ⟨3, ![1, 256, 256]⟩
abbrev S1x16x2x256 : Shape := ⟨4, ![1, 16, 2, 256]⟩
abbrev S16x2x256 : Shape := ⟨3, ![16, 2, 256]⟩
abbrev S16x1x256 : Shape := ⟨3, ![16, 1, 256]⟩
abbrev S16x16x256 : Shape := ⟨3, ![16, 16, 256]⟩
abbrev S1x3x256 : Shape := ⟨3, ![1, 3, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 11
  | .vmem => 23
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S2048x5632, .bf16⟩
  | .hbm, ⟨3, _⟩ => ⟨S2x3x11264, .f32⟩
  | .hbm, ⟨4, _⟩ => ⟨S2x11264, .f32⟩
  | .hbm, ⟨5, _⟩ => ⟨S2x16x2x11264, .f32⟩
  | .hbm, ⟨6, _⟩ => ⟨S8448x5632, .bf16⟩
  | .hbm, ⟨7, _⟩ => ⟨S2x1x11264, .f32⟩
  | .hbm, ⟨8, _⟩ => ⟨S8448x5632, .bf16⟩
  | .hbm, ⟨9, _⟩ => ⟨S1x256x5632, .f32⟩
  | .hbm, ⟨10, _⟩ => ⟨S1x256x5632, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x16x2x512, .f32⟩
  | .local _ .vmem, ⟨14, _⟩ => ⟨S1x16x2x512, .f32⟩
  | .local _ .vmem, ⟨15, _⟩ => ⟨S1x16x2x512, .f32⟩
  | .local _ .vmem, ⟨16, _⟩ => ⟨S1x16x2x512, .f32⟩
  | .local _ .vmem, ⟨17, _⟩ => ⟨S256x512, .bf16⟩
  | .local _ .vmem, ⟨18, _⟩ => ⟨S256x512, .bf16⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_8 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnStepPlainIdeal.lean ====
abbrev S8448x2048 : Shape := ⟨2, ![8448, 2048]⟩
abbrev S2048x5632 : Shape := ⟨2, ![2048, 5632]⟩
abbrev S2x3x11264 : Shape := ⟨3, ![2, 3, 11264]⟩
abbrev S2x11264 : Shape := ⟨2, ![2, 11264]⟩
abbrev S2x16x2x11264 : Shape := ⟨4, ![2, 16, 2, 11264]⟩
abbrev S8448x5632 : Shape := ⟨2, ![8448, 5632]⟩
abbrev S2048x11264 : Shape := ⟨2, ![2048, 11264]⟩
abbrev S256x2048 : Shape := ⟨2, ![256, 2048]⟩
abbrev S256x11264 : Shape := ⟨2, ![256, 11264]⟩
abbrev S16x16x11264 : Shape := ⟨3, ![16, 16, 11264]⟩
abbrev S1x16x2x11264 : Shape := ⟨4, ![1, 16, 2, 11264]⟩
abbrev S16x2x11264 : Shape := ⟨3, ![16, 2, 11264]⟩
abbrev S16x18x11264 : Shape := ⟨3, ![16, 18, 11264]⟩
abbrev S1x1x11264 : Shape := ⟨3, ![1, 1, 11264]⟩
abbrev S11264 : Shape := ⟨1, ![11264]⟩
abbrev S_ : Shape := ⟨0, ![]⟩
abbrev S1x11264 : Shape := ⟨2, ![1, 11264]⟩
abbrev S16x16x5632 : Shape := ⟨3, ![16, 16, 5632]⟩
abbrev S256x5632 : Shape := ⟨2, ![256, 5632]⟩
abbrev S1x256x11264 : Shape := ⟨3, ![1, 256, 11264]⟩
abbrev S8192x5632 : Shape := ⟨2, ![8192, 5632]⟩
abbrev S1x256x5632 : Shape := ⟨3, ![1, 256, 5632]⟩

abbrev nBuf : Space → Nat
  | .hbm => 65
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S2048x5632, .bf16⟩
  | .hbm, ⟨3, _⟩ => ⟨S2x3x11264, .f32⟩
  | .hbm, ⟨4, _⟩ => ⟨S2x11264, .f32⟩
  | .hbm, ⟨5, _⟩ => ⟨S2x16x2x11264, .f32⟩
  | .hbm, ⟨6, _⟩ => ⟨S8448x5632, .bf16⟩
  | .hbm, ⟨7, _⟩ => ⟨S2048x11264, .bf16⟩
  | .hbm, ⟨8, _⟩ => ⟨S2048x11264, .f32⟩
  | .hbm, ⟨9, _⟩ => ⟨S256x2048, .bf16⟩
  | .hbm, ⟨10, _⟩ => ⟨S256x2048, .f32⟩
  | .hbm, ⟨11, _⟩ => ⟨S256x11264, .f32⟩
  | .hbm, ⟨12, _⟩ => ⟨S16x16x11264, .f32⟩
  | .hbm, ⟨13, _⟩ => ⟨S1x16x2x11264, .f32⟩
  | .hbm, ⟨14, _⟩ => ⟨S16x2x11264, .f32⟩
  | .hbm, ⟨15, _⟩ => ⟨S16x18x11264, .f32⟩
  | .hbm, ⟨16, _⟩ => ⟨S1x1x11264, .f32⟩
  | .hbm, ⟨17, _⟩ => ⟨S11264, .f32⟩
  | .hbm, ⟨18, _⟩ => ⟨S16x16x11264, .f32⟩
  | .hbm, ⟨19, _⟩ => ⟨S1x1x11264, .f32⟩
  | .hbm, ⟨20, _⟩ => ⟨S16x16x11264, .f32⟩
  | .hbm, ⟨21, _⟩ => ⟨S16x16x11264, .f32⟩
  | .hbm, ⟨22, _⟩ => ⟨S_, .f32⟩
  | .hbm, ⟨23, _⟩ => ⟨S16x16x11264, .f32⟩
  | .hbm, ⟨24, _⟩ => ⟨S16x16x11264, .f32⟩
  | .hbm, ⟨25, _⟩ => ⟨S1x1x11264, .f32⟩
  | .hbm, ⟨26, _⟩ => ⟨S11264, .f32⟩
  | .hbm, ⟨27, _⟩ => ⟨S16x16x11264, .f32⟩
  | .hbm, ⟨28, _⟩ => ⟨S1x1x11264, .f32⟩
  | .hbm, ⟨29, _⟩ => ⟨S16x16x11264, .f32⟩
  | .hbm, ⟨30, _⟩ => ⟨S16x16x11264, .f32⟩
  | .hbm, ⟨31, _⟩ => ⟨S16x16x11264, .f32⟩
  | .hbm, ⟨32, _⟩ => ⟨S1x1x11264, .f32⟩
  | .hbm, ⟨33, _⟩ => ⟨S11264, .f32⟩
  | .hbm, ⟨34, _⟩ => ⟨S16x16x11264, .f32⟩
  | .hbm, ⟨35, _⟩ => ⟨S1x1x11264, .f32⟩
  | .hbm, ⟨36, _⟩ => ⟨S16x16x11264, .f32⟩
  | .hbm, ⟨37, _⟩ => ⟨S16x16x11264, .f32⟩
  | .hbm, ⟨38, _⟩ => ⟨S16x16x11264, .f32⟩
  | .hbm, ⟨39, _⟩ => ⟨S1x11264, .f32⟩
  | .hbm, ⟨40, _⟩ => ⟨S11264, .f32⟩
  | .hbm, ⟨41, _⟩ => ⟨S1x1x11264, .f32⟩
  | .hbm, ⟨42, _⟩ => ⟨S16x16x11264, .f32⟩
  | .hbm, ⟨43, _⟩ => ⟨S16x16x11264, .f32⟩
  | .hbm, ⟨44, _⟩ => ⟨S16x16x5632, .f32⟩
  | .hbm, ⟨45, _⟩ => ⟨S16x16x5632, .f32⟩
  | .hbm, ⟨46, _⟩ => ⟨S_, .f32⟩
  | .hbm, ⟨47, _⟩ => ⟨S16x16x5632, .f32⟩
  | .hbm, ⟨48, _⟩ => ⟨S16x16x5632, .f32⟩
  | .hbm, ⟨49, _⟩ => ⟨S_, .f32⟩
  | .hbm, ⟨50, _⟩ => ⟨S16x16x5632, .f32⟩
  | .hbm, ⟨51, _⟩ => ⟨S16x16x5632, .f32⟩
  | .hbm, ⟨52, _⟩ => ⟨S16x16x5632, .f32⟩
  | .hbm, ⟨53, _⟩ => ⟨S_, .f32⟩
  | .hbm, ⟨54, _⟩ => ⟨S16x16x5632, .f32⟩
  | .hbm, ⟨55, _⟩ => ⟨S16x16x5632, .f32⟩
  | .hbm, ⟨56, _⟩ => ⟨S16x16x5632, .f32⟩
  | .hbm, ⟨57, _⟩ => ⟨S16x16x5632, .f32⟩
  | .hbm, ⟨58, _⟩ => ⟨S256x5632, .f32⟩
  | .hbm, ⟨59, _⟩ => ⟨S1x256x11264, .f32⟩
  | .hbm, ⟨60, _⟩ => ⟨S8192x5632, .bf16⟩
  | .hbm, ⟨61, _⟩ => ⟨S256x5632, .bf16⟩
  | .hbm, ⟨62, _⟩ => ⟨S8448x5632, .bf16⟩
  | .hbm, ⟨63, _⟩ => ⟨S1x256x5632, .f32⟩
  | .hbm, ⟨64, _⟩ => ⟨S1x256x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Softmax.lean ====
/- Softmax over the extended reals: a row of weights `exp (s j - M)` with `M` a real bound of the scores has a real,
   positive sum, and dividing the weighted sum by it is weighting by the divided weights. -/
module

public import Idealize.ShloMosaic.PureOps.Ideal.Laws
public import Idealize.ShloMosaic.Lib.Pointwise

@[expose] public section

noncomputable section

namespace Cert.Softmax

open Idealize.ShloMosaic

/-- The greatest of finitely many scores (`⊥` of none). -/
def rowMax {n : ℕ} (s : Fin n → EReal) : EReal := Finset.univ.fold max ⊥ s

theorem le_rowMax {n : ℕ} (s : Fin n → EReal) (j : Fin n) : s j ≤ rowMax s :=
  (Finset.le_fold_max (s j)).mpr (.inr ⟨j, Finset.mem_univ j, le_rfl⟩)

/-- The greatest of finitely many scores is one of them. -/
theorem rowMax_mem {n : ℕ} (s : Fin n → EReal) (hn : 0 < n) : ∃ j, rowMax s = s j := by
  have h : rowMax s ≤ Finset.univ.sup' ⟨⟨0, hn⟩, Finset.mem_univ _⟩ s :=
    (Finset.fold_max_le _).mpr ⟨bot_le, fun j _ => Finset.le_sup' s (Finset.mem_univ j)⟩
  obtain ⟨j, -, hj⟩ := Finset.exists_mem_eq_sup' (⟨⟨0, hn⟩, Finset.mem_univ _⟩ : (Finset.univ : Finset (Fin n)).Nonempty) s
  exact ⟨j, le_antisymm (h.trans_eq hj) (le_rowMax s j)⟩

/-- Real scores have a real greatest. -/
theorem rowMax_real {n : ℕ} (s : Fin n → EReal) (hn : 0 < n) (hs : ∀ j, ∃ r : ℝ, s j = r) : ∃ M : ℝ, rowMax s = M := by
  obtain ⟨j, hj⟩ := rowMax_mem s hn
  obtain ⟨r, hr⟩ := hs j
  exact ⟨r, hj.trans hr⟩

/-- A weight under a real bound is a nonnegative real. -/
theorem exp_sub_real (x : EReal) (M : ℝ) (h : x ≤ M) : ∃ w : ℝ, 0 ≤ w ∧ Ideal.exp (x - M) = w := by
  induction x using EReal.rec with
  | bot => exact ⟨0, le_rfl, by rw [EReal.bot_sub]; rfl⟩
  | top => exact absurd h (not_le.mpr (EReal.coe_lt_top M))
  | coe r => exact ⟨Real.exp (r - M), (Real.exp_pos _).le, by rw [← EReal.coe_sub]; rfl⟩

/-- The weight at the bound is one. -/
theorem exp_sub_self (M : ℝ) : Ideal.exp ((M : EReal) - M) = ((1 : ℝ) : EReal) := by
  rw [← EReal.coe_sub, sub_self, Ideal.exp_coe, Real.exp_zero]

/-- The real sum of reals is their sum as extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A sum of nonnegative reals is one, at least each of them. -/
theorem sum_real {n : ℕ} (e : Fin n → EReal) (he : ∀ j, ∃ w : ℝ, 0 ≤ w ∧ e j = w) :
    ∃ d : ℝ, 0 ≤ d ∧ ∑ j, e j = d ∧ ∀ j, e j ≤ d := by
  choose w hw0 hw using he
  refine ⟨∑ j, w j, Finset.sum_nonneg fun j _ => hw0 j, ?_, fun j => ?_⟩
  · rw [coe_sum]; exact Finset.sum_congr rfl fun j _ => hw j
  · rw [hw j]; exact EReal.coe_le_coe_iff.mpr (Finset.single_le_sum (fun i _ => hw0 i) (Finset.mem_univ j))

/-- Multiplying a finite sum of extended reals by a nonnegative real multiplies each term. -/
theorem sum_mul_real {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Dividing the weighted sum by a positive real is weighting by the divided weights. -/
theorem div_sum {n : ℕ} (e v : Fin n → EReal) (d : ℝ) (hd : 0 < d) :
    Ideal.div (∑ j, e j * v j) d = ∑ j, Ideal.div (e j) d * v j := by
  rw [Ideal.div_coe hd.ne', sum_mul_real _ _ _ (by positivity)]
  refine Finset.sum_congr rfl fun j _ => ?_
  rw [Ideal.div_coe hd.ne', mul_assoc, mul_assoc, mul_comm (v j)]

/-- SOFTMAX: of scores whose greatest is real, the weighted sum over the sum of the weights is the sum of the normalised
    weights' products. -/
theorem softmax_eq {n : ℕ} (hn : 0 < n) (s v : Fin n → EReal) (hM : ∃ M : ℝ, rowMax s = M) :
    Ideal.div (∑ j, Ideal.exp (s j - rowMax s) * v j) (∑ j, Ideal.exp (s j - rowMax s))
      = ∑ j, Ideal.div (Ideal.exp (s j - rowMax s)) (∑ k, Ideal.exp (s k - rowMax s)) * v j := by
  obtain ⟨M, hM⟩ := hM
  obtain ⟨d, -, hd, hle⟩ := sum_real (fun j => Ideal.exp (s j - rowMax s)) fun j => by
    rw [hM]; exact exp_sub_real _ _ (hM ▸ le_rowMax s j)
  obtain ⟨j, hj⟩ := rowMax_mem s hn
  have h1 : ((1 : ℝ) : EReal) ≤ d := by
    have h := hle j
    rwa [← hj, hM, exp_sub_self] at h
  rw [hd]
  exact div_sum _ _ d (lt_of_lt_of_le one_pos (EReal.coe_le_coe_iff.mp h1))

/-- A finite sum of products of reals is real, and so is its product with a real. -/
theorem dot_real {n : ℕ} (f g : Fin n → EReal) (hf : ∀ j, ∃ r : ℝ, f j = r) (hg : ∀ j, ∃ r : ℝ, g j = r) :
    ∃ r : ℝ, ∑ j, f j * g j = r := by
  choose a ha using hf
  choose b hb using hg
  refine ⟨∑ j, a j * b j, ?_⟩
  rw [coe_sum]
  exact Finset.sum_congr rfl fun j _ => by rw [ha, hb, EReal.coe_mul]

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- What lies below `⊤` in absolute value is real. -/
theorem real_of_abs_lt {x : EReal} (h : max x (-x) < ⊤) : ∃ r : ℝ, x = r := by
  induction x using EReal.rec with
  | bot => simp at h
  | top => simp at h
  | coe r => exact ⟨r, rfl⟩

end Cert.Softmax

end
-- ==== Proof.CrossAttnHead.lean ====
/- One head of the memory attention as the kernel computes it on a block of queries, and the block a grid point leaves. -/
module

public import proofs.«01_k».proof.Proof.Gen.CrossAttnIdeal.Value
public import proofs.«01_k».proof.Proof.Softmax
public import Idealize.ShloMosaic.Lib.Pointwise

@[expose] public section

set_option maxRecDepth 16384

noncomputable section

namespace Cert.CrossAttnSpec

open Cert.CrossAttnIdeal Cert.CrossAttnIdeal.Gen Cert.Softmax Idealize.ShloMosaic Idealize.ShloMosaic.TcCoe Idealize.SL.Sem

/-- A row's maximum, from −∞, is the greatest entry of the row. -/
theorem rowReduceMax {n0 n1 : Nat} (y : FVec Ideal ⟨2, ![n0, n1]⟩ .f32) (acc : BitVec FTy.f32.bits)
    (h : (⟨2, ![n0, n1]⟩ : Shape).Reduces [1] ⟨1, ![n0]⟩) (hφ : FKind.Formats .f32) (hacc : acc = FKind.maximumf.neutral .f32 hφ)
    (hi : Ideal.ofBits .f32 acc = ⊥) (r : Fin n0) :
    multiReduction (F := Ideal) .maximumf [1] ⟨1, ![n0]⟩ y acc h hφ hacc (ix1 r) = rowMax (fun k => y (ix2 r k)) := by
  rw [multiReduction_maximumf_eq_fold, Shape.Reduces.fold_fiber_r2_a1]
  refine (congrArg (fun b => Finset.fold _ b _ _) hi).trans ?_
  rfl

theorem neg_inf_bits : Ideal.ofBits .f32 0xFF800000#32 = ⊥ := by
  simp [Ideal.ofBits, Ideal.ieee]

/-- A block's scores, query row `r` against key `j`. -/
theorem pay4_apply (q : Vec Ideal S1024x512 .bf16) (k : Vec Ideal S1x1x256x512 .f32) (r : Fin 1024) (j : Fin 256) :
    k0_pay4 (F := Ideal) q k (ix2 r j)
      = (∑ d : Fin 512, q (ix2 r d) * k (ix4 0 0 j d)) * Ideal.ofBits .f32 0x3D3504F3#32 := by
  pointwise [k0_pay4]

/-- The unnormalised weights of a block of scores. -/
def weights (s : FVec Ideal S1024x256 .f32) : FVec Ideal S1024x256 .f32 := k0_pay8 (F := Ideal) s

theorem weights_apply (s : FVec Ideal S1024x256 .f32) (r : Fin 1024) (j : Fin 256) :
    weights s (ix2 r j) = Ideal.exp (s (ix2 r j) - rowMax (fun k => s (ix2 r k))) := by
  unfold weights k0_pay8
  dsimp only
  rw [← rowReduceMax s 0xFF800000#32 reduces_S1024x256_S1024 (.inl rfl) rfl neg_inf_bits r]
  generalize multiReduction (F := Ideal) .maximumf [1] S1024 s 0xFF800000#32 reduces_S1024x256_S1024 (.inl rfl) rfl = y
  pointwise

/-- One head on a block: the weights against the values, over the weights' sum. -/
def head (s : FVec Ideal S1024x256 .f32) (v : Vec Ideal S1x1x256x512 .f32) : FVec Ideal S1024x512 .bf16 :=
  k0_pay1 (F := Ideal) (k0_pay9 s) (k0_pay10 s) v

theorem head_apply (s : FVec Ideal S1024x256 .f32) (v : Vec Ideal S1x1x256x512 .f32) (r : Fin 1024) (d : Fin 512) :
    head s v (ix2 r d)
      = Ideal.div (∑ j, Ideal.exp (s (ix2 r j) - rowMax (fun k => s (ix2 r k))) * v (ix4 0 0 j d))
          (∑ j, Ideal.exp (s (ix2 r j) - rowMax (fun k => s (ix2 r k)))) := by
  unfold head k0_pay10 k0_pay9
  simp only [← weights_apply]
  unfold weights
  generalize k0_pay8 (F := Ideal) s = w
  pointwise [k0_pay1]

theorem head0 (q : Vec Ideal S1024x512 .bf16) (k v : Vec Ideal S1x1x256x512 .f32) :
    k0_pay17 (F := Ideal) (k0_pay4 q k) v = head (k0_pay4 q k) v := rfl
theorem head1 (q : Vec Ideal S1024x512 .bf16) (k v : Vec Ideal S1x1x256x512 .f32) :
    k0_pay1 (F := Ideal) (k0_pay9 (k0_pay5 q k)) (k0_pay10 (k0_pay5 q k)) v = head (k0_pay4 q k) v := rfl
theorem head2 (q : Vec Ideal S1024x512 .bf16) (k v : Vec Ideal S1x1x256x512 .f32) :
    k0_pay2 (F := Ideal) (k0_pay12 (k0_pay6 q k)) (k0_pay13 (k0_pay6 q k)) v = head (k0_pay4 q k) v := rfl
theorem head3 (q : Vec Ideal S1024x512 .bf16) (k v : Vec Ideal S1x1x256x512 .f32) :
    k0_pay3 (F := Ideal) (k0_pay15 (k0_pay7 q k) (Scalar.ofBits .f32 0x3D3504F3#32))
      (k0_pay16 (k0_pay7 q k) (Scalar.ofBits .f32 0x3D3504F3#32)) v = head (k0_pay4 q k) v := rfl

/-- The scores of head `h` in a block: query row `r` against key `j`. -/
def bscore (x0 : Vec Ideal S1024x2048 .bf16) (x1 : Vec Ideal S1x1x256x2048 .f32) (r : Fin 1024) (h : Fin 4) (j : Fin 256) : EReal :=
  (∑ d : Fin 512, x0 (ix2 r ⟨h.val * 512 + d.val, by omega⟩) * x1 (ix4 0 0 j ⟨h.val * 512 + d.val, by omega⟩))
    * Ideal.ofBits .f32 0x3D3504F3#32

/-- What a grid point leaves in its block of the result. -/
def block (x0 : Vec Ideal S1024x2048 .bf16) (x1 x2 : Vec Ideal S1x1x256x2048 .f32) (y : S1024x2048.Idx) : EReal :=
  Ideal.div (∑ j, Ideal.exp (bscore x0 x1 (y 0) ⟨(y 1).val / 512, by have := (y 1).isLt; simp [S1024x2048] at this; omega⟩ j
      - rowMax (bscore x0 x1 (y 0) ⟨(y 1).val / 512, by have := (y 1).isLt; simp [S1024x2048] at this; omega⟩)) * x2 (ix4 0 0 j (y 1)))
    (∑ j, Ideal.exp (bscore x0 x1 (y 0) ⟨(y 1).val / 512, by have := (y 1).isLt; simp [S1024x2048] at this; omega⟩ j
      - rowMax (bscore x0 x1 (y 0) ⟨(y 1).val / 512, by have := (y 1).isLt; simp [S1024x2048] at this; omega⟩)))

/-- A head whose operands are read at the columns from `o`, at an index, is the block at the shifted column. -/
theorem head_block (x0 : Vec Ideal S1024x2048 .bf16) (x1 x2 : Vec Ideal S1x1x256x2048 .f32) (h : Fin 4)
    (q : Vec Ideal S1024x512 .bf16) (k v : Vec Ideal S1x1x256x512 .f32)
    (hq : ∀ r d, q (ix2 r d) = x0 (ix2 r ⟨h.val * 512 + d.val, by omega⟩))
    (hk : ∀ j d, k (ix4 0 0 j d) = x1 (ix4 0 0 j ⟨h.val * 512 + d.val, by omega⟩))
    (hv : ∀ j d, v (ix4 0 0 j d) = x2 (ix4 0 0 j ⟨h.val * 512 + d.val, by omega⟩)) (r : Fin 1024) (d : Fin 512) :
    head (k0_pay4 (F := Ideal) q k) v (ix2 r d) = block x0 x1 x2 (ix2 r ⟨h.val * 512 + d.val, by omega⟩) := by
  rw [head_apply]
  have hs : ∀ j, k0_pay4 (F := Ideal) q k (ix2 r j) = bscore x0 x1 r h j := fun j => by
    rw [pay4_apply]; simp only [hq, hk]; rfl
  simp only [hs, hv]
  have hh : (⟨(h.val * 512 + d.val) / 512, by omega⟩ : Fin 4) = h := Fin.ext (by dsimp only; omega)
  show _ = Ideal.div (∑ j, Ideal.exp (bscore x0 x1 r ⟨(h.val * 512 + d.val) / 512, _⟩ j
      - rowMax (bscore x0 x1 r ⟨(h.val * 512 + d.val) / 512, _⟩)) * x2 (ix4 0 0 j ⟨h.val * 512 + d.val, _⟩))
    (∑ j, Ideal.exp (bscore x0 x1 r ⟨(h.val * 512 + d.val) / 512, _⟩ j
      - rowMax (bscore x0 x1 r ⟨(h.val * 512 + d.val) / 512, _⟩)))
  rw [hh]

/-- A head stored at the columns from `o = 512 · h` is that part of the block. -/
theorem head_piece (x0 : Vec Ideal S1024x2048 .bf16) (x1 x2 : Vec Ideal S1x1x256x2048 .f32) (h : Fin 4) (o : Nat) (ho : o = h.val * 512)
    (b2 : ∀ a, (![0, o] : Fin 2 → Nat) a + (![1024, 512] : Fin 2 → Nat) a ≤ S1024x2048.size a)
    (b4 : ∀ a, (![0, 0, 0, o] : Fin 4 → Nat) a + (![1, 1, 256, 512] : Fin 4 → Nat) a ≤ S1x1x256x2048.size a) (x : S1024x512.Idx) :
    head (k0_pay4 (F := Ideal) (View.ld x0 (Rect.unit (s := S1024x2048) ![0, o] ![1024, 512] b2))
        (View.ld x1 (Rect.unit (s := S1x1x256x2048) ![0, 0, 0, o] ![1, 1, 256, 512] b4)))
      (View.ld x2 (Rect.unit (s := S1x1x256x2048) ![0, 0, 0, o] ![1, 1, 256, 512] b4)) x
    = block x0 x1 x2 ((Rect.unit (s := S1024x2048) ![0, o] ![1024, 512] b2).emb x) := by
  subst ho
  obtain ⟨r, d, rfl⟩ : ∃ r d, x = ix2 r d := ⟨x 0, x 1, funext fun a => match a with | ⟨0, _⟩ => rfl | ⟨1, _⟩ => rfl⟩
  have e4 : ∀ (z : Vec Ideal S1x1x256x2048 .f32) (j : Fin 256) (d : Fin 512),
      View.ld z (Rect.unit (s := S1x1x256x2048) ![0, 0, 0, h.val * 512] ![1, 1, 256, 512] b4) (ix4 0 0 j d)
        = z (ix4 0 0 j ⟨h.val * 512 + d.val, by omega⟩) := fun z j d =>
    congrArg z (funext fun a => Fin.ext (match a with
      | ⟨0, _⟩ => rfl
      | ⟨1, _⟩ => rfl
      | ⟨2, _⟩ => by show 0 + 1 * j.val = j.val; omega
      | ⟨3, _⟩ => by show h.val * 512 + 1 * d.val = h.val * 512 + d.val; omega))
  refine (head_block x0 x1 x2 h _ _ _ (fun r d => congrArg x0 (funext fun a => Fin.ext (match a with
      | ⟨0, _⟩ => by show 0 + 1 * r.val = r.val; omega
      | ⟨1, _⟩ => by show h.val * 512 + 1 * d.val = h.val * 512 + d.val; omega))) (e4 x1) (e4 x2) r d).trans ?_
  refine congrArg (block x0 x1 x2) (funext fun a => Fin.ext (match a with
      | ⟨0, _⟩ => by show r.val = 0 + 1 * r.val; omega
      | ⟨1, _⟩ => by show h.val * 512 + d.val = h.val * 512 + 1 * d.val; omega))

/-- What the body leaves in its result block. -/
theorem out_eq (c : Dev nD) (i : grid0.Coords) (arg2 : Memref sig .tc .vmem S1024x2048 .bf16) (harg2 : arg2.IsWhole)
    (arg3 : Memref sig .tc .vmem S1x1x256x2048 .f32) (harg3 : arg3.IsWhole) (arg4 : Memref sig .tc .vmem S1x1x256x2048 .f32)
    (harg4 : arg4.IsWhole) (arg5 : Memref sig .tc .vmem S1024x2048 .bf16) (harg5 : arg5.IsWhole)
    (x0 : Vec Ideal S1024x2048 .bf16) (x1 x2 : Vec Ideal S1x1x256x2048 .f32) :
    out0_A_3 (F := Ideal) c i arg2 harg2 arg3 harg3 arg4 harg4 arg5 harg5 x0 x1 x2 = block x0 x1 x2 := by
  unfold out0_A_3
  rw [View.read_writes_eq_canon _ _ _ (cover0_A_3 c i arg2 harg2 arg3 harg3 arg4 harg4 arg5 harg5 x0 x1 x2)]
  funext y
  refine View.canon_apply_of_pieces (block x0 x1 x2) _ ?_ y (cover0_A_3 c i arg2 harg2 arg3 harg3 arg4 harg4 arg5 harg5 x0 x1 x2 y)
  unfold kernelRun0_A
  dsimp only
  sl_unfold_words
  simp only [View.readAt_eq_ld, harg2.read_unread, harg3.read_unread, harg4.read_unread, head0, head1, head2, head3,
    List.forall_mem_cons, List.forall_mem_nil, and_true, List.mem_cons, List.not_mem_nil, or_false, forall_eq_or_imp, forall_eq]
  exact ⟨head_piece x0 x1 x2 3 1536 rfl _ _, head_piece x0 x1 x2 2 1024 rfl _ _, head_piece x0 x1 x2 1 512 rfl _ _,
    head_piece x0 x1 x2 0 0 rfl _ _⟩

end Cert.CrossAttnSpec

end
-- ==== Proof.CrossAttnRef.lean ====
/- The plain cross-attention read at an index. -/
module

public import proofs.«01_k».proof.Proof.Softmax
public import proofs.«01_k».proof.Proof.Gen.CrossAttnPlainIdeal.Read
public import Idealize.ShloMosaic.Lib.Pointwise

@[expose] public section

set_option maxRecDepth 16384

noncomputable section

namespace Cert.CrossAttnSpec

open Idealize.ShloMosaic Cert.CrossAttnPlainIdeal Cert.CrossAttnPlainIdeal.Read Cert.Softmax

/-- The scaled score of the query in row `r` and key `k` of the row's sequence, in head `h`. -/
def score (x0 : FVec Ideal S8448x2048 .bf16) (x1 : FVec Ideal S512x2048 .f32) (r : Fin 8192) (h : Fin 4) (k : Fin 256) : EReal :=
  (∑ d : Fin 512, x0 (ix2 ⟨r.val, by omega⟩ ⟨h.val * 512 + d.val, by omega⟩)
    * x1 (ix2 ⟨r.val / 4096 * 256 + k.val, by omega⟩ ⟨h.val * 512 + d.val, by omega⟩)) * Ideal.ofBits .f32 0x3D3504F3#32

/-- The value that key `k` of the row's sequence carries in column `c`. -/
def val (x2 : FVec Ideal S512x2048 .f32) (r : Fin 8192) (c : Fin 2048) (k : Fin 256) : EReal :=
  x2 (ix2 ⟨r.val / 4096 * 256 + k.val, by omega⟩ c)

theorem ofBits_neg_inf : Ideal.ofBits .f32 0xFF800000#32 = ⊥ := by
  simp [Ideal.ofBits, Ideal.ieee]

/-- The maximum over the last of four axes, from −∞, is the greatest entry of the row. -/
theorem reduceMax4 {n0 n1 n2 n3 : Nat} {u : Shape} (y : (⟨4, ![n0, n1, n2, n3]⟩ : Shape).Idx → Ideal .f32) (init : u.Idx → Ideal .f32)
    (h : (⟨4, ![n0, n1, n2, n3]⟩ : Shape).ReducesTo [3] ⟨3, ![n0, n1, n2]⟩) (hu : 0 < u.numel)
    (hi : init (Shape.Idx.first hu) = (⊥ : EReal)) (b : Fin n0) (c : Fin n1) (q : Fin n2) :
    Host.reduce FloatOps.maximumf y init h hu (ix3 b c q) = rowMax (fun k => y (ix4 b c q k)) := by
  rw [Host.reduce_eq_fold, Shape.ReducesTo.fold_fiber_r4_a3, hi]
  rfl

variable (x0 : FVec Ideal S8448x2048 .bf16) (x1 x2 : FVec Ideal S512x2048 .f32)

/-- The plain reference's scaled score, read at batch `b`, head `h`, query `q`, key `k`. -/
theorem v7_apply (b : Fin 2) (h : Fin 4) (q : Fin 4096) (k : Fin 256) :
    val_main_v7 (F := Ideal) x0 x1 (ix4 b h q k) = score x0 x1 ⟨b.val * 4096 + q.val, by omega⟩ h k := by
  pointwise [val_main_v7, val_main_v6, val_main_v5, val_main_v3, val_main_v2, val_main_v1, val_main_v0, val_main_cst]
  unfold score
  congr 1
  refine Finset.sum_congr rfl fun d _ => ?_
  congr 2
  congr 1
  apply Fin.ext; dsimp only; omega

/-- The row's greatest score. -/
theorem v10_apply (b : Fin 2) (h : Fin 4) (q : Fin 4096) :
    val_main_v10 (F := Ideal) x0 x1 (ix3 b h q) = rowMax (score x0 x1 ⟨b.val * 4096 + q.val, by omega⟩ h) := by
  rw [val_main_v10_apply, Ideal.maximumf_eq_max, val_main_v9_apply, val_main_cst_1_apply]
  unfold val_main_v8
  rw [reduceMax4 _ _ _ _ ofBits_neg_inf]
  simp only [v7_apply]
  exact (congrArg (max · _) ofBits_neg_inf).trans (max_eq_right bot_le)

/-- The row's unnormalised weights. -/
theorem v14_apply (b : Fin 2) (h : Fin 4) (q : Fin 4096) (k : Fin 256) :
    val_main_v14 (F := Ideal) x0 x1 (ix4 b h q k)
      = Ideal.exp (score x0 x1 ⟨b.val * 4096 + q.val, by omega⟩ h k - rowMax (score x0 x1 ⟨b.val * 4096 + q.val, by omega⟩ h)) := by
  unfold val_main_v14 val_main_v13 val_main_v12 val_main_v11
  rw [← v7_apply, ← v10_apply]
  generalize val_main_v7 (F := Ideal) x0 x1 = y
  generalize val_main_v10 (F := Ideal) x0 x1 = z
  pointwise

/-- The row's normalised weights. -/
theorem v18_apply (b : Fin 2) (h : Fin 4) (q : Fin 4096) (k : Fin 256) :
    val_main_v18 (F := Ideal) x0 x1 (ix4 b h q k)
      = Ideal.div (Ideal.exp (score x0 x1 ⟨b.val * 4096 + q.val, by omega⟩ h k - rowMax (score x0 x1 ⟨b.val * 4096 + q.val, by omega⟩ h)))
          (∑ k', Ideal.exp (score x0 x1 ⟨b.val * 4096 + q.val, by omega⟩ h k' - rowMax (score x0 x1 ⟨b.val * 4096 + q.val, by omega⟩ h))) := by
  unfold val_main_v18 val_main_v17 val_main_v16 val_main_v15
  simp only [← v14_apply]
  generalize val_main_v14 (F := Ideal) x0 x1 = y
  pointwise [val_main_cst_2]

/-- The plain reference's result in a prompt row: the normalised weights of the row's scores against the values. -/
theorem ref_apply (r : Fin 8448) (c : Fin 2048) (hr : r.val < 8192) :
    val_main_v24 (F := Ideal) x0 x1 x2 (ix2 r c)
      = ∑ k, Ideal.div (Ideal.exp (score x0 x1 ⟨r.val, hr⟩ ⟨c.val / 512, by omega⟩ k - rowMax (score x0 x1 ⟨r.val, hr⟩ ⟨c.val / 512, by omega⟩)))
          (∑ k', Ideal.exp (score x0 x1 ⟨r.val, hr⟩ ⟨c.val / 512, by omega⟩ k' - rowMax (score x0 x1 ⟨r.val, hr⟩ ⟨c.val / 512, by omega⟩)))
          * val x2 ⟨r.val, hr⟩ c k := by
  unfold val_main_v24 val_main_v23 val_main_v21 val_main_v20 val_main_v19
  have e := fun b h q k => v18_apply x0 x1 b h q k
  generalize val_main_v18 (F := Ideal) x0 x1 = y at e ⊢
  pointwise [val_main_v22, val_main_cst_3, val_main_v4]
  rw [dif_pos hr]
  refine Finset.sum_congr rfl fun k _ => ?_
  rw [e, mul_comm]
  have hq : (⟨r.val / 4096 * 4096 + r.val % 4096, by omega⟩ : Fin 8192) = ⟨r.val, hr⟩ := Fin.ext (by dsimp only; omega)
  dsimp only
  rw [hq]
  rfl

end Cert.CrossAttnSpec

end
-- ==== Proof.CrossAttnValue.lean ====
/- The memory attention kernel's result array, read at a row of a prompt. -/
module

public import proofs.«01_k».proof.Proof.CrossAttnHead
public import proofs.«01_k».proof.Proof.CrossAttnRef
public import Idealize.ShloMosaic.Lib.Pipeline.ValueKit

@[expose] public section

set_option maxRecDepth 16384

noncomputable section

namespace Cert.CrossAttnSpec

open Cert.CrossAttnIdeal Cert.CrossAttnIdeal.Gen Cert.Softmax Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, t.val / 4, 0, 0] := (by decide +kernel : ∀ t : Fin grid0.N, _)
theorem idx2 : ∀ t : Fin cfg0.N, win0_2.index t = ![0, t.val / 4, 0, 0] := (by decide +kernel : ∀ t : Fin grid0.N, _)
theorem idx3 : ∀ t : Fin cfg0.N, win0_3.index t = ![t.val, 0] := (by decide +kernel : ∀ t : Fin grid0.N, _)

theorem V_main_v0 (c : Dev nD) : V m c main_v0 = shapeCast S1x2x256x2048 (m ((c : Thread nD τ).loc main_arg1)) shapeCasts_S512x2048_S1x2x256x2048 := by
  unfold_abbrev_sides
  after_results
  rfl
theorem V_main_v1 (c : Dev nD) : V m c main_v1 = shapeCast S1x2x256x2048 (m ((c : Thread nD τ).loc main_arg2)) shapeCasts_S512x2048_S1x2x256x2048 := by
  unfold_abbrev_sides
  after_results
  rfl

/-- Point `t`'s block of the queries. -/
theorem q_block (c : Dev nD) (t : Fin cfg0.N) (r : Fin 1024) (d : Fin 2048) (R : Fin 8448) (hR : R.val = t.val * 1024 + r.val) :
    X0_0 (F := Ideal) m c t (ix2 r d) = m ((c : Thread nD τ).loc main_arg0) (ix2 R d) := by
  unfold X0_0 Pipeline.Window.fill
  rw [dif_pos (moved0_0 t (ix2 r d))]
  blk_simp [iblk]
  rw [V_main_arg0]
  congr 1
  blk_ext [idx0]

/-- The memory rows of a batch, from the flat array. -/
theorem mem_reshape (x : FVec Ideal S512x2048 .f32) (b : Fin 2) (j : Fin 256) (d : Fin 2048) (R : Fin 512)
    (hR : R.val = b.val * 256 + j.val) :
    shapeCast S1x2x256x2048 x shapeCasts_S512x2048_S1x2x256x2048 (ix4 0 b j d) = x (ix2 R d) := by
  pointwise
  congr 1
  funext a
  apply Fin.ext
  match a with
  | ⟨0, _⟩ => dsimp only [ix2]; simp only [hR]
  | ⟨1, _⟩ => rfl

/-- Point `t`'s block of the memory keys. -/
theorem k_block (c : Dev nD) (t : Fin cfg0.N) (j : Fin 256) (d : Fin 2048) (R : Fin 512) (hR : R.val = t.val / 4 * 256 + j.val) :
    iblk (F := Ideal) m c 1 t (ix4 0 0 j d) = m ((c : Thread nD τ).loc main_arg1) (ix2 R d) := by
  have hb : t.val / 4 < 2 := by have := t.isLt; have hN : cfg0.N = 8 := by decide +kernel
                                omega
  blk_simp [iblk]
  rw [V_main_v0, ← mem_reshape (m ((c : Thread nD τ).loc main_arg1)) ⟨t.val / 4, hb⟩ j d R hR]
  refine congrArg (shapeCast S1x2x256x2048 _ shapeCasts_S512x2048_S1x2x256x2048) ?_
  blk_ext [idx1]

/-- Point `t`'s block of the memory values. -/
theorem v_block (c : Dev nD) (t : Fin cfg0.N) (j : Fin 256) (d : Fin 2048) (R : Fin 512) (hR : R.val = t.val / 4 * 256 + j.val) :
    iblk (F := Ideal) m c 2 t (ix4 0 0 j d) = m ((c : Thread nD τ).loc main_arg2) (ix2 R d) := by
  have hb : t.val / 4 < 2 := by have := t.isLt; have hN : cfg0.N = 8 := by decide +kernel
                                omega
  blk_simp [iblk]
  rw [V_main_v1, ← mem_reshape (m ((c : Thread nD τ).loc main_arg2)) ⟨t.val / 4, hb⟩ j d R hR]
  refine congrArg (shapeCast S1x2x256x2048 _ shapeCasts_S512x2048_S1x2x256x2048) ?_
  blk_ext [idx2]

/-- No block of the result is cut. -/
theorem xsize3 : ∀ t : Fin cfg0.N, ∀ a, (cfg0.win 3).xsize (cfg0.grid.coords t) a = (cfg0.win 3).size a := by decide +kernel

/-- An index of the result's block, as an index of the part moved. -/
def moved3 (t : Fin cfg0.N) (y : S1024x2048.Idx) : ((cfg0.win 3).xblock (cfg0.grid.coords t)).Idx :=
  fun a => ⟨(y a).val, by rw [show ((cfg0.win 3).xblock (cfg0.grid.coords t)).size a = (cfg0.win 3).size a from xsize3 t a]; exact (y a).isLt⟩

/-- The kernel's result in a prompt row: the unnormalised weights against the values, over the weights' sum. -/
theorem kernel_apply (c : Dev nD) (r : Fin 8448) (d : Fin 2048) (hr : r.val < 8192) :
    (Gen.dats (F := Ideal) m 0 c).arrAt 3 cfg0.N (ix2 r d)
      = Ideal.div (∑ k, Ideal.exp (score (m ((c : Thread nD τ).loc main_arg0)) (m ((c : Thread nD τ).loc main_arg1)) ⟨r.val, hr⟩ ⟨d.val / 512, by omega⟩ k
            - rowMax (score (m ((c : Thread nD τ).loc main_arg0)) (m ((c : Thread nD τ).loc main_arg1)) ⟨r.val, hr⟩ ⟨d.val / 512, by omega⟩))
            * val (m ((c : Thread nD τ).loc main_arg2)) ⟨r.val, hr⟩ d k)
          (∑ k, Ideal.exp (score (m ((c : Thread nD τ).loc main_arg0)) (m ((c : Thread nD τ).loc main_arg1)) ⟨r.val, hr⟩ ⟨d.val / 512, by omega⟩ k
            - rowMax (score (m ((c : Thread nD τ).loc main_arg0)) (m ((c : Thread nD τ).loc main_arg1)) ⟨r.val, hr⟩ ⟨d.val / 512, by omega⟩))) := by
  have hN : cfg0.N = 8 := by decide +kernel
  obtain ⟨t, ht⟩ : ∃ t : Fin cfg0.N, t.val = r.val / 1024 := ⟨⟨r.val / 1024, by omega⟩, rfl⟩
  have hf : (cfg0.win 3).flush t = true := (by decide +kernel : ∀ t : Fin grid0.N, win0_3.flush t = true) t
  have hy : (ix2 r d : S8448x2048.Idx) = ((cfg0.win 3).blk t).view.emb (moved3 t (ix2 ⟨r.val % 1024, by omega⟩ d)) := by
    have h1 : r.val = t.val * 1024 + r.val % 1024 := by omega
    funext a
    apply Fin.ext
    refine Eq.trans ?_ (win0_3.rect_emb_val t (moved3 t (ix2 ⟨r.val % 1024, by omega⟩ d)) a).symm
    rw [idx3]
    match a with
    | ⟨0, _⟩ => exact h1
    | ⟨1, _⟩ => show d.val = 0 * 2048 + d.val; omega
  rw [hy, (Gen.dats (F := Ideal) m 0 c).arrAt_emb_eq_flushed 3 (Value.disjoint3) t hf, Value.flushed3_A, out_eq]
  rw [cast_eq, Pipeline.Window.cut_apply]
  have hx : (cfg0.win 3).xinj (grid0.coords t) (moved3 t (ix2 ⟨r.val % 1024, by omega⟩ d)) = (ix2 ⟨r.val % 1024, by omega⟩ d : S1024x2048.Idx) :=
    funext fun a => Fin.ext rfl
  rw [hx]
  have hs : bscore (X0_0 (F := Ideal) m c t) (iblk m c 1 t) ⟨r.val % 1024, by omega⟩ ⟨d.val / 512, by omega⟩
      = score (m ((c : Thread nD τ).loc main_arg0)) (m ((c : Thread nD τ).loc main_arg1)) ⟨r.val, hr⟩ ⟨d.val / 512, by omega⟩ := by
    funext j
    unfold bscore score
    refine congrArg (· * _) (Finset.sum_congr rfl fun e _ => ?_)
    rw [q_block m c t _ _ r (by dsimp only; omega), k_block m c t j _ ⟨r.val / 4096 * 256 + j.val, by omega⟩ (by dsimp only; omega)]
  have hv : ∀ j, iblk (F := Ideal) m c 2 t (ix4 0 0 j d) = val (m ((c : Thread nD τ).loc main_arg2)) ⟨r.val, hr⟩ d j := fun j =>
    v_block m c t j d ⟨r.val / 4096 * 256 + j.val, by omega⟩ (by dsimp only; omega)
  rw [← hs]
  simp only [← hv]
  rfl

end Cert.CrossAttnSpec

end
-- ==== Proof.CrossAttnCond.lean ====
/- What the condition on the inputs and the selected rows say, in plain terms. -/
module

public import proofs.«01_k».proof.Proof.Gen.On_mem_rows
public import proofs.«01_k».proof.Proof.Gen.Pre_mem_finite
public import proofs.«01_k».proof.Proof.Softmax
public import Idealize.ShloMosaic.Lib.Pointwise

@[expose] public section

set_option maxRecDepth 16384

noncomputable section

namespace Cert.CrossAttnSpec

open Cert.Softmax Idealize.ShloMosaic

/-- A selected row is a row of a prompt. -/
theorem rows_lt (x : FVec Ideal ⟨2, ![8448, 2048]⟩ .bf16) (y z : FVec Ideal ⟨2, ![512, 2048]⟩ .f32) (r : Fin 8448) (d : Fin 2048)
    (h : Cert.On_mem_rows.fn (F := Ideal) x y z (ix2 r d) = 1#1) : r.val < 8192 := by
  have h' : IntOp.cmpi .slt (BitVec.ofNat 32 r.val) 8192#32 = 1#1 := h
  unfold IntOp.cmpi at h'
  simp only at h'
  have h2 : (BitVec.ofNat 32 r.val).slt 8192#32 = true := by
    by_contra hc
    rw [Bool.not_eq_true] at hc
    rw [hc] at h'
    exact absurd h' (by decide)
  rw [BitVec.slt, decide_eq_true_eq] at h2
  have h3 : (BitVec.ofNat 32 r.val).toInt = (r.val : Int) := by
    have := r.isLt
    have e : (BitVec.ofNat 32 r.val).toNat = r.val := by rw [BitVec.toNat_ofNat]; omega
    rw [BitVec.toInt_eq_toNat_of_lt (by rw [e]; omega), e]
  rw [h3] at h2
  have h4 : (8192#32 : BitVec 32).toInt = 8192 := by decide
  omega

theorem real_of_flag (a : EReal) (h : BitVec.ofBool (decide (FloatOps.absf (F := Ideal) (φ := .f32) a < Ideal.ofBits .f32 0x7F800000#32)) = 1#1) :
    ∃ r : ℝ, a = (r : EReal) := by
  refine real_of_abs_lt ?_
  have ht : Ideal.ofBits .f32 0x7F800000#32 = ⊤ := by simp [Ideal.ofBits, Ideal.ieee]
  by_contra hc
  rw [ht] at h
  rw [show decide (FloatOps.absf (F := Ideal) (φ := .f32) a < ⊤) = false from decide_eq_false hc] at h
  exact absurd h (by decide)

/-- Under the condition every query entry is a finite number. -/
theorem q_real (x : FVec Ideal ⟨2, ![8448, 2048]⟩ .bf16) (y z : FVec Ideal ⟨2, ![512, 2048]⟩ .f32)
    (h : Cert.Pre_mem_finite.fn (F := Ideal) x y z = fun _ => 1#1) (r : Fin 8448) (d : Fin 2048) : ∃ a : ℝ, x (ix2 r d) = (a : EReal) := by
  have h1 := congrFun h (ix2 ⟨r.val, by omega⟩ d)
  unfold Cert.Pre_mem_finite.fn at h1
  pointwise at h1
  exact real_of_flag _ h1

/-- Under the condition every key entry is a finite number. -/
theorem k_real (x : FVec Ideal ⟨2, ![8448, 2048]⟩ .bf16) (y z : FVec Ideal ⟨2, ![512, 2048]⟩ .f32)
    (h : Cert.Pre_mem_finite.fn (F := Ideal) x y z = fun _ => 1#1) (r : Fin 512) (d : Fin 2048) : ∃ a : ℝ, y (ix2 r d) = (a : EReal) := by
  have h1 := congrFun h (ix2 ⟨8448 + r.val, by omega⟩ d)
  unfold Cert.Pre_mem_finite.fn at h1
  pointwise at h1
  exact real_of_flag _ h1

end Cert.CrossAttnSpec

end
-- ==== Proof.CrossAttnClaim.lean ====
/- The memory attention's claims, from the values the kernel and the plain reference hold. -/
module

public import proofs.«01_k».proof.Defs
public import proofs.«01_k».proof.Proof.Gen.CrossAttn.Frame
public import proofs.«01_k».proof.Proof.Gen.CrossAttnPlainIdeal
public import proofs.«01_k».proof.Proof.CrossAttnValue
public import proofs.«01_k».proof.Proof.CrossAttnCond
public import Idealize.ShloMosaic.Lib.Quiescent

@[expose] public section

set_option maxRecDepth 16384

noncomputable section

namespace Cert.CrossAttnSpec

open Cert.Softmax Idealize.ShloMosaic Idealize.SL.Sem

/-- The scale is a finite number. -/
theorem scale_real : ∃ r : ℝ, Ideal.ofBits .f32 0x3D3504F3#32 = (r : EReal) := by
  refine ⟨_, by simp only [Ideal.ofBits, Ideal.ieee]; rfl⟩

/-- In a prompt row the kernel's quotient of sums is the reference's sum of quotients. -/
theorem values_agree (m : (ℓ : Loc Cert.CrossAttnIdeal.nD Cert.CrossAttnIdeal.τ Cert.CrossAttnIdeal.sig) → Buf (Elt Ideal) ℓ)
    (hp : Cert.Pre_CrossAttnIdeal_mem_finite m) (c : Dev Cert.CrossAttnIdeal.nD) (r : Fin 8448) (d : Fin 2048) (hr : r.val < 8192) :
    (Cert.CrossAttnIdeal.Gen.dats (F := Ideal) m 0 c).arrAt 3 Cert.CrossAttnIdeal.cfg0.N (ix2 r d)
      = Cert.CrossAttnPlainIdeal.Read.val_main_v24 (F := Ideal) (m ((c.tc : Thread Cert.CrossAttnIdeal.nD Cert.CrossAttnIdeal.τ).loc Cert.CrossAttnIdeal.main_arg0))
          (m ((c.tc : Thread Cert.CrossAttnIdeal.nD Cert.CrossAttnIdeal.τ).loc Cert.CrossAttnIdeal.main_arg1))
          (m ((c.tc : Thread Cert.CrossAttnIdeal.nD Cert.CrossAttnIdeal.τ).loc Cert.CrossAttnIdeal.main_arg2)) (ix2 r d) := by
  rw [kernel_apply m c r d hr]
  refine Eq.trans ?_ (ref_apply _ _ _ r d hr).symm
  refine softmax_eq (by decide) _ _ (rowMax_real _ (by decide) fun k => mul_real (dot_real _ _ (fun e => ?_) fun e => ?_) scale_real)
  · exact q_real _ _ _ (hp c) _ _
  · exact k_real _ _ _ (hp c) _ _

/-- The plain reference runs, its arguments unchanged, every counter back at zero. -/
theorem plain_quiescent : Cert.quiescent_CrossAttnPlainIdeal := fun m ρ _ =>
  (θ_run Cert.CrossAttnPlainIdeal.defs _ _).mono
    (fun r h => ⟨fun c => (h c).2, Idealize.ShloMosaic.sem_eq_zero_of_no_sems (by decide) r.2⟩)
    (Cert.CrossAttnPlainIdeal.Value.run (F := Ideal) m ρ)

/-- In every prompt row the kernel holds the plain reference's memory attention. -/
theorem algebraic : Cert.algebraic_CrossAttnIdeal_CrossAttnPlainIdeal_on_mem_rows_pre_mem_finite := by
  intro m g m' g' hp hm
  refine ⟨fun c => (Cert.CrossAttnIdeal.Gen.dats (F := Ideal) m 0 c).arrAt 3 Cert.CrossAttnIdeal.cfg0.N, ?_, ?_⟩
  · exact (θ_run _ _ _).mono (fun r h c => ⟨fun i _ => congrFun (h c).1 i, (h c).2⟩) (Cert.CrossAttnIdeal.Value.run_blocks (F := Ideal) m g)
  · refine (θ_run _ _ _).mono (fun r h c => ⟨fun i hi => ?_, (h c).2⟩) (Cert.CrossAttnPlainIdeal.Value.run (F := Ideal) m' g')
    obtain ⟨a, b, rfl⟩ : ∃ (a : Fin 8448) (b : Fin 2048), i = ix2 a b := ⟨i 0, i 1, funext fun x => match x with | ⟨0, _⟩ => rfl | ⟨1, _⟩ => rfl⟩
    have h1 := (h c).1
    rw [Cert.CrossAttnPlainIdeal.Read.val_main_v24_eq, (hm c).1, (hm c).2.1, (hm c).2.2] at h1
    exact (congrFun h1 _).trans (values_agree m hp c a b (rows_lt _ _ _ a b hi)).symm

end Cert.CrossAttnSpec

end
-- ==== Proof.KeyValueClaim.lean ====
/- The memory's keys and values of the first layer: the call's array is the plain product of the memory rows with the layer's weights. -/
module

public import proofs.«01_k».proof.Defs
public import proofs.«01_k».proof.Proof.Gen.KeyValue.Frame
public import proofs.«01_k».proof.Proof.Gen.KeyValueIdeal.Value
public import proofs.«01_k».proof.Proof.Gen.KeyValuePlainIdeal
public import proofs.«01_k».proof.Proof.Gen.KeyValuePlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.KeyValueSpec

open Cert.KeyValueIdeal Cert.KeyValueIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0, t.val] := (by decide +kernel : ∀ t : Fin grid0.N, _)
theorem idx2 : ∀ t : Fin cfg0.N, win0_2.index t = ![0, t.val] := (by decide +kernel : ∀ t : Fin grid0.N, _)

theorem V_main_v1 (c : Dev nD) : V m c main_v1
    = truncf (F := Ideal) .bf16 (shapeCast S512x2048 (m ((c : Thread nD τ).loc main_arg0)) shapeCasts_S2x256x2048_S512x2048) bitsLt_bf16_f32 := by
  unfold_abbrev_sides
  after_results
  rfl

/-- A block's product, row `r` against column `j`. -/
theorem pay_apply (w : Vec Ideal S1x2048x1024 .f32) (a : Vec Ideal S512x2048 .bf16) (r : Fin 512) (j : Fin 1024) :
    k0_pay1 (F := Ideal) w a (ix2 r j) = ∑ k : Fin 2048, a (ix2 r k) * w (ix3 0 k j) := by
  pointwise [k0_pay1]

/-- The plain product, row `r` against column `j`. -/
theorem ref_apply (x : FVec Ideal S2x256x2048 .f32) (w : FVec Ideal S2x2048x2048 .f32) (r : Fin 512) (j : Fin 2048) :
    Cert.KeyValuePlainIdeal.Read.val_main_v3 (F := Ideal) x w (ix2 r j)
      = ∑ k : Fin 2048, x (ix3 ⟨r.val / 256, by omega⟩ ⟨r.val % 256, by omega⟩ k) * w (ix3 0 k j) := by
  rw [Cert.KeyValuePlainIdeal.Read.val_main_v3_apply, Cert.KeyValuePlainIdeal.Read.val_main_v2_apply]
  refine Finset.sum_congr rfl fun k _ => ?_
  rw [Cert.KeyValuePlainIdeal.Read.val_main_v1_apply, Cert.KeyValuePlainIdeal.Read.val_main_v0_apply]
  have hj := j.isLt
  have hk := k.isLt
  refine congrArg₂ (· * ·) (congrArg x (funext fun a => Fin.ext ?_)) (congrArg w (funext fun a => Fin.ext ?_))
  · match a with
    | ⟨0, _⟩ => show (r.val * 2048 + j.val) / 524288 = r.val / 256; omega
    | ⟨1, _⟩ => show (r.val * 2048 + j.val) / 2048 % 256 = r.val % 256; omega
    | ⟨2, _⟩ => rfl
  · match a with
    | ⟨0, _⟩ => rfl
    | ⟨1, _⟩ => show (k.val * 2048 + (r.val * 2048 + j.val) % 2048) / 2048 % 2048 = k.val; omega
    | ⟨2, _⟩ => show (k.val * 2048 + (r.val * 2048 + j.val) % 2048) % 2048 = j.val; omega

/-- The memory's rows as the kernel's host code lays them out. -/
theorem rows_apply (x : FVec Ideal S2x256x2048 .f32) (r : Fin 512) (k : Fin 2048) :
    truncf (F := Ideal) .bf16 (shapeCast S512x2048 x shapeCasts_S2x256x2048_S512x2048) bitsLt_bf16_f32 (ix2 r k)
      = x (ix3 ⟨r.val / 256, by omega⟩ ⟨r.val % 256, by omega⟩ k) := by
  pointwise

/-- A grid point's block is that part of the plain product. -/
theorem block_apply (c : Dev nD) (t : Fin cfg0.N) (r : Fin 512) (j : Fin 1024) (ht : t.val * 1024 + j.val < 2048) :
    k0_pay1 (F := Ideal) (iblk m c 1 t) (iblk m c 0 t) (ix2 r j)
      = Cert.KeyValuePlainIdeal.Read.val_main_v3 (F := Ideal) (m ((c : Thread nD τ).loc main_arg0)) (m ((c : Thread nD τ).loc main_arg1))
          (ix2 r ⟨t.val * 1024 + j.val, ht⟩) := by
  rw [pay_apply, ref_apply]
  refine Finset.sum_congr rfl fun k _ => ?_
  rw [← rows_apply (m ((c : Thread nD τ).loc main_arg0))]
  blk_simp [iblk]
  rw [V_main_v1, V_main_arg1]
  refine congrArg₂ (· * ·) (congrArg _ ?_) (congrArg _ ?_)
  · blk_ext [idx0]
  · blk_ext [idx1]

/-- The call's array is the plain product. -/
theorem final (c : Dev nD) : (Gen.dats (F := Ideal) m 0 c).arrAt 2 cfg0.N
    = Cert.KeyValuePlainIdeal.Read.val_main_v3 (F := Ideal) (m ((c : Thread nD τ).loc main_arg0)) (m ((c : Thread nD τ).loc main_arg1)) := by
  refine (Gen.dats (F := Ideal) m 0 c).arrAt_eq_of_covers 2 _ (by decide +kernel) fun t hf y => ?_
  obtain ⟨r, j, rfl⟩ : ∃ (r : Fin 512) (j : Fin 1024), y = ix2 r j := ⟨y 0, y 1, funext fun x => match x with | ⟨0, _⟩ => rfl | ⟨1, _⟩ => rfl⟩
  have ht : t.val < 2 := lt_of_lt_of_eq t.isLt (by decide +kernel : cfg0.N = 2)
  blk_simp
  rw [after0_2]
  frame_out
  refine (block_apply m c t r j (by omega)).trans (congrArg (Cert.KeyValuePlainIdeal.Read.val_main_v3 (F := Ideal) _ _) ?_)
  blk_ext [idx2]

/-- The plain product runs, its arguments unchanged, every counter back at zero. -/
theorem plain_quiescent : Cert.quiescent_KeyValuePlainIdeal := fun m ρ _ =>
  (θ_run Cert.KeyValuePlainIdeal.defs _ _).mono
    (fun r h => ⟨fun c => (h c).2, Idealize.ShloMosaic.sem_eq_zero_of_no_sems (by decide) r.2⟩)
    (Cert.KeyValuePlainIdeal.Value.run (F := Ideal) m ρ)

/-- The call's array is the plain reference's. -/
theorem algebraic : Cert.algebraic_KeyValueIdeal_KeyValuePlainIdeal := by
  intro m g m' g' hp hm
  refine ⟨fun c => (Gen.dats (F := Ideal) m 0 c).arrAt 2 cfg0.N, ?_, ?_⟩
  · exact (θ_run _ _ _).mono (fun r h c => h c) (Value.run_blocks (F := Ideal) m g)
  · refine (θ_run _ _ _).mono (fun r h c => ⟨?_, (h c).2⟩) (Cert.KeyValuePlainIdeal.Value.run (F := Ideal) m' g')
    have h1 := (h c).1
    rw [Cert.KeyValuePlainIdeal.Read.val_main_v3_eq, (hm c).1, (hm c).2] at h1
    exact h1.trans (final m c).symm

end Cert.KeyValueSpec

end
-- ==== Proof.KeyValueNextClaim.lean ====
/- The memory's keys and values of the second layer: the call's array is the plain product of the memory rows with the layer's weights. -/
module

public import proofs.«01_k».proof.Defs
public import proofs.«01_k».proof.Proof.Gen.KeyValueNext.Frame
public import proofs.«01_k».proof.Proof.Gen.KeyValueNextIdeal.Value
public import proofs.«01_k».proof.Proof.Gen.KeyValueNextPlainIdeal
public import proofs.«01_k».proof.Proof.Gen.KeyValueNextPlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.KeyValueNextSpec

open Cert.KeyValueNextIdeal Cert.KeyValueNextIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![1, 0, t.val] := (by decide +kernel : ∀ t : Fin grid0.N, _)
theorem idx2 : ∀ t : Fin cfg0.N, win0_2.index t = ![0, t.val] := (by decide +kernel : ∀ t : Fin grid0.N, _)

theorem V_main_v1 (c : Dev nD) : V m c main_v1
    = truncf (F := Ideal) .bf16 (shapeCast S512x2048 (m ((c : Thread nD τ).loc main_arg0)) shapeCasts_S2x256x2048_S512x2048) bitsLt_bf16_f32 := by
  unfold_abbrev_sides
  after_results
  rfl

/-- A block's product, row `r` against column `j`. -/
theorem pay_apply (w : Vec Ideal S1x2048x1024 .f32) (a : Vec Ideal S512x2048 .bf16) (r : Fin 512) (j : Fin 1024) :
    k0_pay1 (F := Ideal) w a (ix2 r j) = ∑ k : Fin 2048, a (ix2 r k) * w (ix3 0 k j) := by
  pointwise [k0_pay1]

/-- The plain product, row `r` against column `j`. -/
theorem ref_apply (x : FVec Ideal S2x256x2048 .f32) (w : FVec Ideal S2x2048x2048 .f32) (r : Fin 512) (j : Fin 2048) :
    Cert.KeyValueNextPlainIdeal.Read.val_main_v3 (F := Ideal) x w (ix2 r j)
      = ∑ k : Fin 2048, x (ix3 ⟨r.val / 256, by omega⟩ ⟨r.val % 256, by omega⟩ k) * w (ix3 1 k j) := by
  rw [Cert.KeyValueNextPlainIdeal.Read.val_main_v3_apply, Cert.KeyValueNextPlainIdeal.Read.val_main_v2_apply]
  refine Finset.sum_congr rfl fun k _ => ?_
  rw [Cert.KeyValueNextPlainIdeal.Read.val_main_v1_apply, Cert.KeyValueNextPlainIdeal.Read.val_main_v0_apply]
  have hj := j.isLt
  have hk := k.isLt
  refine congrArg₂ (· * ·) (congrArg x (funext fun a => Fin.ext ?_)) (congrArg w (funext fun a => Fin.ext ?_))
  · match a with
    | ⟨0, _⟩ => show (r.val * 2048 + j.val) / 524288 = r.val / 256; omega
    | ⟨1, _⟩ => show (r.val * 2048 + j.val) / 2048 % 256 = r.val % 256; omega
    | ⟨2, _⟩ => rfl
  · match a with
    | ⟨0, _⟩ => rfl
    | ⟨1, _⟩ => show (k.val * 2048 + (r.val * 2048 + j.val) % 2048) / 2048 % 2048 = k.val; omega
    | ⟨2, _⟩ => show (k.val * 2048 + (r.val * 2048 + j.val) % 2048) % 2048 = j.val; omega

/-- The memory's rows as the kernel's host code lays them out. -/
theorem rows_apply (x : FVec Ideal S2x256x2048 .f32) (r : Fin 512) (k : Fin 2048) :
    truncf (F := Ideal) .bf16 (shapeCast S512x2048 x shapeCasts_S2x256x2048_S512x2048) bitsLt_bf16_f32 (ix2 r k)
      = x (ix3 ⟨r.val / 256, by omega⟩ ⟨r.val % 256, by omega⟩ k) := by
  pointwise

/-- A grid point's block is that part of the plain product. -/
theorem block_apply (c : Dev nD) (t : Fin cfg0.N) (r : Fin 512) (j : Fin 1024) (ht : t.val * 1024 + j.val < 2048) :
    k0_pay1 (F := Ideal) (iblk m c 1 t) (iblk m c 0 t) (ix2 r j)
      = Cert.KeyValueNextPlainIdeal.Read.val_main_v3 (F := Ideal) (m ((c : Thread nD τ).loc main_arg0)) (m ((c : Thread nD τ).loc main_arg1))
          (ix2 r ⟨t.val * 1024 + j.val, ht⟩) := by
  rw [pay_apply, ref_apply]
  refine Finset.sum_congr rfl fun k _ => ?_
  rw [← rows_apply (m ((c : Thread nD τ).loc main_arg0))]
  blk_simp [iblk]
  rw [V_main_v1, V_main_arg1]
  refine congrArg₂ (· * ·) (congrArg _ ?_) (congrArg _ ?_)
  · blk_ext [idx0]
  · blk_ext [idx1]

/-- The call's array is the plain product. -/
theorem final (c : Dev nD) : (Gen.dats (F := Ideal) m 0 c).arrAt 2 cfg0.N
    = Cert.KeyValueNextPlainIdeal.Read.val_main_v3 (F := Ideal) (m ((c : Thread nD τ).loc main_arg0)) (m ((c : Thread nD τ).loc main_arg1)) := by
  refine (Gen.dats (F := Ideal) m 0 c).arrAt_eq_of_covers 2 _ (by decide +kernel) fun t hf y => ?_
  obtain ⟨r, j, rfl⟩ : ∃ (r : Fin 512) (j : Fin 1024), y = ix2 r j := ⟨y 0, y 1, funext fun x => match x with | ⟨0, _⟩ => rfl | ⟨1, _⟩ => rfl⟩
  have ht : t.val < 2 := lt_of_lt_of_eq t.isLt (by decide +kernel : cfg0.N = 2)
  blk_simp
  rw [after0_2]
  frame_out
  refine (block_apply m c t r j (by omega)).trans (congrArg (Cert.KeyValueNextPlainIdeal.Read.val_main_v3 (F := Ideal) _ _) ?_)
  blk_ext [idx2]

/-- The plain product runs, its arguments unchanged, every counter back at zero. -/
theorem plain_quiescent : Cert.quiescent_KeyValueNextPlainIdeal := fun m ρ _ =>
  (θ_run Cert.KeyValueNextPlainIdeal.defs _ _).mono
    (fun r h => ⟨fun c => (h c).2, Idealize.ShloMosaic.sem_eq_zero_of_no_sems (by decide) r.2⟩)
    (Cert.KeyValueNextPlainIdeal.Value.run (F := Ideal) m ρ)

/-- The call's array is the plain reference's. -/
theorem algebraic : Cert.algebraic_KeyValueNextIdeal_KeyValueNextPlainIdeal := by
  intro m g m' g' hp hm
  refine ⟨fun c => (Gen.dats (F := Ideal) m 0 c).arrAt 2 cfg0.N, ?_, ?_⟩
  · exact (θ_run _ _ _).mono (fun r h c => h c) (Value.run_blocks (F := Ideal) m g)
  · refine (θ_run _ _ _).mono (fun r h c => ⟨?_, (h c).2⟩) (Cert.KeyValueNextPlainIdeal.Value.run (F := Ideal) m' g')
    have h1 := (h c).1
    rw [Cert.KeyValueNextPlainIdeal.Read.val_main_v3_eq, (hm c).1, (hm c).2] at h1
    exact h1.trans (final m c).symm

end Cert.KeyValueNextSpec

end
-- ==== Proof.QueryClaim.lean ====
/- The queries of the memory attention: the call's array is the plain product of the rows with the layer's weights, which the kernel rounds once into a buffer it keeps. -/
module

public import proofs.«01_k».proof.Defs
public import proofs.«01_k».proof.Proof.Gen.Query.Frame
public import proofs.«01_k».proof.Proof.Gen.QueryIdeal.Value
public import proofs.«01_k».proof.Proof.Gen.QueryPlainIdeal
public import proofs.«01_k».proof.Proof.Gen.QueryPlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.QuerySpec

open Cert.QueryIdeal Cert.QueryIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

section Body

variable (c : Dev nD) (i : grid0.Coords) (arg2 : Memref sig .tc .vmem S1056x2048 .bf16) (harg2 : arg2.IsWhole)
    (arg3 : Memref sig .tc .vmem S1x2048x2048 .f32) (harg3 : arg3.IsWhole) (arg4 : Memref sig .tc .vmem S1056x2048 .bf16) (harg4 : arg4.IsWhole)
    (arg5 : Memref sig .tc .vmem S2048x2048 .bf16) (harg5 : arg5.IsWhole) (x0 : Vec Ideal S1056x2048 .bf16) (x1 : Vec Ideal S1x2048x2048 .f32)

/-- The kept buffer after the first point: the weights, rounded. -/
theorem sout_A (hc0 : cond0_0 i) : sout0_A_0 (F := Ideal) c i arg2 harg2 arg3 harg3 arg4 harg4 arg5 harg5 hc0 x0 x1 = k0_pay1 (F := Ideal) x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp only [View.readAt_eq_ld, harg2.read_unread, harg3.read_unread]
  frame_out

/-- The block after the first point: the product with the weights just rounded. -/
theorem out_A (hc0 : cond0_0 i) : out0_A_2 (F := Ideal) c i arg2 harg2 arg3 harg3 arg4 harg4 arg5 harg5 hc0 x0 x1
    = k0_pay2 (F := Ideal) (k0_pay1 (F := Ideal) x1) x0 := by
  unfold out0_A_2
  rw [View.read_writes_eq_canon _ _ _ (cover0_A_2 c i arg2 harg2 arg3 harg3 arg4 harg4 arg5 harg5 hc0 x0 x1)]
  unfold kernelRun0_A
  dsimp only
  sl_unfold_words
  simp only [View.readAt_eq_ld, harg2.read_unread, harg3.read_unread]
  frame_out

/-- The block after a later point: the product with the kept weights. -/
theorem out_B (hc0 : ¬cond0_0 i) (xs0 : Vec Ideal S2048x2048 .bf16) :
    out0_B_2 (F := Ideal) c i arg2 harg2 arg3 harg3 arg4 harg4 arg5 harg5 hc0 x0 x1 xs0 = k0_pay2 (F := Ideal) xs0 x0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  simp only [View.readAt_eq_ld, harg2.read_unread, harg3.read_unread, harg5.read_unread]
  frame_out

/-- A later point leaves the kept weights as they were. -/
theorem sout_B (hc0 : ¬cond0_0 i) (xs0 : Vec Ideal S2048x2048 .bf16) :
    sout0_B_0 (F := Ideal) c i arg2 harg2 arg3 harg3 arg4 harg4 arg5 harg5 hc0 x0 x1 xs0 = xs0 := by
  unfold sout0_B_0
  rfl

end Body

theorem points (t : Fin cfg0.N) : t.val < 8 := lt_of_lt_of_eq t.isLt (by decide +kernel : cfg0.N = 8)

/-- The weights' block is the same at every point. -/
theorem weights (c : Dev nD) (t : Fin cfg0.N) (k j : Fin 2048) :
    iblk (F := Ideal) m c 1 t (ix3 0 k j) = m ((c : Thread nD τ).loc main_arg1) (ix3 0 k j) := by
  blk_simp [iblk]
  rw [V_main_arg1]
  congr 1
  blk_ext [idx1]

theorem rows (c : Dev nD) (t : Fin cfg0.N) (r : Fin 1056) (hr : t.val * 1056 + r.val < 8448) (k : Fin 2048) :
    iblk (F := Ideal) m c 0 t (ix2 r k) = m ((c : Thread nD τ).loc main_arg0) (ix2 ⟨t.val * 1056 + r.val, hr⟩ k) := by
  blk_simp [iblk]
  rw [V_main_arg0]
  congr 1
  blk_ext [idx0]

/-- The kept buffer after every point: the weights, rounded. -/
theorem kept (c : Dev nD) : ∀ (n : ℕ) (h : n < cfg0.N), (outsAt0 (F := Ideal) m c n h).2 = k0_pay1 (F := Ideal) (iblk m c 1 ⟨0, by decide +kernel⟩) := by
  intro n
  induction n with
  | zero => intro h; rw [outsAt0_A m c ⟨0, h⟩ rfl]; dsimp only; exact sout_A c _ _ _ _ _ _ _ _ _ _ _ _
  | succ n ih =>
    intro h
    have h8 := points ⟨n + 1, h⟩
    rw [outsAt0_B m c ⟨n + 1, h⟩ (by dsimp only at h8 ⊢; omega)]
    dsimp only
    exact (sout_B c _ _ _ _ _ _ _ _ _ _ _ _ _).trans (ih _)

/-- The result block after every point: the product of the point's rows with the rounded weights. -/
theorem result (c : Dev nD) (t : Fin cfg0.N) : (outsAt0 (F := Ideal) m c t.val t.isLt).1
    = k0_pay2 (F := Ideal) (k0_pay1 (F := Ideal) (iblk m c 1 ⟨0, by decide +kernel⟩)) (iblk m c 0 t) := by
  have h8 := points t
  by_cases h0 : t.val % 8 = 0
  · obtain rfl : t = ⟨0, by decide +kernel⟩ := Fin.ext (by dsimp only; omega)
    rw [outsAt0_A m c _ h0]
    dsimp only
    exact out_A c _ _ _ _ _ _ _ _ _ _ _ _
  · rw [outsAt0_B m c t h0]
    dsimp only
    refine (out_B c _ _ _ _ _ _ _ _ _ _ _ _ _).trans ?_
    rw [kept]

/-- A block's product, row `r` against column `j`. -/
theorem pay_apply (w : Vec Ideal S1x2048x2048 .f32) (a : Vec Ideal S1056x2048 .bf16) (r : Fin 1056) (j : Fin 2048) :
    k0_pay2 (F := Ideal) (k0_pay1 (F := Ideal) w) a (ix2 r j) = ∑ k : Fin 2048, a (ix2 r k) * w (ix3 0 k j) := by
  pointwise [k0_pay1, k0_pay2]

/-- The plain product, row `r` against column `j`. -/
theorem ref_apply (x : FVec Ideal S8448x2048 .bf16) (w : FVec Ideal S2x2048x2048 .f32) (r : Fin 8448) (j : Fin 2048) :
    Cert.QueryPlainIdeal.Read.val_main_v4 (F := Ideal) x w (ix2 r j) = ∑ k : Fin 2048, x (ix2 r k) * w (ix3 0 k j) := by
  pointwise [Cert.QueryPlainIdeal.Read.val_main_v4, Cert.QueryPlainIdeal.Read.val_main_v3, Cert.QueryPlainIdeal.Read.val_main_v2,
    Cert.QueryPlainIdeal.Read.val_main_v1, Cert.QueryPlainIdeal.Read.val_main_v0]

/-- A grid point's block is that part of the plain product. -/
theorem block_apply (c : Dev nD) (s t : Fin cfg0.N) (r : Fin 1056) (j : Fin 2048) (hr : t.val * 1056 + r.val < 8448) :
    k0_pay2 (F := Ideal) (k0_pay1 (F := Ideal) (iblk m c 1 s)) (iblk m c 0 t) (ix2 r j)
      = Cert.QueryPlainIdeal.Read.val_main_v4 (F := Ideal) (m ((c : Thread nD τ).loc main_arg0)) (m ((c : Thread nD τ).loc main_arg1))
          (ix2 ⟨t.val * 1056 + r.val, hr⟩ j) := by
  rw [pay_apply, ref_apply]
  simp only [rows m c t r hr, weights m c s]

/-- The call's array is the plain product. -/
theorem final (c : Dev nD) : (Gen.dats (F := Ideal) m 0 c).arrAt 2 cfg0.N
    = Cert.QueryPlainIdeal.Read.val_main_v4 (F := Ideal) (m ((c : Thread nD τ).loc main_arg0)) (m ((c : Thread nD τ).loc main_arg1)) := by
  refine (Gen.dats (F := Ideal) m 0 c).arrAt_eq_of_covers 2 _ (by decide +kernel) fun t hf y => ?_
  obtain ⟨r, j, rfl⟩ : ∃ (r : Fin 1056) (j : Fin 2048), y = ix2 r j := ⟨y 0, y 1, funext fun x => match x with | ⟨0, _⟩ => rfl | ⟨1, _⟩ => rfl⟩
  have ht := points t
  blk_simp
  rw [after0_2, result]
  refine (block_apply m c _ t r j (by omega)).trans (congrArg (Cert.QueryPlainIdeal.Read.val_main_v4 (F := Ideal) _ _) ?_)
  blk_ext [idx2]

/-- The reference runs, its arguments unchanged, every counter back at zero. -/
theorem plain_quiescent : Cert.quiescent_QueryPlainIdeal := fun m ρ _ =>
  (θ_run Cert.QueryPlainIdeal.defs _ _).mono
    (fun r h => ⟨fun c => (h c).2, Idealize.ShloMosaic.sem_eq_zero_of_no_sems (by decide) r.2⟩)
    (Cert.QueryPlainIdeal.Value.run (F := Ideal) m ρ)

/-- The call's array is the plain reference's. -/
theorem algebraic : Cert.algebraic_QueryIdeal_QueryPlainIdeal := by
  intro m g m' g' hp hm
  refine ⟨fun c => (Gen.dats (F := Ideal) m 0 c).arrAt 2 cfg0.N, ?_, ?_⟩
  · exact (θ_run _ _ _).mono (fun r h c => h c) (Value.run_blocks (F := Ideal) m g)
  · refine (θ_run _ _ _).mono (fun r h c => ⟨?_, (h c).2⟩) (Cert.QueryPlainIdeal.Value.run (F := Ideal) m' g')
    have h1 := (h c).1
    rw [Cert.QueryPlainIdeal.Read.val_main_v4_eq, (hm c).1, (hm c).2] at h1
    exact h1.trans (final m c).symm

end Cert.QuerySpec

end
-- ==== Proof.InProjClaim.lean ====
/- The layer's input projection: the call's first array is the plain product of the rows with the layer's weights, and its five further arrays are the layer's other weights, laid out and rounded. -/
module

public import proofs.«01_k».proof.Defs
public import proofs.«01_k».proof.Proof.Gen.InProj.Frame
public import proofs.«01_k».proof.Proof.Gen.InProjIdeal.Value
public import proofs.«01_k».proof.Proof.Gen.InProjPlainIdeal
public import proofs.«01_k».proof.Proof.Gen.InProjPlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.InProjSpec

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val / 9, 0] := (by decide +kernel : ∀ t : Fin grid0.N, _)
theorem idx1 : ∀ t : Fin cfg0.N, win0_1.index t = ![0, 0, t.val % 9] := (by decide +kernel : ∀ t : Fin grid0.N, _)
theorem idx7 : ∀ t : Fin cfg0.N, win0_7.index t = ![t.val / 9, t.val % 9] := (by decide +kernel : ∀ t : Fin grid0.N, _)
theorem idx2 : ∀ t : Fin cfg0.N, win0_2.index t = ![0, t.val / 9 * 8 + min (t.val % 9) 7, 0] := (by decide +kernel : ∀ t : Fin grid0.N, _)
theorem idx3 : ∀ t : Fin cfg0.N, win0_3.index t = ![0, t.val / 9 * 8 + min (t.val % 9) 7, 0] := (by decide +kernel : ∀ t : Fin grid0.N, _)
theorem idx4 : ∀ t : Fin cfg0.N, win0_4.index t = ![0, t.val / 9 * 8 + min (t.val % 9) 7, 0] := (by decide +kernel : ∀ t : Fin grid0.N, _)
theorem idx5 : ∀ t : Fin cfg0.N, win0_5.index t = ![0, t.val / 9 * 8 + min (t.val % 9) 7, 0] := (by decide +kernel : ∀ t : Fin grid0.N, _)
theorem idx6 : ∀ t : Fin cfg0.N, win0_6.index t = ![0, t.val / 9 * 8 + min (t.val % 9) 7, 0] := (by decide +kernel : ∀ t : Fin grid0.N, _)
theorem idx8 : ∀ t : Fin cfg0.N, win0_8.index t = ![t.val / 9 * 8 + min (t.val % 9) 7, 0] := (by decide +kernel : ∀ t : Fin grid0.N, _)
theorem idx9 : ∀ t : Fin cfg0.N, win0_9.index t = ![t.val / 9 * 8 + min (t.val % 9) 7, 0] := (by decide +kernel : ∀ t : Fin grid0.N, _)
theorem idx10 : ∀ t : Fin cfg0.N, win0_10.index t = ![t.val / 9 * 8 + min (t.val % 9) 7, 0] := (by decide +kernel : ∀ t : Fin grid0.N, _)
theorem idx11 : ∀ t : Fin cfg0.N, win0_11.index t = ![t.val / 9 * 8 + min (t.val % 9) 7, 0] := (by decide +kernel : ∀ t : Fin grid0.N, _)
theorem idx12 : ∀ t : Fin cfg0.N, win0_12.index t = ![t.val / 9 * 8 + min (t.val % 9) 7, 0] := (by decide +kernel : ∀ t : Fin grid0.N, _)

/-- A block's product, row `r` against column `j`. -/
theorem pay_apply (w : Vec Ideal S1x2048x1536 .bf16) (a : Vec Ideal S1056x2048 .bf16) (r : Fin 1056) (j : Fin 1536) :
    k0_pay1 (F := Ideal) (k0_pay7 (F := Ideal) w) a (ix2 r j) = ∑ k : Fin 2048, a (ix2 r k) * w (ix3 0 k j) := by
  pointwise [k0_pay1, k0_pay7]

/-- The plain product, row `r` against column `j`. -/
theorem ref_apply (x : FVec Ideal S8448x2048 .bf16) (w : FVec Ideal S2x2048x13824 .bf16) (r : Fin 8448) (j : Fin 13824) :
    Cert.InProjPlainIdeal.Read.val_main_v5 (F := Ideal) x w (ix2 r j) = ∑ k : Fin 2048, x (ix2 r k) * w (ix3 0 k j) := by
  rw [Cert.InProjPlainIdeal.Read.val_main_v5_apply, Cert.InProjPlainIdeal.Read.val_main_v4_apply]
  refine Finset.sum_congr rfl fun k _ => ?_
  rw [Cert.InProjPlainIdeal.Read.val_main_v3_apply, Cert.InProjPlainIdeal.Read.val_main_v2_apply,
    Cert.InProjPlainIdeal.Read.val_main_v1_apply, Cert.InProjPlainIdeal.Read.val_main_v0_apply]
  have hj := j.isLt
  have hk := k.isLt
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => show (k.val * 13824 + j.val) / 13824 % 2048 = k.val; omega
    | ⟨2, _⟩ => show (k.val * 13824 + j.val) % 13824 = j.val; omega

/-- A grid point's block is that part of the plain product. -/
theorem block_apply (c : Dev nD) (t : Fin cfg0.N) (r : Fin 1056) (j : Fin 1536)
    (hr : t.val / 9 * 1056 + r.val < 8448) (hj : t.val % 9 * 1536 + j.val < 13824) :
    k0_pay1 (F := Ideal) (k0_pay7 (F := Ideal) (iblk m c 1 t)) (iblk m c 0 t) (ix2 r j)
      = Cert.InProjPlainIdeal.Read.val_main_v5 (F := Ideal) (m ((c : Thread nD τ).loc main_arg0)) (m ((c : Thread nD τ).loc main_arg1))
          (ix2 ⟨t.val / 9 * 1056 + r.val, hr⟩ ⟨t.val % 9 * 1536 + j.val, hj⟩) := by
  rw [pay_apply, ref_apply]
  refine Finset.sum_congr rfl fun k _ => ?_
  blk_simp [iblk]
  rw [V_main_arg0, V_main_arg1]
  refine congrArg₂ (· * ·) (congrArg _ ?_) (congrArg _ ?_)
  · blk_ext [idx0]
  · blk_ext [idx1]

theorem points (t : Fin cfg0.N) : t.val < 72 := lt_of_lt_of_eq t.isLt (by decide +kernel : cfg0.N = 72)

/-- The call's first array is the plain product. -/
theorem final7 (c : Dev nD) : (Gen.dats (F := Ideal) m 0 c).arrAt 7 cfg0.N
    = Cert.InProjPlainIdeal.Read.val_main_v5 (F := Ideal) (m ((c : Thread nD τ).loc main_arg0)) (m ((c : Thread nD τ).loc main_arg1)) := by
  refine (Gen.dats (F := Ideal) m 0 c).arrAt_eq_of_covers 7 _ (by decide +kernel) fun t hf y => ?_
  obtain ⟨r, j, rfl⟩ : ∃ (r : Fin 1056) (j : Fin 1536), y = ix2 r j := ⟨y 0, y 1, funext fun x => match x with | ⟨0, _⟩ => rfl | ⟨1, _⟩ => rfl⟩
  have ht := points t
  blk_simp
  rw [after0_7]
  frame_out
  refine (block_apply m c t r j (by omega) (by omega)).trans (congrArg (Cert.InProjPlainIdeal.Read.val_main_v5 (F := Ideal) _ _) ?_)
  blk_ext [idx7]

/-- Further array 1: the layer's slab of argument 2, rounded. -/
theorem ref8_apply (w : FVec Ideal S2x1024x2048 .f32) (r : Fin 1024) (j : Fin 2048) :
    Cert.InProjPlainIdeal.Read.val_main_v8 (F := Ideal) w (ix2 r j) = w (ix3 0 r j) := by
  rw [Cert.InProjPlainIdeal.Read.val_main_v8_apply, Cert.InProjPlainIdeal.Read.val_main_v7_apply, Cert.InProjPlainIdeal.Read.val_main_v6_apply]
  have hr := r.isLt
  have hj := j.isLt
  refine congrArg w (funext fun a => Fin.ext ?_)
  match a with
  | ⟨0, _⟩ => rfl
  | ⟨1, _⟩ => show (r.val * 2048 + j.val) / 2048 % 1024 = r.val; omega
  | ⟨2, _⟩ => show (r.val * 2048 + j.val) % 2048 = j.val; omega

theorem pay8_apply (w : Vec Ideal S1x16x2048 .f32) (r : Fin 16) (j : Fin 2048) :
    k0_pay2 (F := Ideal) w (ix2 r j) = w (ix3 0 r j) := by
  pointwise [k0_pay2]

theorem block8_apply (c : Dev nD) (t : Fin cfg0.N) (r : Fin 16) (j : Fin 2048) (hr : (t.val / 9 * 8 + min (t.val % 9) 7) * 16 + r.val < 1024) :
    k0_pay2 (F := Ideal) (iblk m c 2 t) (ix2 r j)
      = Cert.InProjPlainIdeal.Read.val_main_v8 (F := Ideal) (m ((c : Thread nD τ).loc main_arg2)) (ix2 ⟨(t.val / 9 * 8 + min (t.val % 9) 7) * 16 + r.val, hr⟩ j) := by
  rw [pay8_apply, ref8_apply]
  blk_simp [iblk]
  rw [V_main_arg2]
  refine congrArg _ ?_
  blk_ext [idx2]

theorem final8 (c : Dev nD) : (Gen.dats (F := Ideal) m 0 c).arrAt 8 cfg0.N
    = Cert.InProjPlainIdeal.Read.val_main_v8 (F := Ideal) (m ((c : Thread nD τ).loc main_arg2)) := by
  refine (Gen.dats (F := Ideal) m 0 c).arrAt_eq_of_covers 8 _ (by decide +kernel) fun t hf y => ?_
  obtain ⟨r, j, rfl⟩ : ∃ (r : Fin 16) (j : Fin 2048), y = ix2 r j := ⟨y 0, y 1, funext fun x => match x with | ⟨0, _⟩ => rfl | ⟨1, _⟩ => rfl⟩
  have ht := points t
  blk_simp
  rw [after0_8]
  frame_out
  refine (block8_apply m c t r j (by omega)).trans (congrArg (Cert.InProjPlainIdeal.Read.val_main_v8 (F := Ideal) _) ?_)
  blk_ext [idx8]

/-- Further array 2: the layer's slab of argument 3, rounded. -/
theorem ref9_apply (w : FVec Ideal S2x1024x2048 .f32) (r : Fin 1024) (j : Fin 2048) :
    Cert.InProjPlainIdeal.Read.val_main_v11 (F := Ideal) w (ix2 r j) = w (ix3 0 r j) := by
  rw [Cert.InProjPlainIdeal.Read.val_main_v11_apply, Cert.InProjPlainIdeal.Read.val_main_v10_apply, Cert.InProjPlainIdeal.Read.val_main_v9_apply]
  have hr := r.isLt
  have hj := j.isLt
  refine congrArg w (funext fun a => Fin.ext ?_)
  match a with
  | ⟨0, _⟩ => rfl
  | ⟨1, _⟩ => show (r.val * 2048 + j.val) / 2048 % 1024 = r.val; omega
  | ⟨2, _⟩ => show (r.val * 2048 + j.val) % 2048 = j.val; omega

theorem pay9_apply (w : Vec Ideal S1x16x2048 .f32) (r : Fin 16) (j : Fin 2048) :
    k0_pay3 (F := Ideal) w (ix2 r j) = w (ix3 0 r j) := by
  pointwise [k0_pay3]

theorem block9_apply (c : Dev nD) (t : Fin cfg0.N) (r : Fin 16) (j : Fin 2048) (hr : (t.val / 9 * 8 + min (t.val % 9) 7) * 16 + r.val < 1024) :
    k0_pay3 (F := Ideal) (iblk m c 3 t) (ix2 r j)
      = Cert.InProjPlainIdeal.Read.val_main_v11 (F := Ideal) (m ((c : Thread nD τ).loc main_arg3)) (ix2 ⟨(t.val / 9 * 8 + min (t.val % 9) 7) * 16 + r.val, hr⟩ j) := by
  rw [pay9_apply, ref9_apply]
  blk_simp [iblk]
  rw [V_main_arg3]
  refine congrArg _ ?_
  blk_ext [idx3]

theorem final9 (c : Dev nD) : (Gen.dats (F := Ideal) m 0 c).arrAt 9 cfg0.N
    = Cert.InProjPlainIdeal.Read.val_main_v11 (F := Ideal) (m ((c : Thread nD τ).loc main_arg3)) := by
  refine (Gen.dats (F := Ideal) m 0 c).arrAt_eq_of_covers 9 _ (by decide +kernel) fun t hf y => ?_
  obtain ⟨r, j, rfl⟩ : ∃ (r : Fin 16) (j : Fin 2048), y = ix2 r j := ⟨y 0, y 1, funext fun x => match x with | ⟨0, _⟩ => rfl | ⟨1, _⟩ => rfl⟩
  have ht := points t
  blk_simp
  rw [after0_9]
  frame_out
  refine (block9_apply m c t r j (by omega)).trans (congrArg (Cert.InProjPlainIdeal.Read.val_main_v11 (F := Ideal) _) ?_)
  blk_ext [idx9]

/-- Further array 3: the layer's slab of argument 4, rounded. -/
theorem ref10_apply (w : FVec Ideal S2x1024x2048 .f32) (r : Fin 1024) (j : Fin 2048) :
    Cert.InProjPlainIdeal.Read.val_main_v14 (F := Ideal) w (ix2 r j) = w (ix3 0 r j) := by
  rw [Cert.InProjPlainIdeal.Read.val_main_v14_apply, Cert.InProjPlainIdeal.Read.val_main_v13_apply, Cert.InProjPlainIdeal.Read.val_main_v12_apply]
  have hr := r.isLt
  have hj := j.isLt
  refine congrArg w (funext fun a => Fin.ext ?_)
  match a with
  | ⟨0, _⟩ => rfl
  | ⟨1, _⟩ => show (r.val * 2048 + j.val) / 2048 % 1024 = r.val; omega
  | ⟨2, _⟩ => show (r.val * 2048 + j.val) % 2048 = j.val; omega

theorem pay10_apply (w : Vec Ideal S1x16x2048 .f32) (r : Fin 16) (j : Fin 2048) :
    k0_pay4 (F := Ideal) w (ix2 r j) = w (ix3 0 r j) := by
  pointwise [k0_pay4]

theorem block10_apply (c : Dev nD) (t : Fin cfg0.N) (r : Fin 16) (j : Fin 2048) (hr : (t.val / 9 * 8 + min (t.val % 9) 7) * 16 + r.val < 1024) :
    k0_pay4 (F := Ideal) (iblk m c 4 t) (ix2 r j)
      = Cert.InProjPlainIdeal.Read.val_main_v14 (F := Ideal) (m ((c : Thread nD τ).loc main_arg4)) (ix2 ⟨(t.val / 9 * 8 + min (t.val % 9) 7) * 16 + r.val, hr⟩ j) := by
  rw [pay10_apply, ref10_apply]
  blk_simp [iblk]
  rw [V_main_arg4]
  refine congrArg _ ?_
  blk_ext [idx4]

theorem final10 (c : Dev nD) : (Gen.dats (F := Ideal) m 0 c).arrAt 10 cfg0.N
    = Cert.InProjPlainIdeal.Read.val_main_v14 (F := Ideal) (m ((c : Thread nD τ).loc main_arg4)) := by
  refine (Gen.dats (F := Ideal) m 0 c).arrAt_eq_of_covers 10 _ (by decide +kernel) fun t hf y => ?_
  obtain ⟨r, j, rfl⟩ : ∃ (r : Fin 16) (j : Fin 2048), y = ix2 r j := ⟨y 0, y 1, funext fun x => match x with | ⟨0, _⟩ => rfl | ⟨1, _⟩ => rfl⟩
  have ht := points t
  blk_simp
  rw [after0_10]
  frame_out
  refine (block10_apply m c t r j (by omega)).trans (congrArg (Cert.InProjPlainIdeal.Read.val_main_v14 (F := Ideal) _) ?_)
  blk_ext [idx10]

/-- Further array 4: the layer's slab of argument 5, rounded. -/
theorem ref11_apply (w : FVec Ideal S2x2048x2048 .f32) (r : Fin 2048) (j : Fin 2048) :
    Cert.InProjPlainIdeal.Read.val_main_v17 (F := Ideal) w (ix2 r j) = w (ix3 0 r j) := by
  rw [Cert.InProjPlainIdeal.Read.val_main_v17_apply, Cert.InProjPlainIdeal.Read.val_main_v16_apply, Cert.InProjPlainIdeal.Read.val_main_v15_apply]
  have hr := r.isLt
  have hj := j.isLt
  refine congrArg w (funext fun a => Fin.ext ?_)
  match a with
  | ⟨0, _⟩ => rfl
  | ⟨1, _⟩ => show (r.val * 2048 + j.val) / 2048 % 2048 = r.val; omega
  | ⟨2, _⟩ => show (r.val * 2048 + j.val) % 2048 = j.val; omega

theorem pay11_apply (w : Vec Ideal S1x32x2048 .f32) (r : Fin 32) (j : Fin 2048) :
    k0_pay5 (F := Ideal) w (ix2 r j) = w (ix3 0 r j) := by
  pointwise [k0_pay5]

theorem block11_apply (c : Dev nD) (t : Fin cfg0.N) (r : Fin 32) (j : Fin 2048) (hr : (t.val / 9 * 8 + min (t.val % 9) 7) * 32 + r.val < 2048) :
    k0_pay5 (F := Ideal) (iblk m c 5 t) (ix2 r j)
      = Cert.InProjPlainIdeal.Read.val_main_v17 (F := Ideal) (m ((c : Thread nD τ).loc main_arg5)) (ix2 ⟨(t.val / 9 * 8 + min (t.val % 9) 7) * 32 + r.val, hr⟩ j) := by
  rw [pay11_apply, ref11_apply]
  blk_simp [iblk]
  rw [V_main_arg5]
  refine congrArg _ ?_
  blk_ext [idx5]

theorem final11 (c : Dev nD) : (Gen.dats (F := Ideal) m 0 c).arrAt 11 cfg0.N
    = Cert.InProjPlainIdeal.Read.val_main_v17 (F := Ideal) (m ((c : Thread nD τ).loc main_arg5)) := by
  refine (Gen.dats (F := Ideal) m 0 c).arrAt_eq_of_covers 11 _ (by decide +kernel) fun t hf y => ?_
  obtain ⟨r, j, rfl⟩ : ∃ (r : Fin 32) (j : Fin 2048), y = ix2 r j := ⟨y 0, y 1, funext fun x => match x with | ⟨0, _⟩ => rfl | ⟨1, _⟩ => rfl⟩
  have ht := points t
  blk_simp
  rw [after0_11]
  frame_out
  refine (block11_apply m c t r j (by omega)).trans (congrArg (Cert.InProjPlainIdeal.Read.val_main_v17 (F := Ideal) _) ?_)
  blk_ext [idx11]

/-- Further array 5: the layer's slab of argument 6, rounded. -/
theorem ref12_apply (w : FVec Ideal S2x2048x2048 .f32) (r : Fin 2048) (j : Fin 2048) :
    Cert.InProjPlainIdeal.Read.val_main_v20 (F := Ideal) w (ix2 r j) = w (ix3 0 r j) := by
  rw [Cert.InProjPlainIdeal.Read.val_main_v20_apply, Cert.InProjPlainIdeal.Read.val_main_v19_apply, Cert.InProjPlainIdeal.Read.val_main_v18_apply]
  have hr := r.isLt
  have hj := j.isLt
  refine congrArg w (funext fun a => Fin.ext ?_)
  match a with
  | ⟨0, _⟩ => rfl
  | ⟨1, _⟩ => show (r.val * 2048 + j.val) / 2048 % 2048 = r.val; omega
  | ⟨2, _⟩ => show (r.val * 2048 + j.val) % 2048 = j.val; omega

theorem pay12_apply (w : Vec Ideal S1x32x2048 .f32) (r : Fin 32) (j : Fin 2048) :
    k0_pay6 (F := Ideal) w (ix2 r j) = w (ix3 0 r j) := by
  pointwise [k0_pay6]

theorem block12_apply (c : Dev nD) (t : Fin cfg0.N) (r : Fin 32) (j : Fin 2048) (hr : (t.val / 9 * 8 + min (t.val % 9) 7) * 32 + r.val < 2048) :
    k0_pay6 (F := Ideal) (iblk m c 6 t) (ix2 r j)
      = Cert.InProjPlainIdeal.Read.val_main_v20 (F := Ideal) (m ((c : Thread nD τ).loc main_arg6)) (ix2 ⟨(t.val / 9 * 8 + min (t.val % 9) 7) * 32 + r.val, hr⟩ j) := by
  rw [pay12_apply, ref12_apply]
  blk_simp [iblk]
  rw [V_main_arg6]
  refine congrArg _ ?_
  blk_ext [idx6]

theorem final12 (c : Dev nD) : (Gen.dats (F := Ideal) m 0 c).arrAt 12 cfg0.N
    = Cert.InProjPlainIdeal.Read.val_main_v20 (F := Ideal) (m ((c : Thread nD τ).loc main_arg6)) := by
  refine (Gen.dats (F := Ideal) m 0 c).arrAt_eq_of_covers 12 _ (by decide +kernel) fun t hf y => ?_
  obtain ⟨r, j, rfl⟩ : ∃ (r : Fin 32) (j : Fin 2048), y = ix2 r j := ⟨y 0, y 1, funext fun x => match x with | ⟨0, _⟩ => rfl | ⟨1, _⟩ => rfl⟩
  have ht := points t
  blk_simp
  rw [after0_12]
  frame_out
  refine (block12_apply m c t r j (by omega)).trans (congrArg (Cert.InProjPlainIdeal.Read.val_main_v20 (F := Ideal) _) ?_)
  blk_ext [idx12]

/-- The reference runs, its arguments unchanged, every counter back at zero. -/
theorem plain_quiescent : Cert.quiescent_InProjPlainIdeal := fun m ρ _ =>
  (θ_run Cert.InProjPlainIdeal.defs _ _).mono
    (fun r h => ⟨fun c => (h c).2.2.2.2.2.2, Idealize.ShloMosaic.sem_eq_zero_of_no_sems (by decide) r.2⟩)
    (Cert.InProjPlainIdeal.Value.run (F := Ideal) m ρ)

/-- The call's six arrays are the plain reference's. -/
theorem algebraic : Cert.algebraic_InProjIdeal_InProjPlainIdeal := by
  intro m g m' g' hp hm
  refine ⟨fun c => (Gen.dats (F := Ideal) m 0 c).arrAt 7 cfg0.N, fun c => (Gen.dats (F := Ideal) m 0 c).arrAt 8 cfg0.N,
    fun c => (Gen.dats (F := Ideal) m 0 c).arrAt 9 cfg0.N, fun c => (Gen.dats (F := Ideal) m 0 c).arrAt 10 cfg0.N,
    fun c => (Gen.dats (F := Ideal) m 0 c).arrAt 11 cfg0.N, fun c => (Gen.dats (F := Ideal) m 0 c).arrAt 12 cfg0.N, ?_, ?_⟩
  · exact (θ_run _ _ _).mono (fun r h c => h c) (Value.run_blocks (F := Ideal) m g)
  · refine (θ_run _ _ _).mono (fun r h c => ?_) (Cert.InProjPlainIdeal.Value.run (F := Ideal) m' g')
    obtain ⟨h5, h8, h11, h14, h17, h20, hk⟩ := h c
    obtain ⟨e0, e1, e2, e3, e4, e5, e6⟩ := hm c
    rw [Cert.InProjPlainIdeal.Read.val_main_v5_eq, e0, e1] at h5
    rw [Cert.InProjPlainIdeal.Read.val_main_v8_eq, e2] at h8
    rw [Cert.InProjPlainIdeal.Read.val_main_v11_eq, e3] at h11
    rw [Cert.InProjPlainIdeal.Read.val_main_v14_eq, e4] at h14
    rw [Cert.InProjPlainIdeal.Read.val_main_v17_eq, e5] at h17
    rw [Cert.InProjPlainIdeal.Read.val_main_v20_eq, e6] at h20
    exact ⟨h5.trans (final7 m c).symm, h8.trans (final8 m c).symm, h11.trans (final9 m c).symm, h14.trans (final10 m c).symm,
      h17.trans (final11 m c).symm, h20.trans (final12 m c).symm, hk⟩

end Cert.InProjSpec

end
-- ==== Proof.GateClaim.lean ====
/- The gated sum of the three branches: each branch's rows through its output weights, scaled by the logistic function of its gate, and summed. -/
module

public import proofs.«01_k».proof.Defs
public import proofs.«01_k».proof.Proof.Gen.Gate.Frame
public import proofs.«01_k».proof.Proof.Gen.GateIdeal.Value
public import proofs.«01_k».proof.Proof.Gen.GatePlainIdeal
public import proofs.«01_k».proof.Proof.Gen.GatePlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.GateSpec

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 3] := (by decide +kernel : ∀ t : Fin grid0.N, _)
theorem idx7 : ∀ t : Fin cfg0.N, win0_7.index t = ![t.val, 4] := (by decide +kernel : ∀ t : Fin grid0.N, _)
theorem idx8 : ∀ t : Fin cfg0.N, win0_8.index t = ![t.val, 5] := (by decide +kernel : ∀ t : Fin grid0.N, _)
theorem idx9 : ∀ t : Fin cfg0.N, win0_9.index t = ![t.val, 0] := (by decide +kernel : ∀ t : Fin grid0.N, _)

/-- What the body leaves in its result block. -/
theorem out_eq (c : Dev nD) (i : grid0.Coords) (arg1 : Memref sig .tc .vmem S528x1024 .bf16) (harg1 : arg1.IsWhole)
    (arg2 : Memref sig .tc .vmem S528x1024 .bf16) (harg2 : arg2.IsWhole) (arg3 : Memref sig .tc .vmem S528x1024 .bf16) (harg3 : arg3.IsWhole)
    (arg4 : Memref sig .tc .vmem S1024x2048 .bf16) (harg4 : arg4.IsWhole) (arg5 : Memref sig .tc .vmem S1024x2048 .bf16) (harg5 : arg5.IsWhole)
    (arg6 : Memref sig .tc .vmem S1024x2048 .bf16) (harg6 : arg6.IsWhole) (arg7 : Memref sig .tc .vmem S528x2048 .bf16) (harg7 : arg7.IsWhole)
    (arg8 : Memref sig .tc .vmem S528x2048 .bf16) (harg8 : arg8.IsWhole) (arg9 : Memref sig .tc .vmem S528x2048 .bf16) (harg9 : arg9.IsWhole)
    (arg10 : Memref sig .tc .vmem S528x2048 .bf16) (harg10 : arg10.IsWhole)
    (x0 x1 x2 : Vec Ideal S528x1024 .bf16) (x3 x4 x5 : Vec Ideal S1024x2048 .bf16) (x6 x7 x8 : Vec Ideal S528x2048 .bf16) :
    out0_A_9 (F := Ideal) c i arg1 harg1 arg2 harg2 arg3 harg3 arg4 harg4 arg5 harg5 arg6 harg6 arg7 harg7 arg8 harg8 arg9 harg9 arg10 harg10
        x0 x1 x2 x3 x4 x5 x6 x7 x8 = k0_pay1 (F := Ideal) x0 x3 x6 x1 x4 x7 x2 x5 x8 := by
  unfold out0_A_9
  rw [View.read_writes_eq_canon _ _ _ (cover0_A_9 c i arg1 harg1 arg2 harg2 arg3 harg3 arg4 harg4 arg5 harg5 arg6 harg6 arg7 harg7 arg8 harg8
    arg9 harg9 arg10 harg10 x0 x1 x2 x3 x4 x5 x6 x7 x8)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread]
  frame_out

/-- A block at a row and a column: three products, each scaled by the logistic function of its gate. -/
theorem pay_apply (a b e : Vec Ideal S528x1024 .bf16) (wa wb we : Vec Ideal S1024x2048 .bf16) (ga gb ge : Vec Ideal S528x2048 .bf16)
    (r : Fin 528) (j : Fin 2048) :
    k0_pay1 (F := Ideal) a wa ga b wb gb e we ge (ix2 r j)
      = (∑ k : Fin 1024, a (ix2 r k) * wa (ix2 k j)) * Ideal.logistic (ga (ix2 r j))
        + (∑ k : Fin 1024, b (ix2 r k) * wb (ix2 k j)) * Ideal.logistic (gb (ix2 r j))
        + (∑ k : Fin 1024, e (ix2 r k) * we (ix2 k j)) * Ideal.logistic (ge (ix2 r j)) := by
  pointwise [k0_pay1]

open Cert.GatePlainIdeal.Read in
/-- The reference at a row and a column. -/
theorem ref_apply (a b e : FVec Ideal S8448x1024 .bf16) (wa wb we : FVec Ideal S1024x2048 .bf16) (p : FVec Ideal S8448x13824 .bf16)
    (r : Fin 8448) (j : Fin 2048) :
    val_main_v38 (F := Ideal) a b e wa wb we p (ix2 r j)
      = (∑ k : Fin 1024, a (ix2 r k) * wa (ix2 k j)) * Ideal.logistic (p (ix2 r ⟨6144 + j.val, by omega⟩))
        + (∑ k : Fin 1024, b (ix2 r k) * wb (ix2 k j)) * Ideal.logistic (p (ix2 r ⟨8192 + j.val, by omega⟩))
        + (∑ k : Fin 1024, e (ix2 r k) * we (ix2 k j)) * Ideal.logistic (p (ix2 r ⟨10240 + j.val, by omega⟩)) := by
  simp only [mul_comm _ (Ideal.logistic _)]
  unfold Ideal.logistic
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1, val_main_cst_2, val_main_cst_3, val_main_cst_4]

theorem gate6 (c : Dev nD) (t : Fin cfg0.N) (r : Fin 528) (j : Fin 2048) (hr : t.val * 528 + r.val < 8448) :
    X0_6 (F := Ideal) m c t (ix2 r j) = m ((c : Thread nD τ).loc main_arg6) (ix2 ⟨t.val * 528 + r.val, hr⟩ ⟨6144 + j.val, by omega⟩) := by
  unfold X0_6 Pipeline.Window.fill
  rw [dif_pos (moved0_6 t (ix2 r j))]
  blk_simp [iblk]
  rw [V_main_arg6]
  congr 1
  blk_ext [idx6]

theorem gate7 (c : Dev nD) (t : Fin cfg0.N) (r : Fin 528) (j : Fin 2048) (hr : t.val * 528 + r.val < 8448) :
    X0_7 (F := Ideal) m c t (ix2 r j) = m ((c : Thread nD τ).loc main_arg6) (ix2 ⟨t.val * 528 + r.val, hr⟩ ⟨8192 + j.val, by omega⟩) := by
  unfold X0_7 Pipeline.Window.fill
  rw [dif_pos (moved0_7 t (ix2 r j))]
  blk_simp [iblk]
  rw [V_main_arg6]
  congr 1
  blk_ext [idx7]

theorem gate8 (c : Dev nD) (t : Fin cfg0.N) (r : Fin 528) (j : Fin 2048) (hr : t.val * 528 + r.val < 8448) :
    X0_8 (F := Ideal) m c t (ix2 r j) = m ((c : Thread nD τ).loc main_arg6) (ix2 ⟨t.val * 528 + r.val, hr⟩ ⟨10240 + j.val, by omega⟩) := by
  unfold X0_8 Pipeline.Window.fill
  rw [dif_pos (moved0_8 t (ix2 r j))]
  blk_simp [iblk]
  rw [V_main_arg6]
  congr 1
  blk_ext [idx8]

theorem row0 (c : Dev nD) (t : Fin cfg0.N) (r : Fin 528) (hr : t.val * 528 + r.val < 8448) (k : Fin 1024) :
    iblk (F := Ideal) m c 0 t (ix2 r k) = m ((c : Thread nD τ).loc main_arg0) (ix2 ⟨t.val * 528 + r.val, hr⟩ k) := by
  blk_simp [iblk]
  rw [V_main_arg0]
  congr 1
  blk_ext [idx0]

theorem weight0 (c : Dev nD) (t : Fin cfg0.N) (k : Fin 1024) (j : Fin 2048) :
    iblk (F := Ideal) m c 3 t (ix2 k j) = m ((c : Thread nD τ).loc main_arg3) (ix2 k j) := by
  blk_simp [iblk]
  rw [V_main_arg3]
  congr 1
  blk_ext [idx3]

theorem row1 (c : Dev nD) (t : Fin cfg0.N) (r : Fin 528) (hr : t.val * 528 + r.val < 8448) (k : Fin 1024) :
    iblk (F := Ideal) m c 1 t (ix2 r k) = m ((c : Thread nD τ).loc main_arg1) (ix2 ⟨t.val * 528 + r.val, hr⟩ k) := by
  blk_simp [iblk]
  rw [V_main_arg1]
  congr 1
  blk_ext [idx1]

theorem weight1 (c : Dev nD) (t : Fin cfg0.N) (k : Fin 1024) (j : Fin 2048) :
    iblk (F := Ideal) m c 4 t (ix2 k j) = m ((c : Thread nD τ).loc main_arg4) (ix2 k j) := by
  blk_simp [iblk]
  rw [V_main_arg4]
  congr 1
  blk_ext [idx4]

theorem row2 (c : Dev nD) (t : Fin cfg0.N) (r : Fin 528) (hr : t.val * 528 + r.val < 8448) (k : Fin 1024) :
    iblk (F := Ideal) m c 2 t (ix2 r k) = m ((c : Thread nD τ).loc main_arg2) (ix2 ⟨t.val * 528 + r.val, hr⟩ k) := by
  blk_simp [iblk]
  rw [V_main_arg2]
  congr 1
  blk_ext [idx2]

theorem weight2 (c : Dev nD) (t : Fin cfg0.N) (k : Fin 1024) (j : Fin 2048) :
    iblk (F := Ideal) m c 5 t (ix2 k j) = m ((c : Thread nD τ).loc main_arg5) (ix2 k j) := by
  blk_simp [iblk]
  rw [V_main_arg5]
  congr 1
  blk_ext [idx5]

/-- A grid point's block is that part of the reference. -/
theorem block_apply (c : Dev nD) (t : Fin cfg0.N) (r : Fin 528) (j : Fin 2048) (hr : t.val * 528 + r.val < 8448) :
    k0_pay1 (F := Ideal) (iblk m c 0 t) (iblk m c 3 t) (X0_6 m c t) (iblk m c 1 t) (iblk m c 4 t) (X0_7 m c t) (iblk m c 2 t) (iblk m c 5 t) (X0_8 m c t) (ix2 r j)
      = Cert.GatePlainIdeal.Read.val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) (ix2 ⟨t.val * 528 + r.val, hr⟩ j) := by
  rw [pay_apply, ref_apply, gate6 m c t r j hr, gate7 m c t r j hr, gate8 m c t r j hr]
  simp only [row0 m c t r hr, row1 m c t r hr, row2 m c t r hr, weight0 m c t, weight1 m c t, weight2 m c t]

/-- The call's array is the reference's. -/
theorem final (c : Dev nD) : (Gen.dats (F := Ideal) m 0 c).arrAt 9 cfg0.N
    = Cert.GatePlainIdeal.Read.val_main_v38 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) := by
  refine (Gen.dats (F := Ideal) m 0 c).arrAt_eq_of_covers 9 _ (by decide +kernel) fun t hf y => ?_
  obtain ⟨r, j, rfl⟩ : ∃ (r : Fin 528) (j : Fin 2048), y = ix2 r j := ⟨y 0, y 1, funext fun x => match x with | ⟨0, _⟩ => rfl | ⟨1, _⟩ => rfl⟩
  have ht : t.val < 16 := lt_of_lt_of_eq t.isLt (by decide +kernel : cfg0.N = 16)
  blk_simp
  rw [after0_9]
  unfold outsAt0
  rw [out_eq]
  refine (block_apply m c t r j (by omega)).trans (congrArg (Cert.GatePlainIdeal.Read.val_main_v38 (F := Ideal) _ _ _ _ _ _ _) ?_)
  blk_ext [idx9]

/-- The reference runs, its arguments unchanged, every counter back at zero. -/
theorem plain_quiescent : Cert.quiescent_GatePlainIdeal := fun m ρ _ =>
  (θ_run Cert.GatePlainIdeal.defs _ _).mono
    (fun r h => ⟨fun c => (h c).2, Idealize.ShloMosaic.sem_eq_zero_of_no_sems (by decide) r.2⟩)
    (Cert.GatePlainIdeal.Value.run (F := Ideal) m ρ)

/-- The call's array is the plain reference's. -/
theorem algebraic : Cert.algebraic_GateIdeal_GatePlainIdeal := by
  intro m g m' g' hp hm
  refine ⟨fun c => (Gen.dats (F := Ideal) m 0 c).arrAt 9 cfg0.N, ?_, ?_⟩
  · exact (θ_run _ _ _).mono (fun r h c => h c) (Value.run_blocks (F := Ideal) m g)
  · refine (θ_run _ _ _).mono (fun r h c => ⟨?_, (h c).2⟩) (Cert.GatePlainIdeal.Value.run (F := Ideal) m' g')
    have h1 := (h c).1
    obtain ⟨e0, e1, e2, e3, e4, e5, e6⟩ := hm c
    rw [Cert.GatePlainIdeal.Read.val_main_v38_eq, e0, e1, e2, e3, e4, e5, e6] at h1
    exact h1.trans (final m c).symm

end Cert.GateSpec

end
-- ==== Proof.LayerNorm.lean ====
/- The residual step of a layer: a row's residual sum, and its normalisation, on the extended reals. -/
module

public import Idealize.ShloMosaic.PureOps.Ideal.Laws

@[expose] public section

noncomputable section

namespace Cert.LayerNorm

open Idealize.ShloMosaic

/-- The residual sum: the residual scaled by the literal 1.41421354, plus the row's product with a column of the weights. -/
def total {n : ℕ} (res : EReal) (row col : Fin n → EReal) : EReal :=
  Ideal.ofBits FTy.f32 0x3FB504F3#32 * res + ∑ k, row k * col k

/-- A row's mean, over the literal 2048. -/
def mean (u : Fin 2048 → EReal) : EReal := Ideal.div (∑ k, u k) (Ideal.ofBits FTy.f32 0x45000000#32)

/-- A row normalised: centred, divided by the root of its variance plus the literal 1e-5, times the gain, plus the bias. -/
def norm (u : Fin 2048 → EReal) (gain bias : EReal) (j : Fin 2048) : EReal :=
  (u j - mean u)
      * Ideal.rsqrt (Ideal.div (∑ k, (u k - mean u) * (u k - mean u)) (Ideal.ofBits FTy.f32 0x45000000#32)
          + Ideal.ofBits FTy.f32 0x3727C5AC#32)
      * gain + bias

end Cert.LayerNorm

end
-- ==== Proof.MixOutClaim.lean ====
/- The residual step after the mixing projection: the rows' product with the weights, added to the scaled residual and normalised. -/
module

public import proofs.«01_k».proof.Defs
public import proofs.«01_k».proof.Proof.Gen.MixOut.Frame
public import proofs.«01_k».proof.Proof.Gen.MixOutIdeal.Value
public import proofs.«01_k».proof.Proof.Gen.MixOutPlainIdeal
public import proofs.«01_k».proof.Proof.Gen.MixOutPlainIdeal.Read
public import proofs.«01_k».proof.Proof.LayerNorm
public import Idealize.ShloMosaic.Lib.Quiescent
public import Idealize.ShloMosaic.Lib.Pointwise
public import Idealize.ShloMosaic.Lib.Pipeline.ValueKit

@[expose] public section

set_option maxRecDepth 16384

noncomputable section

namespace Cert.MixOutSpec

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![min t.val 15, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val - 1, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val - 1, 0] := (by decide +kernel : ∀ t : Fin grid0.N, _)
theorem idx6 : ∀ t : Fin cfg0.N, win0_6.index t = ![t.val - 1, 0] := (by decide +kernel : ∀ t : Fin grid0.N, _)
theorem late5 : ∀ t : Fin cfg0.N, (cfg0.win 5).flush t = true → 0 < t.val := (by decide +kernel : ∀ t : Fin grid0.N, win0_5.flush t = true → 0 < t.val)
theorem late6 : ∀ t : Fin cfg0.N, (cfg0.win 6).flush t = true → 0 < t.val := (by decide +kernel : ∀ t : Fin grid0.N, win0_6.flush t = true → 0 < t.val)
theorem points (t : Fin cfg0.N) : t.val < 17 := lt_of_lt_of_eq t.isLt (by decide +kernel : cfg0.N = 17)

theorem V_main_v0 (c : Dev nD) : V m c main_v0 = shapeCast S2x1x2048 (m ((c : Thread nD τ).loc main_arg3)) shapeCasts_S2x2048_S2x1x2048 := by
  unfold_abbrev_sides
  after_results
  rfl
theorem V_main_v1 (c : Dev nD) : V m c main_v1 = shapeCast S2x1x2048 (m ((c : Thread nD τ).loc main_arg4)) shapeCasts_S2x2048_S2x1x2048 := by
  unfold_abbrev_sides
  after_results
  rfl

section Body

variable (c : Dev nD) (i : grid0.Coords) (arg1 : Memref sig .tc .vmem S528x2048 .bf16) (harg1 : arg1.IsWhole)
    (arg2 : Memref sig .tc .vmem S2048x2048 .bf16) (harg2 : arg2.IsWhole) (arg3 : Memref sig .tc .vmem S528x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S528x2048 .f32) (harg6 : arg6.IsWhole) (arg7 : Memref sig .tc .vmem S528x2048 .bf16) (harg7 : arg7.IsWhole)
    (arg8 : Memref sig .tc .vmem S528x2048 .f32) (harg8 : arg8.IsWhole)
    (x0 : Vec Ideal S528x2048 .bf16) (x1 : Vec Ideal S2048x2048 .bf16) (x2 : Vec Ideal S528x2048 .f32) (x3 x4 : Vec Ideal S1x1x2048 .f32)

/-- The kept block after the first point: the product of the point's rows with the weights. -/
theorem sout_A (hc0 : cond0_0 i) : sout0_A_0 (F := Ideal) c i arg1 harg1 arg2 harg2 arg3 harg3 arg4 harg4 arg5 harg5 arg6 harg6 arg7 harg7 arg8 harg8 hc0
    x0 x1 x2 x3 x4 = k0_pay1 (F := Ideal) x0 x1 := by
  unfold sout0_A_0
  rw [View.read_writes_eq_canon _ _ _ (scover0_A_0 c i arg1 harg1 arg2 harg2 arg3 harg3 arg4 harg4 arg5 harg5 arg6 harg6 arg7 harg7 arg8 harg8 hc0
    x0 x1 x2 x3 x4)]
  unfold kernelRun0_A
  dsimp only
  sl_unfold_words
  simp only [View.readAt_eq_ld, harg1.read_unread, harg2.read_unread]
  frame_out

/-- The kept block after a later point: the product of the point's rows with the weights. -/
theorem sout_B (hc0 : ¬cond0_0 i) (xs0 : Vec Ideal S528x2048 .f32) :
    sout0_B_0 (F := Ideal) c i arg1 harg1 arg2 harg2 arg3 harg3 arg4 harg4 arg5 harg5 arg6 harg6 arg7 harg7 arg8 harg8 hc0 x0 x1 x2 x3 x4 xs0
      = k0_pay1 (F := Ideal) x0 x1 := by
  unfold sout0_B_0
  rw [View.read_writes_eq_canon _ _ _ (scover0_B_0 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg1.read_unread, harg2.read_unread]
  frame_out

/-- The first result's block after a later point: the normalised residual sum with the kept block. -/
theorem out5_B (hc0 : ¬cond0_0 i) (xs0 : Vec Ideal S528x2048 .f32) :
    out0_B_5 (F := Ideal) c i arg1 harg1 arg2 harg2 arg3 harg3 arg4 harg4 arg5 harg5 arg6 harg6 arg7 harg7 arg8 harg8 hc0 x0 x1 x2 x3 x4 xs0
      = k0_pay3 (F := Ideal) x2 xs0 x3 x4 := by
  unfold out0_B_5
  rw [View.read_writes_eq_canon _ _ _ (cover0_B_5 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg3.read_unread, harg4.read_unread, harg5.read_unread, harg8.read_unread]
  frame_out

/-- The second result's block after a later point: the first's, rounded. -/
theorem out6_B (hc0 : ¬cond0_0 i) (xs0 : Vec Ideal S528x2048 .f32) :
    out0_B_6 (F := Ideal) c i arg1 harg1 arg2 harg2 arg3 harg3 arg4 harg4 arg5 harg5 arg6 harg6 arg7 harg7 arg8 harg8 hc0 x0 x1 x2 x3 x4 xs0
      = k0_pay4 (F := Ideal) x2 xs0 x3 x4 := by
  unfold out0_B_6
  rw [View.read_writes_eq_canon _ _ _ (cover0_B_6 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg3.read_unread, harg4.read_unread, harg5.read_unread, harg8.read_unread]
  frame_out

end Body

/-- The kept block after every point: the product of the point's rows with the weights. -/
theorem kept (c : Dev nD) (t : Fin cfg0.N) : (outsAt0 (F := Ideal) m c t.val t.isLt).2.2 = k0_pay1 (F := Ideal) (iblk m c 0 t) (iblk m c 1 t) := by
  by_cases h0 : t.val % 17 = 0
  · rw [outsAt0_A m c t h0]
    dsimp only
    exact sout_A ..
  · rw [outsAt0_B m c t h0]
    dsimp only
    exact sout_B ..

/-- The point before. -/
def prev (t : Fin cfg0.N) : Fin cfg0.N := ⟨t.val - 1, Nat.lt_of_le_of_lt (Nat.sub_le _ _) t.isLt⟩

/-- The first result's block at a later point. -/
theorem result5 (c : Dev nD) (t : Fin cfg0.N) (h : 0 < t.val) : (outsAt0 (F := Ideal) m c t.val t.isLt).1
    = k0_pay3 (F := Ideal) (iblk m c 2 t) (k0_pay1 (F := Ideal) (iblk m c 0 (prev t)) (iblk m c 1 (prev t))) (iblk m c 3 t) (iblk m c 4 t) := by
  have ht := points t
  rw [outsAt0_B m c t (by omega)]
  dsimp only
  exact (out5_B ..).trans (congrArg (fun x => k0_pay3 (F := Ideal) (iblk m c 2 t) x (iblk m c 3 t) (iblk m c 4 t)) (kept m c (prev t)))

/-- The second result's block at a later point. -/
theorem result6 (c : Dev nD) (t : Fin cfg0.N) (h : 0 < t.val) : (outsAt0 (F := Ideal) m c t.val t.isLt).2.1
    = k0_pay4 (F := Ideal) (iblk m c 2 t) (k0_pay1 (F := Ideal) (iblk m c 0 (prev t)) (iblk m c 1 (prev t))) (iblk m c 3 t) (iblk m c 4 t) := by
  have ht := points t
  rw [outsAt0_B m c t (by omega)]
  dsimp only
  exact (out6_B ..).trans (congrArg (fun x => k0_pay4 (F := Ideal) (iblk m c 2 t) x (iblk m c 3 t) (iblk m c 4 t)) (kept m c (prev t)))

/-- A block's product at a row and a column. -/
theorem dot_apply (a : Vec Ideal S528x2048 .bf16) (w : Vec Ideal S2048x2048 .bf16) (r : Fin 528) (j : Fin 2048) :
    k0_pay1 (F := Ideal) a w (ix2 r j) = ∑ k : Fin 2048, a (ix2 r k) * w (ix2 k j) := by
  pointwise [k0_pay1]

/-- A block's normalised residual sum at a row and a column. -/
theorem pay_apply (res acc : Vec Ideal S528x2048 .f32) (g b : Vec Ideal S1x1x2048 .f32) (r : Fin 528) (j : Fin 2048) :
    k0_pay3 (F := Ideal) res acc g b (ix2 r j)
      = LayerNorm.norm (fun x => Ideal.ofBits FTy.f32 0x3FB504F3#32 * res (ix2 r x) + acc (ix2 r x)) (g (ix3 0 0 j)) (b (ix3 0 0 j)) j := by
  unfold LayerNorm.norm LayerNorm.mean
  pointwise [k0_pay3]

open Cert.MixOutPlainIdeal.Read in
/-- The reference's residual sum at a row and a column. -/
theorem ref_total (a : FVec Ideal S8448x2048 .bf16) (w : FVec Ideal S2048x2048 .bf16) (res : FVec Ideal S8448x2048 .f32) (r : Fin 8448) (j : Fin 2048) :
    val_main_v5 (F := Ideal) a w res (ix2 r j) = LayerNorm.total (n := 2048) (res (ix2 r j)) (fun k => a (ix2 r k)) (fun k => w (ix2 k j)) := by
  unfold LayerNorm.total
  pointwise [val_main_v5, val_main_v4, val_main_v3, val_main_v2, val_main_v1, val_main_v0, val_main_cst]

open Cert.MixOutPlainIdeal.Read in
/-- The reference at a row and a column: its residual sum, normalised. -/
theorem ref_norm (a : FVec Ideal S8448x2048 .bf16) (w : FVec Ideal S2048x2048 .bf16) (res : FVec Ideal S8448x2048 .f32) (g b : FVec Ideal S2x2048 .f32)
    (r : Fin 8448) (j : Fin 2048) :
    val_main_v33 (F := Ideal) a w res g b (ix2 r j)
      = LayerNorm.norm (fun x => val_main_v5 (F := Ideal) a w res (ix2 r x)) (g (ix2 0 j)) (b (ix2 0 j)) j := by
  unfold val_main_v33 val_main_v30 val_main_v27 val_main_v22 val_main_v21 val_main_v26 val_main_v25 val_main_v24 val_main_v20 val_main_v18 val_main_v17
    val_main_v16 val_main_v15 val_main_v14 val_main_v13 val_main_v11 val_main_v10 LayerNorm.norm LayerNorm.mean
  generalize val_main_v5 (F := Ideal) a w res = u
  pointwise [val_main_v32, val_main_v31, val_main_v29, val_main_v28, val_main_v23, val_main_v19, val_main_v12, val_main_cst_0, val_main_cst_1,
    val_main_cst_2, val_main_cst_3, val_main_cst_4, val_main_v9, val_main_v8, val_main_v7, val_main_v6]

theorem rows (c : Dev nD) (t : Fin cfg0.N) (h : 0 < t.val) (r : Fin 528) (hr : (t.val - 1) * 528 + r.val < 8448) (k : Fin 2048) :
    iblk (F := Ideal) m c 0 (prev t) (ix2 r k) = m ((c : Thread nD τ).loc main_arg0) (ix2 ⟨(t.val - 1) * 528 + r.val, hr⟩ k) := by
  have ht := points t
  blk_simp [iblk]
  rw [V_main_arg0]
  congr 1
  have e : (prev t).val = t.val - 1 := rfl
  blk_ext [idx0, e]

theorem weights (c : Dev nD) (t : Fin cfg0.N) (k : Fin 2048) (j : Fin 2048) :
    iblk (F := Ideal) m c 1 t (ix2 k j) = m ((c : Thread nD τ).loc main_arg1) (ix2 k j) := by
  blk_simp [iblk]
  rw [V_main_arg1]
  congr 1
  blk_ext [idx1]

theorem residual (c : Dev nD) (t : Fin cfg0.N) (r : Fin 528) (hr : (t.val - 1) * 528 + r.val < 8448) (j : Fin 2048) :
    iblk (F := Ideal) m c 2 t (ix2 r j) = m ((c : Thread nD τ).loc main_arg2) (ix2 ⟨(t.val - 1) * 528 + r.val, hr⟩ j) := by
  blk_simp [iblk]
  rw [V_main_arg2]
  congr 1
  blk_ext [idx2]

/-- The gains and the biases, as the host code lays them out. -/
theorem layout_apply (x : FVec Ideal S2x2048 .f32) (l : Fin 2) (j : Fin 2048) :
    shapeCast S2x1x2048 x shapeCasts_S2x2048_S2x1x2048 (ix3 l 0 j) = x (ix2 l j) := by
  pointwise

theorem gain (c : Dev nD) (t : Fin cfg0.N) (j : Fin 2048) :
    iblk (F := Ideal) m c 3 t (ix3 0 0 j) = m ((c : Thread nD τ).loc main_arg3) (ix2 0 j) := by
  rw [← layout_apply (m ((c : Thread nD τ).loc main_arg3))]
  blk_simp [iblk]
  rw [V_main_v0]
  congr 1
  blk_ext [idx3]

theorem bias (c : Dev nD) (t : Fin cfg0.N) (j : Fin 2048) :
    iblk (F := Ideal) m c 4 t (ix3 0 0 j) = m ((c : Thread nD τ).loc main_arg4) (ix2 0 j) := by
  rw [← layout_apply (m ((c : Thread nD τ).loc main_arg4))]
  blk_simp [iblk]
  rw [V_main_v1]
  congr 1
  blk_ext [idx4]

/-- A later point's block is the part of the reference its point before began. -/
theorem block_apply (c : Dev nD) (t : Fin cfg0.N) (h : 0 < t.val) (r : Fin 528) (j : Fin 2048) (hr : (t.val - 1) * 528 + r.val < 8448) :
    k0_pay3 (F := Ideal) (iblk m c 2 t) (k0_pay1 (F := Ideal) (iblk m c 0 (prev t)) (iblk m c 1 (prev t))) (iblk m c 3 t) (iblk m c 4 t) (ix2 r j)
      = Cert.MixOutPlainIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨(t.val - 1) * 528 + r.val, hr⟩ j) := by
  rw [pay_apply, ref_norm]
  simp only [dot_apply, ref_total, LayerNorm.total, rows m c t h r hr, weights m c (prev t), residual m c t r hr, gain m c t, bias m c t]

/-- The call's first array is the reference's. -/
theorem final5 (c : Dev nD) : (Gen.dats (F := Ideal) m 0 c).arrAt 5 cfg0.N
    = Cert.MixOutPlainIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats (F := Ideal) m 0 c).arrAt_eq_of_covers 5 _ (by decide +kernel) fun t hf y => ?_
  obtain ⟨r, j, rfl⟩ : ∃ (r : Fin 528) (j : Fin 2048), y = ix2 r j := ⟨y 0, y 1, funext fun x => match x with | ⟨0, _⟩ => rfl | ⟨1, _⟩ => rfl⟩
  have ht := points t
  blk_simp
  rw [after0_5, result5 m c t (late5 t hf)]
  refine (block_apply m c t (late5 t hf) r j (by omega)).trans (congrArg (Cert.MixOutPlainIdeal.Read.val_main_v33 (F := Ideal) _ _ _ _ _) ?_)
  blk_ext [idx5]

/-- The call's second array is the reference's. -/
theorem final6 (c : Dev nD) : (Gen.dats (F := Ideal) m 0 c).arrAt 6 cfg0.N
    = Cert.MixOutPlainIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats (F := Ideal) m 0 c).arrAt_eq_of_covers 6 _ (by decide +kernel) fun t hf y => ?_
  obtain ⟨r, j, rfl⟩ : ∃ (r : Fin 528) (j : Fin 2048), y = ix2 r j := ⟨y 0, y 1, funext fun x => match x with | ⟨0, _⟩ => rfl | ⟨1, _⟩ => rfl⟩
  have ht := points t
  blk_simp
  rw [after0_6, result6 m c t (late6 t hf)]
  refine (block_apply m c t (late6 t hf) r j (by omega)).trans (congrArg (Cert.MixOutPlainIdeal.Read.val_main_v33 (F := Ideal) _ _ _ _ _) ?_)
  blk_ext [idx6]

/-- The reference runs, its arguments unchanged, every counter back at zero. -/
theorem plain_quiescent : Cert.quiescent_MixOutPlainIdeal := fun m ρ _ =>
  (θ_run Cert.MixOutPlainIdeal.defs _ _).mono
    (fun r h => ⟨fun c => (h c).2.2, Idealize.ShloMosaic.sem_eq_zero_of_no_sems (by decide) r.2⟩)
    (Cert.MixOutPlainIdeal.Value.run (F := Ideal) m ρ)

/-- The call's two arrays are the plain reference's. -/
theorem algebraic : Cert.algebraic_MixOutIdeal_MixOutPlainIdeal := by
  intro m g m' g' hp hm
  refine ⟨fun c => (Gen.dats (F := Ideal) m 0 c).arrAt 5 cfg0.N, fun c => (Gen.dats (F := Ideal) m 0 c).arrAt 6 cfg0.N, ?_, ?_⟩
  · exact (θ_run _ _ _).mono (fun r h c => h c) (Value.run_blocks (F := Ideal) m g)
  · refine (θ_run _ _ _).mono (fun r h c => ?_) (Cert.MixOutPlainIdeal.Value.run (F := Ideal) m' g')
    obtain ⟨h33, h34, hk⟩ := h c
    obtain ⟨e0, e1, e2, e3, e4⟩ := hm c
    rw [Cert.MixOutPlainIdeal.Read.val_main_v33_eq, e0, e1, e2, e3, e4] at h33
    rw [Cert.MixOutPlainIdeal.Read.val_main_v34_eq, e0, e1, e2, e3, e4] at h34
    exact ⟨h33.trans (final5 m c).symm, h34.trans (final6 m c).symm, hk⟩

end Cert.MixOutSpec

end
-- ==== Proof.DownOutClaim.lean ====
/- The residual step after the feed-forward network: the rows' product with the down weights, added to the scaled residual and normalised. -/
module

public import proofs.«01_k».proof.Defs
public import proofs.«01_k».proof.Proof.Gen.DownOut.Frame
public import proofs.«01_k».proof.Proof.Gen.DownOutIdeal.Value
public import proofs.«01_k».proof.Proof.Gen.DownOutPlainIdeal
public import proofs.«01_k».proof.Proof.Gen.DownOutPlainIdeal.Read
public import proofs.«01_k».proof.Proof.LayerNorm
public import Idealize.ShloMosaic.Lib.Quiescent
public import Idealize.ShloMosaic.Lib.Pointwise
public import Idealize.ShloMosaic.Lib.Pipeline.ValueKit

@[expose] public section

set_option maxRecDepth 16384

noncomputable section

namespace Cert.DownOutSpec

open Cert.DownOutIdeal Cert.DownOutIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![min t.val 32, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val - 1, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val - 1, 0] := (by decide +kernel : ∀ t : Fin grid0.N, _)
theorem idx6 : ∀ t : Fin cfg0.N, win0_6.index t = ![t.val - 1, 0] := (by decide +kernel : ∀ t : Fin grid0.N, _)
theorem late5 : ∀ t : Fin cfg0.N, (cfg0.win 5).flush t = true → 0 < t.val := (by decide +kernel : ∀ t : Fin grid0.N, win0_5.flush t = true → 0 < t.val)
theorem late6 : ∀ t : Fin cfg0.N, (cfg0.win 6).flush t = true → 0 < t.val := (by decide +kernel : ∀ t : Fin grid0.N, win0_6.flush t = true → 0 < t.val)
theorem points (t : Fin cfg0.N) : t.val < 34 := lt_of_lt_of_eq t.isLt (by decide +kernel : cfg0.N = 34)

theorem V_main_v0 (c : Dev nD) : V m c main_v0 = shapeCast S2x1x2048 (m ((c : Thread nD τ).loc main_arg3)) shapeCasts_S2x2048_S2x1x2048 := by
  unfold_abbrev_sides
  after_results
  rfl
theorem V_main_v1 (c : Dev nD) : V m c main_v1 = shapeCast S2x1x2048 (m ((c : Thread nD τ).loc main_arg4)) shapeCasts_S2x2048_S2x1x2048 := by
  unfold_abbrev_sides
  after_results
  rfl

section Body

variable (c : Dev nD) (i : grid0.Coords) (arg1 : Memref sig .tc .vmem S256x5632 .bf16) (harg1 : arg1.IsWhole)
    (arg2 : Memref sig .tc .vmem S5632x2048 .bf16) (harg2 : arg2.IsWhole) (arg3 : Memref sig .tc .vmem S256x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .bf16) (harg7 : arg7.IsWhole)
    (arg8 : Memref sig .tc .vmem S256x2048 .f32) (harg8 : arg8.IsWhole)
    (x0 : Vec Ideal S256x5632 .bf16) (x1 : Vec Ideal S5632x2048 .bf16) (x2 : Vec Ideal S256x2048 .f32) (x3 x4 : Vec Ideal S1x1x2048 .f32)

/-- The kept block after the first point: the product of the point's rows with the weights. -/
theorem sout_A (hc0 : cond0_0 i) : sout0_A_0 (F := Ideal) c i arg1 harg1 arg2 harg2 arg3 harg3 arg4 harg4 arg5 harg5 arg6 harg6 arg7 harg7 arg8 harg8 hc0
    x0 x1 x2 x3 x4 = k0_pay1 (F := Ideal) x0 x1 := by
  unfold sout0_A_0
  rw [View.read_writes_eq_canon _ _ _ (scover0_A_0 c i arg1 harg1 arg2 harg2 arg3 harg3 arg4 harg4 arg5 harg5 arg6 harg6 arg7 harg7 arg8 harg8 hc0
    x0 x1 x2 x3 x4)]
  unfold kernelRun0_A
  dsimp only
  sl_unfold_words
  simp only [View.readAt_eq_ld, harg1.read_unread, harg2.read_unread]
  frame_out

/-- The kept block after a later point: the product of the point's rows with the weights. -/
theorem sout_B (hc0 : ¬cond0_0 i) (xs0 : Vec Ideal S256x2048 .f32) :
    sout0_B_0 (F := Ideal) c i arg1 harg1 arg2 harg2 arg3 harg3 arg4 harg4 arg5 harg5 arg6 harg6 arg7 harg7 arg8 harg8 hc0 x0 x1 x2 x3 x4 xs0
      = k0_pay1 (F := Ideal) x0 x1 := by
  unfold sout0_B_0
  rw [View.read_writes_eq_canon _ _ _ (scover0_B_0 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg1.read_unread, harg2.read_unread]
  frame_out

/-- The first result's block after a later point: the normalised residual sum with the kept block. -/
theorem out5_B (hc0 : ¬cond0_0 i) (xs0 : Vec Ideal S256x2048 .f32) :
    out0_B_5 (F := Ideal) c i arg1 harg1 arg2 harg2 arg3 harg3 arg4 harg4 arg5 harg5 arg6 harg6 arg7 harg7 arg8 harg8 hc0 x0 x1 x2 x3 x4 xs0
      = k0_pay3 (F := Ideal) x2 xs0 x3 x4 := by
  unfold out0_B_5
  rw [View.read_writes_eq_canon _ _ _ (cover0_B_5 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg3.read_unread, harg4.read_unread, harg5.read_unread, harg8.read_unread]
  frame_out

/-- The second result's block after a later point: the first's, rounded. -/
theorem out6_B (hc0 : ¬cond0_0 i) (xs0 : Vec Ideal S256x2048 .f32) :
    out0_B_6 (F := Ideal) c i arg1 harg1 arg2 harg2 arg3 harg3 arg4 harg4 arg5 harg5 arg6 harg6 arg7 harg7 arg8 harg8 hc0 x0 x1 x2 x3 x4 xs0
      = k0_pay4 (F := Ideal) x2 xs0 x3 x4 := by
  unfold out0_B_6
  rw [View.read_writes_eq_canon _ _ _ (cover0_B_6 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg3.read_unread, harg4.read_unread, harg5.read_unread, harg8.read_unread]
  frame_out

end Body

/-- The kept block after every point: the product of the point's rows with the weights. -/
theorem kept (c : Dev nD) (t : Fin cfg0.N) : (outsAt0 (F := Ideal) m c t.val t.isLt).2.2 = k0_pay1 (F := Ideal) (iblk m c 0 t) (iblk m c 1 t) := by
  by_cases h0 : t.val % 34 = 0
  · rw [outsAt0_A m c t h0]
    dsimp only
    exact sout_A ..
  · rw [outsAt0_B m c t h0]
    dsimp only
    exact sout_B ..

/-- The point before. -/
def prev (t : Fin cfg0.N) : Fin cfg0.N := ⟨t.val - 1, Nat.lt_of_le_of_lt (Nat.sub_le _ _) t.isLt⟩

/-- The first result's block at a later point. -/
theorem result5 (c : Dev nD) (t : Fin cfg0.N) (h : 0 < t.val) : (outsAt0 (F := Ideal) m c t.val t.isLt).1
    = k0_pay3 (F := Ideal) (iblk m c 2 t) (k0_pay1 (F := Ideal) (iblk m c 0 (prev t)) (iblk m c 1 (prev t))) (iblk m c 3 t) (iblk m c 4 t) := by
  have ht := points t
  rw [outsAt0_B m c t (by omega)]
  dsimp only
  exact (out5_B ..).trans (congrArg (fun x => k0_pay3 (F := Ideal) (iblk m c 2 t) x (iblk m c 3 t) (iblk m c 4 t)) (kept m c (prev t)))

/-- The second result's block at a later point. -/
theorem result6 (c : Dev nD) (t : Fin cfg0.N) (h : 0 < t.val) : (outsAt0 (F := Ideal) m c t.val t.isLt).2.1
    = k0_pay4 (F := Ideal) (iblk m c 2 t) (k0_pay1 (F := Ideal) (iblk m c 0 (prev t)) (iblk m c 1 (prev t))) (iblk m c 3 t) (iblk m c 4 t) := by
  have ht := points t
  rw [outsAt0_B m c t (by omega)]
  dsimp only
  exact (out6_B ..).trans (congrArg (fun x => k0_pay4 (F := Ideal) (iblk m c 2 t) x (iblk m c 3 t) (iblk m c 4 t)) (kept m c (prev t)))

/-- A block's product at a row and a column. -/
theorem dot_apply (a : Vec Ideal S256x5632 .bf16) (w : Vec Ideal S5632x2048 .bf16) (r : Fin 256) (j : Fin 2048) :
    k0_pay1 (F := Ideal) a w (ix2 r j) = ∑ k : Fin 5632, a (ix2 r k) * w (ix2 k j) := by
  pointwise [k0_pay1]

/-- A block's normalised residual sum at a row and a column. -/
theorem pay_apply (res acc : Vec Ideal S256x2048 .f32) (g b : Vec Ideal S1x1x2048 .f32) (r : Fin 256) (j : Fin 2048) :
    k0_pay3 (F := Ideal) res acc g b (ix2 r j)
      = LayerNorm.norm (fun x => Ideal.ofBits FTy.f32 0x3FB504F3#32 * res (ix2 r x) + acc (ix2 r x)) (g (ix3 0 0 j)) (b (ix3 0 0 j)) j := by
  unfold LayerNorm.norm LayerNorm.mean
  pointwise [k0_pay3]

open Cert.DownOutPlainIdeal.Read in
/-- The reference's residual sum at a row and a column. -/
theorem ref_total (a : FVec Ideal S8448x5632 .bf16) (w : FVec Ideal S5632x2048 .bf16) (res : FVec Ideal S8448x2048 .f32) (r : Fin 8448) (j : Fin 2048) :
    val_main_v5 (F := Ideal) a w res (ix2 r j) = LayerNorm.total (n := 5632) (res (ix2 r j)) (fun k => a (ix2 r k)) (fun k => w (ix2 k j)) := by
  unfold LayerNorm.total
  pointwise [val_main_v5, val_main_v4, val_main_v3, val_main_v2, val_main_v1, val_main_v0, val_main_cst]

open Cert.DownOutPlainIdeal.Read in
/-- The reference at a row and a column: its residual sum, normalised. -/
theorem ref_norm (a : FVec Ideal S8448x5632 .bf16) (w : FVec Ideal S5632x2048 .bf16) (res : FVec Ideal S8448x2048 .f32) (g b : FVec Ideal S2x2048 .f32)
    (r : Fin 8448) (j : Fin 2048) :
    val_main_v33 (F := Ideal) a w res g b (ix2 r j)
      = LayerNorm.norm (fun x => val_main_v5 (F := Ideal) a w res (ix2 r x)) (g (ix2 0 j)) (b (ix2 0 j)) j := by
  unfold val_main_v33 val_main_v30 val_main_v27 val_main_v22 val_main_v21 val_main_v26 val_main_v25 val_main_v24 val_main_v20 val_main_v18 val_main_v17
    val_main_v16 val_main_v15 val_main_v14 val_main_v13 val_main_v11 val_main_v10 LayerNorm.norm LayerNorm.mean
  generalize val_main_v5 (F := Ideal) a w res = u
  pointwise [val_main_v32, val_main_v31, val_main_v29, val_main_v28, val_main_v23, val_main_v19, val_main_v12, val_main_cst_0, val_main_cst_1,
    val_main_cst_2, val_main_cst_3, val_main_cst_4, val_main_v9, val_main_v8, val_main_v7, val_main_v6]

theorem rows (c : Dev nD) (t : Fin cfg0.N) (h : 0 < t.val) (r : Fin 256) (hr : (t.val - 1) * 256 + r.val < 8448) (k : Fin 5632) :
    iblk (F := Ideal) m c 0 (prev t) (ix2 r k) = m ((c : Thread nD τ).loc main_arg0) (ix2 ⟨(t.val - 1) * 256 + r.val, hr⟩ k) := by
  have ht := points t
  blk_simp [iblk]
  rw [V_main_arg0]
  congr 1
  have e : (prev t).val = t.val - 1 := rfl
  blk_ext [idx0, e]

theorem weights (c : Dev nD) (t : Fin cfg0.N) (k : Fin 5632) (j : Fin 2048) :
    iblk (F := Ideal) m c 1 t (ix2 k j) = m ((c : Thread nD τ).loc main_arg1) (ix2 k j) := by
  blk_simp [iblk]
  rw [V_main_arg1]
  congr 1
  blk_ext [idx1]

theorem residual (c : Dev nD) (t : Fin cfg0.N) (r : Fin 256) (hr : (t.val - 1) * 256 + r.val < 8448) (j : Fin 2048) :
    iblk (F := Ideal) m c 2 t (ix2 r j) = m ((c : Thread nD τ).loc main_arg2) (ix2 ⟨(t.val - 1) * 256 + r.val, hr⟩ j) := by
  blk_simp [iblk]
  rw [V_main_arg2]
  congr 1
  blk_ext [idx2]

/-- The gains and the biases, as the host code lays them out. -/
theorem layout_apply (x : FVec Ideal S2x2048 .f32) (l : Fin 2) (j : Fin 2048) :
    shapeCast S2x1x2048 x shapeCasts_S2x2048_S2x1x2048 (ix3 l 0 j) = x (ix2 l j) := by
  pointwise

theorem gain (c : Dev nD) (t : Fin cfg0.N) (j : Fin 2048) :
    iblk (F := Ideal) m c 3 t (ix3 0 0 j) = m ((c : Thread nD τ).loc main_arg3) (ix2 0 j) := by
  rw [← layout_apply (m ((c : Thread nD τ).loc main_arg3))]
  blk_simp [iblk]
  rw [V_main_v0]
  congr 1
  blk_ext [idx3]

theorem bias (c : Dev nD) (t : Fin cfg0.N) (j : Fin 2048) :
    iblk (F := Ideal) m c 4 t (ix3 0 0 j) = m ((c : Thread nD τ).loc main_arg4) (ix2 0 j) := by
  rw [← layout_apply (m ((c : Thread nD τ).loc main_arg4))]
  blk_simp [iblk]
  rw [V_main_v1]
  congr 1
  blk_ext [idx4]

/-- A later point's block is the part of the reference its point before began. -/
theorem block_apply (c : Dev nD) (t : Fin cfg0.N) (h : 0 < t.val) (r : Fin 256) (j : Fin 2048) (hr : (t.val - 1) * 256 + r.val < 8448) :
    k0_pay3 (F := Ideal) (iblk m c 2 t) (k0_pay1 (F := Ideal) (iblk m c 0 (prev t)) (iblk m c 1 (prev t))) (iblk m c 3 t) (iblk m c 4 t) (ix2 r j)
      = Cert.DownOutPlainIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨(t.val - 1) * 256 + r.val, hr⟩ j) := by
  rw [pay_apply, ref_norm]
  simp only [dot_apply, ref_total, LayerNorm.total, rows m c t h r hr, weights m c (prev t), residual m c t r hr, gain m c t, bias m c t]

/-- The call's first array is the reference's. -/
theorem final5 (c : Dev nD) : (Gen.dats (F := Ideal) m 0 c).arrAt 5 cfg0.N
    = Cert.DownOutPlainIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats (F := Ideal) m 0 c).arrAt_eq_of_covers 5 _ (by decide +kernel) fun t hf y => ?_
  obtain ⟨r, j, rfl⟩ : ∃ (r : Fin 256) (j : Fin 2048), y = ix2 r j := ⟨y 0, y 1, funext fun x => match x with | ⟨0, _⟩ => rfl | ⟨1, _⟩ => rfl⟩
  have ht := points t
  blk_simp
  rw [after0_5, result5 m c t (late5 t hf)]
  refine (block_apply m c t (late5 t hf) r j (by omega)).trans (congrArg (Cert.DownOutPlainIdeal.Read.val_main_v33 (F := Ideal) _ _ _ _ _) ?_)
  blk_ext [idx5]

/-- The call's second array is the reference's. -/
theorem final6 (c : Dev nD) : (Gen.dats (F := Ideal) m 0 c).arrAt 6 cfg0.N
    = Cert.DownOutPlainIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats (F := Ideal) m 0 c).arrAt_eq_of_covers 6 _ (by decide +kernel) fun t hf y => ?_
  obtain ⟨r, j, rfl⟩ : ∃ (r : Fin 256) (j : Fin 2048), y = ix2 r j := ⟨y 0, y 1, funext fun x => match x with | ⟨0, _⟩ => rfl | ⟨1, _⟩ => rfl⟩
  have ht := points t
  blk_simp
  rw [after0_6, result6 m c t (late6 t hf)]
  refine (block_apply m c t (late6 t hf) r j (by omega)).trans (congrArg (Cert.DownOutPlainIdeal.Read.val_main_v33 (F := Ideal) _ _ _ _ _) ?_)
  blk_ext [idx6]

/-- The reference runs, its arguments unchanged, every counter back at zero. -/
theorem plain_quiescent : Cert.quiescent_DownOutPlainIdeal := fun m ρ _ =>
  (θ_run Cert.DownOutPlainIdeal.defs _ _).mono
    (fun r h => ⟨fun c => (h c).2.2, Idealize.ShloMosaic.sem_eq_zero_of_no_sems (by decide) r.2⟩)
    (Cert.DownOutPlainIdeal.Value.run (F := Ideal) m ρ)

/-- The call's two arrays are the plain reference's. -/
theorem algebraic : Cert.algebraic_DownOutIdeal_DownOutPlainIdeal := by
  intro m g m' g' hp hm
  refine ⟨fun c => (Gen.dats (F := Ideal) m 0 c).arrAt 5 cfg0.N, fun c => (Gen.dats (F := Ideal) m 0 c).arrAt 6 cfg0.N, ?_, ?_⟩
  · exact (θ_run _ _ _).mono (fun r h c => h c) (Value.run_blocks (F := Ideal) m g)
  · refine (θ_run _ _ _).mono (fun r h c => ?_) (Cert.DownOutPlainIdeal.Value.run (F := Ideal) m' g')
    obtain ⟨h33, h34, hk⟩ := h c
    obtain ⟨e0, e1, e2, e3, e4⟩ := hm c
    rw [Cert.DownOutPlainIdeal.Read.val_main_v33_eq, e0, e1, e2, e3, e4] at h33
    rw [Cert.DownOutPlainIdeal.Read.val_main_v34_eq, e0, e1, e2, e3, e4] at h34
    exact ⟨h33.trans (final5 m c).symm, h34.trans (final6 m c).symm, hk⟩

end Cert.DownOutSpec

end
-- ==== Proof.FfnInBody.lean ====
/- One grid point of the feed-forward block's first half: what its body computes, and the body run to its end. -/
module

public import proofs.«01_k».proof.Defs
public import proofs.«01_k».proof.Proof.Gen.FfnInIdeal.Frame
public import Idealize.ShloMosaic.Lib.Pipeline.ValueKit

@[expose] public section

set_option maxRecDepth 16384

noncomputable section

namespace Cert.FfnInSpec

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A block of weights without its layer axis, rounded. -/
def wcast (w : Vec F S1x2048x512 .f32) : FVec F S2048x512 .bf16 :=
  truncf .bf16 (shapeCast S2048x512 w shapeCasts_S1x2048x512_S2048x512 : FVec F S2048x512 .f32) bitsLt_bf16_f32

/-- A block of the second projection's weights without its layer axis, rounded. -/
def scast (w : Vec F S1x64x2048 .f32) : FVec F S64x2048 .bf16 :=
  truncf .bf16 (shapeCast S64x2048 w shapeCasts_S1x64x2048_S64x2048 : FVec F S64x2048 .f32) bitsLt_bf16_f32

/-- The block's rows against half of its columns. -/
def rows (a : Vec F S1024x2048 .bf16) (w : Vec F S2048x256 .bf16) : FVec F S1024x256 .f32 :=
  matmul (F := F) dot_S1024x2048_S2048x256_S1024x256_1_0_0_1_n_n none a (shapeCast S2048x256 w shapeCasts_S2048x256_S2048x256) (constant S1024x256 .f32 0x00000000#32)

/-- The sixteen rows before the block against half of its columns. -/
def halo (a : Vec F S16x2048 .bf16) (w : Vec F S2048x256 .bf16) : FVec F S16x256 .f32 :=
  matmul (F := F) dot_S16x2048_S2048x256_S16x256_1_0_0_1_n_n none a (shapeCast S2048x256 w shapeCasts_S2048x256_S2048x256) (constant S16x256 .f32 0x00000000#32)

/-- The last eight rows of a product. -/
def tail (u : FVec F S1024x256 .f32) : FVec F S1x8x256 .f32 :=
  shapeCast S1x8x256 (extractStridedSlice S8x256 ![1016, 0] u slices_S1024x256_o1016_0_S8x256 : FVec F S8x256 .f32) shapeCasts_S8x256_S1x8x256

/-- One where the rows before the block belong to the same sequence, zero where the block begins one. -/
def keep (i : grid0.Coords) : F .f32 :=
  let four : BitVec 32 := Scalar.select (Scalar.cmpi .eq (4#32) (0#32)) (1#32) (4#32)
  let r : BitVec 32 := Scalar.remsi (BitVec.ofNat 32 (i 1).val) four
  let neg : BitVec 1 := Scalar.andi (Scalar.xori (Scalar.cmpi .slt r (0#32)) (Scalar.cmpi .slt four (0#32))) (Scalar.cmpi .ne r (0#32))
  Scalar.sitofp .f32 (Scalar.extui (Scalar.cmpi .ne (Scalar.select neg (Scalar.addi r four) r) (0#32)) : BitVec 32)

/-- Whether a row of the first eight is before row `n`. -/
def below (io : IVec S8x1 32) (n : BitVec 32) : IVec S8x256 1 :=
  broadcastTo S8x256 (shapeCast S8x1 (cmpi .slt io (broadcast S8x1 n) : IVec S8x1 1) shapeCasts_S8x1_S8x1) broadcasts_S8x1_S8x256

/-- A row for each of the first eight. -/
def eight (r : FVec F S1x256 .f32) : FVec F S8x256 .f32 :=
  broadcastTo S8x256 (shapeCast S1x256 r shapeCasts_S1x256_S1x256 : FVec F S1x256 .f32) broadcasts_S1x256_S8x256

/-- The rows one before, the first of them out of the rows before the block. -/
def back1 (io : IVec S8x1 32) (k : F .f32) (u : FVec F S1024x256 .f32) (p : FVec F S16x256 .f32) : FVec F S1024x256 .f32 :=
  let v := dynamicRotate 0 (1#32) none u rotates_S1024x256_d0
  let p1 : FVec F S1x256 .f32 := mulf (extractStridedSlice S1x256 ![15, 0] p slices_S16x256_o15_0_S1x256) (broadcast S1x256 k)
  concatenate S1024x256 0 [⟨S8x256, select (below io (1#32)) (eight p1) (extractStridedSlice S8x256 ![0, 0] v slices_S1024x256_o0_0_S8x256)⟩,
    ⟨S1016x256, extractStridedSlice S1016x256 ![8, 0] v slices_S1024x256_o8_0_S1016x256⟩] concatenates_S8x256_S1016x256_S1024x256_d0

/-- The rows two before, the first two of them out of the rows before the block. -/
def back2 (io : IVec S8x1 32) (k : F .f32) (u : FVec F S1024x256 .f32) (p : FVec F S16x256 .f32) : FVec F S1024x256 .f32 :=
  let v := dynamicRotate 0 (2#32) none u rotates_S1024x256_d0
  let p1 : FVec F S1x256 .f32 := mulf (extractStridedSlice S1x256 ![15, 0] p slices_S16x256_o15_0_S1x256) (broadcast S1x256 k)
  let p2 : FVec F S1x256 .f32 := mulf (extractStridedSlice S1x256 ![14, 0] p slices_S16x256_o14_0_S1x256) (broadcast S1x256 k)
  concatenate S1024x256 0 [⟨S8x256, select (below io (1#32)) (eight p2) (select (below io (2#32)) (eight p1) (extractStridedSlice S8x256 ![0, 0] v slices_S1024x256_o0_0_S8x256))⟩,
    ⟨S1016x256, extractStridedSlice S1016x256 ![8, 0] v slices_S1024x256_o8_0_S1016x256⟩] concatenates_S8x256_S1016x256_S1024x256_d0

/-- The taps on the rows themselves and on the rows one and two before. -/
def taps (io : IVec S8x1 32) (k : F .f32) (u : FVec F S1024x256 .f32) (p : FVec F S16x256 .f32) (w : Vec F S1x3x256 .f32) : FVec F S1024x256 .f32 :=
  let w3 : FVec F S3x256 .f32 := shapeCast S3x256 w shapeCasts_S1x3x256_S3x256
  addf (addf (mulf (broadcastTo S1024x256 (extractStridedSlice S1x256 ![0, 0] w3 slices_S3x256_o0_0_S1x256 : FVec F S1x256 .f32) broadcasts_S1x256_S1024x256) (back2 io k u p))
      (mulf (broadcastTo S1024x256 (extractStridedSlice S1x256 ![1, 0] w3 slices_S3x256_o1_0_S1x256 : FVec F S1x256 .f32) broadcasts_S1x256_S1024x256) (back1 io k u p)))
    (mulf (broadcastTo S1024x256 (extractStridedSlice S1x256 ![2, 0] w3 slices_S3x256_o2_0_S1x256 : FVec F S1x256 .f32) broadcasts_S1x256_S1024x256) u)

/-- The short convolution along the rows, with its bias. -/
def conv (io : IVec S8x1 32) (k : F .f32) (u : FVec F S1024x256 .f32) (p : FVec F S16x256 .f32) (w : Vec F S1x3x256 .f32) (b : Vec F S1x1x256 .f32) : FVec F S1024x256 .f32 :=
  addf (taps io k u p w) (broadcastTo S1024x256 (shapeCast S1x256 b shapeCasts_S1x1x256_S1x256 : FVec F S1x256 .f32) broadcasts_S1x256_S1024x256)

/-- The gate's curve times the value, rounded. -/
def glu (g v : FVec F S1024x256 .f32) : FVec F S1024x256 .bf16 :=
  truncf .bf16 (mulf (mulf (mulf (broadcast S1024x256 (Scalar.ofBits .f32 0x3F000000#32)) g)
    (addf (broadcast S1024x256 (Scalar.ofBits .f32 0x3F800000#32)) (erf (mulf g (broadcast S1024x256 (Scalar.ofBits .f32 0x3F3504F3#32)))))) v) bitsLt_bf16_f32

section Body
variable (i : grid0.Coords)
  (a2 : Memref sig .tc .vmem S1024x2048 .bf16) (ha2 : a2.IsWhole)
  (a3 : Memref sig .tc .vmem S16x2048 .bf16) (ha3 : a3.IsWhole)
  (a4 : Memref sig .tc .vmem S1x2048x512 .f32) (ha4 : a4.IsWhole)
  (a5 : Memref sig .tc .vmem S1x2048x512 .f32) (ha5 : a5.IsWhole)
  (a6 : Memref sig .tc .vmem S1x3x512 .f32) (ha6 : a6.IsWhole)
  (a7 : Memref sig .tc .vmem S1x3x512 .f32) (ha7 : a7.IsWhole)
  (a8 : Memref sig .tc .vmem S1x1x512 .f32) (ha8 : a8.IsWhole)
  (a9 : Memref sig .tc .vmem S1x1x512 .f32) (ha9 : a9.IsWhole)
  (a10 : Memref sig .tc .vmem S1x64x2048 .f32) (ha10 : a10.IsWhole)
  (a11 : Memref sig .tc .vmem S1024x512 .bf16) (ha11 : a11.IsWhole)
  (a12 : Memref sig .tc .vmem S1x8x512 .f32) (ha12 : a12.IsWhole)
  (a13 : Memref sig .tc .vmem S1x8x512 .f32) (ha13 : a13.IsWhole)
  (a14 : Memref sig .tc .vmem S64x2048 .bf16) (ha14 : a14.IsWhole)
  (a15 : Memref sig .tc .vmem S2048x512 .bf16) (ha15 : a15.IsWhole)
  (a16 : Memref sig .tc .vmem S2048x512 .bf16) (ha16 : a16.IsWhole)

/-- The body up to its first loads of weights: the second projection's block rounded into place, at a column's first row block the
    weights too, and the rows, both products and the value's weights for the first half. -/
def begin_ : Prog (TpuEff nD τ sig (Elt F) Λ₀ .tc) (Σ' (v7 : Vec F S1024x2048 .bf16) (v8 : IVec S8x1 32) (v21 : F .f32) (v24 : FVec F S1024x256 .f32) (v28 : FVec F S16x256 .f32), Vec F S2048x256 .bf16) := do
  let s ← Prog.lift (.load a10 (Rect.unit (s := S1x64x2048) ![0, 0, 0] S1x64x2048.size inb_S1x64x2048_S1x64x2048_0_0_0).toLoadRect (View.loadsAt_vmem h_S1x64x2048))
  let _ ← Prog.lift (.load a14 (Rect.unit (s := S64x2048) ![0, 0] S64x2048.size inb_S64x2048_S64x2048_0_0).toLoadRect (View.loadsAt_vmem h_S64x2048))
  Prog.lift (.store a14 (Rect.unit (s := S64x2048) ![0, 0] S64x2048.size inb_S64x2048_S64x2048_0_0) (scast s) Finset.univ (View.stores_vmem h_S64x2048 (ha14.storeExact_slice rfl _ packedbf16_S64x2048_S64x2048_0_0) (fun _ => rfl)) (.inl rfl))
  if _first : k0_cond1 i = 1#1 then do
    let w ← Prog.lift (.load a4 (Rect.unit (s := S1x2048x512) ![0, 0, 0] S1x2048x512.size inb_S1x2048x512_S1x2048x512_0_0_0).toLoadRect (View.loadsAt_vmem h_S1x2048x512))
    let _ ← Prog.lift (.load a15 (Rect.unit (s := S2048x512) ![0, 0] S2048x512.size inb_S2048x512_S2048x512_0_0).toLoadRect (View.loadsAt_vmem h_S2048x512))
    Prog.lift (.store a15 (Rect.unit (s := S2048x512) ![0, 0] S2048x512.size inb_S2048x512_S2048x512_0_0) (wcast w) Finset.univ (View.stores_vmem h_S2048x512 (ha15.storeExact_slice rfl _ packedbf16_S2048x512_S2048x512_0_0) (fun _ => rfl)) (.inl rfl))
    let w ← Prog.lift (.load a5 (Rect.unit (s := S1x2048x512) ![0, 0, 0] S1x2048x512.size inb_S1x2048x512_S1x2048x512_0_0_0).toLoadRect (View.loadsAt_vmem h_S1x2048x512))
    let _ ← Prog.lift (.load a16 (Rect.unit (s := S2048x512) ![0, 0] S2048x512.size inb_S2048x512_S2048x512_0_0).toLoadRect (View.loadsAt_vmem h_S2048x512))
    Prog.lift (.store a16 (Rect.unit (s := S2048x512) ![0, 0] S2048x512.size inb_S2048x512_S2048x512_0_0) (wcast w) Finset.univ (View.stores_vmem h_S2048x512 (ha16.storeExact_slice rfl _ packedbf16_S2048x512_S2048x512_0_0) (fun _ => rfl)) (.inl rfl))
    pure ⟨⟩
  else do
    pure ⟨⟩
  let a ← Prog.lift (.load a2 (Rect.unit (s := S1024x2048) ![0, 0] S1024x2048.size inb_S1024x2048_S1024x2048_0_0).toLoadRect (View.loadsAt_vmem h_S1024x2048))
  let w ← Prog.lift (.load a15 (Rect.unit (s := S2048x512) ![0, 0] S2048x256.size inb_S2048x512_S2048x256_0_0).toLoadRect (View.loadsAt_vmem h_S2048x256))
  let p ← Prog.lift (.load a3 (Rect.unit (s := S16x2048) ![0, 0] S16x2048.size inb_S16x2048_S16x2048_0_0).toLoadRect (View.loadsAt_vmem h_S16x2048))
  let w1 ← Prog.lift (.load a15 (Rect.unit (s := S2048x512) ![0, 0] S2048x256.size inb_S2048x512_S2048x256_0_0).toLoadRect (View.loadsAt_vmem h_S2048x256))
  let v ← Prog.lift (.load a16 (Rect.unit (s := S2048x512) ![0, 0] S2048x256.size inb_S2048x512_S2048x256_0_0).toLoadRect (View.loadsAt_vmem h_S2048x256))
  pure ⟨a, iota .tc S8x1 32 [0] iota_S8x1_d0_w32, keep i, rows a w, halo p w1, v⟩

/-- The body. -/
def body : Prog (TpuEff nD τ sig (Elt F) Λ₀ .tc) PUnit := do
  let ⟨a, io, k, g, pg, w⟩ : Σ' (v7 : Vec F S1024x2048 .bf16) (v8 : IVec S8x1 32) (v21 : F .f32) (v24 : FVec F S1024x256 .f32) (v28 : FVec F S16x256 .f32), Vec F S2048x256 .bf16 ← begin_ i a2 a3 a4 a5 a10 a14 ha14 a15 ha15 a16 ha16
  let p ← Prog.lift (.load a3 (Rect.unit (s := S16x2048) ![0, 0] S16x2048.size inb_S16x2048_S16x2048_0_0).toLoadRect (View.loadsAt_vmem h_S16x2048))
  let w1 ← Prog.lift (.load a16 (Rect.unit (s := S2048x512) ![0, 0] S2048x256.size inb_S2048x512_S2048x256_0_0).toLoadRect (View.loadsAt_vmem h_S2048x256))
  let wg ← Prog.lift (.load a15 (Rect.unit (s := S2048x512) ![0, 256] S2048x256.size inb_S2048x512_S2048x256_0_256).toLoadRect (View.loadsAt_vmem h_S2048x256))
  let pg_ ← Prog.lift (.load a3 (Rect.unit (s := S16x2048) ![0, 0] S16x2048.size inb_S16x2048_S16x2048_0_0).toLoadRect (View.loadsAt_vmem h_S16x2048))
  let wpg ← Prog.lift (.load a15 (Rect.unit (s := S2048x512) ![0, 256] S2048x256.size inb_S2048x512_S2048x256_0_256).toLoadRect (View.loadsAt_vmem h_S2048x256))
  let wv ← Prog.lift (.load a16 (Rect.unit (s := S2048x512) ![0, 256] S2048x256.size inb_S2048x512_S2048x256_0_256).toLoadRect (View.loadsAt_vmem h_S2048x256))
  let pv ← Prog.lift (.load a3 (Rect.unit (s := S16x2048) ![0, 0] S16x2048.size inb_S16x2048_S16x2048_0_0).toLoadRect (View.loadsAt_vmem h_S16x2048))
  let wpv ← Prog.lift (.load a16 (Rect.unit (s := S2048x512) ![0, 256] S2048x256.size inb_S2048x512_S2048x256_0_256).toLoadRect (View.loadsAt_vmem h_S2048x256))
  let _ ← Prog.lift (.load a12 (Rect.unit (s := S1x8x512) ![0, 0, 0] S1x8x256.size inb_S1x8x512_S1x8x256_0_0_0).toLoadRect (View.loadsAt_vmem h_S1x8x256))
  Prog.lift (.store a12 (Rect.unit (s := S1x8x512) ![0, 0, 0] S1x8x256.size inb_S1x8x512_S1x8x256_0_0_0) (tail g) Finset.univ (View.stores_vmem_bits_univ h_S1x8x256 rfl) (.inl rfl))
  let c0 ← Prog.lift (.load a6 (Rect.unit (s := S1x3x512) ![0, 0, 0] S1x3x256.size inb_S1x3x512_S1x3x256_0_0_0).toLoadRect (View.loadsAt_vmem h_S1x3x256))
  let b0 ← Prog.lift (.load a8 (Rect.unit (s := S1x1x512) ![0, 0, 0] S1x1x256.size inb_S1x1x512_S1x1x256_0_0_0).toLoadRect (View.loadsAt_vmem h_S1x1x256))
  let _ ← Prog.lift (.load a13 (Rect.unit (s := S1x8x512) ![0, 0, 0] S1x8x256.size inb_S1x8x512_S1x8x256_0_0_0).toLoadRect (View.loadsAt_vmem h_S1x8x256))
  Prog.lift (.store a13 (Rect.unit (s := S1x8x512) ![0, 0, 0] S1x8x256.size inb_S1x8x512_S1x8x256_0_0_0) (tail (rows a w)) Finset.univ (View.stores_vmem_bits_univ h_S1x8x256 rfl) (.inl rfl))
  let d0 ← Prog.lift (.load a7 (Rect.unit (s := S1x3x512) ![0, 0, 0] S1x3x256.size inb_S1x3x512_S1x3x256_0_0_0).toLoadRect (View.loadsAt_vmem h_S1x3x256))
  let e0 ← Prog.lift (.load a9 (Rect.unit (s := S1x1x512) ![0, 0, 0] S1x1x256.size inb_S1x1x512_S1x1x256_0_0_0).toLoadRect (View.loadsAt_vmem h_S1x1x256))
  let _ ← Prog.lift (.load a11 (Rect.unit (s := S1024x512) ![0, 0] S1024x256.size inb_S1024x512_S1024x256_0_0).toLoadRect (View.loadsAt_vmem h_S1024x256))
  Prog.lift (.store a11 (Rect.unit (s := S1024x512) ![0, 0] S1024x256.size inb_S1024x512_S1024x256_0_0) (glu (conv io k g pg c0 b0) (conv io k (rows a w) (halo p w1) d0 e0)) Finset.univ (View.stores_vmem h_S1024x256 (ha11.storeExact_slice rfl _ packedbf16_S1024x512_S1024x256_0_0) (fun _ => rfl)) (.inl rfl))
  let _ ← Prog.lift (.load a12 (Rect.unit (s := S1x8x512) ![0, 0, 256] S1x8x256.size inb_S1x8x512_S1x8x256_0_0_256).toLoadRect (View.loadsAt_vmem h_S1x8x256))
  Prog.lift (.store a12 (Rect.unit (s := S1x8x512) ![0, 0, 256] S1x8x256.size inb_S1x8x512_S1x8x256_0_0_256) (tail (rows a wg)) Finset.univ (View.stores_vmem_bits_univ h_S1x8x256 rfl) (.inl rfl))
  let c1 ← Prog.lift (.load a6 (Rect.unit (s := S1x3x512) ![0, 0, 256] S1x3x256.size inb_S1x3x512_S1x3x256_0_0_256).toLoadRect (View.loadsAt_vmem h_S1x3x256))
  let b1 ← Prog.lift (.load a8 (Rect.unit (s := S1x1x512) ![0, 0, 256] S1x1x256.size inb_S1x1x512_S1x1x256_0_0_256).toLoadRect (View.loadsAt_vmem h_S1x1x256))
  let _ ← Prog.lift (.load a13 (Rect.unit (s := S1x8x512) ![0, 0, 256] S1x8x256.size inb_S1x8x512_S1x8x256_0_0_256).toLoadRect (View.loadsAt_vmem h_S1x8x256))
  Prog.lift (.store a13 (Rect.unit (s := S1x8x512) ![0, 0, 256] S1x8x256.size inb_S1x8x512_S1x8x256_0_0_256) (tail (rows a wv)) Finset.univ (View.stores_vmem_bits_univ h_S1x8x256 rfl) (.inl rfl))
  let d1 ← Prog.lift (.load a7 (Rect.unit (s := S1x3x512) ![0, 0, 256] S1x3x256.size inb_S1x3x512_S1x3x256_0_0_256).toLoadRect (View.loadsAt_vmem h_S1x3x256))
  let e1 ← Prog.lift (.load a9 (Rect.unit (s := S1x1x512) ![0, 0, 256] S1x1x256.size inb_S1x1x512_S1x1x256_0_0_256).toLoadRect (View.loadsAt_vmem h_S1x1x256))
  let _ ← Prog.lift (.load a11 (Rect.unit (s := S1024x512) ![0, 256] S1024x256.size inb_S1024x512_S1024x256_0_256).toLoadRect (View.loadsAt_vmem h_S1024x256))
  Prog.lift (.store a11 (Rect.unit (s := S1024x512) ![0, 256] S1024x256.size inb_S1024x512_S1024x256_0_256) (glu (conv io k (rows a wg) (halo pg_ wpg) c1 b1) (conv io k (rows a wv) (halo pv wpv) d1 e1)) Finset.univ (View.stores_vmem h_S1024x256 (ha11.storeExact_slice rfl _ packedbf16_S1024x512_S1024x256_0_256) (fun _ => rfl)) (.inl rfl))
  pure ⟨⟩

/-- The body's first part, as the kernel spells it. -/
theorem begin_eq : k0_part1 (F := F) i a2 ha2 a3 ha3 a4 ha4 a5 ha5 a6 ha6 a7 ha7 a8 ha8 a9 ha9 a10 ha10 a11 ha11 a12 ha12 a13 ha13 a14 ha14 a15 ha15 a16 ha16 = begin_ i a2 a3 a4 a5 a10 a14 ha14 a15 ha15 a16 ha16 := rfl

/-- The body, as the kernel spells it. -/
theorem body_eq : cc0_ffn_in (F := F) i a2 ha2 a3 ha3 a4 ha4 a5 ha5 a6 ha6 a7 ha7 a8 ha8 a9 ha9 a10 ha10 a11 ha11 a12 ha12 a13 ha13 a14 ha14 a15 ha15 a16 ha16 = body i a2 a3 a4 a5 a6 a7 a8 a9 a10 a11 ha11 a12 a13 a14 ha14 a15 ha15 a16 ha16 := by
  unfold cc0_ffn_in body
  rw [begin_eq]
  refine congrArg (bind (begin_ i a2 a3 a4 a5 a10 a14 ha14 a15 ha15 a16 ha16)) (funext fun r => ?_)
  obtain ⟨a, io, k, g, pg, w⟩ := r
  rfl

end Body

end Cert.FfnInSpec

end
-- ==== Proof.FfnInRun.lean ====
/- One grid point of the feed-forward block's first half, run: what each buffer of the point holds when its body is done. -/
module

public import proofs.«01_k».proof.Defs
public import proofs.«01_k».proof.Proof.FfnInBody
public import Idealize.ShloMosaic.Lib.Pipeline.ValueKit

@[expose] public section

set_option maxRecDepth 16384

noncomputable section

namespace Cert.FfnInSpec

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of the first eight, counted. -/
abbrev count : IVec S8x1 32 := iota .tc S8x1 32 [0] iota_S8x1_d0_w32

/-- The first and the second half of a block of weights. -/
def wl (w : Vec F S2048x512 .bf16) : Vec F S2048x256 .bf16 := View.ld w (Rect.unit (s := S2048x512) ![0, 0] S2048x256.size inb_S2048x512_S2048x256_0_0)
@[inherit_doc wl] def wr (w : Vec F S2048x512 .bf16) : Vec F S2048x256 .bf16 := View.ld w (Rect.unit (s := S2048x512) ![0, 256] S2048x256.size inb_S2048x512_S2048x256_0_256)
/-- The first and the second half of a block's taps. -/
def cl (w : Vec F S1x3x512 .f32) : Vec F S1x3x256 .f32 := View.ld w (Rect.unit (s := S1x3x512) ![0, 0, 0] S1x3x256.size inb_S1x3x512_S1x3x256_0_0_0)
@[inherit_doc cl] def cr (w : Vec F S1x3x512 .f32) : Vec F S1x3x256 .f32 := View.ld w (Rect.unit (s := S1x3x512) ![0, 0, 256] S1x3x256.size inb_S1x3x512_S1x3x256_0_0_256)
/-- The first and the second half of a block's bias. -/
def bl (w : Vec F S1x1x512 .f32) : Vec F S1x1x256 .f32 := View.ld w (Rect.unit (s := S1x1x512) ![0, 0, 0] S1x1x256.size inb_S1x1x512_S1x1x256_0_0_0)
@[inherit_doc bl] def br (w : Vec F S1x1x512 .f32) : Vec F S1x1x256 .f32 := View.ld w (Rect.unit (s := S1x1x512) ![0, 0, 256] S1x1x256.size inb_S1x1x512_S1x1x256_0_0_256)

/-- The last rows of a block's product, its two halves side by side. -/
def tails (x : Vec F S1024x2048 .bf16) (w : Vec F S2048x512 .bf16) : Vec F S1x8x512 .f32 :=
  View.canon (Val := Elt F) (s := S1x8x512) (e := .f32)
    [⟨Rect.unit (s := S1x8x512) ![0, 0, 256] S1x8x256.size inb_S1x8x512_S1x8x256_0_0_256, tail (rows x (wr w))⟩,
     ⟨Rect.unit (s := S1x8x512) ![0, 0, 0] S1x8x256.size inb_S1x8x512_S1x8x256_0_0_0, tail (rows x (wl w))⟩]

/-- A block's gated value, its two halves side by side. -/
def gated (i : grid0.Coords) (x : Vec F S1024x2048 .bf16) (p : Vec F S16x2048 .bf16) (wg wv : Vec F S2048x512 .bf16)
    (cg cv : Vec F S1x3x512 .f32) (bg bv : Vec F S1x1x512 .f32) : Vec F S1024x512 .bf16 :=
  View.canon (Val := Elt F) (s := S1024x512) (e := .bf16)
    [⟨Rect.unit (s := S1024x512) ![0, 256] S1024x256.size inb_S1024x512_S1024x256_0_256,
       glu (conv count (keep i) (rows x (wr wg)) (halo p (wr wg)) (cr cg) (br bg)) (conv count (keep i) (rows x (wr wv)) (halo p (wr wv)) (cr cv) (br bv))⟩,
     ⟨Rect.unit (s := S1024x512) ![0, 0] S1024x256.size inb_S1024x512_S1024x256_0_0,
       glu (conv count (keep i) (rows x (wl wg)) (halo p (wl wg)) (cl cg) (bl bg)) (conv count (keep i) (rows x (wl wv)) (halo p (wl wv)) (cl cv) (bl bv))⟩]

/-- What two stores side by side leave. -/
theorem read_tails (v : View sig .tc .vmem S1x8x512 .f32) (f : v.ty.Contents (Elt F)) (p q : FVec F S1x8x256 .f32) :
    v.read (Elt F) (v.writes (Elt F) f [⟨Rect.unit (s := S1x8x512) ![0, 0, 256] S1x8x256.size inb_S1x8x512_S1x8x256_0_0_256, p⟩,
      ⟨Rect.unit (s := S1x8x512) ![0, 0, 0] S1x8x256.size inb_S1x8x512_S1x8x256_0_0_0, q⟩])
      = View.canon (Val := Elt F) (s := S1x8x512) (e := .f32) [⟨Rect.unit (s := S1x8x512) ![0, 0, 256] S1x8x256.size inb_S1x8x512_S1x8x256_0_0_256, p⟩,
      ⟨Rect.unit (s := S1x8x512) ![0, 0, 0] S1x8x256.size inb_S1x8x512_S1x8x256_0_0_0, q⟩] :=
  View.read_writes_eq_canon v f _ (View.cover_of_tiledL _ S1x8x256.size (by sl_kernel_rfl))

@[inherit_doc read_tails]
theorem read_gated (v : View sig .tc .vmem S1024x512 .bf16) (f : v.ty.Contents (Elt F)) (p q : FVec F S1024x256 .bf16) :
    v.read (Elt F) (v.writes (Elt F) f [⟨Rect.unit (s := S1024x512) ![0, 256] S1024x256.size inb_S1024x512_S1024x256_0_256, p⟩,
      ⟨Rect.unit (s := S1024x512) ![0, 0] S1024x256.size inb_S1024x512_S1024x256_0_0, q⟩])
      = View.canon (Val := Elt F) (s := S1024x512) (e := .bf16) [⟨Rect.unit (s := S1024x512) ![0, 256] S1024x256.size inb_S1024x512_S1024x256_0_256, p⟩,
      ⟨Rect.unit (s := S1024x512) ![0, 0] S1024x256.size inb_S1024x512_S1024x256_0_0, q⟩] :=
  View.read_writes_eq_canon v f _ (View.cover_of_tiledL _ S1024x256.size (by sl_kernel_rfl))

/-- Loaded from a whole buffer: the block itself. -/
theorem rd2 (a : Memref sig .tc .vmem S1024x2048 .bf16) (h : a.IsWhole) (x : Vec F S1024x2048 .bf16) :
    View.readAt (Elt F) a.view (Rect.unit (s := S1024x2048) ![0, 0] S1024x2048.size inb_S1024x2048_S1024x2048_0_0).toLoadRect (h.unread x) = x := by
  rw [View.readAt_eq_ld, Memref.IsWhole.read_unread]; exact View.ld_unit_lit _ _ (by decide)
/-- Loaded from a whole buffer: the block itself. -/
theorem rd3 (a : Memref sig .tc .vmem S16x2048 .bf16) (h : a.IsWhole) (x : Vec F S16x2048 .bf16) :
    View.readAt (Elt F) a.view (Rect.unit (s := S16x2048) ![0, 0] S16x2048.size inb_S16x2048_S16x2048_0_0).toLoadRect (h.unread x) = x := by
  rw [View.readAt_eq_ld, Memref.IsWhole.read_unread]; exact View.ld_unit_lit _ _ (by decide)
/-- Loaded from a whole buffer: the block itself. -/
theorem rd4 (a : Memref sig .tc .vmem S1x2048x512 .f32) (h : a.IsWhole) (x : Vec F S1x2048x512 .f32) :
    View.readAt (Elt F) a.view (Rect.unit (s := S1x2048x512) ![0, 0, 0] S1x2048x512.size inb_S1x2048x512_S1x2048x512_0_0_0).toLoadRect (h.unread x) = x := by
  rw [View.readAt_eq_ld, Memref.IsWhole.read_unread]; exact View.ld_unit_lit _ _ (by decide)
/-- Loaded from a whole buffer: the block itself. -/
theorem rd10 (a : Memref sig .tc .vmem S1x64x2048 .f32) (h : a.IsWhole) (x : Vec F S1x64x2048 .f32) :
    View.readAt (Elt F) a.view (Rect.unit (s := S1x64x2048) ![0, 0, 0] S1x64x2048.size inb_S1x64x2048_S1x64x2048_0_0_0).toLoadRect (h.unread x) = x := by
  rw [View.readAt_eq_ld, Memref.IsWhole.read_unread]; exact View.ld_unit_lit _ _ (by decide)
/-- Loaded from a whole buffer: half of the block. -/
theorem rdwl (a : Memref sig .tc .vmem S2048x512 .bf16) (h : a.IsWhole) (x : Vec F S2048x512 .bf16) :
    View.readAt (Elt F) a.view (Rect.unit (s := S2048x512) ![0, 0] S2048x256.size inb_S2048x512_S2048x256_0_0).toLoadRect (h.unread x) = wl x := by
  rw [View.readAt_eq_ld, Memref.IsWhole.read_unread]; rfl
/-- Loaded from a whole buffer: half of the block. -/
theorem rdwr (a : Memref sig .tc .vmem S2048x512 .bf16) (h : a.IsWhole) (x : Vec F S2048x512 .bf16) :
    View.readAt (Elt F) a.view (Rect.unit (s := S2048x512) ![0, 256] S2048x256.size inb_S2048x512_S2048x256_0_256).toLoadRect (h.unread x) = wr x := by
  rw [View.readAt_eq_ld, Memref.IsWhole.read_unread]; rfl
/-- Loaded from a whole buffer: half of the block. -/
theorem rdcl (a : Memref sig .tc .vmem S1x3x512 .f32) (h : a.IsWhole) (x : Vec F S1x3x512 .f32) :
    View.readAt (Elt F) a.view (Rect.unit (s := S1x3x512) ![0, 0, 0] S1x3x256.size inb_S1x3x512_S1x3x256_0_0_0).toLoadRect (h.unread x) = cl x := by
  rw [View.readAt_eq_ld, Memref.IsWhole.read_unread]; rfl
/-- Loaded from a whole buffer: half of the block. -/
theorem rdcr (a : Memref sig .tc .vmem S1x3x512 .f32) (h : a.IsWhole) (x : Vec F S1x3x512 .f32) :
    View.readAt (Elt F) a.view (Rect.unit (s := S1x3x512) ![0, 0, 256] S1x3x256.size inb_S1x3x512_S1x3x256_0_0_256).toLoadRect (h.unread x) = cr x := by
  rw [View.readAt_eq_ld, Memref.IsWhole.read_unread]; rfl
/-- Loaded from a whole buffer: half of the block. -/
theorem rdbl (a : Memref sig .tc .vmem S1x1x512 .f32) (h : a.IsWhole) (x : Vec F S1x1x512 .f32) :
    View.readAt (Elt F) a.view (Rect.unit (s := S1x1x512) ![0, 0, 0] S1x1x256.size inb_S1x1x512_S1x1x256_0_0_0).toLoadRect (h.unread x) = bl x := by
  rw [View.readAt_eq_ld, Memref.IsWhole.read_unread]; rfl
/-- Loaded from a whole buffer: half of the block. -/
theorem rdbr (a : Memref sig .tc .vmem S1x1x512 .f32) (h : a.IsWhole) (x : Vec F S1x1x512 .f32) :
    View.readAt (Elt F) a.view (Rect.unit (s := S1x1x512) ![0, 0, 256] S1x1x256.size inb_S1x1x512_S1x1x256_0_0_256).toLoadRect (h.unread x) = br x := by
  rw [View.readAt_eq_ld, Memref.IsWhole.read_unread]; rfl

/-- A whole block stored is what the buffer then holds. -/
theorem read_side (v : View sig .tc .vmem S64x2048 .bf16) (f : v.ty.Contents (Elt F)) (w : FVec F S64x2048 .bf16) :
    v.read (Elt F) (v.writes (Elt F) f [⟨Rect.unit (s := S64x2048) ![0, 0] S64x2048.size inb_S64x2048_S64x2048_0_0, w⟩]) = w :=
  (View.read_writes_eq_canon v f _ (View.cover_of_tiledL _ S64x2048.size (by sl_kernel_rfl))).trans (View.canon_cons_unit_lit _ _ _ (by decide))

@[inherit_doc read_side]
theorem read_weights (v : View sig .tc .vmem S2048x512 .bf16) (f : v.ty.Contents (Elt F)) (w : FVec F S2048x512 .bf16) :
    v.read (Elt F) (v.writes (Elt F) f [⟨Rect.unit (s := S2048x512) ![0, 0] S2048x512.size inb_S2048x512_S2048x512_0_0, w⟩]) = w :=
  (View.read_writes_eq_canon v f _ (View.cover_of_tiledL _ S2048x512.size (by sl_kernel_rfl))).trans (View.canon_cons_unit_lit _ _ _ (by decide))

/-- Half of the weights, loaded after the whole block was stored. -/
theorem cov_left (v : View sig .tc .vmem S2048x512 .bf16) (w : FVec F S2048x512 .bf16) :
    v.readCov (Val := Elt F) [⟨Rect.unit (s := S2048x512) ![0, 0] S2048x512.size inb_S2048x512_S2048x512_0_0, w⟩]
      (Rect.unit (s := S2048x512) ![0, 0] S2048x256.size inb_S2048x512_S2048x256_0_0).toLoadRect = wl w :=
  (View.readCov_eq_canon_ld v _ _ (View.cover_of_tiledL _ S2048x512.size (by sl_kernel_rfl))).trans
    (congrArg (fun z => View.ld z _) (View.canon_cons_unit_lit _ _ _ (by decide)))

@[inherit_doc cov_left]
theorem cov_right (v : View sig .tc .vmem S2048x512 .bf16) (w : FVec F S2048x512 .bf16) :
    v.readCov (Val := Elt F) [⟨Rect.unit (s := S2048x512) ![0, 0] S2048x512.size inb_S2048x512_S2048x512_0_0, w⟩]
      (Rect.unit (s := S2048x512) ![0, 256] S2048x256.size inb_S2048x512_S2048x256_0_256).toLoadRect = wr w :=
  (View.readCov_eq_canon_ld v _ _ (View.cover_of_tiledL _ S2048x512.size (by sl_kernel_rfl))).trans
    (congrArg (fun z => View.ld z _) (View.canon_cons_unit_lit _ _ _ (by decide)))

section Run
variable (c : Dev nD) (i : grid0.Coords)
  (a2 : Memref sig .tc .vmem S1024x2048 .bf16) (ha2 : a2.IsWhole)
  (a3 : Memref sig .tc .vmem S16x2048 .bf16) (ha3 : a3.IsWhole)
  (a4 : Memref sig .tc .vmem S1x2048x512 .f32) (ha4 : a4.IsWhole)
  (a5 : Memref sig .tc .vmem S1x2048x512 .f32) (ha5 : a5.IsWhole)
  (a6 : Memref sig .tc .vmem S1x3x512 .f32) (ha6 : a6.IsWhole)
  (a7 : Memref sig .tc .vmem S1x3x512 .f32) (ha7 : a7.IsWhole)
  (a8 : Memref sig .tc .vmem S1x1x512 .f32) (ha8 : a8.IsWhole)
  (a9 : Memref sig .tc .vmem S1x1x512 .f32) (ha9 : a9.IsWhole)
  (a10 : Memref sig .tc .vmem S1x64x2048 .f32) (ha10 : a10.IsWhole)
  (a11 : Memref sig .tc .vmem S1024x512 .bf16) (ha11 : a11.IsWhole)
  (a12 : Memref sig .tc .vmem S1x8x512 .f32) (ha12 : a12.IsWhole)
  (a13 : Memref sig .tc .vmem S1x8x512 .f32) (ha13 : a13.IsWhole)
  (a14 : Memref sig .tc .vmem S64x2048 .bf16) (ha14 : a14.IsWhole)
  (a15 : Memref sig .tc .vmem S2048x512 .bf16) (ha15 : a15.IsWhole)
  (a16 : Memref sig .tc .vmem S2048x512 .bf16) (ha16 : a16.IsWhole)
  (x2 : Vec F S1024x2048 .bf16) (x3 : Vec F S16x2048 .bf16) (x4 : Vec F S1x2048x512 .f32) (x5 : Vec F S1x2048x512 .f32) (x6 : Vec F S1x3x512 .f32) (x7 : Vec F S1x3x512 .f32) (x8 : Vec F S1x1x512 .f32) (x9 : Vec F S1x1x512 .f32) (x10 : Vec F S1x64x2048 .f32)

set_option maxHeartbeats 2000000 in
/-- At a column's first row block: the weights are rounded into place, then used. -/
theorem first_run (hc : k0_cond1 i = 1#1) (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10
        ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
        ∗ (∃ d, owns (c : Thread nD τ) a15 fullShare d) ∗ (∃ d, owns (c : Thread nD τ) a16 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (gated i x2 x3 (wcast x4) (wcast x5) x6 x7 x8 x9) ∗ owns (c : Thread nD τ) a12 fullShare (tails x2 (wcast x4)) ∗ owns (c : Thread nD τ) a13 fullShare (tails x2 (wcast x5)) ∗ owns (c : Thread nD τ) a14 fullShare (scast x10) ∗ owns (c : Thread nD τ) a15 fullShare (wcast x4) ∗ owns (c : Thread nD τ) a16 fullShare (wcast x5)) -∗ K ⟨⟩))
      ⊢ wp frame (wpE (defs₀ (F := F)) Variants.none c none) E (cc0_ffn_in i a2 ha2 a3 ha3 a4 ha4 a5 ha5 a6 ha6 a7 ha7 a8 ha8 a9 ha9 a10 ha10 a11 ha11 a12 ha12 a13 ha13 a14 ha14 a15 ha15 a16 ha16) K := by
  rw [body_eq]; unfold body begin_
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10
  sl_exec (disch := first | sl_exact hc)
  sl_step
  iapply Hk
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr
    swap; · iexact H11
    ipureintro
    sl_unfold_run_names; refine (read_gated _ _ _ _).trans ?_; rw [rd2, rd3, rd4 a4, rd4 a5, cov_left a15.view, cov_left a16.view, cov_right a15.view, cov_right a16.view, rdcl a6, rdcl a7, rdcr a6, rdcr a7, rdbl a8, rdbl a9, rdbr a8, rdbr a9]; rfl
  isplitl [H12]
  · iexists _; isplitr
    swap; · iexact H12
    ipureintro
    sl_unfold_run_names; refine (read_tails _ _ _ _).trans ?_; rw [rd2, rd4 a4, cov_left, cov_right]; rfl
  isplitl [H13]
  · iexists _; isplitr
    swap; · iexact H13
    ipureintro
    sl_unfold_run_names; refine (read_tails _ _ _ _).trans ?_; rw [rd2, rd4 a5, cov_left, cov_right]; rfl
  isplitl [H14]
  · iexists _; isplitr
    swap; · iexact H14
    ipureintro
    sl_unfold_run_names; refine (read_side _ _ _).trans ?_; rw [rd10]
  isplitl [H15]
  · iexists _; isplitr
    swap; · iexact H15
    ipureintro
    sl_unfold_run_names; refine (read_weights _ _ _).trans ?_; rw [rd4]
  iexists _; isplitr
  swap; · iexact H16
  ipureintro
  sl_unfold_run_names; refine (read_weights _ _ _).trans ?_; rw [rd4]

set_option maxHeartbeats 2000000 in
/-- At a later row block: the weights are as the block before left them. -/
theorem later_run (w15 w16 : Vec F S2048x512 .bf16) (hc : ¬k0_cond1 i = 1#1) (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10
        ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
        ∗ owns (c : Thread nD τ) a15 fullShare w15 ∗ owns (c : Thread nD τ) a16 fullShare w16
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (gated i x2 x3 w15 w16 x6 x7 x8 x9) ∗ owns (c : Thread nD τ) a12 fullShare (tails x2 w15) ∗ owns (c : Thread nD τ) a13 fullShare (tails x2 w16) ∗ owns (c : Thread nD τ) a14 fullShare (scast x10) ∗ owns (c : Thread nD τ) a15 fullShare w15 ∗ owns (c : Thread nD τ) a16 fullShare w16) -∗ K ⟨⟩))
      ⊢ wp frame (wpE (defs₀ (F := F)) Variants.none c none) E (cc0_ffn_in i a2 ha2 a3 ha3 a4 ha4 a5 ha5 a6 ha6 a7 ha7 a8 ha8 a9 ha9 a10 ha10 a11 ha11 a12 ha12 a13 ha13 a14 ha14 a15 ha15 a16 ha16) K := by
  rw [body_eq]; unfold body begin_
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, Hk⟩
  obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha10.eq_unread hf10; obtain rfl := ha15.eq_unread hf15; obtain rfl := ha16.eq_unread hf16
  sl_exec (disch := first | sl_exact hc)
  sl_step
  iapply Hk
  isplitl [H2]
  · iexists _; isplitr; · ipureintro; exact ha2.read_unread _
    iexact H2
  isplitl [H3]
  · iexists _; isplitr; · ipureintro; exact ha3.read_unread _
    iexact H3
  isplitl [H4]
  · iexists _; isplitr; · ipureintro; exact ha4.read_unread _
    iexact H4
  isplitl [H5]
  · iexists _; isplitr; · ipureintro; exact ha5.read_unread _
    iexact H5
  isplitl [H6]
  · iexists _; isplitr; · ipureintro; exact ha6.read_unread _
    iexact H6
  isplitl [H7]
  · iexists _; isplitr; · ipureintro; exact ha7.read_unread _
    iexact H7
  isplitl [H8]
  · iexists _; isplitr; · ipureintro; exact ha8.read_unread _
    iexact H8
  isplitl [H9]
  · iexists _; isplitr; · ipureintro; exact ha9.read_unread _
    iexact H9
  isplitl [H10]
  · iexists _; isplitr; · ipureintro; exact ha10.read_unread _
    iexact H10
  isplitl [H11]
  · iexists _; isplitr
    swap; · iexact H11
    ipureintro
    refine (read_gated _ _ _ _).trans ?_; rw [rd2, rd3, rdwl a15, rdwl a16, rdwr a15, rdwr a16, rdcl a6, rdcl a7, rdcr a6, rdcr a7, rdbl a8, rdbl a9, rdbr a8, rdbr a9]; rfl
  isplitl [H12]
  · iexists _; isplitr
    swap; · iexact H12
    ipureintro
    refine (read_tails _ _ _ _).trans ?_; rw [rd2, rdwl a15, rdwr a15]; rfl
  isplitl [H13]
  · iexists _; isplitr
    swap; · iexact H13
    ipureintro
    refine (read_tails _ _ _ _).trans ?_; rw [rd2, rdwl a16, rdwr a16]; rfl
  isplitl [H14]
  · iexists _; isplitr
    swap; · iexact H14
    ipureintro
    sl_unfold_run_names; refine (read_side _ _ _).trans ?_; rw [rd10]
  isplitl [H15]
  · iexists _; isplitr
    swap; · iexact H15
    ipureintro
    exact ha15.read_unread _
  iexists _; isplitr
  swap; · iexact H16
  ipureintro
  exact ha16.read_unread _

end Run

end Cert.FfnInSpec

end
-- ==== Proof.FfnInFrame.lean ====
/- The feed-forward block's first half, run over its whole grid: it stops, leaves its arguments as they were, and its result arrays are the grid points' blocks. -/
module

public import proofs.«01_k».proof.Defs
public import proofs.«01_k».proof.Proof.FfnInRun
public import proofs.«01_k».proof.Proof.Gen.FfnIn
public import proofs.«01_k».proof.Proof.Gen.FfnInIdeal
public import Idealize.ShloMosaic.Lib.Claim
public import Idealize.ShloMosaic.Lib.Pipeline.TableIdle
public import Idealize.ShloMosaic.Lib.Pipeline.ValueKit

@[expose] public section

set_option maxRecDepth 16384

noncomputable section

namespace Cert.FfnInSpec

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body rounds the weights into place at a column's first row block. -/
theorem first_iff : ∀ t : Fin cfg0.N, k0_cond1 (grid0.coords t) = 1#1 ↔ t.val % 8 = 0 := (by decide +kernel : ∀ t : Fin grid0.N, _)

/-- The gate's weights at a grid point, rounded; and the value's. -/
def gateW (c : Dev nD) (t : Fin cfg0.N) : Vec F S2048x512 .bf16 := wcast (iblk m c 2 t)
@[inherit_doc gateW] def valueW (c : Dev nD) (t : Fin cfg0.N) : Vec F S2048x512 .bf16 := wcast (iblk m c 3 t)

/-- What each buffer holds after the body, point by point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => gated (grid0.coords t) (X0_0 m c t) (iblk m c 1 t) (gateW m c t) (valueW m c t) (iblk m c 4 t) (iblk m c 5 t) (iblk m c 6 t) (iblk m c 7 t)
    | ⟨10, _⟩ => tails (X0_0 m c t) (gateW m c t)
    | ⟨11, _⟩ => tails (X0_0 m c t) (valueW m c t)
    | ⟨12, _⟩ => scast (iblk m c 8 t)
    | ⟨13, _⟩ => gateW m c t
    | ⟨14, _⟩ => valueW m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = gated (grid0.coords t) (X0_0 m c t) (iblk m c 1 t) (gateW m c t) (valueW m c t) (iblk m c 4 t) (iblk m c 5 t) (iblk m c 6 t) (iblk m c 7 t) := by dsimp only [dats]
theorem after10 (c : Dev nD) (t : Fin cfg0.N) : (dats m 0 c).after 10 t = tails (X0_0 m c t) (gateW m c t) := by dsimp only [dats]
theorem after11 (c : Dev nD) (t : Fin cfg0.N) : (dats m 0 c).after 11 t = tails (X0_0 m c t) (valueW m c t) := by dsimp only [dats]
theorem after12 (c : Dev nD) (t : Fin cfg0.N) : (dats m 0 c).after 12 t = scast (iblk m c 8 t) := by dsimp only [dats]
theorem after13 (c : Dev nD) (t : Fin cfg0.N) : (dats m 0 c).after 13 t = gateW m c t := by dsimp only [dats]
theorem after14 (c : Dev nD) (t : Fin cfg0.N) : (dats m 0 c).after 14 t = valueW m c t := by dsimp only [dats]
theorem before0 (c : Dev nD) (t : Fin cfg0.N) (d) : (dats m 0 c).before 0 t d = X0_0 m c t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d

/-- Between a column's row blocks the weights do not change. -/
theorem iblk2_prev (c : Dev nD) (t : Fin cfg0.N) (h : ¬t.val % 8 = 0) :
    (iblk m c 2 t : Vec F S1x2048x512 .f32) = iblk m c 2 ⟨t.val - 1, Nat.lt_of_le_of_lt (Nat.sub_le _ _) t.isLt⟩ := by
  have hf : (cfg0.win 2).fetch t = false := by
    rw [← Bool.not_eq_true]; exact fun e => h ((fetch0_2 t).mp e)
  have e := (dats m 0 c).before_unfetched_in 2 rfl t hf (fun _ => rfl) (fun _ => Classical.choice inferInstance)
  rw [before2] at e
  refine e.trans ?_
  unfold Dat.kept; dsimp only [dats]; rfl

theorem fresh13 (t : Fin cfg0.N) : cfg0.fresh 13 t.val = decide (t.val % 8 = 0) :=
  Pipeline.Cfg.fresh_tab cfg0 13 (fun n => decide (n % 8 = 0)) rfl
    (by decide +kernel : ∀ t : Fin cfg0.N, decide ((t.val + 1) % 8 = 0) = ((cfg0.win 13).flush t || (cfg0.idle 13 (cfg0.grid.coords t) && decide (t.val % 8 = 0)))) t.val (Nat.le_of_lt t.isLt)

theorem idle13 (t : Fin cfg0.N) : cfg0.idle 13 (cfg0.grid.coords t) = !decide (t.val % 8 = 0) :=
  (by decide +kernel : ∀ t : Fin cfg0.N, cfg0.idle 13 (cfg0.grid.coords t) = !decide (t.val % 8 = 0)) t

/-- At a later row block the weights' buffer holds the weights already. -/
theorem before13 (c : Dev nD) (t : Fin cfg0.N) (h : ¬t.val % 8 = 0) (d) : (dats m 0 c).before 13 t d = gateW m c t := by
  have hcarry : ∀ (t : Fin cfg0.N) (_ : t.val ≠ 0), cfg0.idle 13 (cfg0.grid.coords t) = true → cfg0.fresh 13 t.val = false →
      (dats m 0 c).after 13 t = (dats m 0 c).after 13 ⟨t.val - 1, by omega⟩ := fun t _ hi _ => by
    rw [idle13] at hi
    rw [after13, after13]; unfold gateW
    exact congrArg wcast (iblk2_prev m c t (by simpa using hi))
  rw [Dat.before_out_traj _ 13 rfl (fun _ _ => rfl) hcarry t.val t rfl d, fresh13, decide_eq_false h, if_neg Bool.false_ne_true, after13]
  unfold gateW
  exact congrArg wcast (iblk2_prev m c t h).symm

/-- The weights' buffer, holding the weights, is as its window wants it after the body. -/
theorem leaves13 (c : Dev nD) (t : Fin cfg0.N) (h : ¬t.val % 8 = 0) :
    (owns (c : Thread nD τ) (st0_13 t) fullShare (gateW m c t) : sProp 𝕄) ⊢ (dats m 0 c).leavesExact 13 t := by
  unfold Dat.leavesExact
  rw [idle13, decide_eq_false h, Bool.not_false]
  dsimp only
  cases (cfg0.win 13).flush t
  · iintro H; iexists (fun _ => Classical.choice inferInstance); rw [before13 m c t h]; iexact H
  · rw [after13]

/-- Between a column's row blocks the weights do not change. -/
theorem iblk3_prev (c : Dev nD) (t : Fin cfg0.N) (h : ¬t.val % 8 = 0) :
    (iblk m c 3 t : Vec F S1x2048x512 .f32) = iblk m c 3 ⟨t.val - 1, Nat.lt_of_le_of_lt (Nat.sub_le _ _) t.isLt⟩ := by
  have hf : (cfg0.win 3).fetch t = false := by
    rw [← Bool.not_eq_true]; exact fun e => h ((fetch0_3 t).mp e)
  have e := (dats m 0 c).before_unfetched_in 3 rfl t hf (fun _ => rfl) (fun _ => Classical.choice inferInstance)
  rw [before3] at e
  refine e.trans ?_
  unfold Dat.kept; dsimp only [dats]; rfl

theorem fresh14 (t : Fin cfg0.N) : cfg0.fresh 14 t.val = decide (t.val % 8 = 0) :=
  Pipeline.Cfg.fresh_tab cfg0 14 (fun n => decide (n % 8 = 0)) rfl
    (by decide +kernel : ∀ t : Fin cfg0.N, decide ((t.val + 1) % 8 = 0) = ((cfg0.win 14).flush t || (cfg0.idle 14 (cfg0.grid.coords t) && decide (t.val % 8 = 0)))) t.val (Nat.le_of_lt t.isLt)

theorem idle14 (t : Fin cfg0.N) : cfg0.idle 14 (cfg0.grid.coords t) = !decide (t.val % 8 = 0) :=
  (by decide +kernel : ∀ t : Fin cfg0.N, cfg0.idle 14 (cfg0.grid.coords t) = !decide (t.val % 8 = 0)) t

/-- At a later row block the weights' buffer holds the weights already. -/
theorem before14 (c : Dev nD) (t : Fin cfg0.N) (h : ¬t.val % 8 = 0) (d) : (dats m 0 c).before 14 t d = valueW m c t := by
  have hcarry : ∀ (t : Fin cfg0.N) (_ : t.val ≠ 0), cfg0.idle 14 (cfg0.grid.coords t) = true → cfg0.fresh 14 t.val = false →
      (dats m 0 c).after 14 t = (dats m 0 c).after 14 ⟨t.val - 1, by omega⟩ := fun t _ hi _ => by
    rw [idle14] at hi
    rw [after14, after14]; unfold valueW
    exact congrArg wcast (iblk3_prev m c t (by simpa using hi))
  rw [Dat.before_out_traj _ 14 rfl (fun _ _ => rfl) hcarry t.val t rfl d, fresh14, decide_eq_false h, if_neg Bool.false_ne_true, after14]
  unfold valueW
  exact congrArg wcast (iblk3_prev m c t h).symm

/-- The weights' buffer, holding the weights, is as its window wants it after the body. -/
theorem leaves14 (c : Dev nD) (t : Fin cfg0.N) (h : ¬t.val % 8 = 0) :
    (owns (c : Thread nD τ) (st0_14 t) fullShare (valueW m c t) : sProp 𝕄) ⊢ (dats m 0 c).leavesExact 14 t := by
  unfold Dat.leavesExact
  rw [idle14, decide_eq_false h, Bool.not_false]
  dsimp only
  cases (cfg0.win 14).flush t
  · iintro H; iexists (fun _ => Classical.choice inferInstance); rw [before14 m c t h]; iexact H
  · rw [after14]

/-- The buffers at a point, as the body finds them; and as it is to leave them. -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
@[inherit_doc found] def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)
theorem exact0 (c : Dev nD) (t : Fin cfg0.N) : (dats m 0 c).leavesExact 0 t = owns (c : Thread nD τ) (st0_0 t) fullShare (X0_0 m c t) := by
  unfold Dat.leavesExact; rw [show cfg0.idle 0 (cfg0.grid.coords t) = false from rfl, after0]
theorem exact1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem exact2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem exact3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem exact4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after4]
theorem exact5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after5]
theorem exact6 (c : Dev nD) (t : Fin cfg0.N) : (dats m 0 c).leavesExact 6 t = owns (c : Thread nD τ) (st0_6 t) fullShare (iblk m c 6 t) := by
  unfold Dat.leavesExact; rw [show cfg0.idle 6 (cfg0.grid.coords t) = false from rfl, after6]
theorem exact7 (c : Dev nD) (t : Fin cfg0.N) : (dats m 0 c).leavesExact 7 t = owns (c : Thread nD τ) (st0_7 t) fullShare (iblk m c 7 t) := by
  unfold Dat.leavesExact; rw [show cfg0.idle 7 (cfg0.grid.coords t) = false from rfl, after7]
theorem exact8 (c : Dev nD) (t : Fin cfg0.N) : (dats m 0 c).leavesExact 8 t = owns (c : Thread nD τ) (st0_8 t) fullShare (iblk m c 8 t) := by
  unfold Dat.leavesExact; rw [show cfg0.idle 8 (cfg0.grid.coords t) = false from rfl, after8]
theorem exact9 (c : Dev nD) (t : Fin cfg0.N) : (dats m 0 c).leavesExact 9 t = owns (c : Thread nD τ) (st0_9 t) fullShare (gated (grid0.coords t) (X0_0 m c t) (iblk m c 1 t) (gateW m c t) (valueW m c t) (iblk m c 4 t) (iblk m c 5 t) (iblk m c 6 t) (iblk m c 7 t)) := by
  unfold Dat.leavesExact; rw [show cfg0.idle 9 (cfg0.grid.coords t) = false from rfl, after9]
theorem exact10 (c : Dev nD) (t : Fin cfg0.N) : (dats m 0 c).leavesExact 10 t = owns (c : Thread nD τ) (st0_10 t) fullShare (tails (X0_0 m c t) (gateW m c t)) := by
  unfold Dat.leavesExact; rw [show cfg0.idle 10 (cfg0.grid.coords t) = false from rfl, after10]
theorem exact11 (c : Dev nD) (t : Fin cfg0.N) : (dats m 0 c).leavesExact 11 t = owns (c : Thread nD τ) (st0_11 t) fullShare (tails (X0_0 m c t) (valueW m c t)) := by
  unfold Dat.leavesExact; rw [show cfg0.idle 11 (cfg0.grid.coords t) = false from rfl, after11]
theorem exact12 (c : Dev nD) (t : Fin cfg0.N) : (dats m 0 c).leavesExact 12 t = owns (c : Thread nD τ) (st0_12 t) fullShare (scast (iblk m c 8 t)) := by
  unfold Dat.leavesExact; rw [show cfg0.idle 12 (cfg0.grid.coords t) = false from rfl, after12]
theorem exact13 (c : Dev nD) (t : Fin cfg0.N) (h : t.val % 8 = 0) : (dats m 0 c).leavesExact 13 t = owns (c : Thread nD τ) (st0_13 t) fullShare (gateW m c t) := by
  unfold Dat.leavesExact; rw [show cfg0.idle 13 (cfg0.grid.coords t) = false from by rw [idle13, decide_eq_true h]; rfl, after13]
theorem exact14 (c : Dev nD) (t : Fin cfg0.N) (h : t.val % 8 = 0) : (dats m 0 c).leavesExact 14 t = owns (c : Thread nD τ) (st0_14 t) fullShare (valueW m c t) := by
  unfold Dat.leavesExact; rw [show cfg0.idle 14 (cfg0.grid.coords t) = false from by rw [idle14, decide_eq_true h]; rfl, after14]

set_option maxHeartbeats 2400000 in
/-- The body at any point: at a column's first row block by `first_run`, at a later one by `later_run`. -/
theorem point (c : Dev nD) (t : Fin cfg0.N) :
    found m c t ⊢ wp frame (wpE (defs₀ (F := F)) Variants.none c none) Set.univ (bodyAt0 t) (fun _ => left m c t) := by
  unfold found left bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl]
  rw [exact0, exact1, exact2, exact3, exact4, exact5, exact6, exact7, exact8, exact9, exact10, exact11, exact12]
  by_cases h : t.val % 8 = 0
  · rw [exact13 m c t h, exact14 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (first_run c (grid0.coords t) _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) ((first_iff t).mpr h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · simp only [before13 m c t h, before14 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (later_run c (grid0.coords t) _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (gateW m c t) (valueW m c t) (fun e => h ((first_iff t).mp e)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (leaves13 m c t h); iexact H13
    iapply (leaves14 m c t h); iexact H14

theorem row (t : Fin cfg0.N) : defs₀ (F := F) .tc cfg0.body (cfg0.bodyArgs t (cfg0.slots t)) = bodyAt0 t := by
  unfold defs₀; rw [Defs.onTc_tc]

/-- The body keeps to what `dats` says, at every point. -/
theorem body_keeps (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- The whole program, run: its windows' arrays as `dats` says, its counters at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_keeps m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The program stops, its arguments as they were, its counters at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_all m ρ))

theorem kernel_same : Cert.FfnIn.cc0_ffn_in (F := F) = Cert.FfnInIdeal.cc0_ffn_in (F := F) := by with_unfolding_all rfl

set_option maxHeartbeats 4000000 in
theorem bodies_same : Cert.FfnIn.defs₀ (F := F) = Cert.FfnInIdeal.defs₀ (F := F) := by
  unfold Cert.FfnIn.defs₀ Cert.FfnInIdeal.defs₀
  rw [kernel_same]
  refine congrArg (Defs.onTc (nD := 1) (τ := Cert.FfnIn.τ) (sig := Cert.FfnIn.sig) (Val := Elt F) (Λ := Cert.FfnIn.Λ₀)) ?_
  funext l a
  obtain ⟨l, hl⟩ := l
  cases l with
  | zero => obtain ⟨t, s⟩ := a; with_unfolding_all rfl
  | succ n => exact absurd hl (by omega)

set_option maxHeartbeats 4000000 in
theorem main_same : Cert.FfnIn.main (F := F) = Cert.FfnInIdeal.main (F := F) := by with_unfolding_all rfl

theorem defs_same : Cert.FfnIn.defs (F := F) = Cert.FfnInIdeal.defs (F := F) :=
  congrArg (Pipeline.defs Cert.FfnIn.pcfgs) bodies_same

/-- The printed program on the machine's own numbers. -/
theorem quiescent : Cert.quiescent_FfnIn := fun m ρ _ => by
  rw [defs_same, main_same]
  exact keeps (F := Bits) m ρ

/-- The same on ideal numbers. -/
theorem ideal_quiescent : Cert.quiescent_FfnInIdeal := fun m ρ _ => keeps (F := Ideal) m ρ

end Cert.FfnInSpec

end
-- ==== Proof.FfnInValue.lean ====
/- The feed-forward block's first half: the products, the short convolution along the rows and the gating, point by point of the grid and of the reference. -/
module

public import proofs.«01_k».proof.Proof.FfnInFrame
public import proofs.«01_k».proof.Proof.Gen.FfnInPlainIdeal
public import proofs.«01_k».proof.Proof.Gen.FfnInPlainIdeal.Run
public import proofs.«01_k».proof.Proof.Gen.FfnInPlainIdeal.Read
public import Idealize.ShloMosaic.Lib.Quiescent
public import Idealize.ShloMosaic.Lib.Pointwise

@[expose] public section

set_option maxRecDepth 16384

noncomputable section

namespace Cert.FfnInSpec

open Cert.FfnInIdeal Cert.FfnInIdeal.Gen Idealize.ShloMosaic Idealize.ShloMosaic.TcCoe Idealize.SL.Sem
open Idealize.ShloMosaic.Pipeline (Dat)

/-- Row `R` against column `J` of the layer's weights. -/
def proj (x : FVec Ideal S8448x2048 .bf16) (w : FVec Ideal S2x2048x11264 .f32) (R J : ℕ) : EReal :=
  if h : R < 8448 ∧ J < 11264 then ∑ k : Fin 2048, x (ix2 ⟨R, h.1⟩ k) * w (ix3 0 k ⟨J, h.2⟩) else 0

/-- The same `d` rows earlier in the sequence, zero before its start. -/
def past (x : FVec Ideal S8448x2048 .bf16) (w : FVec Ideal S2x2048x11264 .f32) (d R J : ℕ) : EReal :=
  if R % 4096 < d then 0 else proj x w (R - d) J

/-- The layer's tap `d` of column `J`; and its bias. -/
def tapAt (c : FVec Ideal S2x3x11264 .f32) (d : Fin 3) (J : ℕ) : EReal := if h : J < 11264 then c (ix3 0 d ⟨J, h⟩) else 0
@[inherit_doc tapAt] def biasAt (b : FVec Ideal S2x11264 .f32) (J : ℕ) : EReal := if h : J < 11264 then b (ix2 0 ⟨J, h⟩) else 0

/-- The short convolution of column `J` at row `R`. -/
def convAt (x : FVec Ideal S8448x2048 .bf16) (w : FVec Ideal S2x2048x11264 .f32) (c : FVec Ideal S2x3x11264 .f32) (b : FVec Ideal S2x11264 .f32) (R J : ℕ) : EReal :=
  tapAt c 0 J * past x w 2 R J + tapAt c 1 J * past x w 1 R J + tapAt c 2 J * proj x w R J + biasAt b J

/-- The gate's curve times the value. -/
def act (g v : EReal) : EReal :=
  Ideal.ofBits FTy.f32 1056964608#32 * g * (1 + FloatOps.erf (F := Ideal) (φ := .f32) (g * Ideal.ofBits FTy.f32 1060439283#32)) * v

theorem rows_apply (x : Vec Ideal S1024x2048 .bf16) (w : Vec Ideal S2048x256 .bf16) (r : Fin 1024) (j : Fin 256) :
    rows x w (ix2 r j) = ∑ k : Fin 2048, x (ix2 r k) * w (ix2 k j) := by
  pointwise [rows]

theorem halo_apply (x : Vec Ideal S16x2048 .bf16) (w : Vec Ideal S2048x256 .bf16) (r : Fin 16) (j : Fin 256) :
    halo x w (ix2 r j) = ∑ k : Fin 2048, x (ix2 r k) * w (ix2 k j) := by
  pointwise [halo]

theorem conv_apply (k : EReal) (u : FVec Ideal S1024x256 .f32) (p : FVec Ideal S16x256 .f32) (w : Vec Ideal S1x3x256 .f32) (b : Vec Ideal S1x1x256 .f32) (r : Fin 1024) (j : Fin 256) :
    conv (F := Ideal) count k u p w b (ix2 r j)
      = w (ix3 0 0 j) * back2 (F := Ideal) count k u p (ix2 r j) + w (ix3 0 1 j) * back1 (F := Ideal) count k u p (ix2 r j) + w (ix3 0 2 j) * u (ix2 r j) + b (ix3 0 0 j) := by
  pointwise [conv, taps]

theorem glu_apply (g v : FVec Ideal S1024x256 .f32) (r : Fin 1024) (j : Fin 256) : glu (F := Ideal) g v (ix2 r j) = act (g (ix2 r j)) (v (ix2 r j)) := by
  unfold act
  pointwise [glu]

theorem tail_apply (u : FVec Ideal S1024x256 .f32) (r : Fin 8) (j : Fin 256) : tail (F := Ideal) u (ix3 0 r j) = u (ix2 ⟨1016 + r.val, by omega⟩ j) := by
  pointwise [tail]

/-- Whether one of the first eight rows is before row `n`. -/
theorem below_word (r n : ℕ) (hr : r < 8) (hn : n < 8) {α : Type} (a b : α) :
    Scalar.select (IntOp.cmpi CmpIPredicate.slt (BitVec.ofNat 32 r) (BitVec.ofNat 32 n)) a b = if r < n then a else b := by
  have e : IntOp.cmpi CmpIPredicate.slt (BitVec.ofNat 32 r) (BitVec.ofNat 32 n) = if r < n then 1#1 else 0#1 := by
    interval_cases r <;> interval_cases n <;> decide
  rw [e]
  by_cases h : r < n
  · rw [if_pos h, if_pos h]; rfl
  · rw [if_neg h, if_neg h]; rfl

theorem back1_apply (k : EReal) (u : FVec Ideal S1024x256 .f32) (p : FVec Ideal S16x256 .f32) (r : Fin 1024) (j : Fin 256) :
    back1 (F := Ideal) count k u p (ix2 r j) = if h : r.val < 1 then p (ix2 15 j) * k else u (ix2 ⟨r.val - 1, by omega⟩ j) := by
  have e : back1 (F := Ideal) count k u p (ix2 r j) = (if h : r.val < 8 then
      Scalar.select (IntOp.cmpi CmpIPredicate.slt (BitVec.ofNat 32 r.val) 1#32) (p (ix2 15 j) * k)
        (u (ix2 ⟨(r.val + 1024 - 1) % 1024, by omega⟩ j))
    else u (ix2 ⟨(8 + (r.val - 8) + 1024 - 1) % 1024, by omega⟩ j)) := by
    pointwise [back1, below, eight, count]
  rw [e]
  by_cases h8 : r.val < 8
  · rw [dif_pos h8, below_word r.val 1 h8 (by decide)]
    by_cases h : r.val < 1
    · rw [if_pos h, dif_pos h]
    · rw [if_neg h, dif_neg h]; congr 2; exact Fin.ext (by dsimp only; omega)
  · rw [dif_neg h8, dif_neg (by omega)]; congr 2; exact Fin.ext (by dsimp only; omega)

theorem back2_apply (k : EReal) (u : FVec Ideal S1024x256 .f32) (p : FVec Ideal S16x256 .f32) (r : Fin 1024) (j : Fin 256) :
    back2 (F := Ideal) count k u p (ix2 r j) = if h : r.val < 2 then (if r.val < 1 then p (ix2 14 j) * k else p (ix2 15 j) * k) else u (ix2 ⟨r.val - 2, by omega⟩ j) := by
  have e : back2 (F := Ideal) count k u p (ix2 r j) = (if h : r.val < 8 then
      Scalar.select (IntOp.cmpi CmpIPredicate.slt (BitVec.ofNat 32 r.val) 1#32) (p (ix2 14 j) * k)
        (Scalar.select (IntOp.cmpi CmpIPredicate.slt (BitVec.ofNat 32 r.val) 2#32) (p (ix2 15 j) * k)
          (u (ix2 ⟨(r.val + 1024 - 2) % 1024, by omega⟩ j)))
    else u (ix2 ⟨(8 + (r.val - 8) + 1024 - 2) % 1024, by omega⟩ j)) := by
    pointwise [back2, below, eight, count]
  rw [e]
  by_cases h8 : r.val < 8
  · rw [dif_pos h8, below_word r.val 1 h8 (by decide), below_word r.val 2 h8 (by decide)]
    by_cases h : r.val < 1
    · rw [if_pos h, dif_pos (by omega), if_pos h]
    · rw [if_neg h]
      by_cases h2 : r.val < 2
      · rw [if_pos h2, dif_pos h2, if_neg h]
      · rw [if_neg h2, dif_neg h2]; congr 2; exact Fin.ext (by dsimp only; omega)
  · rw [dif_neg h8, dif_neg (by omega)]; congr 2; exact Fin.ext (by dsimp only; omega)

section Block
variable (x0 : FVec Ideal S8448x2048 .bf16) (x1 : FVec Ideal S2x2048x11264 .f32) (x2 : FVec Ideal S2x3x11264 .f32) (x3 : FVec Ideal S2x11264 .f32)
  (n o : ℕ) (hn : n < 8) (ho : o + 256 ≤ 11264)
  (x : Vec Ideal S1024x2048 .bf16) (p : Vec Ideal S16x2048 .bf16) (w : Vec Ideal S2048x256 .bf16) (c : Vec Ideal S1x3x256 .f32) (b : Vec Ideal S1x1x256 .f32)
  (hx : ∀ (r : Fin 1024) (k : Fin 2048) (h : n * 1024 + r.val < 8448), x (ix2 r k) = x0 (ix2 ⟨n * 1024 + r.val, h⟩ k))
  (hw : ∀ (k : Fin 2048) (j : Fin 256) (h : o + j.val < 11264), w (ix2 k j) = x1 (ix3 0 k ⟨o + j.val, h⟩))

include hx hw hn ho in
/-- A block's row against a column. -/
theorem rows_proj (r : Fin 1024) (j : Fin 256) : rows x w (ix2 r j) = proj x0 x1 (n * 1024 + r.val) (o + j.val) := by
  rw [rows_apply]
  unfold proj
  rw [dif_pos ⟨by omega, by omega⟩]
  exact Finset.sum_congr rfl fun k _ => by rw [hx r k (by omega), hw k j (by omega)]

variable (hp : ∀ (r : Fin 16) (k : Fin 2048) (h : (n * 64 - 1) * 16 + r.val < 8448), p (ix2 r k) = x0 (ix2 ⟨(n * 64 - 1) * 16 + r.val, h⟩ k))

include hp hw hn ho in
/-- A row before the block against a column. -/
theorem halo_proj (r : Fin 16) (j : Fin 256) : halo p w (ix2 r j) = proj x0 x1 ((n * 64 - 1) * 16 + r.val) (o + j.val) := by
  rw [halo_apply]
  unfold proj
  rw [dif_pos ⟨by omega, by omega⟩]
  exact Finset.sum_congr rfl fun k _ => by rw [hp r k (by omega), hw k j (by omega)]

include hp hw hn ho in
/-- A row before the block, kept when the block does not begin a sequence. -/
theorem halo_past (r : Fin 16) (j : Fin 256) (s d : ℕ) (hs : s < d) (hd : d ≤ 2) (hr : r.val + d = 16 + s) :
    halo p w (ix2 r j) * (if n % 4 = 0 then (0 : EReal) else 1) = past x0 x1 d (n * 1024 + s) (o + j.val) := by
  rw [halo_proj x0 x1 n o hn ho p w hw hp]
  unfold past
  by_cases h : n % 4 = 0
  · rw [if_pos h, if_pos (by omega), mul_zero]
  · rw [if_neg h, if_neg (by omega), mul_one]
    exact congrArg (fun z => proj x0 x1 z _) (by omega)

include hx hp hw hn ho in
theorem back1_past (r : Fin 1024) (j : Fin 256) :
    back1 (F := Ideal) count (if n % 4 = 0 then (0 : EReal) else 1) (rows x w) (halo p w) (ix2 r j) = past x0 x1 1 (n * 1024 + r.val) (o + j.val) := by
  rw [back1_apply]
  by_cases h : r.val < 1
  · rw [dif_pos h]
    exact halo_past x0 x1 n o hn ho p w hw hp 15 j r.val 1 h (by decide) (by show 15 + 1 = 16 + r.val; omega)
  · rw [dif_neg h, rows_proj x0 x1 n o hn ho x w hx hw]
    unfold past
    rw [if_neg (by omega)]
    exact congrArg (fun z => proj x0 x1 z _) (by dsimp only; omega)

include hx hp hw hn ho in
theorem back2_past (r : Fin 1024) (j : Fin 256) :
    back2 (F := Ideal) count (if n % 4 = 0 then (0 : EReal) else 1) (rows x w) (halo p w) (ix2 r j) = past x0 x1 2 (n * 1024 + r.val) (o + j.val) := by
  rw [back2_apply]
  by_cases h : r.val < 2
  · rw [dif_pos h]
    by_cases h1 : r.val < 1
    · rw [if_pos h1]
      exact halo_past x0 x1 n o hn ho p w hw hp 14 j r.val 2 h (by decide) (by show 14 + 2 = 16 + r.val; omega)
    · rw [if_neg h1]
      exact halo_past x0 x1 n o hn ho p w hw hp 15 j r.val 2 h (by decide) (by show 15 + 2 = 16 + r.val; omega)
  · rw [dif_neg h, rows_proj x0 x1 n o hn ho x w hx hw]
    unfold past
    rw [if_neg (by omega)]
    exact congrArg (fun z => proj x0 x1 z _) (by dsimp only; omega)

include hx hp hw hn ho in
/-- A block's convolution is the whole array's, there. -/
theorem conv_block (hc : ∀ (d : Fin 3) (j : Fin 256) (h : o + j.val < 11264), c (ix3 0 d j) = x2 (ix3 0 d ⟨o + j.val, h⟩))
    (hb : ∀ (j : Fin 256) (h : o + j.val < 11264), b (ix3 0 0 j) = x3 (ix2 0 ⟨o + j.val, h⟩)) (r : Fin 1024) (j : Fin 256) :
    conv (F := Ideal) count (if n % 4 = 0 then (0 : EReal) else 1) (rows x w) (halo p w) c b (ix2 r j) = convAt x0 x1 x2 x3 (n * 1024 + r.val) (o + j.val) := by
  have hJ : o + j.val < 11264 := by omega
  rw [conv_apply, back1_past x0 x1 n o hn ho x p w hx hw hp, back2_past x0 x1 n o hn ho x p w hx hw hp, rows_proj x0 x1 n o hn ho x w hx hw, hc, hc, hc, hb]
  unfold convAt tapAt biasAt
  rw [dif_pos hJ, dif_pos hJ, dif_pos hJ, dif_pos hJ]
end Block

section Plain
open Cert.FfnInPlainIdeal.Read
variable (x0 : FVec Ideal S8448x2048 .bf16) (x1 : FVec Ideal S2x2048x11264 .f32) (x2 : FVec Ideal S2x3x11264 .f32) (x3 : FVec Ideal S2x11264 .f32)

/-- The reference's product, by sequence and position. -/
theorem plain_proj (b : Fin 2) (s : Fin 4096) (J : Fin 11264) : val_main_v7 (F := Ideal) x0 x1 (ix3 b s J) = proj x0 x1 (b.val * 4096 + s.val) J.val := by
  have e : val_main_v7 (F := Ideal) x0 x1 (ix3 b s J) = ∑ k : Fin 2048, x0 (ix2 ⟨b.val * 4096 + s.val, by omega⟩ k) * x1 (ix3 0 k J) := by
    pointwise [val_main_v7, val_main_v6, val_main_v5, val_main_v4, val_main_v3, val_main_v2, val_main_v1, val_main_v0]
  rw [e]
  unfold proj
  rw [dif_pos ⟨by omega, J.isLt⟩]

/-- The reference's product below two rows of zeros. -/
theorem plain_past (b : Fin 2) (s : Fin 4098) (J : Fin 11264) (d R : ℕ) (hR : R < 4096) (hd : s.val + d = R + 2) (hd2 : d ≤ 2) :
    val_main_v9 (F := Ideal) x0 x1 (ix3 b s J) = past x0 x1 d (b.val * 4096 + R) J.val := by
  have e : val_main_v9 (F := Ideal) x0 x1 (ix3 b s J) = (if h : s.val < 2 then (0 : EReal) else val_main_v7 (F := Ideal) x0 x1 (ix3 b ⟨s.val - 2, by omega⟩ J)) := by
    pointwise [val_main_v9, val_main_v8, val_main_cst]
  rw [e]
  unfold past
  by_cases h : s.val < 2
  · rw [dif_pos h, if_pos (by omega)]
  · rw [dif_neg h, if_neg (by omega), plain_proj]
    exact congrArg (fun z => proj x0 x1 z _) (by dsimp only; omega)

/-- The reference's convolution. -/
theorem plain_conv (b : Fin 2) (s : Fin 4096) (J : Fin 11264) :
    val_main_v36 (F := Ideal) x0 x1 x2 x3 (ix3 b s J) = convAt x0 x1 x2 x3 (b.val * 4096 + s.val) J.val := by
  have e : val_main_v36 (F := Ideal) x0 x1 x2 x3 (ix3 b s J)
      = x2 (ix3 0 0 J) * val_main_v9 (F := Ideal) x0 x1 (ix3 b ⟨s.val, by omega⟩ J) + x2 (ix3 0 1 J) * val_main_v9 (F := Ideal) x0 x1 (ix3 b ⟨1 + s.val, by omega⟩ J)
        + x2 (ix3 0 2 J) * val_main_v9 (F := Ideal) x0 x1 (ix3 b ⟨2 + s.val, by omega⟩ J) + x3 (ix2 0 J) := by
    pointwise [val_main_v36, val_main_v35, val_main_v34, val_main_v33, val_main_v32, val_main_v31, val_main_v30, val_main_v29, val_main_v28, val_main_v27, val_main_v26,
      val_main_v25, val_main_v24, val_main_v23, val_main_v22, val_main_v21, val_main_v20, val_main_v19, val_main_v18, val_main_v17, val_main_v16, val_main_v15, val_main_v14,
      val_main_v13, val_main_v12, val_main_v11, val_main_v10, val_main_cst_0]
  have e0 : past x0 x1 0 (b.val * 4096 + s.val) J.val = proj x0 x1 (b.val * 4096 + s.val) J.val := by
    unfold past; rw [if_neg (by omega), Nat.sub_zero]
  rw [e, plain_past x0 x1 b ⟨s.val, _⟩ J 2 s.val s.isLt rfl (by decide), plain_past x0 x1 b ⟨1 + s.val, _⟩ J 1 s.val s.isLt (by dsimp only; omega) (by decide),
    plain_past x0 x1 b ⟨2 + s.val, _⟩ J 0 s.val s.isLt (by dsimp only; omega) (by decide), e0]
  unfold convAt tapAt biasAt
  rw [dif_pos J.isLt, dif_pos J.isLt, dif_pos J.isLt, dif_pos J.isLt]

/-- The reference's gated value in a prompt row. -/
theorem plain_gated (R : Fin 8448) (J : Fin 5632) (hR : R.val < 8192) :
    val_main_v53 (F := Ideal) x0 x1 x2 x3 (ix2 R J) = act (convAt x0 x1 x2 x3 R.val J.val) (convAt x0 x1 x2 x3 R.val (5632 + J.val)) := by
  have e : val_main_v53 (F := Ideal) x0 x1 x2 x3 (ix2 R J)
      = (if h : R.val < 8192 then val_main_v48 (F := Ideal) x0 x1 x2 x3 (ix2 ⟨R.val, h⟩ J) else (0 : EReal)) := by
    pointwise [val_main_v53, val_main_v52, val_main_v51, val_main_cst_4]
  have f : val_main_v48 (F := Ideal) x0 x1 x2 x3 (ix2 ⟨R.val, hR⟩ J)
      = act (val_main_v36 (F := Ideal) x0 x1 x2 x3 (ix3 ⟨R.val / 4096, by omega⟩ ⟨R.val % 4096, by omega⟩ ⟨J.val, by omega⟩))
          (val_main_v36 (F := Ideal) x0 x1 x2 x3 (ix3 ⟨R.val / 4096, by omega⟩ ⟨R.val % 4096, by omega⟩ ⟨5632 + J.val, by omega⟩)) := by
    unfold act
    pointwise [val_main_v48, val_main_v47, val_main_v46, val_main_v45, val_main_v44, val_main_v43, val_main_v42, val_main_v41, val_main_v40, val_main_v39, val_main_v38, val_main_v37,
      val_main_cst_1, val_main_cst_2, val_main_cst_3]
    rfl
  rw [e, dif_pos hR, f, plain_conv, plain_conv]
  dsimp only
  rw [show R.val / 4096 * 4096 + R.val % 4096 = R.val by omega]

/-- The reference's last rows of a block of 1024: the gate's, and the value's. -/
theorem plain_gate_tail (b : Fin 8) (r : Fin 8) (J : Fin 5632) :
    val_main_v54 (F := Ideal) x0 x1 (ix3 b r J) = proj x0 x1 (b.val * 1024 + (1016 + r.val)) J.val := by
  have e : val_main_v54 (F := Ideal) x0 x1 (ix3 b r J) = val_main_v7 (F := Ideal) x0 x1 (ix3 ⟨b.val / 4, by omega⟩ ⟨b.val % 4 * 1024 + (1016 + r.val), by omega⟩ ⟨J.val, by omega⟩) := by
    pointwise [val_main_v54, val_main_v50, val_main_v49]
  rw [e, plain_proj]
  exact congrArg (fun z => proj x0 x1 z _) (by dsimp only; omega)

@[inherit_doc plain_gate_tail]
theorem plain_value_tail (b : Fin 8) (r : Fin 8) (J : Fin 5632) :
    val_main_v55 (F := Ideal) x0 x1 (ix3 b r J) = proj x0 x1 (b.val * 1024 + (1016 + r.val)) (5632 + J.val) := by
  have e : val_main_v55 (F := Ideal) x0 x1 (ix3 b r J) = val_main_v7 (F := Ideal) x0 x1 (ix3 ⟨b.val / 4, by omega⟩ ⟨b.val % 4 * 1024 + (1016 + r.val), by omega⟩ ⟨5632 + J.val, by omega⟩) := by
    pointwise [val_main_v55, val_main_v50, val_main_v49]
  rw [e, plain_proj]
  exact congrArg (fun z => proj x0 x1 z _) (by dsimp only; omega)

/-- The reference's rounded weights: the gate's, the value's, and the second projection's. -/
theorem plain_gate_weights (k : Fin 2048) (J : Fin 5632) : val_main_v59 (F := Ideal) x1 (ix2 k J) = x1 (ix3 0 k ⟨J.val, by omega⟩) := by
  pointwise [val_main_v59, val_main_v2, val_main_v1, val_main_v0]
@[inherit_doc plain_gate_weights]
theorem plain_value_weights (k : Fin 2048) (J : Fin 5632) : val_main_v60 (F := Ideal) x1 (ix2 k J) = x1 (ix3 0 k ⟨5632 + J.val, by omega⟩) := by
  pointwise [val_main_v60, val_main_v2, val_main_v1, val_main_v0]
@[inherit_doc plain_gate_weights]
theorem plain_down_weights (x4 : FVec Ideal S2x5632x2048 .f32) (k : Fin 5632) (J : Fin 2048) : val_main_v58 (F := Ideal) x4 (ix2 k J) = x4 (ix3 0 k J) := by
  pointwise [val_main_v58, val_main_v57, val_main_v56]
end Plain

end Cert.FfnInSpec

end
-- ==== Proof.FfnInClaim.lean ====
/- The feed-forward block's first half: the call's six arrays are the plain reference's, the gated values in the prompts' rows. -/
module

public import proofs.«01_k».proof.Defs
public import proofs.«01_k».proof.Proof.FfnInValue
public import proofs.«01_k».proof.Proof.CrossAttnCond
public import proofs.«01_k».proof.Proof.Gen.On_ffn_rows
public import Idealize.ShloMosaic.Lib.Pipeline.ValueKit

@[expose] public section

set_option maxRecDepth 16384

noncomputable section

namespace Cert.FfnInSpec

open Cert.FfnInIdeal Cert.FfnInIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem idx0 : ∀ t : Fin cfg0.N, win0_0.index t = ![t.val % 8, 0] := (by decide +kernel : ∀ t : Fin grid0.N, _)
theorem idx1 : ∀ t : Fin cfg0.N, win0_1.index t = ![t.val % 8 * 64 - 1, 0] := (by decide +kernel : ∀ t : Fin grid0.N, _)
theorem idx2 : ∀ t : Fin cfg0.N, win0_2.index t = ![0, 0, t.val / 8] := (by decide +kernel : ∀ t : Fin grid0.N, _)
theorem idx3 : ∀ t : Fin cfg0.N, win0_3.index t = ![0, 0, 11 + t.val / 8] := (by decide +kernel : ∀ t : Fin grid0.N, _)
theorem idx4 : ∀ t : Fin cfg0.N, win0_4.index t = ![0, 0, t.val / 8] := (by decide +kernel : ∀ t : Fin grid0.N, _)
theorem idx5 : ∀ t : Fin cfg0.N, win0_5.index t = ![0, 0, 11 + t.val / 8] := (by decide +kernel : ∀ t : Fin grid0.N, _)
theorem idx6 : ∀ t : Fin cfg0.N, win0_6.index t = ![0, 0, t.val / 8] := (by decide +kernel : ∀ t : Fin grid0.N, _)
theorem idx7 : ∀ t : Fin cfg0.N, win0_7.index t = ![0, 0, 11 + t.val / 8] := (by decide +kernel : ∀ t : Fin grid0.N, _)
theorem idx8 : ∀ t : Fin cfg0.N, win0_8.index t = ![0, t.val, 0] := (by decide +kernel : ∀ t : Fin grid0.N, _)
theorem idx9 : ∀ t : Fin cfg0.N, win0_9.index t = ![t.val % 8, t.val / 8] := (by decide +kernel : ∀ t : Fin grid0.N, _)
theorem idx10 : ∀ t : Fin cfg0.N, win0_10.index t = ![t.val % 8, 0, t.val / 8] := (by decide +kernel : ∀ t : Fin grid0.N, _)
theorem idx11 : ∀ t : Fin cfg0.N, win0_11.index t = ![t.val % 8, 0, t.val / 8] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, t.val / 8] := (by decide +kernel : ∀ t : Fin grid0.N, _)
theorem idx14 : ∀ t : Fin cfg0.N, win0_14.index t = ![0, t.val / 8] := (by decide +kernel : ∀ t : Fin grid0.N, _)
theorem points (t : Fin cfg0.N) : t.val < 88 := lt_of_lt_of_eq t.isLt (by decide +kernel : cfg0.N = 88)

theorem V_main_v0 (c : Dev nD) : V m c main_v0 = shapeCast S2x1x11264 (m ((c : Thread nD τ).loc main_arg3)) shapeCasts_S2x11264_S2x1x11264 := by
  unfold_abbrev_sides
  after_results
  rfl

theorem bias_reshape (b : FVec Ideal S2x11264 .f32) (J : Fin 11264) : (shapeCast S2x1x11264 b shapeCasts_S2x11264_S2x1x11264 : FVec Ideal S2x1x11264 .f32) (ix3 0 0 J) = b (ix2 0 J) := by
  pointwise []

/-- Whether the block continues a sequence, as a word. -/
def keepWord (i : grid0.Coords) : BitVec 32 :=
  let four : BitVec 32 := Scalar.select (Scalar.cmpi .eq (4#32) (0#32)) (1#32) (4#32)
  let r : BitVec 32 := Scalar.remsi (BitVec.ofNat 32 (i 1).val) four
  let neg : BitVec 1 := Scalar.andi (Scalar.xori (Scalar.cmpi .slt r (0#32)) (Scalar.cmpi .slt four (0#32))) (Scalar.cmpi .ne r (0#32))
  Scalar.extui (Scalar.cmpi .ne (Scalar.select neg (Scalar.addi r four) r) (0#32))

theorem keepWord_eq : ∀ t : Fin cfg0.N, keepWord (grid0.coords t) = if t.val % 8 % 4 = 0 then 0#32 else 1#32 := (by decide +kernel : ∀ t : Fin grid0.N, _)

/-- Rows before a block count unless the block begins a sequence. -/
theorem keep_eq (t : Fin cfg0.N) : keep (F := Ideal) (grid0.coords t) = if t.val % 8 % 4 = 0 then (0 : EReal) else 1 := by
  show (((keepWord (grid0.coords t)).toInt : ℝ) : EReal) = _
  rw [keepWord_eq]
  by_cases h : t.val % 8 % 4 = 0
  · rw [if_pos h, if_pos h]; simp
  · rw [if_neg h, if_neg h]; simp

/-! What the point's input blocks are of the arguments. -/
theorem in0 (c : Dev nD) (t : Fin cfg0.N) (r : Fin 1024) (k : Fin 2048) :
    X0_0 (F := Ideal) m c t (ix2 r k) = m ((c : Thread nD τ).loc main_arg0) (ix2 ⟨t.val % 8 * 1024 + r.val, by omega⟩ k) := by
  unfold X0_0 Pipeline.Window.fill
  rw [dif_pos (moved0_0 t (ix2 r k))]
  blk_simp [iblk]
  rw [V_main_arg0]
  congr 1
  blk_ext [idx0]
theorem in1 (c : Dev nD) (t : Fin cfg0.N) (r : Fin 16) (k : Fin 2048) :
    iblk (F := Ideal) m c 1 t (ix2 r k) = m ((c : Thread nD τ).loc main_arg0) (ix2 ⟨(t.val % 8 * 64 - 1) * 16 + r.val, by omega⟩ k) := by
  blk_simp [iblk]
  rw [V_main_arg0]
  congr 1
  blk_ext [idx1]
theorem in2 (c : Dev nD) (t : Fin cfg0.N) (k : Fin 2048) (j : Fin 512) (J : ℕ) (hJ : J < 11264) (e : J = t.val / 8 * 512 + j.val) :
    iblk (F := Ideal) m c 2 t (ix3 0 k j) = m ((c : Thread nD τ).loc main_arg1) (ix3 0 k ⟨J, hJ⟩) := by
  subst e
  blk_simp [iblk]
  rw [V_main_arg1]
  congr 1
  blk_ext [idx2]
theorem in3 (c : Dev nD) (t : Fin cfg0.N) (k : Fin 2048) (j : Fin 512) (J : ℕ) (hJ : J < 11264) (e : J = 5632 + t.val / 8 * 512 + j.val) :
    iblk (F := Ideal) m c 3 t (ix3 0 k j) = m ((c : Thread nD τ).loc main_arg1) (ix3 0 k ⟨J, hJ⟩) := by
  subst e
  blk_simp [iblk]
  rw [V_main_arg1]
  congr 1
  blk_ext [idx3]
theorem in4 (c : Dev nD) (t : Fin cfg0.N) (k : Fin 3) (j : Fin 512) (J : ℕ) (hJ : J < 11264) (e : J = t.val / 8 * 512 + j.val) :
    iblk (F := Ideal) m c 4 t (ix3 0 k j) = m ((c : Thread nD τ).loc main_arg2) (ix3 0 k ⟨J, hJ⟩) := by
  subst e
  blk_simp [iblk]
  rw [V_main_arg2]
  congr 1
  blk_ext [idx4]
theorem in5 (c : Dev nD) (t : Fin cfg0.N) (k : Fin 3) (j : Fin 512) (J : ℕ) (hJ : J < 11264) (e : J = 5632 + t.val / 8 * 512 + j.val) :
    iblk (F := Ideal) m c 5 t (ix3 0 k j) = m ((c : Thread nD τ).loc main_arg2) (ix3 0 k ⟨J, hJ⟩) := by
  subst e
  blk_simp [iblk]
  rw [V_main_arg2]
  congr 1
  blk_ext [idx5]
theorem in6 (c : Dev nD) (t : Fin cfg0.N) (j : Fin 512) (J : ℕ) (hJ : J < 11264) (e : J = t.val / 8 * 512 + j.val) :
    iblk (F := Ideal) m c 6 t (ix3 0 0 j) = m ((c : Thread nD τ).loc main_arg3) (ix2 0 ⟨J, hJ⟩) := by
  subst e
  blk_simp [iblk]
  rw [V_main_v0, ← bias_reshape (m ((c : Thread nD τ).loc main_arg3))]
  refine congrArg (shapeCast S2x1x11264 _ shapeCasts_S2x11264_S2x1x11264) ?_
  blk_ext [idx6]
theorem in7 (c : Dev nD) (t : Fin cfg0.N) (j : Fin 512) (J : ℕ) (hJ : J < 11264) (e : J = 5632 + t.val / 8 * 512 + j.val) :
    iblk (F := Ideal) m c 7 t (ix3 0 0 j) = m ((c : Thread nD τ).loc main_arg3) (ix2 0 ⟨J, hJ⟩) := by
  subst e
  blk_simp [iblk]
  rw [V_main_v0, ← bias_reshape (m ((c : Thread nD τ).loc main_arg3))]
  refine congrArg (shapeCast S2x1x11264 _ shapeCasts_S2x11264_S2x1x11264) ?_
  blk_ext [idx7]
theorem in8 (c : Dev nD) (t : Fin cfg0.N) (r : Fin 64) (j : Fin 2048) (hr : t.val * 64 + r.val < 5632) :
    iblk (F := Ideal) m c 8 t (ix3 0 r j) = m ((c : Thread nD τ).loc main_arg4) (ix3 0 ⟨t.val * 64 + r.val, hr⟩ j) := by
  blk_simp [iblk]
  rw [V_main_arg4]
  congr 1
  blk_ext [idx8]

theorem wcast_apply (w : Vec Ideal S1x2048x512 .f32) (k : Fin 2048) (j : Fin 512) : wcast (F := Ideal) w (ix2 k j) = w (ix3 0 k j) := by
  pointwise [wcast]
theorem scast_apply (w : Vec Ideal S1x64x2048 .f32) (k : Fin 64) (j : Fin 2048) : scast (F := Ideal) w (ix2 k j) = w (ix3 0 k j) := by
  pointwise [scast]

/-- The halves of a block, by column. -/
theorem wl_apply (w : Vec Ideal S2048x512 .bf16) (k : Fin 2048) (j : Fin 256) : wl (F := Ideal) w (ix2 k j) = w (ix2 k ⟨j.val, by omega⟩) := by
  pointwise [wl]
@[inherit_doc wl_apply]
theorem wr_apply (w : Vec Ideal S2048x512 .bf16) (k : Fin 2048) (j : Fin 256) : wr (F := Ideal) w (ix2 k j) = w (ix2 k ⟨256 + j.val, by omega⟩) := by
  pointwise [wr]
@[inherit_doc wl_apply]
theorem cl_apply (w : Vec Ideal S1x3x512 .f32) (d : Fin 3) (j : Fin 256) : cl (F := Ideal) w (ix3 0 d j) = w (ix3 0 d ⟨j.val, by omega⟩) := by
  pointwise [cl]
@[inherit_doc wl_apply]
theorem cr_apply (w : Vec Ideal S1x3x512 .f32) (d : Fin 3) (j : Fin 256) : cr (F := Ideal) w (ix3 0 d j) = w (ix3 0 d ⟨256 + j.val, by omega⟩) := by
  pointwise [cr]
@[inherit_doc wl_apply]
theorem bl_apply (w : Vec Ideal S1x1x512 .f32) (j : Fin 256) : bl (F := Ideal) w (ix3 0 0 j) = w (ix3 0 0 ⟨j.val, by omega⟩) := by
  pointwise [bl]
@[inherit_doc wl_apply]
theorem br_apply (w : Vec Ideal S1x1x512 .f32) (j : Fin 256) : br (F := Ideal) w (ix3 0 0 j) = w (ix3 0 0 ⟨256 + j.val, by omega⟩) := by
  pointwise [br]

theorem gate_left (c : Dev nD) (t : Fin cfg0.N) (r : Fin 1024) (j : Fin 256) :
    conv (F := Ideal) count (keep (grid0.coords t)) (rows (X0_0 m c t) (wl (gateW m c t))) (halo (iblk m c 1 t) (wl (gateW m c t))) (cl (iblk m c 4 t)) (bl (iblk m c 6 t)) (ix2 r j)
      = convAt (m ((c : Thread nD τ).loc main_arg0)) (m ((c : Thread nD τ).loc main_arg1)) (m ((c : Thread nD τ).loc main_arg2)) (m ((c : Thread nD τ).loc main_arg3)) (t.val % 8 * 1024 + r.val) (t.val / 8 * 512 + j.val) := by
  have ht := points t
  rw [keep_eq]
  refine conv_block (m ((c : Thread nD τ).loc main_arg0)) (m ((c : Thread nD τ).loc main_arg1)) (m ((c : Thread nD τ).loc main_arg2)) (m ((c : Thread nD τ).loc main_arg3)) (t.val % 8) (t.val / 8 * 512) (by omega) (by omega) (X0_0 m c t) (iblk m c 1 t) (wl (gateW m c t)) (cl (iblk m c 4 t)) (bl (iblk m c 6 t))
    (fun r k _ => in0 m c t r k) (fun k j hJ => ?_) (fun r k _ => in1 m c t r k) (fun d j hJ => ?_) (fun j hJ => ?_) r j
  · rw [wl_apply]; unfold gateW; rw [wcast_apply]; exact in2 m c t k _ _ (by omega) (by first | rfl | (dsimp only; omega))
  · rw [cl_apply]; exact in4 m c t d _ _ (by omega) (by first | rfl | (dsimp only; omega))
  · rw [bl_apply]; exact in6 m c t _ _ (by omega) (by first | rfl | (dsimp only; omega))
theorem gate_rows_left (c : Dev nD) (t : Fin cfg0.N) (r : Fin 1024) (j : Fin 256) :
    rows (F := Ideal) (X0_0 m c t) (wl (gateW m c t)) (ix2 r j) = proj (m ((c : Thread nD τ).loc main_arg0)) (m ((c : Thread nD τ).loc main_arg1)) (t.val % 8 * 1024 + r.val) (t.val / 8 * 512 + j.val) := by
  have ht := points t
  refine rows_proj (m ((c : Thread nD τ).loc main_arg0)) (m ((c : Thread nD τ).loc main_arg1)) (t.val % 8) (t.val / 8 * 512) (by omega) (by omega) (X0_0 m c t) (wl (gateW m c t)) (fun r k _ => in0 m c t r k) (fun k j hJ => ?_) r j
  rw [wl_apply]; unfold gateW; rw [wcast_apply]; exact in2 m c t k _ _ (by omega) (by first | rfl | (dsimp only; omega))

theorem gate_right (c : Dev nD) (t : Fin cfg0.N) (r : Fin 1024) (j : Fin 256) :
    conv (F := Ideal) count (keep (grid0.coords t)) (rows (X0_0 m c t) (wr (gateW m c t))) (halo (iblk m c 1 t) (wr (gateW m c t))) (cr (iblk m c 4 t)) (br (iblk m c 6 t)) (ix2 r j)
      = convAt (m ((c : Thread nD τ).loc main_arg0)) (m ((c : Thread nD τ).loc main_arg1)) (m ((c : Thread nD τ).loc main_arg2)) (m ((c : Thread nD τ).loc main_arg3)) (t.val % 8 * 1024 + r.val) (t.val / 8 * 512 + 256 + j.val) := by
  have ht := points t
  rw [keep_eq]
  refine conv_block (m ((c : Thread nD τ).loc main_arg0)) (m ((c : Thread nD τ).loc main_arg1)) (m ((c : Thread nD τ).loc main_arg2)) (m ((c : Thread nD τ).loc main_arg3)) (t.val % 8) (t.val / 8 * 512 + 256) (by omega) (by omega) (X0_0 m c t) (iblk m c 1 t) (wr (gateW m c t)) (cr (iblk m c 4 t)) (br (iblk m c 6 t))
    (fun r k _ => in0 m c t r k) (fun k j hJ => ?_) (fun r k _ => in1 m c t r k) (fun d j hJ => ?_) (fun j hJ => ?_) r j
  · rw [wr_apply]; unfold gateW; rw [wcast_apply]; exact in2 m c t k _ _ (by omega) (by first | rfl | (dsimp only; omega))
  · rw [cr_apply]; exact in4 m c t d _ _ (by omega) (by first | rfl | (dsimp only; omega))
  · rw [br_apply]; exact in6 m c t _ _ (by omega) (by first | rfl | (dsimp only; omega))
theorem gate_rows_right (c : Dev nD) (t : Fin cfg0.N) (r : Fin 1024) (j : Fin 256) :
    rows (F := Ideal) (X0_0 m c t) (wr (gateW m c t)) (ix2 r j) = proj (m ((c : Thread nD τ).loc main_arg0)) (m ((c : Thread nD τ).loc main_arg1)) (t.val % 8 * 1024 + r.val) (t.val / 8 * 512 + 256 + j.val) := by
  have ht := points t
  refine rows_proj (m ((c : Thread nD τ).loc main_arg0)) (m ((c : Thread nD τ).loc main_arg1)) (t.val % 8) (t.val / 8 * 512 + 256) (by omega) (by omega) (X0_0 m c t) (wr (gateW m c t)) (fun r k _ => in0 m c t r k) (fun k j hJ => ?_) r j
  rw [wr_apply]; unfold gateW; rw [wcast_apply]; exact in2 m c t k _ _ (by omega) (by first | rfl | (dsimp only; omega))

theorem value_left (c : Dev nD) (t : Fin cfg0.N) (r : Fin 1024) (j : Fin 256) :
    conv (F := Ideal) count (keep (grid0.coords t)) (rows (X0_0 m c t) (wl (valueW m c t))) (halo (iblk m c 1 t) (wl (valueW m c t))) (cl (iblk m c 5 t)) (bl (iblk m c 7 t)) (ix2 r j)
      = convAt (m ((c : Thread nD τ).loc main_arg0)) (m ((c : Thread nD τ).loc main_arg1)) (m ((c : Thread nD τ).loc main_arg2)) (m ((c : Thread nD τ).loc main_arg3)) (t.val % 8 * 1024 + r.val) (5632 + t.val / 8 * 512 + j.val) := by
  have ht := points t
  rw [keep_eq]
  refine conv_block (m ((c : Thread nD τ).loc main_arg0)) (m ((c : Thread nD τ).loc main_arg1)) (m ((c : Thread nD τ).loc main_arg2)) (m ((c : Thread nD τ).loc main_arg3)) (t.val % 8) (5632 + t.val / 8 * 512) (by omega) (by omega) (X0_0 m c t) (iblk m c 1 t) (wl (valueW m c t)) (cl (iblk m c 5 t)) (bl (iblk m c 7 t))
    (fun r k _ => in0 m c t r k) (fun k j hJ => ?_) (fun r k _ => in1 m c t r k) (fun d j hJ => ?_) (fun j hJ => ?_) r j
  · rw [wl_apply]; unfold valueW; rw [wcast_apply]; exact in3 m c t k _ _ (by omega) (by first | rfl | (dsimp only; omega))
  · rw [cl_apply]; exact in5 m c t d _ _ (by omega) (by first | rfl | (dsimp only; omega))
  · rw [bl_apply]; exact in7 m c t _ _ (by omega) (by first | rfl | (dsimp only; omega))
theorem value_rows_left (c : Dev nD) (t : Fin cfg0.N) (r : Fin 1024) (j : Fin 256) :
    rows (F := Ideal) (X0_0 m c t) (wl (valueW m c t)) (ix2 r j) = proj (m ((c : Thread nD τ).loc main_arg0)) (m ((c : Thread nD τ).loc main_arg1)) (t.val % 8 * 1024 + r.val) (5632 + t.val / 8 * 512 + j.val) := by
  have ht := points t
  refine rows_proj (m ((c : Thread nD τ).loc main_arg0)) (m ((c : Thread nD τ).loc main_arg1)) (t.val % 8) (5632 + t.val / 8 * 512) (by omega) (by omega) (X0_0 m c t) (wl (valueW m c t)) (fun r k _ => in0 m c t r k) (fun k j hJ => ?_) r j
  rw [wl_apply]; unfold valueW; rw [wcast_apply]; exact in3 m c t k _ _ (by omega) (by first | rfl | (dsimp only; omega))

theorem value_right (c : Dev nD) (t : Fin cfg0.N) (r : Fin 1024) (j : Fin 256) :
    conv (F := Ideal) count (keep (grid0.coords t)) (rows (X0_0 m c t) (wr (valueW m c t))) (halo (iblk m c 1 t) (wr (valueW m c t))) (cr (iblk m c 5 t)) (br (iblk m c 7 t)) (ix2 r j)
      = convAt (m ((c : Thread nD τ).loc main_arg0)) (m ((c : Thread nD τ).loc main_arg1)) (m ((c : Thread nD τ).loc main_arg2)) (m ((c : Thread nD τ).loc main_arg3)) (t.val % 8 * 1024 + r.val) (5632 + t.val / 8 * 512 + 256 + j.val) := by
  have ht := points t
  rw [keep_eq]
  refine conv_block (m ((c : Thread nD τ).loc main_arg0)) (m ((c : Thread nD τ).loc main_arg1)) (m ((c : Thread nD τ).loc main_arg2)) (m ((c : Thread nD τ).loc main_arg3)) (t.val % 8) (5632 + t.val / 8 * 512 + 256) (by omega) (by omega) (X0_0 m c t) (iblk m c 1 t) (wr (valueW m c t)) (cr (iblk m c 5 t)) (br (iblk m c 7 t))
    (fun r k _ => in0 m c t r k) (fun k j hJ => ?_) (fun r k _ => in1 m c t r k) (fun d j hJ => ?_) (fun j hJ => ?_) r j
  · rw [wr_apply]; unfold valueW; rw [wcast_apply]; exact in3 m c t k _ _ (by omega) (by first | rfl | (dsimp only; omega))
  · rw [cr_apply]; exact in5 m c t d _ _ (by omega) (by first | rfl | (dsimp only; omega))
  · rw [br_apply]; exact in7 m c t _ _ (by omega) (by first | rfl | (dsimp only; omega))
theorem value_rows_right (c : Dev nD) (t : Fin cfg0.N) (r : Fin 1024) (j : Fin 256) :
    rows (F := Ideal) (X0_0 m c t) (wr (valueW m c t)) (ix2 r j) = proj (m ((c : Thread nD τ).loc main_arg0)) (m ((c : Thread nD τ).loc main_arg1)) (t.val % 8 * 1024 + r.val) (5632 + t.val / 8 * 512 + 256 + j.val) := by
  have ht := points t
  refine rows_proj (m ((c : Thread nD τ).loc main_arg0)) (m ((c : Thread nD τ).loc main_arg1)) (t.val % 8) (5632 + t.val / 8 * 512 + 256) (by omega) (by omega) (X0_0 m c t) (wr (valueW m c t)) (fun r k _ => in0 m c t r k) (fun k j hJ => ?_) r j
  rw [wr_apply]; unfold valueW; rw [wcast_apply]; exact in3 m c t k _ _ (by omega) (by first | rfl | (dsimp only; omega))

/-- A point's gated values. -/
def gatedAt (c : Dev nD) (t : Fin cfg0.N) (y : S1024x512.Idx) : EReal :=
  act (convAt (m ((c : Thread nD τ).loc main_arg0)) (m ((c : Thread nD τ).loc main_arg1)) (m ((c : Thread nD τ).loc main_arg2)) (m ((c : Thread nD τ).loc main_arg3)) (t.val % 8 * 1024 + (y 0).val) (t.val / 8 * 512 + (y 1).val))
    (convAt (m ((c : Thread nD τ).loc main_arg0)) (m ((c : Thread nD τ).loc main_arg1)) (m ((c : Thread nD τ).loc main_arg2)) (m ((c : Thread nD τ).loc main_arg3)) (t.val % 8 * 1024 + (y 0).val) (5632 + t.val / 8 * 512 + (y 1).val))

theorem gated_eq (c : Dev nD) (t : Fin cfg0.N) (y : S1024x512.Idx) :
    gated (F := Ideal) (grid0.coords t) (X0_0 m c t) (iblk m c 1 t) (gateW m c t) (valueW m c t) (iblk m c 4 t) (iblk m c 5 t) (iblk m c 6 t) (iblk m c 7 t) y = gatedAt m c t y := by
  unfold gated
  refine View.canon_apply_of_pieces (Val := Elt Ideal) (e := .bf16) (gatedAt m c t) _ ?_ y (View.cover_of_tiledL _ ![1024, 256] (by sl_kernel_rfl) y)
  simp only [List.forall_mem_cons, List.forall_mem_nil, and_true, List.mem_cons, List.not_mem_nil, or_false, forall_eq_or_imp, forall_eq]
  constructor
  all_goals
    intro x
    obtain ⟨r, j, rfl⟩ : ∃ (r : Fin 1024) (j : Fin 256), x = ix2 r j := ⟨x 0, x 1, funext fun a => match a with | ⟨0, _⟩ => rfl | ⟨1, _⟩ => rfl⟩
    refine (glu_apply _ _ r j).trans ?_
  · rw [gate_right, value_right]
    unfold gatedAt
    refine congrArg₂ act (congrArg₂ (convAt _ _ _ _) ?_ ?_) (congrArg₂ (convAt _ _ _ _) ?_ ?_)
    · show _ = t.val % 8 * 1024 + (0 + 1 * r.val); omega
    · show _ = t.val / 8 * 512 + (256 + 1 * j.val); omega
    · show _ = t.val % 8 * 1024 + (0 + 1 * r.val); omega
    · show _ = 5632 + t.val / 8 * 512 + (256 + 1 * j.val); omega
  · rw [gate_left, value_left]
    unfold gatedAt
    refine congrArg₂ act (congrArg₂ (convAt _ _ _ _) ?_ ?_) (congrArg₂ (convAt _ _ _ _) ?_ ?_)
    · show _ = t.val % 8 * 1024 + (0 + 1 * r.val); omega
    · show _ = t.val / 8 * 512 + (0 + 1 * j.val); omega
    · show _ = t.val % 8 * 1024 + (0 + 1 * r.val); omega
    · show _ = 5632 + t.val / 8 * 512 + (0 + 1 * j.val); omega

/-- A point's last rows of the gate's product. -/
theorem gate_tails (c : Dev nD) (t : Fin cfg0.N) (y : S1x8x512.Idx) :
    tails (F := Ideal) (X0_0 m c t) (gateW m c t) y
      = proj (m ((c : Thread nD τ).loc main_arg0)) (m ((c : Thread nD τ).loc main_arg1)) (t.val % 8 * 1024 + (1016 + (y 1).val)) (t.val / 8 * 512 + (y 2).val) := by
  unfold tails
  refine View.canon_apply_of_pieces (Val := Elt Ideal) (e := .f32) (fun y : S1x8x512.Idx => (proj (m ((c : Thread nD τ).loc main_arg0)) (m ((c : Thread nD τ).loc main_arg1)) (t.val % 8 * 1024 + (1016 + (y 1).val)) (t.val / 8 * 512 + (y 2).val) : EReal)) _ ?_ y
    (View.cover_of_tiledL _ ![1, 8, 256] (by sl_kernel_rfl) y)
  simp only [List.forall_mem_cons, List.forall_mem_nil, and_true, List.mem_cons, List.not_mem_nil, or_false, forall_eq_or_imp, forall_eq]
  constructor
  all_goals
    intro x
    obtain ⟨r, j, rfl⟩ : ∃ (r : Fin 8) (j : Fin 256), x = ix3 0 r j := ⟨x 1, x 2, funext fun a => match a with | ⟨0, _⟩ => Subsingleton.elim (α := Fin 1) _ _ | ⟨1, _⟩ => rfl | ⟨2, _⟩ => rfl⟩
    refine (tail_apply _ r j).trans ?_
  · rw [gate_rows_right]
    refine congrArg₂ (proj _ _) ?_ ?_
    · show _ = t.val % 8 * 1024 + (1016 + (0 + 1 * r.val)); dsimp only; omega
    · show _ = t.val / 8 * 512 + (256 + 1 * j.val); omega
  · rw [gate_rows_left]
    refine congrArg₂ (proj _ _) ?_ ?_
    · show _ = t.val % 8 * 1024 + (1016 + (0 + 1 * r.val)); dsimp only; omega
    · show _ = t.val / 8 * 512 + (0 + 1 * j.val); omega

/-- A point's last rows of the value's product. -/
theorem value_tails (c : Dev nD) (t : Fin cfg0.N) (y : S1x8x512.Idx) :
    tails (F := Ideal) (X0_0 m c t) (valueW m c t) y
      = proj (m ((c : Thread nD τ).loc main_arg0)) (m ((c : Thread nD τ).loc main_arg1)) (t.val % 8 * 1024 + (1016 + (y 1).val)) (5632 + t.val / 8 * 512 + (y 2).val) := by
  unfold tails
  refine View.canon_apply_of_pieces (Val := Elt Ideal) (e := .f32) (fun y : S1x8x512.Idx => (proj (m ((c : Thread nD τ).loc main_arg0)) (m ((c : Thread nD τ).loc main_arg1)) (t.val % 8 * 1024 + (1016 + (y 1).val)) (5632 + t.val / 8 * 512 + (y 2).val) : EReal)) _ ?_ y
    (View.cover_of_tiledL _ ![1, 8, 256] (by sl_kernel_rfl) y)
  simp only [List.forall_mem_cons, List.forall_mem_nil, and_true, List.mem_cons, List.not_mem_nil, or_false, forall_eq_or_imp, forall_eq]
  constructor
  all_goals
    intro x
    obtain ⟨r, j, rfl⟩ : ∃ (r : Fin 8) (j : Fin 256), x = ix3 0 r j := ⟨x 1, x 2, funext fun a => match a with | ⟨0, _⟩ => Subsingleton.elim (α := Fin 1) _ _ | ⟨1, _⟩ => rfl | ⟨2, _⟩ => rfl⟩
    refine (tail_apply _ r j).trans ?_
  · rw [value_rows_right]
    refine congrArg₂ (proj _ _) ?_ ?_
    · show _ = t.val % 8 * 1024 + (1016 + (0 + 1 * r.val)); dsimp only; omega
    · show _ = 5632 + t.val / 8 * 512 + (256 + 1 * j.val); omega
  · rw [value_rows_left]
    refine congrArg₂ (proj _ _) ?_ ?_
    · show _ = t.val % 8 * 1024 + (1016 + (0 + 1 * r.val)); dsimp only; omega
    · show _ = 5632 + t.val / 8 * 512 + (0 + 1 * j.val); omega

/-! The call's arrays after the run. -/

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne ((by decide +kernel : ∀ t t' : Fin grid0.N, win0_9.index t = win0_9.index t' → t = t') t t' h)

theorem xsize9 : ∀ t : Fin cfg0.N, ∀ a, (cfg0.win 9).xsize (cfg0.grid.coords t) a = (cfg0.win 9).size a := by decide +kernel

/-- An index of a block of the gated values, as an index of the part moved. -/
def moved9 (t : Fin cfg0.N) (y : S1024x512.Idx) : ((cfg0.win 9).xblock (cfg0.grid.coords t)).Idx :=
  fun a => ⟨(y a).val, by rw [show ((cfg0.win 9).xblock (cfg0.grid.coords t)).size a = (cfg0.win 9).size a from xsize9 t a]; exact (y a).isLt⟩

/-- The gated values in a prompt's row are the reference's. -/
theorem final9 (c : Dev nD) (R : Fin 8448) (J : Fin 5632) (hR : R.val < 8192) : (dats (F := Ideal) m 0 c).arrAt 9 cfg0.N (ix2 R J)
    = Cert.FfnInPlainIdeal.Read.val_main_v53 (F := Ideal) (m ((c : Thread nD τ).loc main_arg0)) (m ((c : Thread nD τ).loc main_arg1)) (m ((c : Thread nD τ).loc main_arg2)) (m ((c : Thread nD τ).loc main_arg3)) (ix2 R J) := by
  have hN : cfg0.N = 88 := by decide +kernel
  obtain ⟨t, ht⟩ : ∃ t : Fin cfg0.N, t.val = J.val / 512 * 8 + R.val / 1024 := ⟨⟨J.val / 512 * 8 + R.val / 1024, by omega⟩, rfl⟩
  have hf : (cfg0.win 9).flush t = true := (by decide +kernel : ∀ t : Fin grid0.N, win0_9.flush t = true) t
  have hy : (ix2 R J : S8448x5632.Idx) = ((cfg0.win 9).blk t).view.emb (moved9 t (ix2 ⟨R.val % 1024, by omega⟩ ⟨J.val % 512, by omega⟩)) := by
    have h1 : R.val = t.val % 8 * 1024 + R.val % 1024 := by omega
    have h2 : J.val = t.val / 8 * 512 + J.val % 512 := by omega
    funext a
    apply Fin.ext
    refine Eq.trans ?_ (win0_9.rect_emb_val t (moved9 t (ix2 ⟨R.val % 1024, by omega⟩ ⟨J.val % 512, by omega⟩)) a).symm
    rw [idx9]
    match a with
    | ⟨0, _⟩ => exact h1
    | ⟨1, _⟩ => exact h2
  have hx : (cfg0.win 9).xinj (grid0.coords t) (moved9 t (ix2 ⟨R.val % 1024, by omega⟩ ⟨J.val % 512, by omega⟩)) = (ix2 ⟨R.val % 1024, by omega⟩ ⟨J.val % 512, by omega⟩ : S1024x512.Idx) :=
    funext fun a => Fin.ext rfl
  rw [plain_gated _ _ _ _ R J hR, hy, (dats (F := Ideal) m 0 c).arrAt_emb_eq_flushed 9 disjoint9 t hf]
  show cast _ ((cfg0.win 9).cut (grid0.coords t) ((dats m 0 c).after 9 t) _) = _
  rw [cast_eq, Pipeline.Window.cut_apply, hx, after9, gated_eq]
  unfold gatedAt
  refine congrArg₂ act (congrArg₂ (convAt _ _ _ _) ?_ ?_) (congrArg₂ (convAt _ _ _ _) ?_ ?_)
  · show t.val % 8 * 1024 + R.val % 1024 = _; omega
  · show t.val / 8 * 512 + J.val % 512 = _; omega
  · show t.val % 8 * 1024 + R.val % 1024 = _; omega
  · show 5632 + t.val / 8 * 512 + J.val % 512 = _; omega

/-- The last rows of the gate's product are the reference's. -/
theorem final10 (c : Dev nD) : (dats (F := Ideal) m 0 c).arrAt 10 cfg0.N = Cert.FfnInPlainIdeal.Read.val_main_v54 (F := Ideal) (m ((c : Thread nD τ).loc main_arg0)) (m ((c : Thread nD τ).loc main_arg1)) := by
  refine (dats (F := Ideal) m 0 c).arrAt_eq_of_covers 10 _ (by decide +kernel) fun t hf y => ?_
  obtain ⟨r, j, rfl⟩ : ∃ (r : Fin 8) (j : Fin 512), y = ix3 0 r j := ⟨y 1, y 2, funext fun a => match a with | ⟨0, _⟩ => Subsingleton.elim (α := Fin 1) _ _ | ⟨1, _⟩ => rfl | ⟨2, _⟩ => rfl⟩
  have ht := points t
  blk_simp
  rw [after10]
  have e := plain_gate_tail (m ((c : Thread nD τ).loc main_arg0)) (m ((c : Thread nD τ).loc main_arg1)) ⟨t.val % 8, by omega⟩ r ⟨t.val / 8 * 512 + j.val, by omega⟩
  refine (gate_tails m c t (ix3 0 r j)).trans (Eq.trans ?_ (e.symm.trans (congrArg (Cert.FfnInPlainIdeal.Read.val_main_v54 (F := Ideal) _ _) ?_)))
  · refine congrArg (proj _ _ _) ?_
    show t.val / 8 * 512 + j.val = _
    first | rfl | (dsimp only; omega)
  · blk_ext [idx10]

/-- The last rows of the value's product are the reference's. -/
theorem final11 (c : Dev nD) : (dats (F := Ideal) m 0 c).arrAt 11 cfg0.N = Cert.FfnInPlainIdeal.Read.val_main_v55 (F := Ideal) (m ((c : Thread nD τ).loc main_arg0)) (m ((c : Thread nD τ).loc main_arg1)) := by
  refine (dats (F := Ideal) m 0 c).arrAt_eq_of_covers 11 _ (by decide +kernel) fun t hf y => ?_
  obtain ⟨r, j, rfl⟩ : ∃ (r : Fin 8) (j : Fin 512), y = ix3 0 r j := ⟨y 1, y 2, funext fun a => match a with | ⟨0, _⟩ => Subsingleton.elim (α := Fin 1) _ _ | ⟨1, _⟩ => rfl | ⟨2, _⟩ => rfl⟩
  have ht := points t
  blk_simp
  rw [after11]
  have e := plain_value_tail (m ((c : Thread nD τ).loc main_arg0)) (m ((c : Thread nD τ).loc main_arg1)) ⟨t.val % 8, by omega⟩ r ⟨t.val / 8 * 512 + j.val, by omega⟩
  refine (value_tails m c t (ix3 0 r j)).trans (Eq.trans ?_ (e.symm.trans (congrArg (Cert.FfnInPlainIdeal.Read.val_main_v55 (F := Ideal) _ _) ?_)))
  · refine congrArg (proj _ _ _) ?_
    show 5632 + t.val / 8 * 512 + j.val = _
    first | rfl | (dsimp only; omega)
  · blk_ext [idx11]

/-- The second projection's weights, rounded, are the reference's. -/
theorem final12 (c : Dev nD) : (dats (F := Ideal) m 0 c).arrAt 12 cfg0.N = Cert.FfnInPlainIdeal.Read.val_main_v58 (F := Ideal) (m ((c : Thread nD τ).loc main_arg4)) := by
  refine (dats (F := Ideal) m 0 c).arrAt_eq_of_covers 12 _ (by decide +kernel) fun t hf y => ?_
  obtain ⟨r, j, rfl⟩ : ∃ (r : Fin 64) (j : Fin 2048), y = ix2 r j := ⟨y 0, y 1, funext fun a => match a with | ⟨0, _⟩ => rfl | ⟨1, _⟩ => rfl⟩
  have ht := points t
  blk_simp
  rw [after12]
  refine ((scast_apply _ r j).trans (in8 m c t r j (by omega))).trans ((plain_down_weights (m ((c : Thread nD τ).loc main_arg4)) ⟨t.val * 64 + r.val, by omega⟩ j).symm.trans (congrArg (Cert.FfnInPlainIdeal.Read.val_main_v58 (F := Ideal) _) ?_))
  blk_ext [idx12]

/-- The gate's weights, rounded, are the reference's. -/
theorem final13 (c : Dev nD) : (dats (F := Ideal) m 0 c).arrAt 13 cfg0.N = Cert.FfnInPlainIdeal.Read.val_main_v59 (F := Ideal) (m ((c : Thread nD τ).loc main_arg1)) := by
  refine (dats (F := Ideal) m 0 c).arrAt_eq_of_covers 13 _ (by decide +kernel) fun t hf y => ?_
  obtain ⟨r, j, rfl⟩ : ∃ (r : Fin 2048) (j : Fin 512), y = ix2 r j := ⟨y 0, y 1, funext fun a => match a with | ⟨0, _⟩ => rfl | ⟨1, _⟩ => rfl⟩
  have ht := points t
  blk_simp
  rw [after13]
  refine ((wcast_apply _ r j).trans (in2 m c t r j ((t.val / 8 * 512 + j.val)) (by omega) (by omega))).trans ((plain_gate_weights (m ((c : Thread nD τ).loc main_arg1)) r ⟨t.val / 8 * 512 + j.val, by omega⟩).symm.trans (congrArg (Cert.FfnInPlainIdeal.Read.val_main_v59 (F := Ideal) _) ?_))
  blk_ext [idx13]

/-- The value's weights, rounded, are the reference's. -/
theorem final14 (c : Dev nD) : (dats (F := Ideal) m 0 c).arrAt 14 cfg0.N = Cert.FfnInPlainIdeal.Read.val_main_v60 (F := Ideal) (m ((c : Thread nD τ).loc main_arg1)) := by
  refine (dats (F := Ideal) m 0 c).arrAt_eq_of_covers 14 _ (by decide +kernel) fun t hf y => ?_
  obtain ⟨r, j, rfl⟩ : ∃ (r : Fin 2048) (j : Fin 512), y = ix2 r j := ⟨y 0, y 1, funext fun a => match a with | ⟨0, _⟩ => rfl | ⟨1, _⟩ => rfl⟩
  have ht := points t
  blk_simp
  rw [after14]
  refine ((wcast_apply _ r j).trans (in3 m c t r j (5632 + (t.val / 8 * 512 + j.val)) (by omega) (by omega))).trans ((plain_value_weights (m ((c : Thread nD τ).loc main_arg1)) r ⟨t.val / 8 * 512 + j.val, by omega⟩).symm.trans (congrArg (Cert.FfnInPlainIdeal.Read.val_main_v60 (F := Ideal) _) ?_))
  blk_ext [idx14]

/-- The reference runs, its arguments unchanged, every counter back at zero. -/
theorem plain_quiescent : Cert.quiescent_FfnInPlainIdeal := fun m ρ _ =>
  (θ_run Cert.FfnInPlainIdeal.defs _ _).mono
    (fun r h => ⟨fun c => (h c).2.2.2.2.2.2, Idealize.ShloMosaic.sem_eq_zero_of_no_sems (by decide) r.2⟩)
    (Cert.FfnInPlainIdeal.Value.run (F := Ideal) m ρ)

/-- A row below 8192, by its word. -/
theorem row_word (n : ℕ) (hn : n < 8448) (h : IntOp.cmpi .slt (BitVec.ofNat 32 n) 8192#32 = 1#1) : n < 8192 :=
  Cert.CrossAttnSpec.rows_lt (fun _ => 0) (fun _ => 0) (fun _ => 0) ⟨n, hn⟩ 0 h

/-- The call's six arrays are the plain reference's: the gated values in the prompts' rows, the others everywhere. -/
theorem algebraic : Cert.algebraic_FfnInIdeal_FfnInPlainIdeal_on_ffn_rows := by
  intro m g m' g' hp hm
  refine ⟨fun c => (dats (F := Ideal) m 0 c).arrAt 9 cfg0.N, fun c => (dats (F := Ideal) m 0 c).arrAt 10 cfg0.N, fun c => (dats (F := Ideal) m 0 c).arrAt 11 cfg0.N,
    fun c => (dats (F := Ideal) m 0 c).arrAt 12 cfg0.N, fun c => (dats (F := Ideal) m 0 c).arrAt 13 cfg0.N, fun c => (dats (F := Ideal) m 0 c).arrAt 14 cfg0.N, ?_, ?_⟩
  · refine (θ_run _ _ _).mono (fun r h c => ?_) (θ_run_and (run_main (F := Ideal) m g) (keeps (F := Ideal) m g))
    exact ⟨fun i _ => congrFun ((h.1 c).1 9) i, fun i _ => congrFun ((h.1 c).1 10) i, fun i _ => congrFun ((h.1 c).1 11) i,
      fun i _ => congrFun ((h.1 c).1 12) i, fun i _ => congrFun ((h.1 c).1 13) i, fun i _ => congrFun ((h.1 c).1 14) i, h.2.1 c⟩
  · refine (θ_run _ _ _).mono (fun r h c => ?_) (Cert.FfnInPlainIdeal.Value.run (F := Ideal) m' g')
    obtain ⟨h53, h54, h55, h58, h59, h60, hk⟩ := h c
    obtain ⟨e0, e1, e2, e3, e4⟩ := hm c
    rw [Cert.FfnInPlainIdeal.Read.val_main_v53_eq, e0, e1, e2, e3] at h53
    rw [Cert.FfnInPlainIdeal.Read.val_main_v54_eq, e0, e1] at h54
    rw [Cert.FfnInPlainIdeal.Read.val_main_v55_eq, e0, e1] at h55
    rw [Cert.FfnInPlainIdeal.Read.val_main_v58_eq, e4] at h58
    rw [Cert.FfnInPlainIdeal.Read.val_main_v59_eq, e1] at h59
    rw [Cert.FfnInPlainIdeal.Read.val_main_v60_eq, e1] at h60
    refine ⟨fun i hi => ?_, fun i _ => congrFun (h54.trans (final10 m c).symm) i, fun i _ => congrFun (h55.trans (final11 m c).symm) i,
      fun i _ => congrFun (h58.trans (final12 m c).symm) i, fun i _ => congrFun (h59.trans (final13 m c).symm) i, fun i _ => congrFun (h60.trans (final14 m c).symm) i, hk⟩
    obtain ⟨R, J, rfl⟩ : ∃ (R : Fin 8448) (J : Fin 5632), i = ix2 R J := ⟨i 0, i 1, funext fun x => match x with | ⟨0, _⟩ => rfl | ⟨1, _⟩ => rfl⟩
    exact (congrFun h53 _).trans (final9 m c R J (row_word R.val R.isLt hi)).symm

end Cert.FfnInSpec

end
-- ==== Proof.LastOutClaim.lean ====
/- The last residual step, whose arrays are the prompt's rows and the sample's: the sample's block is computed first. -/
module

public import proofs.«01_k».proof.Defs
public import proofs.«01_k».proof.Proof.Gen.LastOut.Frame
public import proofs.«01_k».proof.Proof.Gen.LastOutIdeal.Value
public import proofs.«01_k».proof.Proof.Gen.On_last_rows
public import proofs.«01_k».proof.Proof.Gen.LastOutPlainIdeal
public import proofs.«01_k».proof.Proof.Gen.LastOutPlainIdeal.Read
public import proofs.«01_k».proof.Proof.LayerNorm
public import Idealize.ShloMosaic.Lib.Quiescent
public import Idealize.ShloMosaic.Lib.Pointwise
public import Idealize.ShloMosaic.Lib.Pipeline.ValueKit

@[expose] public section

set_option maxRecDepth 16384

noncomputable section

namespace Cert.LastOutSpec

open Cert.LastOutIdeal Cert.LastOutIdeal.Gen Idealize.ShloMosaic Idealize.ShloMosaic.TcCoe Idealize.SL.Sem
open Idealize.ShloMosaic.Pipeline (Dat)

variable (m : (ℓ : Loc nD τ sig) → Buf (Elt Ideal) ℓ)

/-- The point before. -/
def prev (t : Fin cfg0.N) : Fin cfg0.N := ⟨t.val - 1, Nat.lt_of_le_of_lt (Nat.sub_le _ _) t.isLt⟩

/-- The block of rows a later point finishes: the last block first, then the others in order. -/
def block (t : Fin cfg0.N) : ℕ := (t.val + 31) % 33

theorem idx0 : ∀ t : Fin cfg0.N, 0 < t.val → win0_0.index (prev t) = ![block t, 0] := (by decide +kernel : ∀ t : Fin grid0.N, _)
theorem idx1 : ∀ t : Fin cfg0.N, win0_1.index t = ![0, 0] := (by decide +kernel : ∀ t : Fin grid0.N, _)
theorem idx2 : ∀ t : Fin cfg0.N, 0 < t.val → win0_2.index t = ![block t, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![1, 0, 0] := (by decide +kernel : ∀ t : Fin grid0.N, _)
theorem idx5 : ∀ t : Fin cfg0.N, (cfg0.win 5).flush t = true → win0_5.index t = ![block t, 0] :=
  (by decide +kernel : ∀ t : Fin grid0.N, win0_5.flush t = true → _)
theorem late5 : ∀ t : Fin cfg0.N, (cfg0.win 5).flush t = true → 0 < t.val ∧ block t < 32 :=
  (by decide +kernel : ∀ t : Fin grid0.N, win0_5.flush t = true → _)
theorem idx6 : ∀ t : Fin cfg0.N, win0_6.index t = ![if t.val ≤ 1 then 0 else 1, 0] := (by decide +kernel : ∀ t : Fin grid0.N, _)
theorem points (t : Fin cfg0.N) : t.val < 34 := lt_of_lt_of_eq t.isLt (by decide +kernel : cfg0.N = 34)

theorem V_main_v0 (c : Dev nD) : V m c main_v0 = shapeCast S2x1x2048 (m ((c : Thread nD τ).loc main_arg3)) shapeCasts_S2x2048_S2x1x2048 := by
  unfold_abbrev_sides
  after_results
  rfl
theorem V_main_v1 (c : Dev nD) : V m c main_v1 = shapeCast S2x1x2048 (m ((c : Thread nD τ).loc main_arg4)) shapeCasts_S2x2048_S2x1x2048 := by
  unfold_abbrev_sides
  after_results
  rfl

section Body

variable (c : Dev nD) (i : grid0.Coords) (arg1 : Memref sig .tc .vmem S256x5632 .bf16) (harg1 : arg1.IsWhole)
    (arg2 : Memref sig .tc .vmem S5632x2048 .bf16) (harg2 : arg2.IsWhole) (arg3 : Memref sig .tc .vmem S256x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (arg8 : Memref sig .tc .vmem S256x2048 .f32) (harg8 : arg8.IsWhole)
    (x0 : Vec Ideal S256x5632 .bf16) (x1 : Vec Ideal S5632x2048 .bf16) (x2 : Vec Ideal S256x2048 .f32) (x3 x4 : Vec Ideal S1x1x2048 .f32)

/-- The kept block after the first point: the product of the point's rows with the weights. -/
theorem sout_A (hc0 : cond0_0 i) : sout0_A_0 (F := Ideal) c i arg1 harg1 arg2 harg2 arg3 harg3 arg4 harg4 arg5 harg5 arg6 harg6 arg7 harg7 arg8 harg8 hc0
    x0 x1 x2 x3 x4 = k0_pay1 (F := Ideal) x0 x1 := by
  unfold sout0_A_0
  rw [View.read_writes_eq_canon _ _ _ (scover0_A_0 c i arg1 harg1 arg2 harg2 arg3 harg3 arg4 harg4 arg5 harg5 arg6 harg6 arg7 harg7 arg8 harg8 hc0
    x0 x1 x2 x3 x4)]
  unfold kernelRun0_A
  dsimp only
  sl_unfold_words
  simp only [View.readAt_eq_ld, harg1.read_unread, harg2.read_unread]
  frame_out

/-- The kept block after a later point: the product of the point's rows with the weights. -/
theorem sout_B (hc0 : ¬cond0_0 i) (xs0 : Vec Ideal S256x2048 .f32) :
    sout0_B_0 (F := Ideal) c i arg1 harg1 arg2 harg2 arg3 harg3 arg4 harg4 arg5 harg5 arg6 harg6 arg7 harg7 arg8 harg8 hc0 x0 x1 x2 x3 x4 xs0
      = k0_pay1 (F := Ideal) x0 x1 := by
  unfold sout0_B_0
  rw [View.read_writes_eq_canon _ _ _ (scover0_B_0 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg1.read_unread, harg2.read_unread]
  frame_out

/-- The first result's block after a later point: the normalised residual sum with the kept block. -/
theorem out5_B (hc0 : ¬cond0_0 i) (xs0 : Vec Ideal S256x2048 .f32) :
    out0_B_5 (F := Ideal) c i arg1 harg1 arg2 harg2 arg3 harg3 arg4 harg4 arg5 harg5 arg6 harg6 arg7 harg7 arg8 harg8 hc0 x0 x1 x2 x3 x4 xs0
      = k0_pay3 (F := Ideal) x2 xs0 x3 x4 := by
  unfold out0_B_5
  rw [View.read_writes_eq_canon _ _ _ (cover0_B_5 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg3.read_unread, harg4.read_unread, harg5.read_unread, harg8.read_unread]
  frame_out

/-- The second result's block after a later point: the same. -/
theorem out6_B (hc0 : ¬cond0_0 i) (xs0 : Vec Ideal S256x2048 .f32) :
    out0_B_6 (F := Ideal) c i arg1 harg1 arg2 harg2 arg3 harg3 arg4 harg4 arg5 harg5 arg6 harg6 arg7 harg7 arg8 harg8 hc0 x0 x1 x2 x3 x4 xs0
      = k0_pay3 (F := Ideal) x2 xs0 x3 x4 := by
  unfold out0_B_6
  rw [View.read_writes_eq_canon _ _ _ (cover0_B_6 c i arg1 harg1 arg2 harg2 arg3 harg3 arg4 harg4 arg5 harg5 arg6 harg6 arg7 harg7 arg8 harg8 hc0
    x0 x1 x2 x3 x4 xs0)]
  unfold kernelRun0_B
  dsimp only
  sl_unfold_words
  simp only [View.readAt_eq_ld, harg3.read_unread, harg4.read_unread, harg5.read_unread, harg8.read_unread]
  frame_out

end Body

/-- The kept block after every point: the product of the point's rows with the weights. -/
theorem kept (c : Dev nD) (t : Fin cfg0.N) : (outsAt0 (F := Ideal) m c t.val t.isLt).2.2 = k0_pay1 (F := Ideal) (iblk m c 0 t) (iblk m c 1 t) := by
  by_cases h0 : t.val % 34 = 0
  · rw [outsAt0_A m c t h0]
    dsimp only
    exact sout_A ..
  · rw [outsAt0_B m c t h0]
    dsimp only
    exact sout_B ..

/-- The first result's block at a later point. -/
theorem result5 (c : Dev nD) (t : Fin cfg0.N) (h : 0 < t.val) : (outsAt0 (F := Ideal) m c t.val t.isLt).1
    = k0_pay3 (F := Ideal) (iblk m c 2 t) (k0_pay1 (F := Ideal) (iblk m c 0 (prev t)) (iblk m c 1 (prev t))) (iblk m c 3 t) (iblk m c 4 t) := by
  have ht := points t
  rw [outsAt0_B m c t (by omega)]
  dsimp only
  rw [out5_B]
  exact (congrArg (fun x => k0_pay3 (F := Ideal) (iblk m c 2 t) x (iblk m c 3 t) (iblk m c 4 t)) (kept m c (prev t)))

/-- The second result's block at a later point. -/
theorem result6 (c : Dev nD) (t : Fin cfg0.N) (h : 0 < t.val) : (outsAt0 (F := Ideal) m c t.val t.isLt).2.1
    = k0_pay3 (F := Ideal) (iblk m c 2 t) (k0_pay1 (F := Ideal) (iblk m c 0 (prev t)) (iblk m c 1 (prev t))) (iblk m c 3 t) (iblk m c 4 t) := by
  have ht := points t
  rw [outsAt0_B m c t (by omega)]
  dsimp only
  rw [out6_B]
  exact (congrArg (fun x => k0_pay3 (F := Ideal) (iblk m c 2 t) x (iblk m c 3 t) (iblk m c 4 t)) (kept m c (prev t)))

/-- A block's product at a row and a column. -/
theorem dot_apply (a : Vec Ideal S256x5632 .bf16) (w : Vec Ideal S5632x2048 .bf16) (r : Fin 256) (j : Fin 2048) :
    k0_pay1 (F := Ideal) a w (ix2 r j) = ∑ k : Fin 5632, a (ix2 r k) * w (ix2 k j) := by
  pointwise [k0_pay1]

/-- A block's normalised residual sum at a row and a column. -/
theorem pay_apply (res acc : Vec Ideal S256x2048 .f32) (g b : Vec Ideal S1x1x2048 .f32) (r : Fin 256) (j : Fin 2048) :
    k0_pay3 (F := Ideal) res acc g b (ix2 r j)
      = LayerNorm.norm (fun x => Ideal.ofBits FTy.f32 0x3FB504F3#32 * res (ix2 r x) + acc (ix2 r x)) (g (ix3 0 0 j)) (b (ix3 0 0 j)) j := by
  unfold LayerNorm.norm LayerNorm.mean
  pointwise [k0_pay3]

open Cert.LastOutPlainIdeal.Read in
/-- The reference's residual sum at a row and a column. -/
theorem ref_total (a : FVec Ideal S8448x5632 .bf16) (w : FVec Ideal S5632x2048 .bf16) (res : FVec Ideal S8448x2048 .f32) (r : Fin 8448) (j : Fin 2048) :
    val_main_v5 (F := Ideal) a w res (ix2 r j) = LayerNorm.total (n := 5632) (res (ix2 r j)) (fun k => a (ix2 r k)) (fun k => w (ix2 k j)) := by
  unfold LayerNorm.total
  pointwise [val_main_v5, val_main_v4, val_main_v3, val_main_v2, val_main_v1, val_main_v0, val_main_cst]

open Cert.LastOutPlainIdeal.Read in
/-- The reference at a row and a column: its residual sum, normalised. -/
theorem ref_norm (a : FVec Ideal S8448x5632 .bf16) (w : FVec Ideal S5632x2048 .bf16) (res : FVec Ideal S8448x2048 .f32) (g b : FVec Ideal S2x2048 .f32)
    (r : Fin 8448) (j : Fin 2048) :
    val_main_v33 (F := Ideal) a w res g b (ix2 r j)
      = LayerNorm.norm (fun x => val_main_v5 (F := Ideal) a w res (ix2 r x)) (g (ix2 1 j)) (b (ix2 1 j)) j := by
  unfold val_main_v33 val_main_v30 val_main_v27 val_main_v22 val_main_v21 val_main_v26 val_main_v25 val_main_v24 val_main_v20 val_main_v18 val_main_v17
    val_main_v16 val_main_v15 val_main_v14 val_main_v13 val_main_v11 val_main_v10 LayerNorm.norm LayerNorm.mean
  generalize val_main_v5 (F := Ideal) a w res = u
  pointwise [val_main_v32, val_main_v31, val_main_v29, val_main_v28, val_main_v23, val_main_v19, val_main_v12, val_main_cst_0, val_main_cst_1,
    val_main_cst_2, val_main_cst_3, val_main_cst_4, val_main_v9, val_main_v8, val_main_v7, val_main_v6]

theorem rows (c : Dev nD) (t : Fin cfg0.N) (h : 0 < t.val) (r : Fin 256) (hr : block t * 256 + r.val < 8448) (k : Fin 5632) :
    iblk (F := Ideal) m c 0 (prev t) (ix2 r k) = m ((c : Thread nD τ).loc main_arg0) (ix2 ⟨block t * 256 + r.val, hr⟩ k) := by
  have ht := points t
  blk_simp [iblk]
  rw [V_main_arg0]
  congr 1
  blk_ext [idx0 t h]

theorem weights (c : Dev nD) (t : Fin cfg0.N) (k : Fin 5632) (j : Fin 2048) :
    iblk (F := Ideal) m c 1 t (ix2 k j) = m ((c : Thread nD τ).loc main_arg1) (ix2 k j) := by
  blk_simp [iblk]
  rw [V_main_arg1]
  congr 1
  blk_ext [idx1]

theorem residual (c : Dev nD) (t : Fin cfg0.N) (h : 0 < t.val) (r : Fin 256) (hr : block t * 256 + r.val < 8448) (j : Fin 2048) :
    iblk (F := Ideal) m c 2 t (ix2 r j) = m ((c : Thread nD τ).loc main_arg2) (ix2 ⟨block t * 256 + r.val, hr⟩ j) := by
  blk_simp [iblk]
  rw [V_main_arg2]
  congr 1
  blk_ext [idx2 t h]

/-- The gains and the biases, as the host code lays them out. -/
theorem layout_apply (x : FVec Ideal S2x2048 .f32) (l : Fin 2) (j : Fin 2048) :
    shapeCast S2x1x2048 x shapeCasts_S2x2048_S2x1x2048 (ix3 l 0 j) = x (ix2 l j) := by
  pointwise

theorem gain (c : Dev nD) (t : Fin cfg0.N) (j : Fin 2048) :
    iblk (F := Ideal) m c 3 t (ix3 0 0 j) = m ((c : Thread nD τ).loc main_arg3) (ix2 1 j) := by
  rw [← layout_apply (m ((c : Thread nD τ).loc main_arg3))]
  blk_simp [iblk]
  rw [V_main_v0]
  congr 1
  blk_ext [idx3]

theorem bias (c : Dev nD) (t : Fin cfg0.N) (j : Fin 2048) :
    iblk (F := Ideal) m c 4 t (ix3 0 0 j) = m ((c : Thread nD τ).loc main_arg4) (ix2 1 j) := by
  rw [← layout_apply (m ((c : Thread nD τ).loc main_arg4))]
  blk_simp [iblk]
  rw [V_main_v1]
  congr 1
  blk_ext [idx4]

/-- A later point's block is the part of the reference its point before began. -/
theorem block_apply (c : Dev nD) (t : Fin cfg0.N) (h : 0 < t.val) (r : Fin 256) (j : Fin 2048) (hr : block t * 256 + r.val < 8448) :
    k0_pay3 (F := Ideal) (iblk m c 2 t) (k0_pay1 (F := Ideal) (iblk m c 0 (prev t)) (iblk m c 1 (prev t))) (iblk m c 3 t) (iblk m c 4 t) (ix2 r j)
      = Cert.LastOutPlainIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨block t * 256 + r.val, hr⟩ j) := by
  rw [pay_apply, ref_norm]
  simp only [dot_apply, ref_total, LayerNorm.total, rows m c t h r hr, weights m c (prev t), residual m c t h r hr, gain m c t, bias m c t]

section Ref
open Cert.LastOutPlainIdeal.Read
variable (a : FVec Ideal S8448x5632 .bf16) (w : FVec Ideal S5632x2048 .bf16) (res : FVec Ideal S8448x2048 .f32) (g b : FVec Ideal S2x2048 .f32)

/-- The reference's prompt rows, and its sample rows. -/
theorem ref_prompt (R : Fin 8192) (j : Fin 2048) : val_main_v34 (F := Ideal) a w res g b (ix2 R j) = val_main_v33 (F := Ideal) a w res g b (ix2 ⟨R.val, by omega⟩ j) := by
  pointwise [val_main_v34]
theorem ref_sample (R : Fin 512) (hR : R.val < 256) (j : Fin 2048) :
    val_main_v37 (F := Ideal) a w res g b (ix2 R j) = val_main_v33 (F := Ideal) a w res g b (ix2 ⟨8192 + R.val, by omega⟩ j) := by
  have e : val_main_v37 (F := Ideal) a w res g b (ix2 R j)
      = (if h : R.val < 256 then val_main_v33 (F := Ideal) a w res g b (ix2 ⟨8192 + R.val, by omega⟩ j) else (0 : EReal)) := by
    pointwise [val_main_v37, val_main_v36, val_main_v35, val_main_cst_5]
  rw [e, dif_pos hR]
end Ref

/-- The prompt's array is the reference's. -/
theorem final5 (c : Dev nD) : (Gen.dats (F := Ideal) m 0 c).arrAt 5 cfg0.N
    = Cert.LastOutPlainIdeal.Read.val_main_v34 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats (F := Ideal) m 0 c).arrAt_eq_of_covers 5 _ (by decide +kernel) fun t hf y => ?_
  obtain ⟨r, j, rfl⟩ : ∃ (r : Fin 256) (j : Fin 2048), y = ix2 r j := ⟨y 0, y 1, funext fun x => match x with | ⟨0, _⟩ => rfl | ⟨1, _⟩ => rfl⟩
  obtain ⟨h0, hb⟩ := late5 t hf
  blk_simp
  rw [after0_5, result5 m c t h0]
  refine (block_apply m c t h0 r j (by omega)).trans ((ref_prompt _ _ _ _ _ ⟨block t * 256 + r.val, by omega⟩ j).symm.trans
    (congrArg (Cert.LastOutPlainIdeal.Read.val_main_v34 (F := Ideal) _ _ _ _ _) ?_))
  blk_ext [idx5 t hf]

theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne
    ((by decide +kernel : ∀ t t' : Fin grid0.N, win0_6.flush t = true → win0_6.flush t' = true → win0_6.index t = win0_6.index t' → t = t') t t' hf hf' h)

theorem xsize6 : ∀ t : Fin cfg0.N, ∀ a, (cfg0.win 6).xsize (cfg0.grid.coords t) a = (cfg0.win 6).size a := by decide +kernel

/-- The second point, which finishes the sample's block. -/
def second : Fin cfg0.N := ⟨1, by decide +kernel⟩

/-- A block's index in its window's own coordinates. -/
def moved6 (x : S256x2048.Idx) : ((cfg0.win 6).xblock (cfg0.grid.coords second)).Idx := fun a => ⟨(x a).val, by
  show (x a).val < (cfg0.win 6).xsize (cfg0.grid.coords second) a
  rw [xsize6]; exact (x a).isLt⟩

/-- The sample's array is the reference's in the sample's rows. -/
theorem final6 (c : Dev nD) (R : Fin 512) (j : Fin 2048) (hR : R.val < 256) : (Gen.dats (F := Ideal) m 0 c).arrAt 6 cfg0.N (ix2 R j)
    = Cert.LastOutPlainIdeal.Read.val_main_v37 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 R j) := by
  have hf : (cfg0.win 6).flush second = true := by decide +kernel
  have hy : (ix2 R j : S512x2048.Idx) = ((cfg0.win 6).blk second).view.emb (moved6 (ix2 ⟨R.val, hR⟩ j)) := by
    funext a
    apply Fin.ext
    refine Eq.trans ?_ (win0_6.rect_emb_val second (moved6 (ix2 ⟨R.val, hR⟩ j)) a).symm
    rw [idx6]
    match a with
    | ⟨0, _⟩ => show R.val = (if (1 : ℕ) ≤ 1 then 0 else 1) * 256 + R.val; rw [if_pos le_rfl, Nat.zero_mul, Nat.zero_add]
    | ⟨1, _⟩ => show j.val = 0 * 2048 + j.val; omega
  have hx : (cfg0.win 6).xinj (grid0.coords second) (moved6 (ix2 ⟨R.val, hR⟩ j)) = (ix2 ⟨R.val, hR⟩ j : S256x2048.Idx) := funext fun a => Fin.ext rfl
  rw [ref_sample _ _ _ _ _ R hR, hy, (Gen.dats (F := Ideal) m 0 c).arrAt_emb_eq_flushed 6 disjoint6 second hf]
  show cast _ ((cfg0.win 6).cut (grid0.coords second) ((Gen.dats m 0 c).after 6 second) _) = _
  rw [cast_eq, Pipeline.Window.cut_apply, hx, after0_6, result6 m c second (by decide)]
  exact block_apply m c second (by decide) ⟨R.val, hR⟩ j (by show 32 * 256 + R.val < 8448; omega)

/-- The reference runs, its arguments unchanged, every counter back at zero. -/
theorem plain_quiescent : Cert.quiescent_LastOutPlainIdeal := fun m ρ _ =>
  (θ_run Cert.LastOutPlainIdeal.defs _ _).mono
    (fun r h => ⟨fun c => (h c).2.2, Idealize.ShloMosaic.sem_eq_zero_of_no_sems (by decide) r.2⟩)
    (Cert.LastOutPlainIdeal.Value.run (F := Ideal) m ρ)

/-- A row of the sample, by its word. -/
theorem sample_word : ∀ R : Fin 512, IntOp.cmpi .slt (BitVec.ofNat 32 R.val) 256#32 = 1#1 → R.val < 256 := by decide +kernel

/-- The call's two arrays are the plain reference's, the second in the sample's rows. -/
theorem algebraic : Cert.algebraic_LastOutIdeal_LastOutPlainIdeal_on_last_rows := by
  intro m g m' g' hp hm
  refine ⟨fun c => (Gen.dats (F := Ideal) m 0 c).arrAt 5 cfg0.N, fun c => (Gen.dats (F := Ideal) m 0 c).arrAt 6 cfg0.N, ?_, ?_⟩
  · exact (θ_run _ _ _).mono (fun r h c => ⟨fun i _ => congrFun (h c).1 i, fun i _ => congrFun (h c).2.1 i, (h c).2.2⟩) (Value.run_blocks (F := Ideal) m g)
  · refine (θ_run _ _ _).mono (fun r h c => ?_) (Cert.LastOutPlainIdeal.Value.run (F := Ideal) m' g')
    obtain ⟨h34, h37, hk⟩ := h c
    obtain ⟨e0, e1, e2, e3, e4⟩ := hm c
    rw [Cert.LastOutPlainIdeal.Read.val_main_v34_eq, e0, e1, e2, e3, e4] at h34
    rw [Cert.LastOutPlainIdeal.Read.val_main_v37_eq, e0, e1, e2, e3, e4] at h37
    refine ⟨fun i _ => congrFun (h34.trans (final5 m c).symm) i, fun i hi => ?_, hk⟩
    obtain ⟨R, j, rfl⟩ : ∃ (R : Fin 512) (j : Fin 2048), i = ix2 R j := ⟨i 0, i 1, funext fun x => match x with | ⟨0, _⟩ => rfl | ⟨1, _⟩ => rfl⟩
    exact (congrFun h37 _).trans (final6 m c R j (sample_word R hi)).symm

end Cert.LastOutSpec

end
-- ==== Proof.PackRowsClaim.lean ====
/- The packed rows: the call's two arrays are the prompt's rows above the sample's rows. -/
module

public import proofs.«01_k».proof.Defs
public import proofs.«01_k».proof.Proof.Gen.PackRows.Frame
public import proofs.«01_k».proof.Proof.Gen.PackRowsIdeal.Value
public import proofs.«01_k».proof.Proof.Gen.PackRowsPlainIdeal
public import proofs.«01_k».proof.Proof.Gen.PackRowsPlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.PackRowsSpec

open Cert.PackRowsIdeal Cert.PackRowsIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![min t.val 31, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem V_main_v0 (c : Dev nD) : V m c main_v0
    = shapeCast S8192x2048 (m ((c : Thread nD τ).loc main_arg0)) shapeCasts_S2x4096x2048_S8192x2048 := by
  unfold_abbrev_sides
  after_results
  rfl
theorem V_main_v1 (c : Dev nD) : V m c main_v1
    = shapeCast S256x2048 (m ((c : Thread nD τ).loc main_arg1)) shapeCasts_S16x16x2048_S256x2048 := by
  unfold_abbrev_sides
  after_results
  rfl

/-- The body's test holds at every grid point but the last. -/
theorem point_bit : ∀ t : Fin cfg0.N, Scalar.cmpi .slt (BitVec.ofNat 32 (grid0.coords t 0).val) 32#32 = if t.val < 32 then 1#1 else 0#1 :=
  (by decide +kernel : ∀ t : Fin grid0.N, _)

/-- A block is the prompt's before the last grid point and the sample's at the last. -/
theorem pay_apply (t : Fin cfg0.N) (p s : Vec Ideal S256x2048 .f32) (r : Fin 256) (j : Fin 2048) :
    k0_pay1 (F := Ideal) (grid0.coords t) p s (ix2 r j) = if t.val < 32 then p (ix2 r j) else s (ix2 r j) := by
  unfold k0_pay1
  dsimp only
  rw [point_bit]
  by_cases h : t.val < 32
  · rw [if_pos h, if_pos h]
    exact congrFun (shapeCast_self p _) _
  · rw [if_neg h, if_neg h]
    exact congrFun (shapeCast_self s _) _

/-- The plain reference's rows: the prompt's above the sample's. -/
theorem ref_apply (x : FVec Ideal S2x4096x2048 .f32) (z : FVec Ideal S16x16x2048 .f32) (R : Fin 8448) (j : Fin 2048) :
    Cert.PackRowsPlainIdeal.Read.val_main_v2 (F := Ideal) x z (ix2 R j)
      = if h : R.val < 8192 then shapeCast S8192x2048 x shapeCasts_S2x4096x2048_S8192x2048 (ix2 ⟨R.val, h⟩ j)
        else shapeCast S256x2048 z shapeCasts_S16x16x2048_S256x2048 (ix2 ⟨R.val - 8192, by omega⟩ j) := by
  unfold Cert.PackRowsPlainIdeal.Read.val_main_v2 Cert.PackRowsPlainIdeal.Read.val_main_v0 Cert.PackRowsPlainIdeal.Read.val_main_v1
  generalize shapeCast S8192x2048 x shapeCasts_S2x4096x2048_S8192x2048 = a
  generalize shapeCast S256x2048 z shapeCasts_S16x16x2048_S256x2048 = b
  pointwise

/-- A grid point's block is that part of the plain rows. -/
theorem block_apply (c : Dev nD) (t : Fin cfg0.N) (r : Fin 256) (j : Fin 2048) (ht : t.val * 256 + r.val < 8448) :
    k0_pay1 (F := Ideal) (grid0.coords t) (iblk m c 0 t) (iblk m c 1 t) (ix2 r j)
      = Cert.PackRowsPlainIdeal.Read.val_main_v2 (F := Ideal) (m ((c : Thread nD τ).loc main_arg0)) (m ((c : Thread nD τ).loc main_arg1))
          (ix2 ⟨t.val * 256 + r.val, ht⟩ j) := by
  rw [pay_apply, ref_apply]
  by_cases h : t.val < 32
  · rw [if_pos h, dif_pos (by dsimp only; omega)]
    blk_simp [iblk]
    rw [V_main_v0]
    refine congrArg _ ?_
    blk_ext [idx0]
  · rw [if_neg h, dif_neg (by dsimp only; omega)]
    blk_simp [iblk]
    rw [V_main_v1]
    refine congrArg _ ?_
    blk_ext [idx1]

/-- The call's first array is the plain reference's. -/
theorem final2 (c : Dev nD) : (Gen.dats (F := Ideal) m 0 c).arrAt 2 cfg0.N
    = Cert.PackRowsPlainIdeal.Read.val_main_v2 (F := Ideal) (m ((c : Thread nD τ).loc main_arg0)) (m ((c : Thread nD τ).loc main_arg1)) := by
  refine (Gen.dats (F := Ideal) m 0 c).arrAt_eq_of_covers 2 _ (by decide +kernel) fun t hf y => ?_
  obtain ⟨r, j, rfl⟩ : ∃ (r : Fin 256) (j : Fin 2048), y = ix2 r j := ⟨y 0, y 1, funext fun x => match x with | ⟨0, _⟩ => rfl | ⟨1, _⟩ => rfl⟩
  have ht : t.val < 33 := lt_of_lt_of_eq t.isLt (by decide +kernel : cfg0.N = 33)
  blk_simp
  rw [after0_2]
  frame_out
  refine (block_apply m c t r j (by omega)).trans (congrArg (Cert.PackRowsPlainIdeal.Read.val_main_v2 (F := Ideal) _ _) ?_)
  blk_ext [idx2]

/-- The call's second array, the rounded rows, is the plain reference's. -/
theorem final3 (c : Dev nD) : (Gen.dats (F := Ideal) m 0 c).arrAt 3 cfg0.N
    = Cert.PackRowsPlainIdeal.Read.val_main_v3 (F := Ideal) (m ((c : Thread nD τ).loc main_arg0)) (m ((c : Thread nD τ).loc main_arg1)) := by
  refine (Gen.dats (F := Ideal) m 0 c).arrAt_eq_of_covers 3 _ (by decide +kernel) fun t hf y => ?_
  obtain ⟨r, j, rfl⟩ : ∃ (r : Fin 256) (j : Fin 2048), y = ix2 r j := ⟨y 0, y 1, funext fun x => match x with | ⟨0, _⟩ => rfl | ⟨1, _⟩ => rfl⟩
  have ht : t.val < 33 := lt_of_lt_of_eq t.isLt (by decide +kernel : cfg0.N = 33)
  blk_simp
  rw [after0_3]
  frame_out
  refine (block_apply m c t r j (by omega)).trans (congrArg (Cert.PackRowsPlainIdeal.Read.val_main_v2 (F := Ideal) _ _) ?_)
  blk_ext [idx3]

/-- The reference runs, its arguments unchanged, every counter back at zero. -/
theorem plain_quiescent : Cert.quiescent_PackRowsPlainIdeal := fun m ρ _ =>
  (θ_run Cert.PackRowsPlainIdeal.defs _ _).mono
    (fun r h => ⟨fun c => (h c).2.2, Idealize.ShloMosaic.sem_eq_zero_of_no_sems (by decide) r.2⟩)
    (Cert.PackRowsPlainIdeal.Value.run (F := Ideal) m ρ)

/-- The call's two arrays are the plain reference's. -/
theorem algebraic : Cert.algebraic_PackRowsIdeal_PackRowsPlainIdeal := by
  intro m g m' g' hp hm
  refine ⟨fun c => (Gen.dats (F := Ideal) m 0 c).arrAt 2 cfg0.N, fun c => (Gen.dats (F := Ideal) m 0 c).arrAt 3 cfg0.N, ?_, ?_⟩
  · exact (θ_run _ _ _).mono (fun r h c => h c) (Value.run_blocks (F := Ideal) m g)
  · refine (θ_run _ _ _).mono (fun r h c => ?_) (Cert.PackRowsPlainIdeal.Value.run (F := Ideal) m' g')
    obtain ⟨h2, h3, hk⟩ := h c
    obtain ⟨e0, e1⟩ := hm c
    rw [Cert.PackRowsPlainIdeal.Read.val_main_v2_eq, e0, e1] at h2
    rw [Cert.PackRowsPlainIdeal.Read.val_main_v3_eq, e0, e1] at h3
    exact ⟨h2.trans (final2 m c).symm, h3.trans (final3 m c).symm, hk⟩

end Cert.PackRowsSpec

end
-- ==== Proof.PermuteInClaim.lean ====
/- The permuted input weights: the call's array is the weights with their column groups in the projection's order. -/
module

public import proofs.«01_k».proof.Defs
public import proofs.«01_k».proof.Proof.Gen.PermuteIn.Frame
public import proofs.«01_k».proof.Proof.Gen.PermuteInIdeal.Value
public import proofs.«01_k».proof.Proof.Gen.PermuteInPlainIdeal
public import proofs.«01_k».proof.Proof.Gen.PermuteInPlainIdeal.Read
public import Idealize.ShloMosaic.Lib.Quiescent
public import Idealize.ShloMosaic.Lib.Pointwise
public import Idealize.ShloMosaic.Lib.Pipeline.ValueKit

@[expose] public section

set_option maxRecDepth 16384

noncomputable section

namespace Cert.PermuteInSpec

open Cert.PermuteInIdeal Cert.PermuteInIdeal.Gen Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![t.val / 16, t.val % 16, 0] := (by decide +kernel : ∀ t : Fin grid0.N, _)
theorem idx1 : ∀ t : Fin cfg0.N, win0_1.index t = ![t.val / 16, t.val % 16, 0] := (by decide +kernel : ∀ t : Fin grid0.N, _)

/-- The column of the given weights that goes to column `c`. -/
def src (c : Nat) : Nat :=
  if c < 1024 then c else if c < 4096 then c + 3328 else if c < 6144 then c - 1792 else if c < 12288 then c + 1280
  else if c < 13312 then c - 11008 else if c < 13376 then c - 12288 else if c < 13504 then c - 12352
  else if c < 13632 then c - 12416 else if c < 13760 then c - 12480 else c - 12544

theorem src_lt (c : Fin 13824) : src c.val < 13568 := by
  have := c.isLt
  unfold src
  split_ifs <;> omega

/-- The column map, range by range. -/
theorem src0 {c : Nat} (h : c < 1024) : src c = c := by rw [src, if_pos h]
theorem src1 {c : Nat} (h : 1024 ≤ c) (g : c < 4096) : src c = c + 3328 := by rw [src, if_neg (by omega), if_pos g]
theorem src2 {c : Nat} (h : 4096 ≤ c) (g : c < 6144) : src c = c - 1792 := by rw [src, if_neg (by omega), if_neg (by omega), if_pos g]
theorem src3 {c : Nat} (h : 6144 ≤ c) (g : c < 12288) : src c = c + 1280 := by
  rw [src, if_neg (by omega), if_neg (by omega), if_neg (by omega), if_pos g]
theorem src4 {c : Nat} (h : 12288 ≤ c) (g : c < 13312) : src c = c - 11008 := by
  rw [src, if_neg (by omega), if_neg (by omega), if_neg (by omega), if_neg (by omega), if_pos g]
/-- The pair from `13312` on: its first half twice, then its second half twice. -/
theorem src5 {c : Nat} (h : 13312 ≤ c) (g : c < 13568) :
    src c = if c < 13376 then c - 12288 else if c < 13504 then c - 12352 else c - 12416 := by
  rw [src, if_neg (by omega), if_neg (by omega), if_neg (by omega), if_neg (by omega), if_neg (by omega)]
  split_ifs <;> omega
/-- The pair from `13568` on: the same. -/
theorem src6 {c : Nat} (h : 13568 ≤ c) : src c = if c < 13632 then c - 12416 else if c < 13760 then c - 12480 else c - 12544 := by
  rw [src, if_neg (by omega), if_neg (by omega), if_neg (by omega), if_neg (by omega), if_neg (by omega), if_neg (by omega), if_neg (by omega)]

/-- Stored values that only change type and shape are the values read. -/
theorem keep1024 (v : Vec Ideal S1x128x1024 .f32) (r : Fin 128) (j : Fin 1024) : k0_pay6 (F := Ideal) v (ix3 0 r j) = v (ix3 0 r j) := by
  pointwise [k0_pay6]
theorem keep2048 (v : Vec Ideal S1x128x2048 .f32) (r : Fin 128) (j : Fin 2048) : k0_pay13 (F := Ideal) v (ix3 0 r j) = v (ix3 0 r j) := by
  pointwise [k0_pay13]
theorem keep512 (v : Vec Ideal S1x128x512 .f32) (r : Fin 128) (j : Fin 512) : k0_pay16 (F := Ideal) v (ix3 0 r j) = v (ix3 0 r j) := by
  pointwise [k0_pay16]

/-- A choice by a comparison of small numbers. -/
theorem select_lt {α : Type} (j : Nat) (hj : j < 128) (a b : α) :
    Scalar.select (IntOp.cmpi .slt (BitVec.ofNat 32 j) 64#32) a b = if j < 64 then a else b := by
  have h : ∀ j : Fin 128, IntOp.cmpi .slt (BitVec.ofNat 32 j.val) 64#32 = if j.val < 64 then 1#1 else 0#1 := by decide +kernel
  rw [h ⟨j, hj⟩]
  dsimp only
  split_ifs <;> rfl

/-- The first stored pair of halves holds the first half twice. -/
theorem first_half (v : Vec Ideal S1x128x128 .f32) (r : Fin 128) (j : Fin 128) (k : Fin 128) (hk : k.val = if j.val < 64 then j.val else j.val - 64) :
    k0_pay4 (F := Ideal) v (ix3 0 r j) = v (ix3 0 r k) := by
  pointwise [k0_pay4, k0_pay3, k0_pay2]
  rw [select_lt j.val j.isLt]
  split_ifs at hk ⊢
  · exact congrArg v (congrArg (ix3 0 r) (Fin.ext hk.symm))
  · exact congrArg v (congrArg (ix3 0 r) (Fin.ext (by dsimp only; omega)))

/-- The second stored pair of halves holds the second half twice. -/
theorem second_half (v : Vec Ideal S1x128x128 .f32) (r : Fin 128) (j : Fin 128) (k : Fin 128) (hk : k.val = if j.val < 64 then j.val + 64 else j.val) :
    k0_pay5 (F := Ideal) v (ix3 0 r j) = v (ix3 0 r k) := by
  pointwise [k0_pay5, k0_pay3, k0_pay2]
  rw [select_lt j.val j.isLt]
  split_ifs at hk ⊢
  · exact congrArg v (congrArg (ix3 0 r) (Fin.ext (by dsimp only; omega)))
  · exact congrArg v (congrArg (ix3 0 r) (Fin.ext hk.symm))

section
open Cert.PermuteInPlainIdeal.Read

variable (x : FVec Ideal S2x2048x13568 .f32) (l : Fin 2) (R : Fin 2048)

/-- Two reads at equal columns. -/
theorem col {a b : Nat} (ha : a < 13568) (hb : b < 13568) (h : a = b) : x (ix3 l R ⟨a, ha⟩) = x (ix3 l R ⟨b, hb⟩) := by
  subst h; rfl

/-- The plain reference's column groups. -/
theorem v13_apply (j : Fin 4096) (h : src j.val < 13568) : val_main_v13 (F := Ideal) x (ix3 l R j) = x (ix3 l R ⟨src j.val, h⟩) := by
  pointwise [val_main_v13, val_main_v0, val_main_v7, val_main_v8, val_main_v9]
  have := j.isLt
  by_cases h1 : j.val < 1024
  · rw [dif_pos h1]
    exact col x l R _ _ (src0 h1).symm
  rw [dif_neg h1]
  split_ifs <;> refine col x l R _ _ ?_ <;> rw [src1 (by omega) (by omega)] <;> omega
theorem v14_apply (j : Fin 2048) (h : src (4096 + j.val) < 13568) : val_main_v14 (F := Ideal) x (ix3 l R j) = x (ix3 l R ⟨src (4096 + j.val), h⟩) := by
  pointwise [val_main_v14, val_main_v5, val_main_v6]
  have := j.isLt
  split_ifs <;> refine col x l R _ _ ?_ <;> rw [src2 (by omega) (by omega)] <;> omega
theorem v15_apply (j : Fin 6144) (h : src (6144 + j.val) < 13568) : val_main_v15 (F := Ideal) x (ix3 l R j) = x (ix3 l R ⟨src (6144 + j.val), h⟩) := by
  pointwise [val_main_v15, val_main_v10, val_main_v11, val_main_v12]
  have := j.isLt
  split_ifs <;> refine col x l R _ _ ?_ <;> rw [src3 (by omega) (by omega)] <;> omega
theorem v16_apply (j : Fin 1024) (h : src (12288 + j.val) < 13568) : val_main_v16 (F := Ideal) x (ix3 l R j) = x (ix3 l R ⟨src (12288 + j.val), h⟩) := by
  pointwise [val_main_v16, val_main_v3, val_main_v4]
  have := j.isLt
  split_ifs <;> refine col x l R _ _ ?_ <;> rw [src4 (by omega) (by omega)] <;> omega
theorem v21_apply (j : Fin 256) (h : src (13312 + j.val) < 13568) : val_main_v21 (F := Ideal) x (ix3 l R j) = x (ix3 l R ⟨src (13312 + j.val), h⟩) := by
  pointwise [val_main_v21, val_main_v20, val_main_v19, val_main_v18, val_main_v17, val_main_v1]
  have := j.isLt
  split_ifs <;> refine col x l R _ _ ?_ <;> rw [src5 (by omega) (by omega)] <;> (split_ifs <;> omega)
theorem v26_apply (j : Fin 256) (h : src (13568 + j.val) < 13568) : val_main_v26 (F := Ideal) x (ix3 l R j) = x (ix3 l R ⟨src (13568 + j.val), h⟩) := by
  pointwise [val_main_v26, val_main_v25, val_main_v24, val_main_v23, val_main_v22, val_main_v2]
  have := j.isLt
  split_ifs <;> refine col x l R _ _ ?_ <;> rw [src6 (by omega)] <;> (split_ifs <;> omega)

/-- The plain reference's columns. -/
theorem ref_apply (j : Fin 13824) : val_main_v28 (F := Ideal) x (ix3 l R j) = x (ix3 l R ⟨src j.val, src_lt j⟩) := by
  have e13 := v13_apply x l R
  have e14 := v14_apply x l R
  have e15 := v15_apply x l R
  have e16 := v16_apply x l R
  have e21 := v21_apply x l R
  have e26 := v26_apply x l R
  have at_eq : ∀ (c : Nat) (hc : c < 13824), c = j.val → ∃ h : src c < 13568, x (ix3 l R ⟨src c, h⟩) = x (ix3 l R ⟨src j.val, src_lt j⟩) :=
    fun c hc h => ⟨src_lt ⟨c, hc⟩, col x l R _ _ (by rw [h])⟩
  unfold val_main_v28 val_main_v27
  generalize val_main_v13 (F := Ideal) x = x13 at e13 ⊢
  generalize val_main_v14 (F := Ideal) x = x14 at e14 ⊢
  generalize val_main_v15 (F := Ideal) x = x15 at e15 ⊢
  generalize val_main_v16 (F := Ideal) x = x16 at e16 ⊢
  generalize val_main_v21 (F := Ideal) x = x21 at e21 ⊢
  generalize val_main_v26 (F := Ideal) x = x26 at e26 ⊢
  pointwise
  have := j.isLt
  by_cases h0 : j.val < 4096
  · rw [dif_pos h0]
    exact e13 _ _
  rw [dif_neg h0]
  by_cases h1 : j.val - 4096 < 2048
  · rw [dif_pos h1]
    exact (e14 _ _).trans (at_eq (4096 + (j.val - 4096)) (by omega) (by omega)).choose_spec
  rw [dif_neg h1]
  by_cases h2 : j.val - 4096 - 2048 < 6144
  · rw [dif_pos h2]
    exact (e15 _ _).trans (at_eq (6144 + (j.val - 4096 - 2048)) (by omega) (by omega)).choose_spec
  rw [dif_neg h2]
  by_cases h3 : j.val - 4096 - 2048 - 6144 < 1024
  · rw [dif_pos h3]
    exact (e16 _ _).trans (at_eq (12288 + (j.val - 4096 - 2048 - 6144)) (by omega) (by omega)).choose_spec
  rw [dif_neg h3]
  by_cases h4 : j.val - 4096 - 2048 - 6144 - 1024 < 256
  · rw [dif_pos h4]
    exact (e21 _ _).trans (at_eq (13312 + (j.val - 4096 - 2048 - 6144 - 1024)) (by omega) (by omega)).choose_spec
  rw [dif_neg h4]
  exact (e26 _ _).trans (at_eq (13568 + (j.val - 4096 - 2048 - 6144 - 1024 - 256)) (by omega) (by omega)).choose_spec

end

/-- What a grid point leaves in its block: the block read, its columns permuted. -/
def perm (x : Vec Ideal S1x128x13568 .f32) (y : S1x128x13824.Idx) : EReal := x (ix3 0 (y 1) ⟨src (y 2).val, src_lt (y 2)⟩)

/-- A stored piece that holds, column by column, columns read from `so` on. -/
theorem piece {n : Nat} (x : Vec Ideal S1x128x13568 .f32) (P : (⟨3, ![1, 128, n]⟩ : Shape).Idx → EReal) (so o : Nat) (k : Fin n → Fin n)
    (b1 : ∀ a, (![0, 0, so] : Fin 3 → Nat) a + (![1, 128, n] : Fin 3 → Nat) a ≤ S1x128x13568.size a)
    (b2 : ∀ a, (![0, 0, o] : Fin 3 → Nat) a + (![1, 128, n] : Fin 3 → Nat) a ≤ S1x128x13824.size a)
    (hP : ∀ r j, P (ix3 0 r j) = View.ld x (Rect.unit (s := S1x128x13568) ![0, 0, so] ![1, 128, n] b1) (ix3 0 r (k j)))
    (hs : ∀ j : Fin n, src (o + j.val) = so + (k j).val) (y : (⟨3, ![1, 128, n]⟩ : Shape).Idx) :
    P y = perm x ((Rect.unit (s := S1x128x13824) ![0, 0, o] ![1, 128, n] b2).emb y) := by
  obtain ⟨r, j, rfl⟩ : ∃ (r : Fin 128) (j : Fin n), y = ix3 0 r j :=
    ⟨y 1, y 2, funext fun a => match a with | ⟨0, _⟩ => Subsingleton.elim (α := Fin 1) _ _ | ⟨1, _⟩ => rfl | ⟨2, _⟩ => rfl⟩
  rw [hP]
  refine congrArg x (funext fun a => Fin.ext (match a with
    | ⟨0, _⟩ => rfl
    | ⟨1, _⟩ => rfl
    | ⟨2, _⟩ => ?_))
  show so + 1 * (k j).val = src (o + 1 * j.val)
  rw [one_mul, one_mul, hs]

/-- The halves a column of a doubled pair is read from. -/
def lower (j : Fin 128) : Fin 128 := ⟨if j.val < 64 then j.val else j.val - 64, by split_ifs <;> omega⟩
def upper (j : Fin 128) : Fin 128 := ⟨if j.val < 64 then j.val + 64 else j.val, by split_ifs <;> omega⟩

/-- What the body leaves in its result block. -/
theorem out_eq (c : Dev nD) (i : grid0.Coords) (arg2 : Memref sig .tc .vmem S1x128x13568 .f32) (harg2 : arg2.IsWhole)
    (arg3 : Memref sig .tc .vmem S1x128x13824 .bf16) (harg3 : arg3.IsWhole) (x : Vec Ideal S1x128x13568 .f32) :
    out0_A_1 (F := Ideal) c i arg2 harg2 arg3 harg3 x = perm x := by
  unfold out0_A_1
  rw [View.read_writes_eq_canon _ _ _ (cover0_A_1 c i arg2 harg2 arg3 harg3 x)]
  funext y
  refine View.canon_apply_of_pieces (perm x) _ ?_ y (cover0_A_1 c i arg2 harg2 arg3 harg3 x y)
  unfold kernelRun0_A
  dsimp only
  sl_unfold_words
  simp only [View.readAt_eq_ld, harg2.read_unread,
    List.forall_mem_cons, List.forall_mem_nil, and_true, List.mem_cons, List.not_mem_nil, or_false, forall_eq_or_imp, forall_eq]
  have lo : ∀ o so : Nat, (o = 13312 ∧ so = 1024) ∨ (o = 13568 ∧ so = 1152) → ∀ j : Fin 128, src (o + j.val) = so + (lower j).val := fun o so h j => by
    have := j.isLt
    unfold lower; dsimp only
    rcases h with ⟨rfl, rfl⟩ | ⟨rfl, rfl⟩
    · rw [src5 (by omega) (by omega)]; split_ifs <;> omega
    · rw [src6 (by omega)]; split_ifs <;> omega
  have up : ∀ o so : Nat, (o = 13440 ∧ so = 1024) ∨ (o = 13696 ∧ so = 1152) → ∀ j : Fin 128, src (o + j.val) = so + (upper j).val := fun o so h j => by
    have := j.isLt
    unfold upper; dsimp only
    rcases h with ⟨rfl, rfl⟩ | ⟨rfl, rfl⟩
    · rw [src5 (by omega) (by omega)]; split_ifs <;> omega
    · rw [src6 (by omega)]; split_ifs <;> omega
  exact ⟨piece x _ 1152 13696 upper _ _ (fun r j => second_half _ r j _ rfl) (up _ _ (by omega)),
    piece x _ 1152 13568 lower _ _ (fun r j => first_half _ r j _ rfl) (lo _ _ (by omega)),
    piece x _ 1024 13440 upper _ _ (fun r j => second_half _ r j _ rfl) (up _ _ (by omega)),
    piece x _ 1024 13312 lower _ _ (fun r j => first_half _ r j _ rfl) (lo _ _ (by omega)),
    piece x _ 1792 12800 id _ _ (fun r j => keep512 _ r j) (fun j => by have := j.isLt; rw [src4 (by omega) (by omega)]; dsimp only [id]; omega),
    piece x _ 1280 12288 id _ _ (fun r j => keep512 _ r j) (fun j => by have := j.isLt; rw [src4 (by omega) (by omega)]; dsimp only [id]; omega),
    piece x _ 11520 10240 id _ _ (fun r j => keep2048 _ r j) (fun j => by have := j.isLt; rw [src3 (by omega) (by omega)]; dsimp only [id]; omega),
    piece x _ 9472 8192 id _ _ (fun r j => keep2048 _ r j) (fun j => by have := j.isLt; rw [src3 (by omega) (by omega)]; dsimp only [id]; omega),
    piece x _ 7424 6144 id _ _ (fun r j => keep2048 _ r j) (fun j => by have := j.isLt; rw [src3 (by omega) (by omega)]; dsimp only [id]; omega),
    piece x _ 3328 5120 id _ _ (fun r j => keep1024 _ r j) (fun j => by have := j.isLt; rw [src2 (by omega) (by omega)]; dsimp only [id]; omega),
    piece x _ 2304 4096 id _ _ (fun r j => keep1024 _ r j) (fun j => by have := j.isLt; rw [src2 (by omega) (by omega)]; dsimp only [id]; omega),
    piece x _ 6400 3072 id _ _ (fun r j => keep1024 _ r j) (fun j => by have := j.isLt; rw [src1 (by omega) (by omega)]; dsimp only [id]; omega),
    piece x _ 5376 2048 id _ _ (fun r j => keep1024 _ r j) (fun j => by have := j.isLt; rw [src1 (by omega) (by omega)]; dsimp only [id]; omega),
    piece x _ 4352 1024 id _ _ (fun r j => keep1024 _ r j) (fun j => by have := j.isLt; rw [src1 (by omega) (by omega)]; dsimp only [id]; omega),
    piece x _ 0 0 id _ _ (fun r j => keep1024 _ r j) (fun j => by have := j.isLt; rw [src0 (by omega)]; rfl)⟩

/-- The call's array is the plain reference's. -/
theorem final (c : Dev nD) : (Gen.dats (F := Ideal) m 0 c).arrAt 1 cfg0.N
    = Cert.PermuteInPlainIdeal.Read.val_main_v28 (F := Ideal) (m ((c : Thread nD τ).loc main_arg0)) := by
  refine (Gen.dats (F := Ideal) m 0 c).arrAt_eq_of_covers 1 _ (by decide +kernel) fun t hf y => ?_
  obtain ⟨r, j, rfl⟩ : ∃ (r : Fin 128) (j : Fin 13824), y = ix3 0 r j :=
    ⟨y 1, y 2, funext fun a => match a with | ⟨0, _⟩ => Subsingleton.elim (α := Fin 1) _ _ | ⟨1, _⟩ => rfl | ⟨2, _⟩ => rfl⟩
  have ht : t.val < 32 := lt_of_lt_of_eq t.isLt (by decide +kernel : cfg0.N = 32)
  blk_simp
  rw [after0_1, outsAt0, out_eq]
  refine Eq.trans ?_ ((ref_apply (m ((c : Thread nD τ).loc main_arg0)) ⟨t.val / 16, by omega⟩ ⟨t.val % 16 * 128 + r.val, by omega⟩ j).symm.trans
    (congrArg (Cert.PermuteInPlainIdeal.Read.val_main_v28 (F := Ideal) _) ?_))
  · unfold perm
    blk_simp [iblk]
    rw [V_main_arg0]
    refine congrArg _ ?_
    blk_ext [idx0]
  · blk_ext [idx1]

/-- The reference runs, its arguments unchanged, every counter back at zero. -/
theorem plain_quiescent : Cert.quiescent_PermuteInPlainIdeal := fun m ρ _ =>
  (θ_run Cert.PermuteInPlainIdeal.defs _ _).mono
    (fun r h => ⟨fun c => (h c).2, Idealize.ShloMosaic.sem_eq_zero_of_no_sems (by decide) r.2⟩)
    (Cert.PermuteInPlainIdeal.Value.run (F := Ideal) m ρ)

/-- The call's array is the plain reference's. -/
theorem algebraic : Cert.algebraic_PermuteInIdeal_PermuteInPlainIdeal := by
  intro m g m' g' hp hm
  refine ⟨fun c => (Gen.dats (F := Ideal) m 0 c).arrAt 1 cfg0.N, ?_, ?_⟩
  · exact (θ_run _ _ _).mono (fun r h c => h c) (Value.run_blocks (F := Ideal) m g)
  · refine (θ_run _ _ _).mono (fun r h c => ⟨?_, (h c).2⟩) (Cert.PermuteInPlainIdeal.Value.run (F := Ideal) m' g')
    have h1 := (h c).1
    rw [Cert.PermuteInPlainIdeal.Read.val_main_v28_eq, hm c] at h1
    exact h1.trans (final m c).symm

end Cert.PermuteInSpec

end
-- ==== Proof.MemStepHead.lean ====
/- The sample's memory attention: the block a grid point leaves, four sequences of sixteen rows, four heads each. -/
module

public import proofs.«01_k».proof.Proof.Gen.MemStepIdeal.Value
public import proofs.«01_k».proof.Proof.CrossAttnHead

@[expose] public section

set_option maxRecDepth 16384

noncomputable section

namespace Cert.MemStepSpec

open Cert.MemStepIdeal Cert.MemStepIdeal.Gen Cert.Softmax Idealize.ShloMosaic Idealize.ShloMosaic.TcCoe Idealize.SL.Sem

/-- One sequence's scores in one head: query `r` against key `j`. -/
theorem scores_apply (q : Vec Ideal S16x512 .bf16) (k : Vec Ideal S1x1x256x512 .f32) (r : Fin 16) (j : Fin 256) :
    k0_pay2 (F := Ideal) q k (ix2 r j) = (∑ d : Fin 512, q (ix2 r d) * k (ix4 0 0 j d)) * Ideal.ofBits .f32 0x3D3504F3#32 := by
  pointwise [k0_pay2]

/-- The weights before normalisation. -/
theorem weights_apply (s : FVec Ideal S16x256 .f32) (r : Fin 16) (j : Fin 256) :
    k0_pay22 (F := Ideal) s (ix2 r j) = Ideal.exp (s (ix2 r j) - rowMax (fun k => s (ix2 r k))) := by
  unfold k0_pay22
  dsimp only
  rw [← Cert.CrossAttnSpec.rowReduceMax s 0xFF800000#32 reduces_S16x256_S16 (.inl rfl) rfl Cert.CrossAttnSpec.neg_inf_bits r]
  generalize multiReduction (F := Ideal) .maximumf [1] S16 s 0xFF800000#32 reduces_S16x256_S16 (.inl rfl) rfl = y
  pointwise

/-- One sequence's attention in one head, from its scores and its values. -/
def attend (s : FVec Ideal S16x256 .f32) (v : Vec Ideal S1x1x256x512 .f32) : FVec Ideal S16x512 .bf16 :=
  k0_pay70 (F := Ideal) (k0_pay23 s) (k0_pay24 s) v

theorem attend_apply (s : FVec Ideal S16x256 .f32) (v : Vec Ideal S1x1x256x512 .f32) (r : Fin 16) (d : Fin 512) :
    attend s v (ix2 r d)
      = Ideal.div (∑ j, Ideal.exp (s (ix2 r j) - rowMax (fun k => s (ix2 r k))) * v (ix4 0 0 j d))
          (∑ j, Ideal.exp (s (ix2 r j) - rowMax (fun k => s (ix2 r k)))) := by
  unfold attend k0_pay24 k0_pay23
  simp only [← weights_apply]
  generalize k0_pay22 (F := Ideal) s = w
  pointwise [k0_pay70]

/-- A block's scores: its row `R` in head `h` against key `j` of the row's sequence. -/
def bscore (x0 : Vec Ideal S64x2048 .bf16) (x1 : Vec Ideal S1x4x256x2048 .f32) (R : Fin 64) (h : Fin 4) (j : Fin 256) : EReal :=
  (∑ d : Fin 512, x0 (ix2 R ⟨h.val * 512 + d.val, by omega⟩) * x1 (ix4 0 ⟨R.val / 16, by omega⟩ j ⟨h.val * 512 + d.val, by omega⟩))
    * Ideal.ofBits .f32 0x3D3504F3#32

/-- A block's result in row `R` and column `C` of head `h`. -/
def bvalue (x0 : Vec Ideal S64x2048 .bf16) (x1 x2 : Vec Ideal S1x4x256x2048 .f32) (R : Fin 64) (h : Fin 4) (C : Fin 2048) : EReal :=
  Ideal.div (∑ j, Ideal.exp (bscore x0 x1 R h j - rowMax (bscore x0 x1 R h)) * x2 (ix4 0 ⟨R.val / 16, by omega⟩ j C))
    (∑ j, Ideal.exp (bscore x0 x1 R h j - rowMax (bscore x0 x1 R h)))

/-- What a grid point leaves in its block of the result. -/
def block (x0 : Vec Ideal S64x2048 .bf16) (x1 x2 : Vec Ideal S1x4x256x2048 .f32) (y : S64x2048.Idx) : EReal :=
  bvalue x0 x1 x2 (y 0) ⟨(y 1).val / 512, by have := (y 1).isLt; simp [S64x2048] at this; omega⟩ (y 1)

/-- What is stored for sequence `s` and head `h` is that part of the block. -/
theorem stored (x0 : Vec Ideal S64x2048 .bf16) (x1 x2 : Vec Ideal S1x4x256x2048 .f32) (s h : Fin 4) (ro o : Nat) (hro : ro = s.val * 16)
    (ho : o = h.val * 512)
    (b2 : ∀ a, (![ro, o] : Fin 2 → Nat) a + (![16, 512] : Fin 2 → Nat) a ≤ S64x2048.size a)
    (b4 : ∀ a, (![0, s.val, 0, o] : Fin 4 → Nat) a + (![1, 1, 256, 512] : Fin 4 → Nat) a ≤ S1x4x256x2048.size a)
    (P : FVec Ideal S16x512 .bf16)
    (hP : P = attend (k0_pay2 (F := Ideal) (View.ld x0 (Rect.unit (s := S64x2048) ![ro, o] ![16, 512] b2))
        (View.ld x1 (Rect.unit (s := S1x4x256x2048) ![0, s.val, 0, o] ![1, 1, 256, 512] b4)))
      (View.ld x2 (Rect.unit (s := S1x4x256x2048) ![0, s.val, 0, o] ![1, 1, 256, 512] b4))) (x : S16x512.Idx) :
    P x = block x0 x1 x2 ((Rect.unit (s := S64x2048) ![ro, o] ![16, 512] b2).emb x) := by
  subst hro ho hP
  obtain ⟨r, d, rfl⟩ : ∃ r d, x = ix2 r d := ⟨x 0, x 1, funext fun a => match a with | ⟨0, _⟩ => rfl | ⟨1, _⟩ => rfl⟩
  have eq2 : ∀ d : Fin 512, View.ld x0 (Rect.unit (s := S64x2048) ![s.val * 16, h.val * 512] ![16, 512] b2) (ix2 r d)
      = x0 (ix2 ⟨s.val * 16 + r.val, by omega⟩ ⟨h.val * 512 + d.val, by omega⟩) := fun d =>
    congrArg x0 (funext fun a => Fin.ext (match a with
      | ⟨0, _⟩ => by show s.val * 16 + 1 * r.val = s.val * 16 + r.val; omega
      | ⟨1, _⟩ => by show h.val * 512 + 1 * d.val = h.val * 512 + d.val; omega))
  have eq4 : ∀ (z : Vec Ideal S1x4x256x2048 .f32) (j : Fin 256) (d : Fin 512),
      View.ld z (Rect.unit (s := S1x4x256x2048) ![0, s.val, 0, h.val * 512] ![1, 1, 256, 512] b4) (ix4 0 0 j d)
        = z (ix4 0 ⟨(s.val * 16 + r.val) / 16, by omega⟩ j ⟨h.val * 512 + d.val, by omega⟩) := fun z j d =>
    congrArg z (funext fun a => Fin.ext (match a with
      | ⟨0, _⟩ => rfl
      | ⟨1, _⟩ => by show s.val + 1 * 0 = (s.val * 16 + r.val) / 16; omega
      | ⟨2, _⟩ => by show 0 + 1 * j.val = j.val; omega
      | ⟨3, _⟩ => by show h.val * 512 + 1 * d.val = h.val * 512 + d.val; omega))
  have eqs : ∀ j, k0_pay2 (F := Ideal) (View.ld x0 (Rect.unit (s := S64x2048) ![s.val * 16, h.val * 512] ![16, 512] b2))
      (View.ld x1 (Rect.unit (s := S1x4x256x2048) ![0, s.val, 0, h.val * 512] ![1, 1, 256, 512] b4)) (ix2 r j)
      = bscore x0 x1 ⟨s.val * 16 + r.val, by omega⟩ h j := fun j =>
    (scores_apply _ _ r j).trans (congrArg (· * _) (Finset.sum_congr rfl fun d _ => congr (congrArg _ (eq2 d)) (eq4 x1 j d)))
  rw [attend_apply]
  simp only [eqs]
  have hh : (⟨(h.val * 512 + d.val) / 512, by omega⟩ : Fin 4) = h := Fin.ext (by dsimp only; omega)
  have hx : (Rect.unit (s := S64x2048) ![s.val * 16, h.val * 512] ![16, 512] b2).emb (ix2 r d)
      = ix2 ⟨s.val * 16 + r.val, by omega⟩ ⟨h.val * 512 + d.val, by omega⟩ := funext fun a => Fin.ext (match a with
      | ⟨0, _⟩ => by show s.val * 16 + 1 * r.val = s.val * 16 + r.val; omega
      | ⟨1, _⟩ => by show h.val * 512 + 1 * d.val = h.val * 512 + d.val; omega)
  rw [hx]
  show _ = bvalue x0 x1 x2 ⟨s.val * 16 + r.val, _⟩ ⟨(h.val * 512 + d.val) / 512, _⟩ ⟨h.val * 512 + d.val, _⟩
  rw [hh]
  exact congrArg (Ideal.div · _) (Finset.sum_congr rfl fun j _ => congrArg (_ * ·) (eq4 x2 j d))

/-- What the body leaves in its result block. -/
theorem out_eq (c : Dev nD) (i : grid0.Coords) (arg2 : Memref sig .tc .vmem S64x2048 .bf16) (harg2 : arg2.IsWhole)
    (arg3 : Memref sig .tc .vmem S1x4x256x2048 .f32) (harg3 : arg3.IsWhole) (arg4 : Memref sig .tc .vmem S1x4x256x2048 .f32)
    (harg4 : arg4.IsWhole) (arg5 : Memref sig .tc .vmem S64x2048 .bf16) (harg5 : arg5.IsWhole)
    (x0 : Vec Ideal S64x2048 .bf16) (x1 x2 : Vec Ideal S1x4x256x2048 .f32) :
    out0_A_3 (F := Ideal) c i arg2 harg2 arg3 harg3 arg4 harg4 arg5 harg5 x0 x1 x2 = block x0 x1 x2 := by
  unfold out0_A_3
  rw [View.read_writes_eq_canon _ _ _ (cover0_A_3 c i arg2 harg2 arg3 harg3 arg4 harg4 arg5 harg5 x0 x1 x2)]
  funext y
  refine View.canon_apply_of_pieces (block x0 x1 x2) _ ?_ y (cover0_A_3 c i arg2 harg2 arg3 harg3 arg4 harg4 arg5 harg5 x0 x1 x2 y)
  unfold kernelRun0_A
  dsimp only
  sl_unfold_words
  simp only [View.readAt_eq_ld, harg2.read_unread, harg3.read_unread, harg4.read_unread,
    List.forall_mem_cons, List.forall_mem_nil, and_true, List.mem_cons, List.not_mem_nil, or_false, forall_eq_or_imp, forall_eq]
  exact ⟨stored x0 x1 x2 3 3 48 1536 rfl rfl _ _ _ rfl, stored x0 x1 x2 3 2 48 1024 rfl rfl _ _ _ rfl,
    stored x0 x1 x2 3 1 48 512 rfl rfl _ _ _ rfl, stored x0 x1 x2 3 0 48 0 rfl rfl _ _ _ rfl,
    stored x0 x1 x2 2 3 32 1536 rfl rfl _ _ _ rfl, stored x0 x1 x2 2 2 32 1024 rfl rfl _ _ _ rfl,
    stored x0 x1 x2 2 1 32 512 rfl rfl _ _ _ rfl, stored x0 x1 x2 2 0 32 0 rfl rfl _ _ _ rfl,
    stored x0 x1 x2 1 3 16 1536 rfl rfl _ _ _ rfl, stored x0 x1 x2 1 2 16 1024 rfl rfl _ _ _ rfl,
    stored x0 x1 x2 1 1 16 512 rfl rfl _ _ _ rfl, stored x0 x1 x2 1 0 16 0 rfl rfl _ _ _ rfl,
    stored x0 x1 x2 0 3 0 1536 rfl rfl _ _ _ rfl, stored x0 x1 x2 0 2 0 1024 rfl rfl _ _ _ rfl,
    stored x0 x1 x2 0 1 0 512 rfl rfl _ _ _ rfl, stored x0 x1 x2 0 0 0 0 rfl rfl _ _ _ rfl⟩

end Cert.MemStepSpec

end
-- ==== Proof.MemStepRef.lean ====
/- The sample's memory attention: the plain reference read at an index, and what its condition says. -/
module

public import proofs.«01_k».proof.Proof.CrossAttnRef
public import proofs.«01_k».proof.Proof.CrossAttnCond
public import proofs.«01_k».proof.Proof.Gen.MemStepPlainIdeal.Read
public import proofs.«01_k».proof.Proof.Gen.Pre_memstep_finite

@[expose] public section

set_option maxRecDepth 16384

noncomputable section

namespace Cert.MemStepSpec

open Idealize.ShloMosaic Cert.MemStepPlainIdeal Cert.MemStepPlainIdeal.Read Cert.Softmax

/-- The scaled score of the sample's row `R` against key `k` of the row's sequence, in head `h`. -/
def score (x0 : FVec Ideal S8448x2048 .bf16) (x1 : FVec Ideal S2x16x256x4x512 .f32) (R : Fin 256) (h : Fin 4) (k : Fin 256) : EReal :=
  (∑ d : Fin 512, x0 (ix2 ⟨8192 + R.val, by omega⟩ ⟨h.val * 512 + d.val, by omega⟩) * x1 (ix5 0 ⟨R.val / 16, by omega⟩ k h d))
    * Ideal.ofBits .f32 0x3D3504F3#32

/-- The value key `k` of the row's sequence carries in column `C`. -/
def value (x2 : FVec Ideal S2x16x256x4x512 .f32) (R : Fin 256) (C : Fin 2048) (k : Fin 256) : EReal :=
  x2 (ix5 0 ⟨R.val / 16, by omega⟩ k ⟨C.val / 512, by omega⟩ ⟨C.val % 512, by omega⟩)

variable (x0 : FVec Ideal S8448x2048 .bf16) (x1 x2 : FVec Ideal S2x16x256x4x512 .f32) (x3 : FVec Ideal S8448x2048 .bf16)

/-- The reference's scaled scores, at sequence `b`, head `h`, query `q`, key `k`. -/
theorem v7_apply (b : Fin 16) (h : Fin 4) (q : Fin 16) (k : Fin 256) :
    val_main_v7 (F := Ideal) x0 x1 (ix4 b h q k) = score x0 x1 ⟨b.val * 16 + q.val, by omega⟩ h k := by
  pointwise [val_main_v7, val_main_v6, val_main_v5, val_main_v4, val_main_v3, val_main_v2, val_main_v1, val_main_v0, val_main_cst]
  unfold score
  refine congrArg (· * _) (Finset.sum_congr rfl fun d _ => congr (congrArg _ (congrArg x0 ?_)) (congrArg x1 ?_))
  · funext a
    apply Fin.ext
    match a with
    | ⟨0, _⟩ => first | rfl | (dsimp only [ix2]; omega)
    | ⟨1, _⟩ => rfl
  · funext a
    apply Fin.ext
    match a with
    | ⟨0, _⟩ => rfl
    | ⟨1, _⟩ => dsimp only [ix5]; omega
    | ⟨2, _⟩ => rfl
    | ⟨3, _⟩ => rfl
    | ⟨4, _⟩ => rfl

/-- The row's greatest score. -/
theorem v10_apply (b : Fin 16) (h : Fin 4) (q : Fin 16) :
    val_main_v10 (F := Ideal) x0 x1 (ix3 b h q) = rowMax (score x0 x1 ⟨b.val * 16 + q.val, by omega⟩ h) := by
  rw [val_main_v10_apply, Ideal.maximumf_eq_max, val_main_v9_apply, val_main_cst_1_apply]
  unfold val_main_v8
  rw [Cert.CrossAttnSpec.reduceMax4 _ _ _ _ Cert.CrossAttnSpec.ofBits_neg_inf]
  simp only [v7_apply]
  exact (congrArg (max · _) Cert.CrossAttnSpec.ofBits_neg_inf).trans (max_eq_right bot_le)

/-- The row's weights before normalisation. -/
theorem v14_apply (b : Fin 16) (h : Fin 4) (q : Fin 16) (k : Fin 256) :
    val_main_v14 (F := Ideal) x0 x1 (ix4 b h q k)
      = Ideal.exp (score x0 x1 ⟨b.val * 16 + q.val, by omega⟩ h k - rowMax (score x0 x1 ⟨b.val * 16 + q.val, by omega⟩ h)) := by
  unfold val_main_v14 val_main_v13 val_main_v12 val_main_v11
  rw [← v7_apply, ← v10_apply]
  generalize val_main_v7 (F := Ideal) x0 x1 = y
  generalize val_main_v10 (F := Ideal) x0 x1 = z
  pointwise

/-- The row's normalised weights. -/
theorem v18_apply (b : Fin 16) (h : Fin 4) (q : Fin 16) (k : Fin 256) :
    val_main_v18 (F := Ideal) x0 x1 (ix4 b h q k)
      = Ideal.div (Ideal.exp (score x0 x1 ⟨b.val * 16 + q.val, by omega⟩ h k - rowMax (score x0 x1 ⟨b.val * 16 + q.val, by omega⟩ h)))
          (∑ k', Ideal.exp (score x0 x1 ⟨b.val * 16 + q.val, by omega⟩ h k' - rowMax (score x0 x1 ⟨b.val * 16 + q.val, by omega⟩ h))) := by
  unfold val_main_v18 val_main_v17 val_main_v16 val_main_v15
  simp only [← v14_apply]
  generalize val_main_v14 (F := Ideal) x0 x1 = y
  pointwise [val_main_cst_2]

/-- The attention of the sample's row `R`, in column `C`. -/
theorem v23_apply (R : Fin 256) (C : Fin 2048) :
    val_main_v23 (F := Ideal) x0 x1 x2 (ix2 R C)
      = ∑ k, Ideal.div (Ideal.exp (score x0 x1 R ⟨C.val / 512, by omega⟩ k - rowMax (score x0 x1 R ⟨C.val / 512, by omega⟩)))
          (∑ k', Ideal.exp (score x0 x1 R ⟨C.val / 512, by omega⟩ k' - rowMax (score x0 x1 R ⟨C.val / 512, by omega⟩)))
          * value x2 R C k := by
  unfold val_main_v23 val_main_v22 val_main_v21
  have e := fun b h q k => v18_apply x0 x1 b h q k
  generalize val_main_v18 (F := Ideal) x0 x1 = y at e ⊢
  pointwise [val_main_v20, val_main_v19]
  refine Finset.sum_congr rfl fun k _ => ?_
  rw [e, mul_comm]
  have hR : (⟨R.val / 16 * 16 + R.val % 16, by omega⟩ : Fin 256) = R := Fin.ext (by dsimp only; omega)
  dsimp only
  rw [hR]
  rfl

/-- The reference's result in a row of the sample. -/
theorem ref_sample (r : Fin 8448) (R : Fin 256) (C : Fin 2048) (h : r.val = 8192 + R.val) :
    val_main_v26 (F := Ideal) x0 x1 x2 x3 (ix2 r C) = val_main_v23 (F := Ideal) x0 x1 x2 (ix2 R C) := by
  unfold val_main_v26 val_main_v25
  generalize val_main_v23 (F := Ideal) x0 x1 x2 = y
  pointwise [val_main_v24]
  rw [dif_neg (by omega)]
  exact congrArg y (congrArg (ix2 · C) (Fin.ext (by dsimp only; omega)))

/-- The reference's result in a row of a prompt: the row as it was. -/
theorem ref_prompt (r : Fin 8448) (C : Fin 2048) (h : r.val < 8192) :
    val_main_v26 (F := Ideal) x0 x1 x2 x3 (ix2 r C) = x3 (ix2 r C) := by
  unfold val_main_v26 val_main_v25
  generalize val_main_v23 (F := Ideal) x0 x1 x2 = y
  pointwise [val_main_v24]
  rw [dif_pos h]

/-- Under the condition every query entry is a finite number. -/
theorem q_real (h : (Cert.Pre_memstep_finite.fn (F := Ideal) x0 x1 x2 x3).1 = fun _ => 1#1) (r : Fin 8448) (d : Fin 2048) :
    ∃ a : ℝ, x0 (ix2 r d) = (a : EReal) := by
  have h1 := congrFun h (ix2 r d)
  unfold Cert.Pre_memstep_finite.fn at h1
  dsimp only at h1
  pointwise at h1
  exact Cert.CrossAttnSpec.real_of_flag _ h1

/-- Under the condition every key entry is a finite number. -/
theorem k_real (h : (Cert.Pre_memstep_finite.fn (F := Ideal) x0 x1 x2 x3).2 = fun _ => 1#1) (a : Fin 2) (b : Fin 16) (k : Fin 256) (hd : Fin 4)
    (d : Fin 512) : ∃ t : ℝ, x1 (ix5 a b k hd d) = (t : EReal) := by
  have h1 := congrFun h (ix5 a b k hd d)
  unfold Cert.Pre_memstep_finite.fn at h1
  dsimp only at h1
  pointwise at h1
  exact Cert.CrossAttnSpec.real_of_flag _ h1

end Cert.MemStepSpec

end
-- ==== Proof.MemStepClaim.lean ====
/- The sample's memory attention: the kernel's result array, and the claims. -/
module

public import proofs.«01_k».proof.Defs
public import proofs.«01_k».proof.Proof.Gen.MemStep.Frame
public import proofs.«01_k».proof.Proof.Gen.MemStepPlainIdeal
public import proofs.«01_k».proof.Proof.MemStepHead
public import proofs.«01_k».proof.Proof.MemStepRef
public import Idealize.ShloMosaic.Lib.Pipeline.ValueKit
public import Idealize.ShloMosaic.Lib.Quiescent

@[expose] public section

set_option maxRecDepth 16384

noncomputable section

namespace Cert.MemStepSpec

open Cert.MemStepIdeal Cert.MemStepIdeal.Gen Cert.Softmax Idealize.ShloMosaic Idealize.ShloMosaic.TcCoe Idealize.SL.Sem
open Idealize.ShloMosaic.Pipeline (Dat)

variable (m : (ℓ : Loc nD τ sig) → Buf (Elt Ideal) ℓ)

theorem idx0 : ∀ t : Fin cfg0.N, win0_0.index t = ![128 + t.val, 0] := (by decide +kernel : ∀ t : Fin grid0.N, _)
theorem idx1 : ∀ t : Fin cfg0.N, win0_1.index t = ![0, t.val, 0, 0] := (by decide +kernel : ∀ t : Fin grid0.N, _)
theorem idx2 : ∀ t : Fin cfg0.N, win0_2.index t = ![0, t.val, 0, 0] := (by decide +kernel : ∀ t : Fin grid0.N, _)
theorem idx3 : ∀ t : Fin cfg0.N, win0_3.index t = ![128 + t.val, 0] := (by decide +kernel : ∀ t : Fin grid0.N, _)

theorem V_main_v0 (c : Dev nD) : V m c main_v0
    = shapeCast S2x16x256x2048 (m ((c : Thread nD τ).loc main_arg1)) shapeCasts_S2x16x256x4x512_S2x16x256x2048 := by
  unfold_abbrev_sides
  after_results
  rfl
theorem V_main_v1 (c : Dev nD) : V m c main_v1
    = shapeCast S2x16x256x2048 (m ((c : Thread nD τ).loc main_arg2)) shapeCasts_S2x16x256x4x512_S2x16x256x2048 := by
  unfold_abbrev_sides
  after_results
  rfl
/-- The array the result starts from. -/
theorem V_main_v2 (c : Dev nD) : V m c main_v2 = m ((c : Thread nD τ).loc main_arg3) := by
  unfold_abbrev_sides
  after_results
  rfl

/-- Heads side by side, from their own axis. -/
theorem heads (x : FVec Ideal S2x16x256x4x512 .f32) (a : Fin 2) (b : Fin 16) (j : Fin 256) (C : Fin 2048) (h : Fin 4) (d : Fin 512)
    (hC : C.val = h.val * 512 + d.val) :
    shapeCast S2x16x256x2048 x shapeCasts_S2x16x256x4x512_S2x16x256x2048 (ix4 a b j C) = x (ix5 a b j h d) := by
  obtain ⟨C, hlt⟩ := C
  dsimp only at hC
  subst hC
  pointwise

/-- Point `t`'s block of the queries. -/
theorem q_block (c : Dev nD) (t : Fin cfg0.N) (r : Fin 64) (d : Fin 2048) (R : Fin 8448) (hR : R.val = 8192 + (t.val * 64 + r.val)) :
    iblk (F := Ideal) m c 0 t (ix2 r d) = m ((c : Thread nD τ).loc main_arg0) (ix2 R d) := by
  blk_simp [iblk]
  rw [V_main_arg0]
  refine congrArg _ ?_
  blk_ext [idx0]

/-- Point `t`'s block of the memory keys. -/
theorem k_block (c : Dev nD) (t : Fin cfg0.N) (s : Fin 4) (j : Fin 256) (C : Fin 2048) (b : Fin 16) (h : Fin 4) (d : Fin 512)
    (hb : b.val = t.val * 4 + s.val) (hC : C.val = h.val * 512 + d.val) :
    iblk (F := Ideal) m c 1 t (ix4 0 s j C) = m ((c : Thread nD τ).loc main_arg1) (ix5 0 b j h d) := by
  rw [← heads (m ((c : Thread nD τ).loc main_arg1)) 0 b j C h d hC]
  blk_simp [iblk]
  rw [V_main_v0]
  refine congrArg (shapeCast S2x16x256x2048 _ shapeCasts_S2x16x256x4x512_S2x16x256x2048) ?_
  blk_ext [idx1]

/-- Point `t`'s block of the memory values. -/
theorem v_block (c : Dev nD) (t : Fin cfg0.N) (s : Fin 4) (j : Fin 256) (C : Fin 2048) (b : Fin 16) (h : Fin 4) (d : Fin 512)
    (hb : b.val = t.val * 4 + s.val) (hC : C.val = h.val * 512 + d.val) :
    iblk (F := Ideal) m c 2 t (ix4 0 s j C) = m ((c : Thread nD τ).loc main_arg2) (ix5 0 b j h d) := by
  rw [← heads (m ((c : Thread nD τ).loc main_arg2)) 0 b j C h d hC]
  blk_simp [iblk]
  rw [V_main_v1]
  refine congrArg (shapeCast S2x16x256x2048 _ shapeCasts_S2x16x256x4x512_S2x16x256x2048) ?_
  blk_ext [idx2]

/-- No block of the result is cut. -/
theorem whole3 : ∀ t : Fin cfg0.N, ∀ a, (cfg0.win 3).xsize (cfg0.grid.coords t) a = (cfg0.win 3).size a := by decide +kernel

/-- An index of the result's block, as an index of the part moved. -/
def moved (t : Fin cfg0.N) (y : S64x2048.Idx) : ((cfg0.win 3).xblock (cfg0.grid.coords t)).Idx :=
  fun a => ⟨(y a).val, lt_of_lt_of_eq (y a).isLt (whole3 t a).symm⟩

/-- A row of the sample, in the kernel's result: the weighted values over the weights' sum. -/
theorem kernel_sample (c : Dev nD) (r : Fin 8448) (R : Fin 256) (C : Fin 2048) (hr : r.val = 8192 + R.val) :
    (Gen.dats (F := Ideal) m 0 c).arrAt 3 cfg0.N (ix2 r C)
      = Ideal.div (∑ k, Ideal.exp (score (m ((c : Thread nD τ).loc main_arg0)) (m ((c : Thread nD τ).loc main_arg1)) R ⟨C.val / 512, by omega⟩ k
            - rowMax (score (m ((c : Thread nD τ).loc main_arg0)) (m ((c : Thread nD τ).loc main_arg1)) R ⟨C.val / 512, by omega⟩))
            * value (m ((c : Thread nD τ).loc main_arg2)) R C k)
          (∑ k, Ideal.exp (score (m ((c : Thread nD τ).loc main_arg0)) (m ((c : Thread nD τ).loc main_arg1)) R ⟨C.val / 512, by omega⟩ k
            - rowMax (score (m ((c : Thread nD τ).loc main_arg0)) (m ((c : Thread nD τ).loc main_arg1)) R ⟨C.val / 512, by omega⟩))) := by
  have hN : cfg0.N = 4 := by decide +kernel
  obtain ⟨t, ht⟩ : ∃ t : Fin cfg0.N, t.val = R.val / 64 := ⟨⟨R.val / 64, by omega⟩, rfl⟩
  have hf : (cfg0.win 3).flush t = true := (by decide +kernel : ∀ t : Fin grid0.N, win0_3.flush t = true) t
  have hy : (ix2 r C : S8448x2048.Idx) = ((cfg0.win 3).blk t).view.emb (moved t (ix2 ⟨R.val % 64, by omega⟩ C)) := by
    funext a
    apply Fin.ext
    refine Eq.trans ?_ (win0_3.rect_emb_val t (moved t (ix2 ⟨R.val % 64, by omega⟩ C)) a).symm
    rw [idx3]
    match a with
    | ⟨0, _⟩ => show r.val = (128 + t.val) * 64 + R.val % 64; omega
    | ⟨1, _⟩ => show C.val = 0 * 2048 + C.val; omega
  rw [hy, (Gen.dats (F := Ideal) m 0 c).arrAt_emb_eq_flushed 3 (Value.disjoint3) t hf, Value.flushed3_A, out_eq]
  rw [cast_eq, Pipeline.Window.cut_apply]
  have hx : (cfg0.win 3).xinj (grid0.coords t) (moved t (ix2 ⟨R.val % 64, by omega⟩ C)) = (ix2 ⟨R.val % 64, by omega⟩ C : S64x2048.Idx) :=
    funext fun a => Fin.ext rfl
  rw [hx]
  have hs : bscore (iblk m c 0 t) (iblk m c 1 t) ⟨R.val % 64, by omega⟩ ⟨C.val / 512, by omega⟩
      = score (m ((c : Thread nD τ).loc main_arg0)) (m ((c : Thread nD τ).loc main_arg1)) R ⟨C.val / 512, by omega⟩ := by
    funext j
    unfold bscore score
    refine congrArg (· * _) (Finset.sum_congr rfl fun e _ => ?_)
    rw [q_block m c t _ _ ⟨8192 + R.val, by omega⟩ (by dsimp only; omega),
      k_block m c t _ j _ ⟨R.val / 16, by omega⟩ ⟨C.val / 512, by omega⟩ e (by dsimp only; omega) rfl]
  have hv : ∀ j, iblk (F := Ideal) m c 2 t (ix4 0 ⟨R.val % 64 / 16, by omega⟩ j C) = value (m ((c : Thread nD τ).loc main_arg2)) R C j := fun j =>
    v_block m c t _ j C ⟨R.val / 16, by omega⟩ ⟨C.val / 512, by omega⟩ ⟨C.val % 512, by omega⟩ (by dsimp only; omega) (by dsimp only; omega)
  rw [← hs]
  simp only [← hv]
  rfl

/-- A row of a prompt, in the kernel's result: the row the array started with. -/
theorem kernel_prompt (c : Dev nD) (r : Fin 8448) (C : Fin 2048) (hr : r.val < 8192) :
    (Gen.dats (F := Ideal) m 0 c).arrAt 3 cfg0.N (ix2 r C) = m ((c : Thread nD τ).loc main_arg3) (ix2 r C) := by
  rw [Value.entry3 m c (ix2 r C) fun t _ hi => ?_]
  · exact congrFun (V_main_v2 m c) _
  · obtain ⟨y, hy⟩ := View.exists_emb_of_mem_set _ hi
    have h0 : (((cfg0.win 3).blk t).view.emb y (0 : Fin 2)).val = r.val := congrArg (fun z : S8448x2048.Idx => (z 0).val) hy
    have h1 := win0_3.rect_emb_val t y (0 : Fin 2)
    rw [idx3] at h1
    have h2 : r.val = (128 + t.val) * 64 + (y (0 : Fin 2)).val := h0.symm.trans h1
    omega

/-- The scale is a finite number. -/
theorem scale_real : ∃ r : ℝ, Ideal.ofBits .f32 0x3D3504F3#32 = (r : EReal) := ⟨_, by simp only [Ideal.ofBits, Ideal.ieee]; rfl⟩

/-- The kernel's array is the plain reference's, in every row. -/
theorem final (hp : Cert.Pre_MemStepIdeal_memstep_finite m) (c : Dev nD) : (Gen.dats (F := Ideal) m 0 c).arrAt 3 cfg0.N
    = Cert.MemStepPlainIdeal.Read.val_main_v26 (F := Ideal) (m ((c : Thread nD τ).loc main_arg0)) (m ((c : Thread nD τ).loc main_arg1))
        (m ((c : Thread nD τ).loc main_arg2)) (m ((c : Thread nD τ).loc main_arg3)) := by
  funext i
  obtain ⟨r, C, rfl⟩ : ∃ (r : Fin 8448) (C : Fin 2048), i = ix2 r C := ⟨i 0, i 1, funext fun a => match a with | ⟨0, _⟩ => rfl | ⟨1, _⟩ => rfl⟩
  by_cases hr : r.val < 8192
  · exact (kernel_prompt m c r C hr).trans (ref_prompt _ _ _ _ r C hr).symm
  · obtain ⟨R, hR⟩ : ∃ R : Fin 256, r.val = 8192 + R.val := ⟨⟨r.val - 8192, by omega⟩, by dsimp only; omega⟩
    refine (kernel_sample m c r R C hR).trans (Eq.trans ?_ ((ref_sample _ _ _ _ r R C hR).trans (v23_apply _ _ _ R C)).symm)
    refine softmax_eq (by decide) _ _ (rowMax_real _ (by decide) fun k => mul_real (dot_real _ _ (fun e => ?_) fun e => ?_) scale_real)
    · exact q_real _ _ _ _ (hp c).1 _ _
    · exact k_real _ _ _ _ (hp c).2 _ _ _ _ _

/-- The reference runs, its arguments unchanged, every counter back at zero. -/
theorem plain_quiescent : Cert.quiescent_MemStepPlainIdeal := fun m ρ _ =>
  (θ_run Cert.MemStepPlainIdeal.defs _ _).mono
    (fun r h => ⟨fun c => (h c).2, Idealize.ShloMosaic.sem_eq_zero_of_no_sems (by decide) r.2⟩)
    (Cert.MemStepPlainIdeal.Value.run (F := Ideal) m ρ)

/-- The kernel's array is the plain reference's, in every row. -/
theorem algebraic : Cert.algebraic_MemStepIdeal_MemStepPlainIdeal_pre_memstep_finite := by
  intro m g m' g' hp hm
  refine ⟨fun c => (Gen.dats (F := Ideal) m 0 c).arrAt 3 cfg0.N, Value.run_blocks (F := Ideal) m g, ?_⟩
  refine (θ_run _ _ _).mono (fun r h c => ⟨?_, (h c).2⟩) (Cert.MemStepPlainIdeal.Value.run (F := Ideal) m' g')
  have h1 := (h c).1
  rw [Cert.MemStepPlainIdeal.Read.val_main_v26_eq, (hm c).1, (hm c).2.1, (hm c).2.2.1, (hm c).2.2.2] at h1
  exact h1.trans (final m hp c).symm

end Cert.MemStepSpec

end
-- ==== Proof.FfnStepRef.lean ====
/- The feed-forward block's first half on the sample's rows: the plain reference read at an index. -/
module

public import proofs.«01_k».proof.Proof.FfnInValue
public import proofs.«01_k».proof.Proof.Gen.FfnStepPlainIdeal.Read

@[expose] public section

set_option maxRecDepth 16384

noncomputable section

namespace Cert.FfnStepSpec

open Idealize.ShloMosaic Cert.FfnStepPlainIdeal Cert.FfnStepPlainIdeal.Read
open Cert.FfnInSpec (tapAt biasAt act)

/-- The weights' column `J`: the gate's columns, then the value's. -/
def weight (x1 x2 : FVec Ideal S2048x5632 .bf16) (k : Fin 2048) (J : ℕ) : EReal :=
  if h : J < 5632 then x1 (ix2 k ⟨J, h⟩) else if h : J - 5632 < 5632 then x2 (ix2 k ⟨J - 5632, h⟩) else 0

/-- The sample's row `R` against the weights' column `J`. -/
def proj (x0 : FVec Ideal S8448x2048 .bf16) (x1 x2 : FVec Ideal S2048x5632 .bf16) (R J : ℕ) : EReal :=
  if h : R < 256 then ∑ k : Fin 2048, x0 (ix2 ⟨8192 + R, by omega⟩ k) * weight x1 x2 k J else 0

/-- Row `s` of the two the cache keeps of sequence `b`. -/
def kept (x5 : FVec Ideal S2x16x2x11264 .f32) (b s J : ℕ) : EReal :=
  if h : b < 16 ∧ s < 2 ∧ J < 11264 then x5 (ix4 0 ⟨b, h.1⟩ ⟨s, h.2.1⟩ ⟨J, h.2.2⟩) else 0

/-- The same `d` rows earlier in the sequence, out of the cache before its new rows. -/
def past (x0 : FVec Ideal S8448x2048 .bf16) (x1 x2 : FVec Ideal S2048x5632 .bf16) (x5 : FVec Ideal S2x16x2x11264 .f32) (d R J : ℕ) : EReal :=
  if R % 16 < d then kept x5 (R / 16) (2 + R % 16 - d) J else proj x0 x1 x2 (R - d) J

/-- The short convolution of column `J` at the sample's row `R`. -/
def convAt (x0 : FVec Ideal S8448x2048 .bf16) (x1 x2 : FVec Ideal S2048x5632 .bf16) (x3 : FVec Ideal S2x3x11264 .f32) (x4 : FVec Ideal S2x11264 .f32)
    (x5 : FVec Ideal S2x16x2x11264 .f32) (R J : ℕ) : EReal :=
  tapAt x3 0 J * past x0 x1 x2 x5 2 R J + tapAt x3 1 J * past x0 x1 x2 x5 1 R J + tapAt x3 2 J * proj x0 x1 x2 R J + biasAt x4 J

variable (x0 : FVec Ideal S8448x2048 .bf16) (x1 x2 : FVec Ideal S2048x5632 .bf16) (x3 : FVec Ideal S2x3x11264 .f32) (x4 : FVec Ideal S2x11264 .f32)
  (x5 : FVec Ideal S2x16x2x11264 .f32) (x6 : FVec Ideal S8448x5632 .bf16)

/-- The reference's weights, side by side. -/
theorem plain_weight (k : Fin 2048) (J : Fin 11264) : val_main_v0 (F := Ideal) x1 x2 (ix2 k J) = weight x1 x2 k J.val := by
  have e : val_main_v0 (F := Ideal) x1 x2 (ix2 k J)
      = (if h : J.val < 5632 then x1 (ix2 k ⟨J.val, h⟩) else x2 (ix2 k ⟨J.val - 5632, by omega⟩)) := by
    pointwise [val_main_v0]
  rw [e]
  unfold weight
  by_cases h : J.val < 5632
  · rw [dif_pos h, dif_pos h]
  · rw [dif_neg h, dif_neg h, dif_pos (by omega)]

/-- The reference's product, by sequence and position. -/
theorem plain_proj (b s : Fin 16) (J : Fin 11264) : val_main_v5 (F := Ideal) x0 x1 x2 (ix3 b s J) = proj x0 x1 x2 (b.val * 16 + s.val) J.val := by
  have e : val_main_v5 (F := Ideal) x0 x1 x2 (ix3 b s J)
      = ∑ k : Fin 2048, x0 (ix2 ⟨8192 + (b.val * 16 + s.val), by omega⟩ k) * val_main_v0 (F := Ideal) x1 x2 (ix2 k J) := by
    unfold val_main_v5 val_main_v4 val_main_v1
    generalize val_main_v0 (F := Ideal) x1 x2 = y
    pointwise [val_main_v3, val_main_v2]
  rw [e]
  unfold proj
  rw [dif_pos (by omega)]
  simp only [plain_weight]

/-- The reference's product below the two rows the cache keeps. -/
theorem plain_past (b : Fin 16) (s : Fin 18) (J : Fin 11264) (d R : ℕ) (hR : R < 16) (hd : s.val + d = R + 2) (hd2 : d ≤ 2) :
    val_main_v8 (F := Ideal) x0 x1 x2 x5 (ix3 b s J) = past x0 x1 x2 x5 d (b.val * 16 + R) J.val := by
  have e : val_main_v8 (F := Ideal) x0 x1 x2 x5 (ix3 b s J)
      = (if h : s.val < 2 then x5 (ix4 0 b ⟨s.val, h⟩ J) else val_main_v5 (F := Ideal) x0 x1 x2 (ix3 b ⟨s.val - 2, by omega⟩ J)) := by
    unfold val_main_v8
    generalize val_main_v5 (F := Ideal) x0 x1 x2 = y
    pointwise [val_main_v7, val_main_v6]
  rw [e]
  unfold past
  by_cases h : s.val < 2
  · rw [dif_pos h, if_pos (by omega)]
    unfold kept
    rw [dif_pos ⟨by omega, by omega, J.isLt⟩]
    exact congrArg x5 (congrArg₂ (fun u v => ix4 0 u v J) (Fin.ext (by dsimp only; omega)) (Fin.ext (by dsimp only; omega)))
  · rw [dif_neg h, if_neg (by omega), plain_proj]
    exact congrArg (fun z => proj x0 x1 x2 z _) (by dsimp only; omega)

/-- The reference's convolution. -/
theorem plain_conv (b s : Fin 16) (J : Fin 11264) :
    val_main_v35 (F := Ideal) x0 x1 x2 x3 x4 x5 (ix3 b s J) = convAt x0 x1 x2 x3 x4 x5 (b.val * 16 + s.val) J.val := by
  have e : val_main_v35 (F := Ideal) x0 x1 x2 x3 x4 x5 (ix3 b s J)
      = x3 (ix3 0 0 J) * val_main_v8 (F := Ideal) x0 x1 x2 x5 (ix3 b ⟨s.val, by omega⟩ J) + x3 (ix3 0 1 J) * val_main_v8 (F := Ideal) x0 x1 x2 x5 (ix3 b ⟨1 + s.val, by omega⟩ J)
        + x3 (ix3 0 2 J) * val_main_v8 (F := Ideal) x0 x1 x2 x5 (ix3 b ⟨2 + s.val, by omega⟩ J) + x4 (ix2 0 J) := by
    pointwise [val_main_v35, val_main_v34, val_main_v33, val_main_v32, val_main_v31, val_main_v30, val_main_v29, val_main_v28, val_main_v27, val_main_v26,
      val_main_v25, val_main_v24, val_main_v23, val_main_v22, val_main_v21, val_main_v20, val_main_v19, val_main_v18, val_main_v17, val_main_v16, val_main_v15, val_main_v14,
      val_main_v13, val_main_v12, val_main_v11, val_main_v10, val_main_v9, val_main_cst]
  have e0 : past x0 x1 x2 x5 0 (b.val * 16 + s.val) J.val = proj x0 x1 x2 (b.val * 16 + s.val) J.val := by
    unfold past; rw [if_neg (by omega), Nat.sub_zero]
  rw [e, plain_past x0 x1 x2 x5 b ⟨s.val, _⟩ J 2 s.val s.isLt rfl (by decide), plain_past x0 x1 x2 x5 b ⟨1 + s.val, _⟩ J 1 s.val s.isLt (by dsimp only; omega) (by decide),
    plain_past x0 x1 x2 x5 b ⟨2 + s.val, _⟩ J 0 s.val s.isLt (by dsimp only; omega) (by decide), e0]
  unfold convAt tapAt biasAt
  rw [dif_pos J.isLt, dif_pos J.isLt, dif_pos J.isLt, dif_pos J.isLt]

/-- The reference's gated value in a row of the sample. -/
theorem plain_sample (r : Fin 8448) (R : Fin 256) (J : Fin 5632) (hr : r.val = 8192 + R.val) :
    val_main_v51 (F := Ideal) x0 x1 x2 x3 x4 x5 x6 (ix2 r J)
      = act (convAt x0 x1 x2 x3 x4 x5 R.val J.val) (convAt x0 x1 x2 x3 x4 x5 R.val (5632 + J.val)) := by
  have e : val_main_v51 (F := Ideal) x0 x1 x2 x3 x4 x5 x6 (ix2 r J) = val_main_v47 (F := Ideal) x0 x1 x2 x3 x4 x5 (ix2 R J) := by
    unfold val_main_v51 val_main_v50
    generalize val_main_v47 (F := Ideal) x0 x1 x2 x3 x4 x5 = y
    pointwise [val_main_v49]
    rw [dif_neg (by omega)]
    exact congrArg y (congrArg (ix2 · J) (Fin.ext (by dsimp only; omega)))
  have f : val_main_v47 (F := Ideal) x0 x1 x2 x3 x4 x5 (ix2 R J)
      = act (val_main_v35 (F := Ideal) x0 x1 x2 x3 x4 x5 (ix3 ⟨R.val / 16, by omega⟩ ⟨R.val % 16, by omega⟩ ⟨J.val, by omega⟩))
          (val_main_v35 (F := Ideal) x0 x1 x2 x3 x4 x5 (ix3 ⟨R.val / 16, by omega⟩ ⟨R.val % 16, by omega⟩ ⟨5632 + J.val, by omega⟩)) := by
    unfold act val_main_v47 val_main_v46 val_main_v45 val_main_v44 val_main_v42 val_main_v41 val_main_v39 val_main_v37 val_main_v36
    generalize val_main_v35 (F := Ideal) x0 x1 x2 x3 x4 x5 = y
    pointwise [val_main_v43, val_main_v40, val_main_v38, val_main_cst_0, val_main_cst_1, val_main_cst_2]
    rfl
  rw [e, f, plain_conv, plain_conv]
  dsimp only
  rw [show R.val / 16 * 16 + R.val % 16 = R.val by omega]

/-- The reference's gated value in a row of a prompt: the row as it was. -/
theorem plain_prompt (r : Fin 8448) (J : Fin 5632) (hr : r.val < 8192) :
    val_main_v51 (F := Ideal) x0 x1 x2 x3 x4 x5 x6 (ix2 r J) = x6 (ix2 r J) := by
  unfold val_main_v51 val_main_v50
  generalize val_main_v47 (F := Ideal) x0 x1 x2 x3 x4 x5 = y
  pointwise [val_main_v49]
  rw [dif_pos hr]

/-- The reference's product of the sample's rows: the gate's columns, and the value's. -/
theorem plain_gate_rows (r : Fin 256) (J : Fin 5632) : val_main_v52 (F := Ideal) x0 x1 x2 (ix3 0 r J) = proj x0 x1 x2 r.val J.val := by
  have e : val_main_v52 (F := Ideal) x0 x1 x2 (ix3 0 r J) = val_main_v5 (F := Ideal) x0 x1 x2 (ix3 ⟨r.val / 16, by omega⟩ ⟨r.val % 16, by omega⟩ ⟨J.val, by omega⟩) := by
    unfold val_main_v52 val_main_v48
    generalize val_main_v5 (F := Ideal) x0 x1 x2 = y
    pointwise
  rw [e, plain_proj]
  exact congrArg (fun z => proj x0 x1 x2 z _) (by dsimp only; omega)

@[inherit_doc plain_gate_rows]
theorem plain_value_rows (r : Fin 256) (J : Fin 5632) : val_main_v53 (F := Ideal) x0 x1 x2 (ix3 0 r J) = proj x0 x1 x2 r.val (5632 + J.val) := by
  have e : val_main_v53 (F := Ideal) x0 x1 x2 (ix3 0 r J) = val_main_v5 (F := Ideal) x0 x1 x2 (ix3 ⟨r.val / 16, by omega⟩ ⟨r.val % 16, by omega⟩ ⟨5632 + J.val, by omega⟩) := by
    unfold val_main_v53 val_main_v48
    generalize val_main_v5 (F := Ideal) x0 x1 x2 = y
    pointwise
  rw [e, plain_proj]
  exact congrArg (fun z => proj x0 x1 x2 z _) (by dsimp only; omega)

end Cert.FfnStepSpec

end
-- ==== Proof.FfnStepHead.lean ====
/- The feed-forward block's first half on the sample's rows: what a grid point leaves in its three blocks. -/
module

public import proofs.«01_k».proof.Proof.Gen.FfnStepIdeal.Value
public import proofs.«01_k».proof.Proof.FfnStepRef

@[expose] public section

set_option maxRecDepth 16384

noncomputable section

namespace Cert.FfnStepSpec

open Cert.FfnStepIdeal Cert.FfnStepIdeal.Gen Idealize.ShloMosaic Idealize.ShloMosaic.TcCoe Idealize.ShloMosaic.Tactic Idealize.SL.Sem
open Cert.FfnInSpec (act)

/-- The block's rows against half of its columns. -/
def rows (x : Vec Ideal S256x2048 .bf16) (w : Vec Ideal S2048x256 .bf16) : FVec Ideal S256x256 .f32 := k0_pay2 (F := Ideal) x w

/-- Whether a row of a sequence is before its row `n`. -/
def below (n : BitVec 32) : IVec S16x16x256 1 :=
  broadcastTo S16x16x256 (shapeCast S1x16x1 (cmpi .slt (iota .tc S1x16x1 32 [1] iota_S1x16x1_d1_w32) (broadcast S1x16x1 n) : IVec S1x16x1 1)
    shapeCasts_S1x16x1_S1x16x1) broadcasts_S1x16x1_S16x16x256

/-- A kept row of each sequence, in each of the sequence's rows: the first kept, and the second. -/
def first (s : Vec Ideal S1x16x2x256 .f32) : FVec Ideal S16x16x256 .f32 :=
  broadcastTo S16x16x256 (shapeCast S16x1x256 (extractStridedSlice S16x1x256 ![0, 0, 0] (shapeCast S16x2x256 s shapeCasts_S1x16x2x256_S16x2x256 : FVec Ideal S16x2x256 .f32)
    slices_S16x2x256_o0_0_0_S16x1x256 : FVec Ideal S16x1x256 .f32) shapeCasts_S16x1x256_S16x1x256 : FVec Ideal S16x1x256 .f32) broadcasts_S16x1x256_S16x16x256
@[inherit_doc first]
def second (s : Vec Ideal S1x16x2x256 .f32) : FVec Ideal S16x16x256 .f32 :=
  broadcastTo S16x16x256 (shapeCast S16x1x256 (extractStridedSlice S16x1x256 ![0, 1, 0] (shapeCast S16x2x256 s shapeCasts_S1x16x2x256_S16x2x256 : FVec Ideal S16x2x256 .f32)
    slices_S16x2x256_o0_1_0_S16x1x256 : FVec Ideal S16x1x256 .f32) shapeCasts_S16x1x256_S16x1x256 : FVec Ideal S16x1x256 .f32) broadcasts_S16x1x256_S16x16x256

/-- The rows one before, a sequence's first out of the rows kept. -/
def back1 (u : FVec Ideal S256x256 .f32) (s : Vec Ideal S1x16x2x256 .f32) : FVec Ideal S256x256 .f32 :=
  shapeCast S256x256 (select (below 1#32) (second s) (shapeCast S16x16x256 (dynamicRotate 0 1#32 none u rotates_S256x256_d0 : FVec Ideal S256x256 .f32)
    shapeCasts_S256x256_S16x16x256 : FVec Ideal S16x16x256 .f32) : FVec Ideal S16x16x256 .f32) shapeCasts_S16x16x256_S256x256

/-- The rows two before, a sequence's first two out of the rows kept. -/
def back2 (u : FVec Ideal S256x256 .f32) (s : Vec Ideal S1x16x2x256 .f32) : FVec Ideal S256x256 .f32 :=
  shapeCast S256x256 (select (below 1#32) (first s) (select (below 2#32) (second s) (shapeCast S16x16x256 (dynamicRotate 0 2#32 none u rotates_S256x256_d0 : FVec Ideal S256x256 .f32)
    shapeCasts_S256x256_S16x16x256 : FVec Ideal S16x16x256 .f32)) : FVec Ideal S16x16x256 .f32) shapeCasts_S16x16x256_S256x256

/-- The short convolution along the rows, with its bias. -/
def conv (u : FVec Ideal S256x256 .f32) (s : Vec Ideal S1x16x2x256 .f32) (w : Vec Ideal S1x3x256 .f32) (b : Vec Ideal S1x1x256 .f32) : FVec Ideal S256x256 .f32 :=
  let w3 : FVec Ideal S3x256 .f32 := shapeCast S3x256 w shapeCasts_S1x3x256_S3x256
  addf (addf (addf (mulf (broadcastTo S256x256 (extractStridedSlice S1x256 ![0, 0] w3 slices_S3x256_o0_0_S1x256 : FVec Ideal S1x256 .f32) broadcasts_S1x256_S256x256) (back2 u s))
      (mulf (broadcastTo S256x256 (extractStridedSlice S1x256 ![1, 0] w3 slices_S3x256_o1_0_S1x256 : FVec Ideal S1x256 .f32) broadcasts_S1x256_S256x256) (back1 u s)))
    (mulf (broadcastTo S256x256 (extractStridedSlice S1x256 ![2, 0] w3 slices_S3x256_o2_0_S1x256 : FVec Ideal S1x256 .f32) broadcasts_S1x256_S256x256) u))
    (broadcastTo S256x256 (shapeCast S1x256 b shapeCasts_S1x1x256_S1x256 : FVec Ideal S1x256 .f32) broadcasts_S1x256_S256x256)

/-- The gate's curve times the value, rounded. -/
def glu (g v : FVec Ideal S256x256 .f32) : FVec Ideal S256x256 .bf16 :=
  truncf .bf16 (mulf (mulf (mulf (broadcast S256x256 (Scalar.ofBits .f32 0x3F000000#32)) g)
    (addf (broadcast S256x256 (Scalar.ofBits .f32 0x3F800000#32)) (erf (mulf g (broadcast S256x256 (Scalar.ofBits .f32 0x3F3504F3#32)))))) v) bitsLt_bf16_f32

theorem rows_apply (x : Vec Ideal S256x2048 .bf16) (w : Vec Ideal S2048x256 .bf16) (r : Fin 256) (j : Fin 256) :
    rows x w (ix2 r j) = ∑ k : Fin 2048, x (ix2 r k) * w (ix2 k j) := by
  pointwise [rows, k0_pay2]

theorem conv_apply (u : FVec Ideal S256x256 .f32) (s : Vec Ideal S1x16x2x256 .f32) (w : Vec Ideal S1x3x256 .f32) (b : Vec Ideal S1x1x256 .f32) (r : Fin 256) (j : Fin 256) :
    conv u s w b (ix2 r j) = w (ix3 0 0 j) * back2 u s (ix2 r j) + w (ix3 0 1 j) * back1 u s (ix2 r j) + w (ix3 0 2 j) * u (ix2 r j) + b (ix3 0 0 j) := by
  unfold conv
  generalize back2 u s = y
  generalize back1 u s = z
  pointwise

theorem glu_apply (g v : FVec Ideal S256x256 .f32) (r : Fin 256) (j : Fin 256) : glu g v (ix2 r j) = act (g (ix2 r j)) (v (ix2 r j)) := by
  unfold act
  pointwise [glu]

/-- Whether one of a sequence's rows is before row `n`. -/
theorem below_word (r n : ℕ) (hr : r < 16) (hn : n < 3) {α : Type} (a b : α) :
    Scalar.select (IntOp.cmpi CmpIPredicate.slt (BitVec.ofNat 32 r) (BitVec.ofNat 32 n)) a b = if r < n then a else b := by
  have e : IntOp.cmpi CmpIPredicate.slt (BitVec.ofNat 32 r) (BitVec.ofNat 32 n) = if r < n then 1#1 else 0#1 := by
    interval_cases r <;> interval_cases n <;> decide
  rw [e]
  by_cases h : r < n
  · rw [if_pos h, if_pos h]; rfl
  · rw [if_neg h, if_neg h]; rfl

theorem back1_apply (u : FVec Ideal S256x256 .f32) (s : Vec Ideal S1x16x2x256 .f32) (r : Fin 256) (j : Fin 256) :
    back1 u s (ix2 r j) = if r.val % 16 < 1 then s (ix4 0 ⟨r.val / 16, by omega⟩ 1 j) else u (ix2 ⟨(r.val + 256 - 1) % 256, by omega⟩ j) := by
  have e : back1 u s (ix2 r j) = Scalar.select (IntOp.cmpi CmpIPredicate.slt (BitVec.ofNat 32 (r.val % 16)) 1#32) (s (ix4 0 ⟨r.val / 16, by omega⟩ 1 j))
        (u (ix2 ⟨(r.val + 256 - 1) % 256, by omega⟩ j)) := by
    pointwise [back1, below, second]
  rw [e, below_word (r.val % 16) 1 (by omega) (by decide)]

theorem back2_apply (u : FVec Ideal S256x256 .f32) (s : Vec Ideal S1x16x2x256 .f32) (r : Fin 256) (j : Fin 256) :
    back2 u s (ix2 r j) = if r.val % 16 < 1 then s (ix4 0 ⟨r.val / 16, by omega⟩ 0 j)
      else if r.val % 16 < 2 then s (ix4 0 ⟨r.val / 16, by omega⟩ 1 j) else u (ix2 ⟨(r.val + 256 - 2) % 256, by omega⟩ j) := by
  have e : back2 u s (ix2 r j) = Scalar.select (IntOp.cmpi CmpIPredicate.slt (BitVec.ofNat 32 (r.val % 16)) 1#32) (s (ix4 0 ⟨r.val / 16, by omega⟩ 0 j))
        (Scalar.select (IntOp.cmpi CmpIPredicate.slt (BitVec.ofNat 32 (r.val % 16)) 2#32) (s (ix4 0 ⟨r.val / 16, by omega⟩ 1 j))
        (u (ix2 ⟨(r.val + 256 - 2) % 256, by omega⟩ j))) := by
    pointwise [back2, below, first, second]
  rw [e, below_word (r.val % 16) 1 (by omega) (by decide), below_word (r.val % 16) 2 (by omega) (by decide)]

/-! A point's blocks, of its blocks of the arguments. -/

/-- A row against a column. -/
def bproj (x : Vec Ideal S256x2048 .bf16) (w : Vec Ideal S2048x512 .bf16) (R : Fin 256) (J : Fin 512) : EReal := ∑ k : Fin 2048, x (ix2 R k) * w (ix2 k J)

/-- The same `d` rows earlier in the sequence. -/
def bpast (x : Vec Ideal S256x2048 .bf16) (w : Vec Ideal S2048x512 .bf16) (s : Vec Ideal S1x16x2x512 .f32) (d : ℕ) (R : Fin 256) (J : Fin 512) : EReal :=
  if h : R.val % 16 < d then s (ix4 0 ⟨R.val / 16, by omega⟩ ⟨2 + R.val % 16 - d, by omega⟩ J) else bproj x w ⟨R.val - d, by omega⟩ J

/-- The short convolution of a column. -/
def bconv (x : Vec Ideal S256x2048 .bf16) (w : Vec Ideal S2048x512 .bf16) (s : Vec Ideal S1x16x2x512 .f32) (c : Vec Ideal S1x3x512 .f32) (b : Vec Ideal S1x1x512 .f32)
    (R : Fin 256) (J : Fin 512) : EReal :=
  c (ix3 0 0 J) * bpast x w s 2 R J + c (ix3 0 1 J) * bpast x w s 1 R J + c (ix3 0 2 J) * bproj x w R J + b (ix3 0 0 J)

/-- What a grid point leaves in its block of the gated values; and of the products. -/
def gatedBlock (x : Vec Ideal S256x2048 .bf16) (w v : Vec Ideal S2048x512 .bf16) (c d : Vec Ideal S1x3x512 .f32) (b e : Vec Ideal S1x1x512 .f32)
    (s t : Vec Ideal S1x16x2x512 .f32) (y : S256x512.Idx) : EReal :=
  act (bconv x w s c b (y 0) (y 1)) (bconv x v t d e (y 0) (y 1))
@[inherit_doc gatedBlock]
def rowsBlock (x : Vec Ideal S256x2048 .bf16) (w : Vec Ideal S2048x512 .bf16) (y : S1x256x512.Idx) : EReal := bproj x w (y 1) (y 2)

section Half
variable (x : Vec Ideal S256x2048 .bf16) (w : Vec Ideal S2048x512 .bf16) (s : Vec Ideal S1x16x2x512 .f32) (c : Vec Ideal S1x3x512 .f32) (b : Vec Ideal S1x1x512 .f32)
  (o : ℕ) (ho : o + 256 ≤ 512) (w' : Vec Ideal S2048x256 .bf16) (s' : Vec Ideal S1x16x2x256 .f32) (c' : Vec Ideal S1x3x256 .f32) (b' : Vec Ideal S1x1x256 .f32)
  (hw : ∀ (k : Fin 2048) (j : Fin 256), w' (ix2 k j) = w (ix2 k ⟨o + j.val, by omega⟩))
  (hs : ∀ (q : Fin 16) (a : Fin 2) (j : Fin 256), s' (ix4 0 q a j) = s (ix4 0 q a ⟨o + j.val, by omega⟩))
  (hc : ∀ (a : Fin 3) (j : Fin 256), c' (ix3 0 a j) = c (ix3 0 a ⟨o + j.val, by omega⟩))
  (hb : ∀ (j : Fin 256), b' (ix3 0 0 j) = b (ix3 0 0 ⟨o + j.val, by omega⟩))

include hw in
/-- Half of a block's product. -/
theorem rows_half (R : Fin 256) (j : Fin 256) : rows x w' (ix2 R j) = bproj x w R ⟨o + j.val, by omega⟩ := by
  rw [rows_apply]
  unfold bproj
  simp only [hw]

include hw hs hc hb in
/-- Half of a block's convolution. -/
theorem conv_half (R : Fin 256) (j : Fin 256) : conv (rows x w') s' c' b' (ix2 R j) = bconv x w s c b R ⟨o + j.val, by omega⟩ := by
  have e1 : back1 (rows x w') s' (ix2 R j) = bpast x w s 1 R ⟨o + j.val, by omega⟩ := by
    rw [back1_apply]
    unfold bpast
    by_cases h : R.val % 16 < 1
    · rw [if_pos h, dif_pos h, hs]
      exact congrArg s (congrArg (fun a => ix4 0 _ a _) (Fin.ext (by show 1 = 2 + R.val % 16 - 1; omega)))
    · rw [if_neg h, dif_neg h, rows_half x w o ho w' hw]
      exact congrArg (fun a => bproj x w a _) (Fin.ext (by show (R.val + 256 - 1) % 256 = R.val - 1; omega))
  have e2 : back2 (rows x w') s' (ix2 R j) = bpast x w s 2 R ⟨o + j.val, by omega⟩ := by
    rw [back2_apply]
    unfold bpast
    by_cases h : R.val % 16 < 1
    · rw [if_pos h, dif_pos (by omega), hs]
      exact congrArg s (congrArg (fun a => ix4 0 _ a _) (Fin.ext (by show 0 = 2 + R.val % 16 - 2; omega)))
    · rw [if_neg h]
      by_cases h2 : R.val % 16 < 2
      · rw [if_pos h2, dif_pos h2, hs]
        exact congrArg s (congrArg (fun a => ix4 0 _ a _) (Fin.ext (by show 1 = 2 + R.val % 16 - 2; omega)))
      · rw [if_neg h2, dif_neg h2, rows_half x w o ho w' hw]
        exact congrArg (fun a => bproj x w a _) (Fin.ext (by show (R.val + 256 - 2) % 256 = R.val - 2; omega))
  rw [conv_apply, e1, e2, rows_half x w o ho w' hw, hc, hc, hc, hb]
  rfl
end Half

/-- Half `o` of a block of columns, of each shape. -/
theorem ld_w (w : Vec Ideal S2048x512 .bf16) (o : ℕ) (ho : o + 256 ≤ 512) (h : ∀ a, (![0, o] : Fin 2 → Nat) a + (![2048, 256] : Fin 2 → Nat) a ≤ S2048x512.size a)
    (k : Fin 2048) (j : Fin 256) : View.ld w (Rect.unit (s := S2048x512) ![0, o] ![2048, 256] h) (ix2 k j) = w (ix2 k ⟨o + j.val, by omega⟩) :=
  congrArg w (funext fun a => Fin.ext (match a with
    | ⟨0, _⟩ => by show 0 + 1 * k.val = k.val; omega
    | ⟨1, _⟩ => by show o + 1 * j.val = o + j.val; omega))
@[inherit_doc ld_w]
theorem ld_s (s : Vec Ideal S1x16x2x512 .f32) (o : ℕ) (ho : o + 256 ≤ 512) (h : ∀ a, (![0, 0, 0, o] : Fin 4 → Nat) a + (![1, 16, 2, 256] : Fin 4 → Nat) a ≤ S1x16x2x512.size a)
    (q : Fin 16) (b : Fin 2) (j : Fin 256) : View.ld s (Rect.unit (s := S1x16x2x512) ![0, 0, 0, o] ![1, 16, 2, 256] h) (ix4 0 q b j) = s (ix4 0 q b ⟨o + j.val, by omega⟩) :=
  congrArg s (funext fun a => Fin.ext (match a with
    | ⟨0, _⟩ => rfl
    | ⟨1, _⟩ => by show 0 + 1 * q.val = q.val; omega
    | ⟨2, _⟩ => by show 0 + 1 * b.val = b.val; omega
    | ⟨3, _⟩ => by show o + 1 * j.val = o + j.val; omega))
@[inherit_doc ld_w]
theorem ld_c (c : Vec Ideal S1x3x512 .f32) (o : ℕ) (ho : o + 256 ≤ 512) (h : ∀ a, (![0, 0, o] : Fin 3 → Nat) a + (![1, 3, 256] : Fin 3 → Nat) a ≤ S1x3x512.size a)
    (b : Fin 3) (j : Fin 256) : View.ld c (Rect.unit (s := S1x3x512) ![0, 0, o] ![1, 3, 256] h) (ix3 0 b j) = c (ix3 0 b ⟨o + j.val, by omega⟩) :=
  congrArg c (funext fun a => Fin.ext (match a with
    | ⟨0, _⟩ => rfl
    | ⟨1, _⟩ => by show 0 + 1 * b.val = b.val; omega
    | ⟨2, _⟩ => by show o + 1 * j.val = o + j.val; omega))
@[inherit_doc ld_w]
theorem ld_b (b : Vec Ideal S1x1x512 .f32) (o : ℕ) (ho : o + 256 ≤ 512) (h : ∀ a, (![0, 0, o] : Fin 3 → Nat) a + (![1, 1, 256] : Fin 3 → Nat) a ≤ S1x1x512.size a)
    (j : Fin 256) : View.ld b (Rect.unit (s := S1x1x512) ![0, 0, o] ![1, 1, 256] h) (ix3 0 0 j) = b (ix3 0 0 ⟨o + j.val, by omega⟩) :=
  congrArg b (funext fun a => Fin.ext (match a with
    | ⟨0, _⟩ => rfl
    | ⟨1, _⟩ => rfl
    | ⟨2, _⟩ => by show o + 1 * j.val = o + j.val; omega))

/-- The rows themselves. -/
theorem ld_x (x : Vec Ideal S256x2048 .bf16) (h : ∀ a, (![0, 0] : Fin 2 → Nat) a + (![256, 2048] : Fin 2 → Nat) a ≤ S256x2048.size a) :
    View.ld x (Rect.unit (s := S256x2048) ![0, 0] ![256, 2048] h) = x :=
  funext fun y => congrArg x (funext fun a => Fin.ext (match a with
    | ⟨0, _⟩ => by show 0 + 1 * (y 0).val = (y 0).val; omega
    | ⟨1, _⟩ => by show 0 + 1 * (y 1).val = (y 1).val; omega))

/-- What is stored for half `o` of the columns is that part of the block of the gated values. -/
theorem stored (x0 : Vec Ideal S256x2048 .bf16) (x1 x2 : Vec Ideal S2048x512 .bf16) (x3 x4 : Vec Ideal S1x3x512 .f32) (x5 x6 : Vec Ideal S1x1x512 .f32)
    (x7 x8 : Vec Ideal S1x16x2x512 .f32) (o : ℕ) (ho : o + 256 ≤ 512)
    (hx : ∀ a, (![0, 0] : Fin 2 → Nat) a + (![256, 2048] : Fin 2 → Nat) a ≤ S256x2048.size a)
    (hw : ∀ a, (![0, o] : Fin 2 → Nat) a + (![2048, 256] : Fin 2 → Nat) a ≤ S2048x512.size a)
    (hs : ∀ a, (![0, 0, 0, o] : Fin 4 → Nat) a + (![1, 16, 2, 256] : Fin 4 → Nat) a ≤ S1x16x2x512.size a)
    (hc : ∀ a, (![0, 0, o] : Fin 3 → Nat) a + (![1, 3, 256] : Fin 3 → Nat) a ≤ S1x3x512.size a)
    (hb : ∀ a, (![0, 0, o] : Fin 3 → Nat) a + (![1, 1, 256] : Fin 3 → Nat) a ≤ S1x1x512.size a)
    (hy : ∀ a, (![0, o] : Fin 2 → Nat) a + (![256, 256] : Fin 2 → Nat) a ≤ S256x512.size a)
    (P : FVec Ideal S256x256 .bf16)
    (hP : P = glu (conv (rows (View.ld x0 (Rect.unit (s := S256x2048) ![0, 0] ![256, 2048] hx)) (View.ld x1 (Rect.unit (s := S2048x512) ![0, o] ![2048, 256] hw)))
        (View.ld x7 (Rect.unit (s := S1x16x2x512) ![0, 0, 0, o] ![1, 16, 2, 256] hs)) (View.ld x3 (Rect.unit (s := S1x3x512) ![0, 0, o] ![1, 3, 256] hc))
        (View.ld x5 (Rect.unit (s := S1x1x512) ![0, 0, o] ![1, 1, 256] hb)))
      (conv (rows (View.ld x0 (Rect.unit (s := S256x2048) ![0, 0] ![256, 2048] hx)) (View.ld x2 (Rect.unit (s := S2048x512) ![0, o] ![2048, 256] hw)))
        (View.ld x8 (Rect.unit (s := S1x16x2x512) ![0, 0, 0, o] ![1, 16, 2, 256] hs)) (View.ld x4 (Rect.unit (s := S1x3x512) ![0, 0, o] ![1, 3, 256] hc))
        (View.ld x6 (Rect.unit (s := S1x1x512) ![0, 0, o] ![1, 1, 256] hb)))) (x : S256x256.Idx) :
    P x = gatedBlock x0 x1 x2 x3 x4 x5 x6 x7 x8 ((Rect.unit (s := S256x512) ![0, o] ![256, 256] hy).emb x) := by
  subst hP
  obtain ⟨r, j, rfl⟩ : ∃ (r j : Fin 256), x = ix2 r j := ⟨x 0, x 1, funext fun a => match a with | ⟨0, _⟩ => rfl | ⟨1, _⟩ => rfl⟩
  rw [ld_x, glu_apply, conv_half x0 x1 x7 x3 x5 o ho _ _ _ _ (ld_w x1 o ho hw) (ld_s x7 o ho hs) (ld_c x3 o ho hc) (ld_b x5 o ho hb),
    conv_half x0 x2 x8 x4 x6 o ho _ _ _ _ (ld_w x2 o ho hw) (ld_s x8 o ho hs) (ld_c x4 o ho hc) (ld_b x6 o ho hb)]
  have e0 : ((Rect.unit (s := S256x512) ![0, o] ![256, 256] hy).emb (ix2 r j)) = ix2 r ⟨o + j.val, by omega⟩ := funext fun a => Fin.ext (match a with
    | ⟨0, _⟩ => by show 0 + 1 * r.val = r.val; omega
    | ⟨1, _⟩ => by show o + 1 * j.val = o + j.val; omega)
  rw [e0]
  rfl

/-- What is stored for half `o` of the columns is that part of the block of a product. -/
theorem stored_rows (x0 : Vec Ideal S256x2048 .bf16) (x1 : Vec Ideal S2048x512 .bf16) (o : ℕ) (ho : o + 256 ≤ 512)
    (hx : ∀ a, (![0, 0] : Fin 2 → Nat) a + (![256, 2048] : Fin 2 → Nat) a ≤ S256x2048.size a)
    (hw : ∀ a, (![0, o] : Fin 2 → Nat) a + (![2048, 256] : Fin 2 → Nat) a ≤ S2048x512.size a)
    (hy : ∀ a, (![0, 0, o] : Fin 3 → Nat) a + (![1, 256, 256] : Fin 3 → Nat) a ≤ S1x256x512.size a)
    (P : FVec Ideal S1x256x256 .f32)
    (hP : P = shapeCast S1x256x256 (rows (View.ld x0 (Rect.unit (s := S256x2048) ![0, 0] ![256, 2048] hx)) (View.ld x1 (Rect.unit (s := S2048x512) ![0, o] ![2048, 256] hw)))
      shapeCasts_S256x256_S1x256x256) (x : S1x256x256.Idx) :
    P x = rowsBlock x0 x1 ((Rect.unit (s := S1x256x512) ![0, 0, o] ![1, 256, 256] hy).emb x) := by
  subst hP
  obtain ⟨r, j, rfl⟩ : ∃ (r j : Fin 256), x = ix3 0 r j := ⟨x 1, x 2, funext fun a => match a with | ⟨0, _⟩ => Subsingleton.elim (α := Fin 1) _ _ | ⟨1, _⟩ => rfl | ⟨2, _⟩ => rfl⟩
  have e : ∀ u : FVec Ideal S256x256 .f32, (shapeCast S1x256x256 u shapeCasts_S256x256_S1x256x256 : FVec Ideal S1x256x256 .f32) (ix3 0 r j) = u (ix2 r j) := by
    intro u
    pointwise
  rw [e, ld_x, rows_half x0 x1 o ho _ (ld_w x1 o ho hw)]
  have e0 : ((Rect.unit (s := S1x256x512) ![0, 0, o] ![1, 256, 256] hy).emb (ix3 0 r j)) = ix3 0 r ⟨o + j.val, by omega⟩ := funext fun a => Fin.ext (match a with
    | ⟨0, _⟩ => rfl
    | ⟨1, _⟩ => by show 0 + 1 * r.val = r.val; omega
    | ⟨2, _⟩ => by show o + 1 * j.val = o + j.val; omega)
  rw [e0]
  rfl

section Out
variable (d₀ : Dev nD) (i : grid0.Coords)
  (arg2 : Memref sig .tc .vmem S256x2048 .bf16) (harg2 : arg2.IsWhole)
  (arg3 : Memref sig .tc .vmem S2048x512 .bf16) (harg3 : arg3.IsWhole)
  (arg4 : Memref sig .tc .vmem S2048x512 .bf16) (harg4 : arg4.IsWhole)
  (arg5 : Memref sig .tc .vmem S1x3x512 .f32) (harg5 : arg5.IsWhole)
  (arg6 : Memref sig .tc .vmem S1x3x512 .f32) (harg6 : arg6.IsWhole)
  (arg7 : Memref sig .tc .vmem S1x1x512 .f32) (harg7 : arg7.IsWhole)
  (arg8 : Memref sig .tc .vmem S1x1x512 .f32) (harg8 : arg8.IsWhole)
  (arg9 : Memref sig .tc .vmem S1x16x2x512 .f32) (harg9 : arg9.IsWhole)
  (arg10 : Memref sig .tc .vmem S1x16x2x512 .f32) (harg10 : arg10.IsWhole)
  (arg12 : Memref sig .tc .vmem S256x512 .bf16) (harg12 : arg12.IsWhole)
  (arg13 : Memref sig .tc .vmem S1x256x512 .f32) (harg13 : arg13.IsWhole)
  (arg14 : Memref sig .tc .vmem S1x256x512 .f32) (harg14 : arg14.IsWhole)
  (x0 : Vec Ideal S256x2048 .bf16) (x1 x2 : Vec Ideal S2048x512 .bf16) (x3 x4 : Vec Ideal S1x3x512 .f32) (x5 x6 : Vec Ideal S1x1x512 .f32)
  (x7 x8 : Vec Ideal S1x16x2x512 .f32)

/-- What the body leaves in its block of the gated values. -/
theorem out9_eq : out0_A_9 (F := Ideal) d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8 = gatedBlock x0 x1 x2 x3 x4 x5 x6 x7 x8 := by
  unfold out0_A_9
  rw [View.read_writes_eq_canon _ _ _ (cover0_A_9 d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8)]
  funext y
  refine View.canon_apply_of_pieces (gatedBlock x0 x1 x2 x3 x4 x5 x6 x7 x8) _ ?_ y (cover0_A_9 d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread,
    List.forall_mem_cons, List.forall_mem_nil, and_true, List.mem_cons, List.not_mem_nil, or_false, forall_eq_or_imp, forall_eq]
  exact ⟨stored x0 x1 x2 x3 x4 x5 x6 x7 x8 256 (by decide) _ _ _ _ _ _ _ rfl, stored x0 x1 x2 x3 x4 x5 x6 x7 x8 0 (by decide) _ _ _ _ _ _ _ rfl⟩

/-- What the body leaves in its block of the gate's product. -/
theorem out10_eq : out0_A_10 (F := Ideal) d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8 = rowsBlock x0 x1 := by
  unfold out0_A_10
  rw [View.read_writes_eq_canon _ _ _ (cover0_A_10 d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8)]
  funext y
  refine View.canon_apply_of_pieces (rowsBlock x0 x1) _ ?_ y (cover0_A_10 d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread,
    List.forall_mem_cons, List.forall_mem_nil, and_true, List.mem_cons, List.not_mem_nil, or_false, forall_eq_or_imp, forall_eq]
  exact ⟨stored_rows x0 x1 256 (by decide) _ _ _ _ rfl, stored_rows x0 x1 0 (by decide) _ _ _ _ rfl⟩

/-- What the body leaves in its block of the value's product. -/
theorem out11_eq : out0_A_11 (F := Ideal) d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8 = rowsBlock x0 x2 := by
  unfold out0_A_11
  rw [View.read_writes_eq_canon _ _ _ (cover0_A_11 d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8)]
  funext y
  refine View.canon_apply_of_pieces (rowsBlock x0 x2) _ ?_ y (cover0_A_11 d₀ i arg2 harg2 arg3 harg3 arg4 harg4 arg5 harg5 arg6 harg6 arg7 harg7 arg8 harg8 arg9 harg9 arg10 harg10 arg12 harg12 arg13 harg13 arg14 harg14 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread,
    List.forall_mem_cons, List.forall_mem_nil, and_true, List.mem_cons, List.not_mem_nil, or_false, forall_eq_or_imp, forall_eq]
  exact ⟨stored_rows x0 x2 256 (by decide) _ _ _ _ rfl, stored_rows x0 x2 0 (by decide) _ _ _ _ rfl⟩

end Out

end Cert.FfnStepSpec

end
-- ==== Proof.FfnStepClaim.lean ====
/- The feed-forward block's first half on the sample's rows: the call's three arrays are the plain reference's, in every entry. -/
module

public import proofs.«01_k».proof.Defs
public import proofs.«01_k».proof.Proof.FfnStepHead
public import proofs.«01_k».proof.Proof.Gen.FfnStep.Frame
public import proofs.«01_k».proof.Proof.Gen.FfnStepPlainIdeal
public import Idealize.ShloMosaic.Lib.Pipeline.ValueKit
public import Idealize.ShloMosaic.Lib.Quiescent

@[expose] public section

set_option maxRecDepth 16384

noncomputable section

namespace Cert.FfnStepSpec

open Cert.FfnStepIdeal Cert.FfnStepIdeal.Gen Idealize.ShloMosaic Idealize.ShloMosaic.TcCoe Idealize.SL.Sem
open Idealize.ShloMosaic.Pipeline (Dat)
open Cert.FfnInSpec (act tapAt biasAt)

section Block
variable (x0 : FVec Ideal S8448x2048 .bf16) (x1 x2 : FVec Ideal S2048x5632 .bf16) (x3 : FVec Ideal S2x3x11264 .f32) (x4 : FVec Ideal S2x11264 .f32)
  (x5 : FVec Ideal S2x16x2x11264 .f32)
  (x : Vec Ideal S256x2048 .bf16) (w : Vec Ideal S2048x512 .bf16) (s : Vec Ideal S1x16x2x512 .f32) (d : Vec Ideal S1x3x512 .f32) (b : Vec Ideal S1x1x512 .f32)
  (o : ℕ) (ho : o + 512 ≤ 11264)
  (hx : ∀ (R : Fin 256) (k : Fin 2048), x (ix2 R k) = x0 (ix2 ⟨8192 + R.val, by omega⟩ k))
  (hw : ∀ (k : Fin 2048) (j : Fin 512), w (ix2 k j) = weight x1 x2 k (o + j.val))
  (hs : ∀ (q : Fin 16) (a : Fin 2) (j : Fin 512), s (ix4 0 q a j) = x5 (ix4 0 q a ⟨o + j.val, by omega⟩))
  (hd : ∀ (a : Fin 3) (j : Fin 512), d (ix3 0 a j) = x3 (ix3 0 a ⟨o + j.val, by omega⟩))
  (hb : ∀ (j : Fin 512), b (ix3 0 0 j) = x4 (ix2 0 ⟨o + j.val, by omega⟩))

include hx hw in
/-- A block's product, in columns `o` on. -/
theorem block_proj (R : Fin 256) (j : Fin 512) : bproj x w R j = proj x0 x1 x2 R.val (o + j.val) := by
  unfold bproj proj
  rw [dif_pos R.isLt]
  exact Finset.sum_congr rfl fun k _ => by rw [hx, hw]

include hx hw hs hd hb in
/-- A block's convolution, in columns `o` on. -/
theorem block_conv (R : Fin 256) (j : Fin 512) : bconv x w s d b R j = convAt x0 x1 x2 x3 x4 x5 R.val (o + j.val) := by
  have hp : ∀ n : ℕ, n ≤ 2 → bpast x w s n R j = past x0 x1 x2 x5 n R.val (o + j.val) := by
    intro n hn
    unfold bpast past
    by_cases h : R.val % 16 < n
    · rw [dif_pos h, if_pos h, hs]
      unfold kept
      rw [dif_pos ⟨by omega, by omega, by omega⟩]
    · rw [dif_neg h, if_neg h, block_proj x0 x1 x2 x w o hx hw]
  unfold bconv convAt tapAt biasAt
  rw [hp 2 (by decide), hp 1 (by decide), block_proj x0 x1 x2 x w o hx hw, hd, hd, hd, hb, dif_pos (by omega), dif_pos (by omega), dif_pos (by omega), dif_pos (by omega)]
end Block

variable (m : (ℓ : Loc nD τ sig) → Buf (Elt Ideal) ℓ)

theorem idx0 : ∀ t : Fin cfg0.N, win0_0.index t = ![32, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, 0, t.val] := (by decide +kernel : ∀ t : Fin grid0.N, _)
theorem idx4 : ∀ t : Fin cfg0.N, win0_4.index t = ![0, 0, 11 + t.val] := (by decide +kernel : ∀ t : Fin grid0.N, _)
theorem idx5 : ∀ t : Fin cfg0.N, win0_5.index t = ![0, 0, t.val] := (by decide +kernel : ∀ t : Fin grid0.N, _)
theorem idx6 : ∀ t : Fin cfg0.N, win0_6.index t = ![0, 0, 11 + t.val] := (by decide +kernel : ∀ t : Fin grid0.N, _)
theorem idx7 : ∀ t : Fin cfg0.N, win0_7.index t = ![0, 0, 0, t.val] := (by decide +kernel : ∀ t : Fin grid0.N, _)
theorem idx8 : ∀ t : Fin cfg0.N, win0_8.index t = ![0, 0, 0, 11 + t.val] := (by decide +kernel : ∀ t : Fin grid0.N, _)
theorem idx9 : ∀ t : Fin cfg0.N, win0_9.index t = ![32, t.val] := (by decide +kernel : ∀ t : Fin grid0.N, _)
theorem idx10 : ∀ t : Fin cfg0.N, win0_10.index t = ![0, 0, t.val] := (by decide +kernel : ∀ t : Fin grid0.N, _)
theorem idx11 : ∀ t : Fin cfg0.N, win0_11.index t = ![0, 0, t.val] := (by decide +kernel : ∀ t : Fin grid0.N, _)
theorem points (t : Fin cfg0.N) : t.val < 11 := lt_of_lt_of_eq t.isLt (by decide +kernel : cfg0.N = 11)

theorem V_main_v0 (c : Dev nD) : V m c main_v0 = shapeCast S2x1x11264 (m ((c : Thread nD τ).loc main_arg4)) shapeCasts_S2x11264_S2x1x11264 := by
  unfold_abbrev_sides
  after_results
  rfl
/-- The array the gated values start from. -/
theorem V_main_v1_0 (c : Dev nD) : V m c main_v1_0 = m ((c : Thread nD τ).loc main_arg6) := by
  unfold_abbrev_sides
  after_results
  rfl

theorem bias_reshape (b : FVec Ideal S2x11264 .f32) (J : Fin 11264) : (shapeCast S2x1x11264 b shapeCasts_S2x11264_S2x1x11264 : FVec Ideal S2x1x11264 .f32) (ix3 0 0 J) = b (ix2 0 J) := by
  pointwise

/-! What the point's input blocks are of the arguments. -/
theorem in0 (c : Dev nD) (t : Fin cfg0.N) (r : Fin 256) (k : Fin 2048) :
    iblk (F := Ideal) m c 0 t (ix2 r k) = m ((c : Thread nD τ).loc main_arg0) (ix2 ⟨8192 + r.val, by omega⟩ k) := by
  blk_simp [iblk]
  rw [V_main_arg0]
  refine congrArg _ ?_
  blk_ext [idx0]
theorem in1 (c : Dev nD) (t : Fin cfg0.N) (k : Fin 2048) (j : Fin 512) (J : Fin 5632) (e : J.val = t.val * 512 + j.val) :
    iblk (F := Ideal) m c 1 t (ix2 k j) = m ((c : Thread nD τ).loc main_arg1) (ix2 k J) := by
  blk_simp [iblk]
  rw [V_main_arg1]
  refine congrArg _ ?_
  blk_ext [idx1]
theorem in2 (c : Dev nD) (t : Fin cfg0.N) (k : Fin 2048) (j : Fin 512) (J : Fin 5632) (e : J.val = t.val * 512 + j.val) :
    iblk (F := Ideal) m c 2 t (ix2 k j) = m ((c : Thread nD τ).loc main_arg2) (ix2 k J) := by
  blk_simp [iblk]
  rw [V_main_arg2]
  refine congrArg _ ?_
  blk_ext [idx2]
theorem in3 (c : Dev nD) (t : Fin cfg0.N) (k : Fin 3) (j : Fin 512) (J : Fin 11264) (e : J.val = t.val * 512 + j.val) :
    iblk (F := Ideal) m c 3 t (ix3 0 k j) = m ((c : Thread nD τ).loc main_arg3) (ix3 0 k J) := by
  blk_simp [iblk]
  rw [V_main_arg3]
  refine congrArg _ ?_
  blk_ext [idx3]
theorem in4 (c : Dev nD) (t : Fin cfg0.N) (k : Fin 3) (j : Fin 512) (J : Fin 11264) (e : J.val = 5632 + t.val * 512 + j.val) :
    iblk (F := Ideal) m c 4 t (ix3 0 k j) = m ((c : Thread nD τ).loc main_arg3) (ix3 0 k J) := by
  blk_simp [iblk]
  rw [V_main_arg3]
  refine congrArg _ ?_
  blk_ext [idx4]
theorem in5 (c : Dev nD) (t : Fin cfg0.N) (j : Fin 512) (J : Fin 11264) (e : J.val = t.val * 512 + j.val) :
    iblk (F := Ideal) m c 5 t (ix3 0 0 j) = m ((c : Thread nD τ).loc main_arg4) (ix2 0 J) := by
  blk_simp [iblk]
  rw [V_main_v0, ← bias_reshape (m ((c : Thread nD τ).loc main_arg4))]
  refine congrArg (shapeCast S2x1x11264 _ shapeCasts_S2x11264_S2x1x11264) ?_
  blk_ext [idx5]
theorem in6 (c : Dev nD) (t : Fin cfg0.N) (j : Fin 512) (J : Fin 11264) (e : J.val = 5632 + t.val * 512 + j.val) :
    iblk (F := Ideal) m c 6 t (ix3 0 0 j) = m ((c : Thread nD τ).loc main_arg4) (ix2 0 J) := by
  blk_simp [iblk]
  rw [V_main_v0, ← bias_reshape (m ((c : Thread nD τ).loc main_arg4))]
  refine congrArg (shapeCast S2x1x11264 _ shapeCasts_S2x11264_S2x1x11264) ?_
  blk_ext [idx6]
theorem in7 (c : Dev nD) (t : Fin cfg0.N) (q : Fin 16) (k : Fin 2) (j : Fin 512) (J : Fin 11264) (e : J.val = t.val * 512 + j.val) :
    iblk (F := Ideal) m c 7 t (ix4 0 q k j) = m ((c : Thread nD τ).loc main_arg5) (ix4 0 q k J) := by
  blk_simp [iblk]
  rw [V_main_arg5]
  refine congrArg _ ?_
  blk_ext [idx7]
theorem in8 (c : Dev nD) (t : Fin cfg0.N) (q : Fin 16) (k : Fin 2) (j : Fin 512) (J : Fin 11264) (e : J.val = 5632 + t.val * 512 + j.val) :
    iblk (F := Ideal) m c 8 t (ix4 0 q k j) = m ((c : Thread nD τ).loc main_arg5) (ix4 0 q k J) := by
  blk_simp [iblk]
  rw [V_main_arg5]
  refine congrArg _ ?_
  blk_ext [idx8]

/-- A point's block of the gate's weights. -/
theorem gate_weight (c : Dev nD) (t : Fin cfg0.N) (k : Fin 2048) (j : Fin 512) :
    iblk (F := Ideal) m c 1 t (ix2 k j) = weight (m ((c : Thread nD τ).loc main_arg1)) (m ((c : Thread nD τ).loc main_arg2)) k (t.val * 512 + j.val) := by
  have ht := points t
  unfold weight
  rw [dif_pos (by omega)]
  exact in1 m c t k j _ rfl

/-- A point's gate product. -/
theorem gate_proj (c : Dev nD) (t : Fin cfg0.N) (R : Fin 256) (j : Fin 512) :
    bproj (iblk (F := Ideal) m c 0 t) (iblk (F := Ideal) m c 1 t) R j = proj (m ((c : Thread nD τ).loc main_arg0)) (m ((c : Thread nD τ).loc main_arg1)) (m ((c : Thread nD τ).loc main_arg2)) R.val (t.val * 512 + j.val) :=
  block_proj (m ((c : Thread nD τ).loc main_arg0)) (m ((c : Thread nD τ).loc main_arg1)) (m ((c : Thread nD τ).loc main_arg2)) _ _ (t.val * 512) (fun R k => in0 m c t R k) (fun k j => gate_weight m c t k j) R j

/-- A point's gate convolution. -/
theorem gate_conv (c : Dev nD) (t : Fin cfg0.N) (R : Fin 256) (j : Fin 512) :
    bconv (iblk (F := Ideal) m c 0 t) (iblk (F := Ideal) m c 1 t) (iblk (F := Ideal) m c 7 t) (iblk (F := Ideal) m c 3 t) (iblk (F := Ideal) m c 5 t) R j
      = convAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R.val (t.val * 512 + j.val) :=
  have ht := points t
  block_conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ (t.val * 512) (by omega) (fun R k => in0 m c t R k) (fun k j => gate_weight m c t k j)
    (fun q k j => in7 m c t q k j _ rfl) (fun k j => in3 m c t k j _ rfl) (fun j => in5 m c t j _ rfl) R j

/-- A point's block of the value's weights. -/
theorem value_weight (c : Dev nD) (t : Fin cfg0.N) (k : Fin 2048) (j : Fin 512) :
    iblk (F := Ideal) m c 2 t (ix2 k j) = weight (m ((c : Thread nD τ).loc main_arg1)) (m ((c : Thread nD τ).loc main_arg2)) k (5632 + t.val * 512 + j.val) := by
  have ht := points t
  unfold weight
  rw [dif_neg (by omega), dif_pos (by omega)]
  exact in2 m c t k j _ (by dsimp only; omega)

/-- A point's value product. -/
theorem value_proj (c : Dev nD) (t : Fin cfg0.N) (R : Fin 256) (j : Fin 512) :
    bproj (iblk (F := Ideal) m c 0 t) (iblk (F := Ideal) m c 2 t) R j = proj (m ((c : Thread nD τ).loc main_arg0)) (m ((c : Thread nD τ).loc main_arg1)) (m ((c : Thread nD τ).loc main_arg2)) R.val (5632 + t.val * 512 + j.val) :=
  block_proj (m ((c : Thread nD τ).loc main_arg0)) (m ((c : Thread nD τ).loc main_arg1)) (m ((c : Thread nD τ).loc main_arg2)) _ _ (5632 + t.val * 512) (fun R k => in0 m c t R k) (fun k j => value_weight m c t k j) R j

/-- A point's value convolution. -/
theorem value_conv (c : Dev nD) (t : Fin cfg0.N) (R : Fin 256) (j : Fin 512) :
    bconv (iblk (F := Ideal) m c 0 t) (iblk (F := Ideal) m c 2 t) (iblk (F := Ideal) m c 8 t) (iblk (F := Ideal) m c 4 t) (iblk (F := Ideal) m c 6 t) R j
      = convAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R.val (5632 + t.val * 512 + j.val) :=
  have ht := points t
  block_conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ (5632 + t.val * 512) (by omega) (fun R k => in0 m c t R k) (fun k j => value_weight m c t k j)
    (fun q k j => in8 m c t q k j _ rfl) (fun k j => in4 m c t k j _ rfl) (fun j => in6 m c t j _ rfl) R j

/-- No block of the gated values is cut. -/
theorem whole9 : ∀ t : Fin cfg0.N, ∀ a, (cfg0.win 9).xsize (cfg0.grid.coords t) a = (cfg0.win 9).size a := by decide +kernel

/-- An index of a block of the gated values, as an index of the part moved. -/
def moved (t : Fin cfg0.N) (y : S256x512.Idx) : ((cfg0.win 9).xblock (cfg0.grid.coords t)).Idx :=
  fun a => ⟨(y a).val, lt_of_lt_of_eq (y a).isLt (whole9 t a).symm⟩

/-- A row of the sample, in the kernel's result. -/
theorem kernel_sample (c : Dev nD) (r : Fin 8448) (R : Fin 256) (J : Fin 5632) (hr : r.val = 8192 + R.val) :
    (Gen.dats (F := Ideal) m 0 c).arrAt 9 cfg0.N (ix2 r J)
      = act (convAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R.val J.val) (convAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R.val (5632 + J.val)) := by
  have hN : cfg0.N = 11 := by decide +kernel
  obtain ⟨t, ht⟩ : ∃ t : Fin cfg0.N, t.val = J.val / 512 := ⟨⟨J.val / 512, by omega⟩, rfl⟩
  have hf : (cfg0.win 9).flush t = true := (by decide +kernel : ∀ t : Fin grid0.N, win0_9.flush t = true) t
  have hy : (ix2 r J : S8448x5632.Idx) = ((cfg0.win 9).blk t).view.emb (moved t (ix2 R ⟨J.val % 512, by omega⟩)) := by
    funext a
    apply Fin.ext
    refine Eq.trans ?_ (win0_9.rect_emb_val t (moved t (ix2 R ⟨J.val % 512, by omega⟩)) a).symm
    rw [idx9]
    match a with
    | ⟨0, _⟩ => show r.val = 32 * 256 + R.val; omega
    | ⟨1, _⟩ => show J.val = t.val * 512 + J.val % 512; omega
  rw [hy, (Gen.dats (F := Ideal) m 0 c).arrAt_emb_eq_flushed 9 (Value.disjoint9) t hf, Value.flushed9_A, out9_eq]
  rw [cast_eq, Pipeline.Window.cut_apply]
  have hx : (cfg0.win 9).xinj (grid0.coords t) (moved t (ix2 R ⟨J.val % 512, by omega⟩)) = (ix2 R ⟨J.val % 512, by omega⟩ : S256x512.Idx) :=
    funext fun a => Fin.ext rfl
  rw [hx]
  refine congrArg₂ act ((gate_conv m c t R ⟨J.val % 512, by omega⟩).trans (congrArg (convAt _ _ _ _ _ _ _) ?_))
    ((value_conv m c t R ⟨J.val % 512, by omega⟩).trans (congrArg (convAt _ _ _ _ _ _ _) ?_))
  · dsimp only; omega
  · dsimp only; omega

/-- A row of a prompt, in the kernel's result: the row the array started with. -/
theorem kernel_prompt (c : Dev nD) (r : Fin 8448) (J : Fin 5632) (hr : r.val < 8192) :
    (Gen.dats (F := Ideal) m 0 c).arrAt 9 cfg0.N (ix2 r J) = m ((c : Thread nD τ).loc main_arg6) (ix2 r J) := by
  rw [Value.entry9 m c (ix2 r J) fun t _ hi => ?_]
  · exact congrFun (V_main_v1_0 m c) _
  · obtain ⟨y, hy⟩ := View.exists_emb_of_mem_set _ hi
    have h0 : (((cfg0.win 9).blk t).view.emb y (0 : Fin 2)).val = r.val := congrArg (fun z : S8448x5632.Idx => (z 0).val) hy
    have h1 := win0_9.rect_emb_val t y (0 : Fin 2)
    rw [idx9] at h1
    have h2 : r.val = 32 * 256 + (y (0 : Fin 2)).val := h0.symm.trans h1
    omega

/-- The kernel's gated values are the plain reference's, in every row. -/
theorem final9 (c : Dev nD) : (Gen.dats (F := Ideal) m 0 c).arrAt 9 cfg0.N
    = Cert.FfnStepPlainIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, J, rfl⟩ : ∃ (r : Fin 8448) (J : Fin 5632), i = ix2 r J := ⟨i 0, i 1, funext fun a => match a with | ⟨0, _⟩ => rfl | ⟨1, _⟩ => rfl⟩
  by_cases hr : r.val < 8192
  · exact (kernel_prompt m c r J hr).trans (plain_prompt _ _ _ _ _ _ _ r J hr).symm
  · obtain ⟨R, hR⟩ : ∃ R : Fin 256, r.val = 8192 + R.val := ⟨⟨r.val - 8192, by omega⟩, by dsimp only; omega⟩
    exact (kernel_sample m c r R J hR).trans (plain_sample _ _ _ _ _ _ _ r R J hR).symm

/-- The gate's product of the sample's rows is the plain reference's. -/
theorem final10 (c : Dev nD) : (Gen.dats (F := Ideal) m 0 c).arrAt 10 cfg0.N
    = Cert.FfnStepPlainIdeal.Read.val_main_v52 (F := Ideal) (m ((c : Thread nD τ).loc main_arg0)) (m ((c : Thread nD τ).loc main_arg1)) (m ((c : Thread nD τ).loc main_arg2)) := by
  refine (Gen.dats (F := Ideal) m 0 c).arrAt_eq_of_covers 10 _ (by decide +kernel) fun t hf y => ?_
  obtain ⟨r, j, rfl⟩ : ∃ (r : Fin 256) (j : Fin 512), y = ix3 0 r j := ⟨y 1, y 2, funext fun a => match a with | ⟨0, _⟩ => Subsingleton.elim (α := Fin 1) _ _ | ⟨1, _⟩ => rfl | ⟨2, _⟩ => rfl⟩
  have ht := points t
  blk_simp
  rw [after0_10]
  simp only [outsAt0]
  rw [out10_eq]
  have e := plain_gate_rows (m ((c : Thread nD τ).loc main_arg0)) (m ((c : Thread nD τ).loc main_arg1)) (m ((c : Thread nD τ).loc main_arg2)) r ⟨t.val * 512 + j.val, by omega⟩
  refine (gate_proj m c t r j).trans (Eq.trans ?_ (e.symm.trans (congrArg (Cert.FfnStepPlainIdeal.Read.val_main_v52 (F := Ideal) _ _ _) ?_)))
  · refine congrArg (proj _ _ _ _) ?_
    first | rfl | (dsimp only; omega)
  · blk_ext [idx10]

/-- The value's product of the sample's rows is the plain reference's. -/
theorem final11 (c : Dev nD) : (Gen.dats (F := Ideal) m 0 c).arrAt 11 cfg0.N
    = Cert.FfnStepPlainIdeal.Read.val_main_v53 (F := Ideal) (m ((c : Thread nD τ).loc main_arg0)) (m ((c : Thread nD τ).loc main_arg1)) (m ((c : Thread nD τ).loc main_arg2)) := by
  refine (Gen.dats (F := Ideal) m 0 c).arrAt_eq_of_covers 11 _ (by decide +kernel) fun t hf y => ?_
  obtain ⟨r, j, rfl⟩ : ∃ (r : Fin 256) (j : Fin 512), y = ix3 0 r j := ⟨y 1, y 2, funext fun a => match a with | ⟨0, _⟩ => Subsingleton.elim (α := Fin 1) _ _ | ⟨1, _⟩ => rfl | ⟨2, _⟩ => rfl⟩
  have ht := points t
  blk_simp
  rw [after0_11]
  simp only [outsAt0]
  rw [out11_eq]
  have e := plain_value_rows (m ((c : Thread nD τ).loc main_arg0)) (m ((c : Thread nD τ).loc main_arg1)) (m ((c : Thread nD τ).loc main_arg2)) r ⟨t.val * 512 + j.val, by omega⟩
  refine (value_proj m c t r j).trans (Eq.trans ?_ (e.symm.trans (congrArg (Cert.FfnStepPlainIdeal.Read.val_main_v53 (F := Ideal) _ _ _) ?_)))
  · refine congrArg (proj _ _ _ _) ?_
    first | rfl | (dsimp only; omega)
  · blk_ext [idx11]

/-- The reference runs, its arguments unchanged, every counter back at zero. -/
theorem plain_quiescent : Cert.quiescent_FfnStepPlainIdeal := fun m ρ _ =>
  (θ_run Cert.FfnStepPlainIdeal.defs _ _).mono
    (fun r h => ⟨fun c => (h c).2.2.2, Idealize.ShloMosaic.sem_eq_zero_of_no_sems (by decide) r.2⟩)
    (Cert.FfnStepPlainIdeal.Value.run (F := Ideal) m ρ)

/-- The call's three arrays are the plain reference's, in every entry. -/
theorem algebraic : Cert.algebraic_FfnStepIdeal_FfnStepPlainIdeal := by
  intro m g m' g' hp hm
  refine ⟨fun c => (Gen.dats (F := Ideal) m 0 c).arrAt 9 cfg0.N, fun c => (Gen.dats (F := Ideal) m 0 c).arrAt 10 cfg0.N, fun c => (Gen.dats (F := Ideal) m 0 c).arrAt 11 cfg0.N,
    Value.run_blocks (F := Ideal) m g, ?_⟩
  refine (θ_run _ _ _).mono (fun r h c => ?_) (Cert.FfnStepPlainIdeal.Value.run (F := Ideal) m' g')
  obtain ⟨h51, h52, h53, hk⟩ := h c
  obtain ⟨e0, e1, e2, e3, e4, e5, e6⟩ := hm c
  rw [Cert.FfnStepPlainIdeal.Read.val_main_v51_eq, e0, e1, e2, e3, e4, e5, e6] at h51
  rw [Cert.FfnStepPlainIdeal.Read.val_main_v52_eq, e0, e1, e2] at h52
  rw [Cert.FfnStepPlainIdeal.Read.val_main_v53_eq, e0, e1, e2] at h53
  exact ⟨h51.trans (final9 m c).symm, h52.trans (final10 m c).symm, h53.trans (final11 m c).symm, hk⟩

end Cert.FfnStepSpec

end
-- ==== Proof.lean ====
module

public import proofs.«01_k».proof.Defs
public import proofs.«01_k».proof.Proof.CrossAttnClaim
public import proofs.«01_k».proof.Proof.KeyValueClaim
public import proofs.«01_k».proof.Proof.KeyValueNextClaim
public import proofs.«01_k».proof.Proof.QueryClaim
public import proofs.«01_k».proof.Proof.InProjClaim
public import proofs.«01_k».proof.Proof.GateClaim
public import proofs.«01_k».proof.Proof.MixOutClaim
public import proofs.«01_k».proof.Proof.DownOutClaim
public import proofs.«01_k».proof.Proof.Gen.CrossAttn.Frame
public import proofs.«01_k».proof.Proof.Gen.CrossAttnIdeal.Frame
public import proofs.«01_k».proof.Proof.Gen.CrossAttnIdeal.Value
public import proofs.«01_k».proof.Proof.Gen.CrossAttnPlainIdeal
public import proofs.«01_k».proof.Proof.Gen.CrossAttnPlainIdeal.Read
public import proofs.«01_k».proof.Proof.Gen.KeyValue.Frame
public import proofs.«01_k».proof.Proof.Gen.KeyValueIdeal.Frame
public import proofs.«01_k».proof.Proof.Gen.KeyValueIdeal.Value
public import proofs.«01_k».proof.Proof.Gen.KeyValuePlainIdeal
public import proofs.«01_k».proof.Proof.Gen.KeyValuePlainIdeal.Read
public import proofs.«01_k».proof.Proof.Gen.KeyValueNext.Frame
public import proofs.«01_k».proof.Proof.Gen.KeyValueNextIdeal.Frame
public import proofs.«01_k».proof.Proof.Gen.KeyValueNextIdeal.Value
public import proofs.«01_k».proof.Proof.Gen.KeyValueNextPlainIdeal
public import proofs.«01_k».proof.Proof.Gen.KeyValueNextPlainIdeal.Read
public import proofs.«01_k».proof.Proof.Gen.Query.Frame
public import proofs.«01_k».proof.Proof.Gen.QueryIdeal.Frame
public import proofs.«01_k».proof.Proof.Gen.QueryIdeal.Value
public import proofs.«01_k».proof.Proof.Gen.QueryPlainIdeal
public import proofs.«01_k».proof.Proof.Gen.QueryPlainIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjPlainIdeal
public import proofs.«01_k».proof.Proof.Gen.InProjPlainIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GatePlainIdeal
public import proofs.«01_k».proof.Proof.Gen.GatePlainIdeal.Read
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutPlainIdeal
public import proofs.«01_k».proof.Proof.Gen.MixOutPlainIdeal.Read
public import proofs.«01_k».proof.Proof.Gen.DownOut.Frame
public import proofs.«01_k».proof.Proof.Gen.DownOutIdeal.Frame
public import proofs.«01_k».proof.Proof.Gen.DownOutIdeal.Value
public import proofs.«01_k».proof.Proof.Gen.DownOutPlainIdeal
public import proofs.«01_k».proof.Proof.Gen.DownOutPlainIdeal.Read
public import proofs.«01_k».proof.Proof.FfnInClaim
public import proofs.«01_k».proof.Proof.FfnInFrame
public import proofs.«01_k».proof.Proof.FfnInValue
public import proofs.«01_k».proof.Proof.Gen.FfnIn
public import proofs.«01_k».proof.Proof.Gen.FfnIn.Frame
public import proofs.«01_k».proof.Proof.Gen.FfnInIdeal.Frame
public import proofs.«01_k».proof.Proof.Gen.FfnInPlainIdeal
public import proofs.«01_k».proof.Proof.Gen.FfnInPlainIdeal.Run
public import proofs.«01_k».proof.Proof.Gen.FfnInPlainIdeal.Read
public import proofs.«01_k».proof.Proof.Gen.On_ffn_rows
public import proofs.«01_k».proof.Proof.Gen.On_last_rows
public import proofs.«01_k».proof.Proof.LastOutClaim
public import proofs.«01_k».proof.Proof.Gen.LastOut.Frame
public import proofs.«01_k».proof.Proof.Gen.LastOutIdeal.Frame
public import proofs.«01_k».proof.Proof.Gen.LastOutIdeal.Value
public import proofs.«01_k».proof.Proof.Gen.LastOutPlainIdeal
public import proofs.«01_k».proof.Proof.Gen.LastOutPlainIdeal.Read
public import proofs.«01_k».proof.Proof.Gen.PackRows.Frame
public import proofs.«01_k».proof.Proof.Gen.PackRowsIdeal.Frame
public import proofs.«01_k».proof.Proof.Gen.PackRowsIdeal.Value
public import proofs.«01_k».proof.Proof.Gen.PackRowsPlainIdeal
public import proofs.«01_k».proof.Proof.Gen.PackRowsPlainIdeal.Read
public import proofs.«01_k».proof.Proof.PackRowsClaim
public import proofs.«01_k».proof.Proof.Gen.PermuteIn.Frame
public import proofs.«01_k».proof.Proof.Gen.PermuteInIdeal.Frame
public import proofs.«01_k».proof.Proof.Gen.PermuteInIdeal.Value
public import proofs.«01_k».proof.Proof.Gen.PermuteInPlainIdeal
public import proofs.«01_k».proof.Proof.Gen.PermuteInPlainIdeal.Read
public import proofs.«01_k».proof.Proof.PermuteInClaim
public import proofs.«01_k».proof.Proof.Gen.MemStep.Frame
public import proofs.«01_k».proof.Proof.Gen.MemStepIdeal.Frame
public import proofs.«01_k».proof.Proof.Gen.MemStepIdeal.Value
public import proofs.«01_k».proof.Proof.Gen.MemStepPlainIdeal
public import proofs.«01_k».proof.Proof.Gen.MemStepPlainIdeal.Read
public import proofs.«01_k».proof.Proof.MemStepClaim
public import proofs.«01_k».proof.Proof.Gen.Pre_memstep_finite
public import proofs.«01_k».proof.Proof.Gen.FfnStep.Frame
public import proofs.«01_k».proof.Proof.Gen.FfnStepIdeal.Frame
public import proofs.«01_k».proof.Proof.Gen.FfnStepIdeal.Value
public import proofs.«01_k».proof.Proof.Gen.FfnStepPlainIdeal
public import proofs.«01_k».proof.Proof.Gen.FfnStepPlainIdeal.Read
public import proofs.«01_k».proof.Proof.FfnStepClaim
public import proofs.«01_k».proof.Proof.Gen.On_mem_rows
public import proofs.«01_k».proof.Proof.Gen.Pre_mem_finite
public import Idealize.ShloMosaic.Adequacy
public import Idealize.ShloMosaic.Init

@[expose] public section

noncomputable section

namespace Cert.Proof

open Idealize.ShloMosaic Idealize.SL.Sem Cert.CrossAttn

/-- The claims, one proof each. -/
theorem claim : Cert.Claim := ⟨Cert.CrossAttn.Gen.facts, Cert.CrossAttnIdeal.Gen.facts, Cert.CrossAttnPlainIdeal.Gen.facts,
  Cert.KeyValue.Gen.facts, Cert.KeyValueIdeal.Gen.facts, Cert.KeyValuePlainIdeal.Gen.facts,
  Cert.KeyValueNext.Gen.facts, Cert.KeyValueNextIdeal.Gen.facts, Cert.KeyValueNextPlainIdeal.Gen.facts,
  Cert.Query.Gen.facts, Cert.QueryIdeal.Gen.facts, Cert.QueryPlainIdeal.Gen.facts,
  Cert.InProj.Gen.facts, Cert.InProjIdeal.Gen.facts, Cert.InProjPlainIdeal.Gen.facts,
  Cert.Gate.Gen.facts, Cert.GateIdeal.Gen.facts, Cert.GatePlainIdeal.Gen.facts,
  Cert.MixOut.Gen.facts, Cert.MixOutIdeal.Gen.facts, Cert.MixOutPlainIdeal.Gen.facts,
  Cert.DownOut.Gen.facts, Cert.DownOutIdeal.Gen.facts, Cert.DownOutPlainIdeal.Gen.facts,
  Cert.FfnIn.Gen.facts, Cert.FfnInIdeal.Gen.facts, Cert.FfnInPlainIdeal.Gen.facts,
  Cert.LastOut.Gen.facts, Cert.LastOutIdeal.Gen.facts, Cert.LastOutPlainIdeal.Gen.facts,
  Cert.PackRows.Gen.facts, Cert.PackRowsIdeal.Gen.facts, Cert.PackRowsPlainIdeal.Gen.facts,
  Cert.PermuteIn.Gen.facts, Cert.PermuteInIdeal.Gen.facts, Cert.PermuteInPlainIdeal.Gen.facts,
  Cert.MemStep.Gen.facts, Cert.MemStepIdeal.Gen.facts, Cert.MemStepPlainIdeal.Gen.facts,
  Cert.FfnStep.Gen.facts, Cert.FfnStepIdeal.Gen.facts, Cert.FfnStepPlainIdeal.Gen.facts,
  Cert.Pre_mem_finite.Gen.facts, Cert.Pre_memstep_finite.Gen.facts, Cert.On_mem_rows.Gen.facts, Cert.On_ffn_rows.Gen.facts, Cert.On_last_rows.Gen.facts,
  fun m ρ _ => Cert.CrossAttn.Gen.frame m ρ,
  fun m ρ _ => Cert.CrossAttnIdeal.Gen.frame m ρ,
  fun m ρ _ => Cert.CrossAttnIdeal.Gen.frame m ρ,
  Cert.CrossAttnSpec.plain_quiescent,
  fun m ρ _ => Cert.CrossAttnSpec.plain_quiescent m ρ trivial,
  fun m ρ _ => Cert.KeyValue.Gen.frame m ρ, fun m ρ _ => Cert.KeyValueIdeal.Gen.frame m ρ, Cert.KeyValueSpec.plain_quiescent,
  fun m ρ _ => Cert.KeyValueNext.Gen.frame m ρ, fun m ρ _ => Cert.KeyValueNextIdeal.Gen.frame m ρ, Cert.KeyValueNextSpec.plain_quiescent,
  fun m ρ _ => Cert.Query.Gen.frame m ρ, fun m ρ _ => Cert.QueryIdeal.Gen.frame m ρ, Cert.QuerySpec.plain_quiescent,
  fun m ρ _ => Cert.InProj.Gen.frame m ρ, fun m ρ _ => Cert.InProjIdeal.Gen.frame m ρ, Cert.InProjSpec.plain_quiescent,
  fun m ρ _ => Cert.Gate.Gen.frame m ρ, fun m ρ _ => Cert.GateIdeal.Gen.frame m ρ, Cert.GateSpec.plain_quiescent,
  fun m ρ _ => Cert.MixOut.Gen.frame m ρ, fun m ρ _ => Cert.MixOutIdeal.Gen.frame m ρ, Cert.MixOutSpec.plain_quiescent,
  fun m ρ _ => Cert.DownOut.Gen.frame m ρ, fun m ρ _ => Cert.DownOutIdeal.Gen.frame m ρ, Cert.DownOutSpec.plain_quiescent,
  Cert.FfnInSpec.quiescent, Cert.FfnInSpec.ideal_quiescent, Cert.FfnInSpec.plain_quiescent,
  fun m ρ _ => Cert.LastOut.Gen.frame m ρ, fun m ρ _ => Cert.LastOutIdeal.Gen.frame m ρ, Cert.LastOutSpec.plain_quiescent,
  fun m ρ _ => Cert.PackRows.Gen.frame m ρ, fun m ρ _ => Cert.PackRowsIdeal.Gen.frame m ρ, Cert.PackRowsSpec.plain_quiescent,
  fun m ρ _ => Cert.PermuteIn.Gen.frame m ρ, fun m ρ _ => Cert.PermuteInIdeal.Gen.frame m ρ, Cert.PermuteInSpec.plain_quiescent,
  fun m ρ _ => Cert.MemStep.Gen.frame m ρ,
  fun m ρ _ => Cert.MemStepIdeal.Gen.frame m ρ,
  fun m ρ _ => Cert.MemStepIdeal.Gen.frame m ρ,
  Cert.MemStepSpec.plain_quiescent,
  fun m ρ _ => Cert.MemStepSpec.plain_quiescent m ρ trivial,
  fun m ρ _ => Cert.FfnStep.Gen.frame m ρ, fun m ρ _ => Cert.FfnStepIdeal.Gen.frame m ρ, Cert.FfnStepSpec.plain_quiescent,
  trivial, Cert.CrossAttnSpec.algebraic,
  trivial, Cert.KeyValueSpec.algebraic,
  trivial, Cert.KeyValueNextSpec.algebraic,
  trivial, Cert.QuerySpec.algebraic,
  trivial, Cert.InProjSpec.algebraic,
  trivial, Cert.GateSpec.algebraic,
  trivial, Cert.MixOutSpec.algebraic,
  trivial, Cert.DownOutSpec.algebraic,
  trivial, Cert.FfnInSpec.algebraic,
  trivial, Cert.LastOutSpec.algebraic,
  trivial, Cert.PackRowsSpec.algebraic,
  trivial, Cert.PermuteInSpec.algebraic,
  trivial, Cert.MemStepSpec.algebraic,
  trivial, Cert.FfnStepSpec.algebraic⟩

end Cert.Proof

end
